-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Gather [hPre_rows_of_the_codebook : Cert.Pre_rows_of_the_codebook.Facts] (m : (ℓ : Loc Cert.Gather.nD Cert.Gather.τ Cert.Gather.sig) → Buf (Elt Bits) ℓ) : Prop :=
  ∀ c : Dev Cert.Gather.nD,
    (Cert.Pre_rows_of_the_codebook.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_rows_of_the_codebook : Cert.Pre_rows_of_the_codebook.Facts] (m : (ℓ : Loc Cert.GatherIdeal.nD Cert.GatherIdeal.τ Cert.GatherIdeal.sig) → Buf (Elt Ideal) ℓ) : Prop :=
  ∀ c : Dev Cert.GatherIdeal.nD,
    (Cert.Pre_rows_of_the_codebook.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_Rows (m : (ℓ : Loc Cert.Rows.nD Cert.Rows.τ Cert.Rows.sig) → Buf (Elt Bits) ℓ) : Prop :=
  True

def Pre_Rows_rows_of_the_codebook [hPre_rows_of_the_codebook : Cert.Pre_rows_of_the_codebook.Facts] (m : (ℓ : Loc Cert.Rows.nD Cert.Rows.τ Cert.Rows.sig) → Buf (Elt Bits) ℓ) : Prop :=
  ∀ c : Dev Cert.Rows.nD,
    (Cert.Pre_rows_of_the_codebook.fn (F := Bits) (m ((c.tc : Thread Cert.Rows.nD Cert.Rows.τ).loc Cert.Rows.main_arg0)) (m ((c.tc : Thread Cert.Rows.nD Cert.Rows.τ).loc Cert.Rows.main_arg1))) = (fun _ => 1#1)

def Pre_RowsIdeal (m : (ℓ : Loc Cert.RowsIdeal.nD Cert.RowsIdeal.τ Cert.RowsIdeal.sig) → Buf (Elt Ideal) ℓ) : Prop :=
  True

def Pre_RowsIdeal_rows_of_the_codebook [hPre_rows_of_the_codebook : Cert.Pre_rows_of_the_codebook.Facts] (m : (ℓ : Loc Cert.RowsIdeal.nD Cert.RowsIdeal.τ Cert.RowsIdeal.sig) → Buf (Elt Ideal) ℓ) : Prop :=
  ∀ c : Dev Cert.RowsIdeal.nD,
    (Cert.Pre_rows_of_the_codebook.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] [hPre_rows_of_the_codebook : Cert.Pre_rows_of_the_codebook.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_rows_of_the_codebook : Cert.Pre_rows_of_the_codebook.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_Rows_pre_rows_of_the_codebook [hRows : Cert.Rows.Facts] [hPre_rows_of_the_codebook : Cert.Pre_rows_of_the_codebook.Facts] : Prop :=
  ∀ (m : (ℓ : Loc Cert.Rows.nD Cert.Rows.τ Cert.Rows.sig) → Buf (Elt Bits) ℓ) (g : Dev Cert.Rows.nD → PrngReg), Pre_Rows_rows_of_the_codebook m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsIdeal_pre_rows_of_the_codebook [hRowsIdeal : Cert.RowsIdeal.Facts] [hPre_rows_of_the_codebook : Cert.Pre_rows_of_the_codebook.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal_rows_of_the_codebook m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Gather_GatherIdeal : Prop :=
  True

def bitexact_Gather_Rows [hGather : Cert.Gather.Facts] [hRows : Cert.Rows.Facts] [hPre_rows_of_the_codebook : Cert.Pre_rows_of_the_codebook.Facts] : Prop :=
  ∀ (m : (ℓ : Loc Cert.Gather.nD Cert.Gather.τ Cert.Gather.sig) → Buf (Elt Bits) ℓ) (g : Dev Cert.Gather.nD → PrngReg)
    (m' : (ℓ : Loc Cert.Rows.nD Cert.Rows.τ Cert.Rows.sig) → Buf (Elt Bits) ℓ) (g' : Dev Cert.Rows.nD → PrngReg), Pre_Gather m →
    (∀ c : Dev Cert.Gather.nD,
      m' ((c.tc : Thread Cert.Rows.nD Cert.Rows.τ).loc Cert.Rows.main_arg0) = m ((c.tc : Thread Cert.Gather.nD Cert.Gather.τ).loc Cert.Gather.main_arg0)
      ∧ m' ((c.tc : Thread Cert.Rows.nD Cert.Rows.τ).loc Cert.Rows.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v7)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v7) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.Rows.defs (F := Bits)) (onTc (τ := Cert.Rows.τ) (Cert.Rows.main (F := Bits))) ⟨m', fun _ => 0, g'⟩ (fun r => ∀ c : Dev Cert.Rows.nD,
          r.2.mem ((c.tc : Thread Cert.Rows.nD Cert.Rows.τ).loc Cert.Rows.main_v0) = v0 c
          ∧ r.2.mem ((c.tc : Thread Cert.Rows.nD Cert.Rows.τ).loc Cert.Rows.main_arg0) = m' ((c.tc : Thread Cert.Rows.nD Cert.Rows.τ).loc Cert.Rows.main_arg0)
          ∧ r.2.mem ((c.tc : Thread Cert.Rows.nD Cert.Rows.τ).loc Cert.Rows.main_arg1) = m' ((c.tc : Thread Cert.Rows.nD Cert.Rows.τ).loc Cert.Rows.main_arg1))

def algebraic_GatherIdeal_RowsIdeal [hGatherIdeal : Cert.GatherIdeal.Facts] [hRowsIdeal : Cert.RowsIdeal.Facts] [hPre_rows_of_the_codebook : Cert.Pre_rows_of_the_codebook.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.RowsIdeal.nD Cert.RowsIdeal.τ Cert.RowsIdeal.sig) → Buf (Elt Ideal) ℓ) (g' : Dev Cert.RowsIdeal.nD → PrngReg), Pre_GatherIdeal m →
    (∀ c : Dev Cert.GatherIdeal.nD,
      m' ((c.tc : Thread Cert.RowsIdeal.nD Cert.RowsIdeal.τ).loc Cert.RowsIdeal.main_arg0) = m ((c.tc : Thread Cert.GatherIdeal.nD Cert.GatherIdeal.τ).loc Cert.GatherIdeal.main_arg0)
      ∧ m' ((c.tc : Thread Cert.RowsIdeal.nD Cert.RowsIdeal.τ).loc Cert.RowsIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v7)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v7) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.RowsIdeal.defs (F := Ideal)) (onTc (τ := Cert.RowsIdeal.τ) (Cert.RowsIdeal.main (F := Ideal))) ⟨m', fun _ => 0, g'⟩ (fun r => ∀ c : Dev Cert.RowsIdeal.nD,
          r.2.mem ((c.tc : Thread Cert.RowsIdeal.nD Cert.RowsIdeal.τ).loc Cert.RowsIdeal.main_v0) = v0 c
          ∧ r.2.mem ((c.tc : Thread Cert.RowsIdeal.nD Cert.RowsIdeal.τ).loc Cert.RowsIdeal.main_arg0) = m' ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m' ((c.tc : Thread Cert.RowsIdeal.nD Cert.RowsIdeal.τ).loc Cert.RowsIdeal.main_arg1))

def Claim : Prop :=
  ∃ (hKernelIdeal : Cert.KernelIdeal.Facts) (hReferenceIdeal : Cert.ReferenceIdeal.Facts) (hGather : Cert.Gather.Facts) (hGatherIdeal : Cert.GatherIdeal.Facts) (hRows : Cert.Rows.Facts) (hRowsIdeal : Cert.RowsIdeal.Facts) (hPre_finite : Cert.Pre_finite.Facts) (hPre_rows_of_the_codebook : Cert.Pre_rows_of_the_codebook.Facts),
    quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gather (hGather := hGather) (hPre_rows_of_the_codebook := hPre_rows_of_the_codebook)
    ∧ quiescent_GatherIdeal (hGatherIdeal := hGatherIdeal) (hPre_rows_of_the_codebook := hPre_rows_of_the_codebook)
    ∧ quiescent_Rows (hRows := hRows)
    ∧ quiescent_Rows_pre_rows_of_the_codebook (hRows := hRows) (hPre_rows_of_the_codebook := hPre_rows_of_the_codebook)
    ∧ quiescent_RowsIdeal (hRowsIdeal := hRowsIdeal)
    ∧ quiescent_RowsIdeal_pre_rows_of_the_codebook (hRowsIdeal := hRowsIdeal) (hPre_rows_of_the_codebook := hPre_rows_of_the_codebook)
    ∧ algebraic_KernelIdeal_ReferenceIdeal_pre_finite (hKernelIdeal := hKernelIdeal) (hReferenceIdeal := hReferenceIdeal) (hPre_finite := hPre_finite)
    ∧ preserves_Gather_GatherIdeal
    ∧ bitexact_Gather_Rows (hGather := hGather) (hRows := hRows) (hPre_rows_of_the_codebook := hPre_rows_of_the_codebook)
    ∧ algebraic_GatherIdeal_RowsIdeal (hGatherIdeal := hGatherIdeal) (hRowsIdeal := hRowsIdeal) (hPre_rows_of_the_codebook := hPre_rows_of_the_codebook)
-- ==== Pre_finite.lean ====
abbrev S32768x64 : Shape := ⟨2, ![32768, 64]⟩
abbrev S8192x64 : Shape := ⟨2, ![8192, 64]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S32768x64 .f32) (main_arg1 : FVec F S8192x64 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Pre_rows_of_the_codebook.lean ====
abbrev S8192x64 : Shape := ⟨2, ![8192, 64]⟩
abbrev S32768 : Shape := ⟨1, ![32768]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : FVec F S8192x64 .f32) (main_arg1 : IVec S32768 32) : IVec S_ 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 8192#32
  let main_v2 : IVec S32768 32 := broadcastInDim S32768 ![] bcast_S_S32768 main_c_0
  let main_v3 : IVec S32768 1 := cmpi .slt main_arg1 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== KernelIdeal.lean ====
abbrev S32768x64 : Shape := ⟨2, ![32768, 64]⟩
abbrev S8192x64 : Shape := ⟨2, ![8192, 64]⟩
abbrev S8192x128 : Shape := ⟨2, ![8192, 128]⟩
abbrev S8192 : Shape := ⟨1, ![8192]⟩
abbrev S16384x64 : Shape := ⟨2, ![16384, 64]⟩
abbrev S16384 : Shape := ⟨1, ![16384]⟩
abbrev S1x1 : Shape := ⟨2, ![1, 1]⟩
abbrev S1024x64 : Shape := ⟨2, ![1024, 64]⟩
abbrev S1024 : Shape := ⟨1, ![1024]⟩
abbrev S1024x1 : Shape := ⟨2, ![1024, 1]⟩
abbrev S1024x128 : Shape := ⟨2, ![1024, 128]⟩
abbrev S64x128 : Shape := ⟨2, ![64, 128]⟩
abbrev S64 : Shape := ⟨1, ![64]⟩
abbrev S64x1 : Shape := ⟨2, ![64, 1]⟩
abbrev S1024x8192 : Shape := ⟨2, ![1024, 8192]⟩
abbrev S128 : Shape := ⟨1, ![128]⟩
abbrev S1x128 : Shape := ⟨2, ![1, 128]⟩
abbrev S1x1024x1 : Shape := ⟨3, ![1, 1024, 1]⟩
abbrev S1 : Shape := ⟨1, ![1]⟩
abbrev S1x1x1 : Shape := ⟨3, ![1, 1, 1]⟩
abbrev S1x16384 : Shape := ⟨2, ![1, 16384]⟩
abbrev S256x128 : Shape := ⟨2, ![256, 128]⟩
abbrev S2x1x256 : Shape := ⟨3, ![2, 1, 256]⟩
abbrev S2 : Shape := ⟨1, ![2]⟩
abbrev S2x256x64 : Shape := ⟨3, ![2, 256, 64]⟩
abbrev S1x1x256 : Shape := ⟨3, ![1, 1, 256]⟩
abbrev S1x256 : Shape := ⟨2, ![1, 256]⟩
abbrev S_ : Shape := ⟨0, ![]⟩
abbrev S256 : Shape := ⟨1, ![256]⟩
abbrev S256x64 : Shape := ⟨2, ![256, 64]⟩
abbrev S1x256x64 : Shape := ⟨3, ![1, 256, 64]⟩
abbrev S32768 : Shape := ⟨1, ![32768]⟩

abbrev nBuf : Table → Nat
  | .hbm => 23
  | .local .tc .vmem => 23
  | .local .tc .smem => 2
  | .local .scVector .vmem => 6
  | _ => 0

abbrev bufTy : (tb : Table) → Fin (nBuf tb) → BufTy
  | .hbm, ⟨0, _⟩ => ⟨S32768x64, .f32⟩
  | .hbm, ⟨1, _⟩ => ⟨S8192x64, .f32⟩
  | .hbm, ⟨2, _⟩ => ⟨S8192x128, .f32⟩
  | .hbm, ⟨3, _⟩ => ⟨S8192, .f32⟩
  | .hbm, ⟨4, _⟩ => ⟨S16384x64, .f32⟩
  | .hbm, ⟨5, _⟩ => ⟨S16384, .i32⟩
  | .hbm, ⟨6, _⟩ => ⟨S1x1, .f32⟩
  | .hbm, ⟨7, _⟩ => ⟨S1x16384, .i32⟩
  | .hbm, ⟨8, _⟩ => ⟨S16384x64, .f32⟩
  | .hbm, ⟨9, _⟩ => ⟨S16384x64, .f32⟩
  | .hbm, ⟨10, _⟩ => ⟨S16384, .i32⟩
  | .hbm, ⟨11, _⟩ => ⟨S1x1, .f32⟩
  | .hbm, ⟨12, _⟩ => ⟨S1x16384, .i32⟩
  | .hbm, ⟨13, _⟩ => ⟨S16384x64, .f32⟩
  | .hbm, ⟨14, _⟩ => ⟨S32768, .i32⟩
  | .hbm, ⟨15, _⟩ => ⟨S32768x64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local .tc .vmem, ⟨0, _⟩ => ⟨S8192x64, .f32⟩
  | .local .tc .vmem, ⟨1, _⟩ => ⟨S8192x128, .f32⟩
  | .local .tc .vmem, ⟨2, _⟩ => ⟨S8192, .f32⟩
  | .local .tc .vmem, ⟨3, _⟩ => ⟨S1024x64, .f32⟩
  | .local .tc .vmem, ⟨4, _⟩ => ⟨S1024x64, .f32⟩
  | .local .tc .vmem, ⟨5, _⟩ => ⟨S8192x128, .f32⟩
  | .local .tc .vmem, ⟨6, _⟩ => ⟨S8192, .f32⟩
  | .local .tc .vmem, ⟨7, _⟩ => ⟨S1024, .i32⟩
  | .local .tc .vmem, ⟨8, _⟩ => ⟨S1024, .i32⟩
  | .local .tc .vmem, ⟨9, _⟩ => ⟨S1024x1, .f32⟩
  | .local .tc .vmem, ⟨10, _⟩ => ⟨S1024x128, .f32⟩
  | .local .tc .vmem, ⟨11, _⟩ => ⟨S1024x128, .f32⟩
  | .local .tc .vmem, ⟨12, _⟩ => ⟨S1024x128, .i32⟩
  | .local .tc .vmem, ⟨13, _⟩ => ⟨S1024x64, .f32⟩
  | .local .tc .vmem, ⟨14, _⟩ => ⟨S1024x64, .f32⟩
  | .local .tc .vmem, ⟨15, _⟩ => ⟨S8192x128, .f32⟩
  | .local .tc .vmem, ⟨16, _⟩ => ⟨S8192, .f32⟩
  | .local .tc .vmem, ⟨17, _⟩ => ⟨S1024, .i32⟩
  | .local .tc .vmem, ⟨18, _⟩ => ⟨S1024, .i32⟩
  | .local .tc .vmem, ⟨19, _⟩ => ⟨S1024x1, .f32⟩
  | .local .tc .vmem, ⟨20, _⟩ => ⟨S1024x128, .f32⟩
  | .local .tc .vmem, ⟨21, _⟩ => ⟨S1024x128, .f32⟩
  | .local .tc .vmem, ⟨22, _⟩ => ⟨S1024x128, .i32⟩
  | .local .tc .smem, ⟨0, _⟩ => ⟨S1x1, .f32⟩
  | .local .tc .smem, ⟨1, _⟩ => ⟨S1x1, .f32⟩
  | .local .scVector .vmem, ⟨0, _⟩ => ⟨S256x128, .f32⟩
  | .local .scVector .vmem, ⟨1, _⟩ => ⟨S2x1x256, .i32⟩
  | .local .scVector .vmem, ⟨2, _⟩ => ⟨S2x256x64, .f32⟩
  | .local .scVector .vmem, ⟨3, _⟩ => ⟨S256x128, .f32⟩
  | .local .scVector .vmem, ⟨4, _⟩ => ⟨S2x1x256, .i32⟩
  | .local .scVector .vmem, ⟨5, _⟩ => ⟨S2x256x64, .f32⟩
  | _, _ => ⟨S32768x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => false
  | ⟨23, _⟩ => false
  | ⟨24, _⟩ => false
  | ⟨25, _⟩ => false
  | ⟨26, _⟩ => false
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v0_0_scv : Ref sig .scVector := ⟨.hbm, 2, rfl⟩
abbrev main_v3_scv : Ref sig .scVector := ⟨.hbm, 7, rfl⟩
abbrev main_v4_scv : Ref sig .scVector := ⟨.hbm, 8, rfl⟩
abbrev main_v7_scv : Ref sig .scVector := ⟨.hbm, 12, rfl⟩
abbrev main_v8_scv : Ref sig .scVector := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.vmem, 11, rfl⟩
abbrev cc1_scratch3 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg3_0 : Ref sig .tc := ⟨.vmem, 17, rfl⟩
abbrev cc3_stg3_1 : Ref sig .tc := ⟨.vmem, 18, rfl⟩
abbrev cc3_scratch0 : Ref sig .tc := ⟨.vmem, 19, rfl⟩
abbrev cc3_scratch1 : Ref sig .tc := ⟨.vmem, 20, rfl⟩
abbrev cc3_scratch2 : Ref sig .tc := ⟨.vmem, 21, rfl⟩
abbrev cc3_scratch3 : Ref sig .tc := ⟨.vmem, 22, rfl⟩
abbrev cc1_stg4_0 : Ref sig .tc := ⟨.smem, 0, rfl⟩
abbrev cc3_stg4_0 : Ref sig .tc := ⟨.smem, 1, rfl⟩
abbrev cc2_scratch0 : Ref sig .scVector := ⟨.vmem, 0, rfl⟩
abbrev cc2_scoped0 : Ref sig .scVector := ⟨.vmem, 1, rfl⟩
abbrev cc2_scoped2 : Ref sig .scVector := ⟨.vmem, 2, rfl⟩
abbrev cc4_scratch0 : Ref sig .scVector := ⟨.vmem, 3, rfl⟩
abbrev cc4_scoped0 : Ref sig .scVector := ⟨.vmem, 4, rfl⟩
abbrev cc4_scoped2 : Ref sig .scVector := ⟨.vmem, 5, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc3_sem4_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![17], ![false]⟩

def k1_cond2 (i : grid1.Coords) : BitVec 1 :=
  let arg0 : BitVec 32 := BitVec.ofNat 32 (i 0).val
  let c16_i32_1269 : BitVec 32 := 16#32
  let v9695 : BitVec 1 := Scalar.cmpi .eq arg0 c16_i32_1269
  let v9696 : BitVec 32 := Scalar.extui v9695
  let c0_i32_1270 : BitVec 32 := 0#32
  let v9697 : BitVec 1 := Scalar.cmpi .ne v9696 c0_i32_1270
  v9697

def cc1_transform_0 (i : grid1.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨2, ![2, 16], ![false, false]⟩

def k2_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_16_r0 : BitVec 32 := 0#32
  let c0_i32_17_r0 : BitVec 32 := 0#32
  ![v21_r0.toNat, 0, 0]
def k2_off2 (i : grid2.Coords) : Fin 2 → Nat :=
  let c0_i32_18_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v22_r0 : BitVec 32 := Scalar.muli c256_i32_r0 v7_r0
  ![0, v22_r0.toNat]
def k2_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
@[reducible] def k2_t1_loop : Scf.Loop 32 :=
  let c0_i32_28_r0 : BitVec 32 := 0#32
  let c2_i32_29_r0 : BitVec 32 := 2#32
  let v32_r0 : BitVec 32 := Scalar.addi c0_i32_28_r0 c2_i32_29_r0
  let c1_i32_30_r0 : BitVec 32 := 1#32
  ⟨c0_i32_28_r0, v32_r0, c1_i32_30_r0⟩
def k2_off4 (arg7_r0 : BitVec 32) : Fin 3 → Nat :=
  let c2_i32_104_r0 : BitVec 32 := 2#32
  let v150_r0 : BitVec 32 := Scalar.remui arg7_r0 c2_i32_104_r0
  let c0_i32_106_r0 : BitVec 32 := 0#32
  let c0_i32_107_r0 : BitVec 32 := 0#32
  ![v150_r0.toNat, 0, 0]
def k2_cond1 (i : grid2.Coords) (k2_t1 : Fin k2_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_63_r0 : BitVec 1 := 1#1
  let c1_i32_62_r0 : BitVec 32 := 1#32
  let v72_r0 : BitVec 32 := Scalar.addi arg11_r0 c1_i32_62_r0
  let v73_r0 : BitVec 32 := Scalar.select true_63_r0 v72_r0 arg11_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v82_r0 : BitVec 1 := Scalar.cmpi .ne v66_r0 v76_r0
  let c0_i32_28_r0 : BitVec 32 := 0#32
  let c1_i32_30_r0 : BitVec 32 := 1#32
  let arg6_r0 : BitVec 32 := Scf.iv c0_i32_28_r0 c1_i32_30_r0 k2_t1
  let c1_i32_70_r0 : BitVec 32 := 1#32
  let v83_r0 : BitVec 1 := Scalar.cmpi .sge arg6_r0 c1_i32_70_r0
  let true_71_r0 : BitVec 1 := 1#1
  let v84_r0 : BitVec 1 := Scalar.xori v83_r0 true_71_r0
  let v85_r0 : BitVec 1 := Scalar.andi v82_r0 v84_r0
  let true_72_r0 : BitVec 1 := 1#1
  let v86_r0 : BitVec 1 := Scalar.andi v85_r0 true_72_r0
  let v87_r0 : BitVec 32 := Scalar.extui v86_r0
  let c0_i32_73_r0 : BitVec 32 := 0#32
  let v88_r0 : BitVec 1 := Scalar.cmpi .ne v87_r0 c0_i32_73_r0
  v88_r0

def k2_off5 (i : grid2.Coords) (arg11_r0 : BitVec 32) : Fin 2 → Nat :=
  let c0_i32_108_r0 : BitVec 32 := 0#32
  let c256_i32_105_r0 : BitVec 32 := 256#32
  let true_63_r0 : BitVec 1 := 1#1
  let c1_i32_62_r0 : BitVec 32 := 1#32
  let v72_r0 : BitVec 32 := Scalar.addi arg11_r0 c1_i32_62_r0
  let v73_r0 : BitVec 32 := Scalar.select true_63_r0 v72_r0 arg11_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v76_r0 : BitVec 32 := Scalar.addi v75_r0 v4
  let v151_r0 : BitVec 32 := Scalar.muli c256_i32_105_r0 v76_r0
  ![0, v151_r0.toNat]
def k2_off6 (arg7_r0 : BitVec 32) : Fin 1 → Nat :=
  let c2_i32_104_r0 : BitVec 32 := 2#32
  let v150_r0 : BitVec 32 := Scalar.remui arg7_r0 c2_i32_104_r0
  ![v150_r0.toNat]
def k2_off7 (arg8_r0 : BitVec 32) : Fin 3 → Nat :=
  let c2_i32_105_r0 : BitVec 32 := 2#32
  let v151_r0 : BitVec 32 := Scalar.remui arg8_r0 c2_i32_105_r0
  let c0_i32_106_r0 : BitVec 32 := 0#32
  let c0_i32_107_r0 : BitVec 32 := 0#32
  ![v151_r0.toNat, 0, 0]
def k2_cond2 (i : grid2.Coords) (k2_t1 : Fin k2_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_59_r0 : BitVec 1 := 1#1
  let c1_i32_58_r0 : BitVec 32 := 1#32
  let v67_r0 : BitVec 32 := Scalar.subi arg11_r0 c1_i32_58_r0
  let v68_r0 : BitVec 32 := Scalar.select true_59_r0 v67_r0 arg11_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v96_r0 : BitVec 1 := Scalar.cmpi .ne v66_r0 v71_r0
  let c0_i32_28_r0 : BitVec 32 := 0#32
  let c1_i32_30_r0 : BitVec 32 := 1#32
  let arg6_r0 : BitVec 32 := Scf.iv c0_i32_28_r0 c1_i32_30_r0 k2_t1
  let c0_i32_56_r0 : BitVec 32 := 0#32
  let v64_r0 : BitVec 1 := Scalar.cmpi .eq arg6_r0 c0_i32_56_r0
  let v97_r0 : BitVec 1 := Scalar.ori v96_r0 v64_r0
  let c0_i32_78_r0 : BitVec 32 := 0#32
  let v98_r0 : BitVec 1 := Scalar.cmpi .sge arg6_r0 c0_i32_78_r0
  let v99_r0 : BitVec 1 := Scalar.andi v97_r0 v98_r0
  let v100_r0 : BitVec 32 := Scalar.extui v99_r0
  let c0_i32_79_r0 : BitVec 32 := 0#32
  let v101_r0 : BitVec 1 := Scalar.cmpi .ne v100_r0 c0_i32_79_r0
  v101_r0

def k2_off8 (i : grid2.Coords) (arg11_r0 : BitVec 32) : Fin 2 → Nat :=
  let c0_i32_108_r0 : BitVec 32 := 0#32
  let c256_i32_104_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let v150_r0 : BitVec 32 := Scalar.muli c256_i32_104_r0 v66_r0
  ![0, v150_r0.toNat]
def k2_off9 (arg8_r0 : BitVec 32) : Fin 1 → Nat :=
  let c2_i32_105_r0 : BitVec 32 := 2#32
  let v151_r0 : BitVec 32 := Scalar.remui arg8_r0 c2_i32_105_r0
  ![v151_r0.toNat]
def k2_off10 (arg8_r0 : BitVec 32) : Fin 3 → Nat :=
  let c2_i32_82_r0 : BitVec 32 := 2#32
  let v108_r0 : BitVec 32 := Scalar.remui arg8_r0 c2_i32_82_r0
  let c0_i32_104_r1 : BitVec 32 := 0#32
  let c0_i32_105_r1 : BitVec 32 := 0#32
  ![v108_r0.toNat, 0, 0]

def k2_chk2 (arg8_r0 : BitVec 32) : Prop :=
  (∀ a, (k2_off10 arg8_r0) a + S1x1x256.size a ≤ S2x1x256.size a)
theorem k2_off10_inb : ∀ (arg8_r0 : BitVec 32) (k2_hw2 : k2_chk2 arg8_r0), ∀ a, (k2_off10 arg8_r0) a + S1x1x256.size a ≤ S2x1x256.size a := fun arg8_r0 k2_hw2 => k2_hw2

def k2_off11 (arg9_r0 : BitVec 32) : Fin 3 → Nat :=
  let c2_i32_83_r0 : BitVec 32 := 2#32
  let v109_r0 : BitVec 32 := Scalar.remui arg9_r0 c2_i32_83_r0
  let v112_r0 : Index := Scalar.indexCast v109_r0
  let c0_86_r0 : Index := 0#32
  let c0_87_r0 : Index := 0#32
  ![v112_r0.toNat, 0, 0]

def k2_chk3 (arg9_r0 : BitVec 32) : Prop :=
  (∀ a, (k2_off11 arg9_r0) a + S1x256x64.size a ≤ S2x256x64.size a)
theorem k2_off11_inb : ∀ (arg9_r0 : BitVec 32) (k2_hw3 : k2_chk3 arg9_r0), ∀ a, (k2_off11 arg9_r0) a + S1x256x64.size a ≤ S2x256x64.size a := fun arg9_r0 k2_hw3 => k2_hw3

def k2_off12 (arg9_r0 : BitVec 32) : Fin 3 → Nat :=
  let c2_i32_104_r0 : BitVec 32 := 2#32
  let v150_r0 : BitVec 32 := Scalar.remui arg9_r0 c2_i32_104_r0
  let c0_i32_106_r0 : BitVec 32 := 0#32
  let c0_i32_107_r0 : BitVec 32 := 0#32
  ![v150_r0.toNat, 0, 0]
def k2_cond5 (i : grid2.Coords) (k2_t1 : Fin k2_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_63_r0 : BitVec 1 := 1#1
  let c1_i32_62_r0 : BitVec 32 := 1#32
  let v72_r0 : BitVec 32 := Scalar.addi arg11_r0 c1_i32_62_r0
  let v73_r0 : BitVec 32 := Scalar.select true_63_r0 v72_r0 arg11_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v121_r0 : BitVec 1 := Scalar.cmpi .ne v66_r0 v76_r0
  let c0_i32_28_r0 : BitVec 32 := 0#32
  let c1_i32_30_r0 : BitVec 32 := 1#32
  let arg6_r0 : BitVec 32 := Scf.iv c0_i32_28_r0 c1_i32_30_r0 k2_t1
  let c1_i32_57_r0 : BitVec 32 := 1#32
  let v65_r0 : BitVec 1 := Scalar.cmpi .eq arg6_r0 c1_i32_57_r0
  let v122_r0 : BitVec 1 := Scalar.ori v121_r0 v65_r0
  let v123_r0 : BitVec 32 := Scalar.extui v122_r0
  let c0_i32_89_r0 : BitVec 32 := 0#32
  let v124_r0 : BitVec 1 := Scalar.cmpi .ne v123_r0 c0_i32_89_r0
  v124_r0

def k2_off13 (i : grid2.Coords) (arg11_r0 : BitVec 32) : Fin 2 → Nat :=
  let c256_i32_105_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let v151_r0 : BitVec 32 := Scalar.muli c256_i32_105_r0 v66_r0
  let c0_i32_108_r0 : BitVec 32 := 0#32
  ![v151_r0.toNat, 0]
def k2_off14 (arg9_r0 : BitVec 32) : Fin 1 → Nat :=
  let c2_i32_104_r0 : BitVec 32 := 2#32
  let v150_r0 : BitVec 32 := Scalar.remui arg9_r0 c2_i32_104_r0
  ![v150_r0.toNat]
def k2_off15 (arg10_r0 : BitVec 32) : Fin 3 → Nat :=
  let c2_i32_104_r0 : BitVec 32 := 2#32
  let v150_r0 : BitVec 32 := Scalar.remui arg10_r0 c2_i32_104_r0
  let c0_i32_106_r0 : BitVec 32 := 0#32
  let c0_i32_107_r0 : BitVec 32 := 0#32
  ![v150_r0.toNat, 0, 0]
def k2_cond7 (i : grid2.Coords) (k2_t1 : Fin k2_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_59_r0 : BitVec 1 := 1#1
  let c1_i32_58_r0 : BitVec 32 := 1#32
  let v67_r0 : BitVec 32 := Scalar.subi arg11_r0 c1_i32_58_r0
  let v68_r0 : BitVec 32 := Scalar.select true_59_r0 v67_r0 arg11_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v134_r0 : BitVec 1 := Scalar.cmpi .ne v66_r0 v71_r0
  let c0_i32_28_r0 : BitVec 32 := 0#32
  let c1_i32_30_r0 : BitVec 32 := 1#32
  let arg6_r0 : BitVec 32 := Scf.iv c0_i32_28_r0 c1_i32_30_r0 k2_t1
  let c0_i32_56_r0 : BitVec 32 := 0#32
  let v64_r0 : BitVec 1 := Scalar.cmpi .eq arg6_r0 c0_i32_56_r0
  let true_95_r0 : BitVec 1 := 1#1
  let v135_r0 : BitVec 1 := Scalar.xori v64_r0 true_95_r0
  let v136_r0 : BitVec 1 := Scalar.andi v134_r0 v135_r0
  let v137_r0 : BitVec 32 := Scalar.extui v136_r0
  let c0_i32_96_r0 : BitVec 32 := 0#32
  let v138_r0 : BitVec 1 := Scalar.cmpi .ne v137_r0 c0_i32_96_r0
  v138_r0

def k2_off16 (i : grid2.Coords) (arg11_r0 : BitVec 32) : Fin 2 → Nat :=
  let c256_i32_105_r0 : BitVec 32 := 256#32
  let true_59_r0 : BitVec 1 := 1#1
  let c1_i32_58_r0 : BitVec 32 := 1#32
  let v67_r0 : BitVec 32 := Scalar.subi arg11_r0 c1_i32_58_r0
  let v68_r0 : BitVec 32 := Scalar.select true_59_r0 v67_r0 arg11_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v71_r0 : BitVec 32 := Scalar.addi v70_r0 v4
  let v151_r0 : BitVec 32 := Scalar.muli c256_i32_105_r0 v71_r0
  let c0_i32_108_r0 : BitVec 32 := 0#32
  ![v151_r0.toNat, 0]
def k2_off17 (arg10_r0 : BitVec 32) : Fin 1 → Nat :=
  let c2_i32_104_r0 : BitVec 32 := 2#32
  let v150_r0 : BitVec 32 := Scalar.remui arg10_r0 c2_i32_104_r0
  ![v150_r0.toNat]

def k2_chk1 (i : grid2.Coords) (k2_t1 : Fin k2_t1_loop.trips) (arg7_r0 : BitVec 32) (arg8_r0 : BitVec 32) (arg9_r0 : BitVec 32) (arg10_r0 : BitVec 32) (arg11_r0 : BitVec 32) : Prop :=
  (∀ (k2_h1 : k2_cond1 i k2_t1 arg11_r0 = 1#1), ∀ a, (k2_off4 arg7_r0) a + S1x1x256.size a ≤ S2x1x256.size a) ∧
  (∀ (k2_h1 : k2_cond1 i k2_t1 arg11_r0 = 1#1), ∀ a, (k2_off5 i arg11_r0) a + S1x256.size a ≤ S1x16384.size a) ∧
  (∀ (k2_h1 : k2_cond1 i k2_t1 arg11_r0 = 1#1), ∀ a, (k2_off6 arg7_r0) a + S1.size a ≤ S2.size a) ∧
  (∀ (k2_h2 : k2_cond2 i k2_t1 arg11_r0 = 1#1), ∀ a, (k2_off7 arg8_r0) a + S1x1x256.size a ≤ S2x1x256.size a) ∧
  (∀ (k2_h2 : k2_cond2 i k2_t1 arg11_r0 = 1#1), ∀ a, (k2_off8 i arg11_r0) a + S1x256.size a ≤ S1x16384.size a) ∧
  (∀ (k2_h2 : k2_cond2 i k2_t1 arg11_r0 = 1#1), ∀ a, (k2_off9 arg8_r0) a + S1.size a ≤ S2.size a) ∧
  (∀ (k2_h5 : k2_cond5 i k2_t1 arg11_r0 = 1#1), ∀ a, (k2_off12 arg9_r0) a + S1x256x64.size a ≤ S2x256x64.size a) ∧
  (∀ (k2_h5 : k2_cond5 i k2_t1 arg11_r0 = 1#1), ∀ a, (k2_off13 i arg11_r0) a + S256x64.size a ≤ S16384x64.size a) ∧
  (∀ (k2_h5 : k2_cond5 i k2_t1 arg11_r0 = 1#1), ∀ a, (k2_off14 arg9_r0) a + S1.size a ≤ S2.size a) ∧
  (∀ (k2_h7 : k2_cond7 i k2_t1 arg11_r0 = 1#1), ∀ a, (k2_off15 arg10_r0) a + S1x256x64.size a ≤ S2x256x64.size a) ∧
  (∀ (k2_h7 : k2_cond7 i k2_t1 arg11_r0 = 1#1), ∀ a, (k2_off16 i arg11_r0) a + S256x64.size a ≤ S16384x64.size a) ∧
  (∀ (k2_h7 : k2_cond7 i k2_t1 arg11_r0 = 1#1), ∀ a, (k2_off17 arg10_r0) a + S1.size a ≤ S2.size a)
theorem k2_off4_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i k2_t1 arg11_r0 = 1#1), ∀ a, (k2_off4 arg7_r0) a + S1x1x256.size a ≤ S2x1x256.size a := fun i k2_t1 arg7_r0 arg8_r0 arg9_r0 arg10_r0 arg11_r0 k2_hw1 k2_h1 => k2_hw1.1 k2_h1
theorem k2_off5_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i k2_t1 arg11_r0 = 1#1), ∀ a, (k2_off5 i arg11_r0) a + S1x256.size a ≤ S1x16384.size a := fun i k2_t1 arg7_r0 arg8_r0 arg9_r0 arg10_r0 arg11_r0 k2_hw1 k2_h1 => k2_hw1.2.1 k2_h1
theorem k2_off6_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i k2_t1 arg11_r0 = 1#1), ∀ a, (k2_off6 arg7_r0) a + S1.size a ≤ S2.size a := fun i k2_t1 arg7_r0 arg8_r0 arg9_r0 arg10_r0 arg11_r0 k2_hw1 k2_h1 => k2_hw1.2.2.1 k2_h1
theorem k2_off7_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h2 : k2_cond2 i k2_t1 arg11_r0 = 1#1), ∀ a, (k2_off7 arg8_r0) a + S1x1x256.size a ≤ S2x1x256.size a := fun i k2_t1 arg7_r0 arg8_r0 arg9_r0 arg10_r0 arg11_r0 k2_hw1 k2_h2 => k2_hw1.2.2.2.1 k2_h2
theorem k2_off8_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h2 : k2_cond2 i k2_t1 arg11_r0 = 1#1), ∀ a, (k2_off8 i arg11_r0) a + S1x256.size a ≤ S1x16384.size a := fun i k2_t1 arg7_r0 arg8_r0 arg9_r0 arg10_r0 arg11_r0 k2_hw1 k2_h2 => k2_hw1.2.2.2.2.1 k2_h2
theorem k2_off9_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h2 : k2_cond2 i k2_t1 arg11_r0 = 1#1), ∀ a, (k2_off9 arg8_r0) a + S1.size a ≤ S2.size a := fun i k2_t1 arg7_r0 arg8_r0 arg9_r0 arg10_r0 arg11_r0 k2_hw1 k2_h2 => k2_hw1.2.2.2.2.2.1 k2_h2
theorem k2_off12_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h5 : k2_cond5 i k2_t1 arg11_r0 = 1#1), ∀ a, (k2_off12 arg9_r0) a + S1x256x64.size a ≤ S2x256x64.size a := fun i k2_t1 arg7_r0 arg8_r0 arg9_r0 arg10_r0 arg11_r0 k2_hw1 k2_h5 => k2_hw1.2.2.2.2.2.2.1 k2_h5
theorem k2_off13_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h5 : k2_cond5 i k2_t1 arg11_r0 = 1#1), ∀ a, (k2_off13 i arg11_r0) a + S256x64.size a ≤ S16384x64.size a := fun i k2_t1 arg7_r0 arg8_r0 arg9_r0 arg10_r0 arg11_r0 k2_hw1 k2_h5 => k2_hw1.2.2.2.2.2.2.2.1 k2_h5
theorem k2_off14_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h5 : k2_cond5 i k2_t1 arg11_r0 = 1#1), ∀ a, (k2_off14 arg9_r0) a + S1.size a ≤ S2.size a := fun i k2_t1 arg7_r0 arg8_r0 arg9_r0 arg10_r0 arg11_r0 k2_hw1 k2_h5 => k2_hw1.2.2.2.2.2.2.2.2.1 k2_h5
theorem k2_off15_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h7 : k2_cond7 i k2_t1 arg11_r0 = 1#1), ∀ a, (k2_off15 arg10_r0) a + S1x256x64.size a ≤ S2x256x64.size a := fun i k2_t1 arg7_r0 arg8_r0 arg9_r0 arg10_r0 arg11_r0 k2_hw1 k2_h7 => k2_hw1.2.2.2.2.2.2.2.2.2.1 k2_h7
theorem k2_off16_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h7 : k2_cond7 i k2_t1 arg11_r0 = 1#1), ∀ a, (k2_off16 i arg11_r0) a + S256x64.size a ≤ S16384x64.size a := fun i k2_t1 arg7_r0 arg8_r0 arg9_r0 arg10_r0 arg11_r0 k2_hw1 k2_h7 => k2_hw1.2.2.2.2.2.2.2.2.2.2.1 k2_h7
theorem k2_off17_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h7 : k2_cond7 i k2_t1 arg11_r0 = 1#1), ∀ a, (k2_off17 arg10_r0) a + S1.size a ≤ S2.size a := fun i k2_t1 arg7_r0 arg8_r0 arg9_r0 arg10_r0 arg11_r0 k2_hw1 k2_h7 => k2_hw1.2.2.2.2.2.2.2.2.2.2.2 k2_h7

def k2_off18 (v33_3_r0 : BitVec 32) : Fin 3 → Nat :=
  let c2_i32_48_r0 : BitVec 32 := 2#32
  let v54_r0 : BitVec 32 := Scalar.remui v33_3_r0 c2_i32_48_r0
  let c0_i32_50_r0 : BitVec 32 := 0#32
  let c0_i32_51_r0 : BitVec 32 := 0#32
  ![v54_r0.toNat, 0, 0]

def k2_off19 (i : grid2.Coords) (v33_4_r0 : BitVec 32) : Fin 2 → Nat :=
  let c256_i32_49_r0 : BitVec 32 := 256#32
  let true_33_r0 : BitVec 1 := 1#1
  let c1_i32_32_r0 : BitVec 32 := 1#32
  let v34_r0 : BitVec 32 := Scalar.subi v33_4_r0 c1_i32_32_r0
  let v35_r0 : BitVec 32 := Scalar.select true_33_r0 v34_r0 v33_4_r0
  let c_m1_i32_34_r0 : BitVec 32 := 4294967295#32
  let v36_r0 : BitVec 1 := Scalar.cmpi .eq v35_r0 c_m1_i32_34_r0
  let c1_i32_35_r0 : BitVec 32 := 1#32
  let v37_r0 : BitVec 32 := Scalar.select v36_r0 c1_i32_35_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v38_r0 : BitVec 32 := Scalar.addi v37_r0 v4
  let v55_r0 : BitVec 32 := Scalar.muli c256_i32_49_r0 v38_r0
  let c0_i32_52_r0 : BitVec 32 := 0#32
  ![v55_r0.toNat, 0]

def k2_chk5 (i : grid2.Coords) (v33_4_r0 : BitVec 32) : Prop :=
  (∀ a, (k2_off19 i v33_4_r0) a + S256x64.size a ≤ S16384x64.size a)
theorem k2_off19_inb : ∀ (i : grid2.Coords) (v33_4_r0 : BitVec 32) (k2_hw5 : k2_chk5 i v33_4_r0), ∀ a, (k2_off19 i v33_4_r0) a + S256x64.size a ≤ S16384x64.size a := fun i v33_4_r0 k2_hw5 => k2_hw5

def k2_off20 (v33_3_r0 : BitVec 32) : Fin 1 → Nat :=
  let c2_i32_48_r0 : BitVec 32 := 2#32
  let v54_r0 : BitVec 32 := Scalar.remui v33_3_r0 c2_i32_48_r0
  ![v54_r0.toNat]
def k2_off21 (v33_3_r0 : BitVec 32) : Fin 3 → Nat :=
  let c2_i32_48_r0 : BitVec 32 := 2#32
  let v54_r0 : BitVec 32 := Scalar.remui v33_3_r0 c2_i32_48_r0
  let c0_i32_54_r0 : BitVec 32 := 0#32
  let c0_i32_55_r0 : BitVec 32 := 0#32
  ![v54_r0.toNat, 0, 0]

def k2_chk4 (v33_3_r0 : BitVec 32) : Prop :=
  (∀ a, (k2_off18 v33_3_r0) a + S1x256x64.size a ≤ S2x256x64.size a) ∧
  (∀ a, (k2_off20 v33_3_r0) a + S1.size a ≤ S2.size a) ∧
  (∀ a, (k2_off21 v33_3_r0) a + S1x256x64.size a ≤ S2x256x64.size a)
theorem k2_off18_inb : ∀ (v33_3_r0 : BitVec 32) (k2_hw4 : k2_chk4 v33_3_r0), ∀ a, (k2_off18 v33_3_r0) a + S1x256x64.size a ≤ S2x256x64.size a := fun v33_3_r0 k2_hw4 => k2_hw4.1
theorem k2_off20_inb : ∀ (v33_3_r0 : BitVec 32) (k2_hw4 : k2_chk4 v33_3_r0), ∀ a, (k2_off20 v33_3_r0) a + S1.size a ≤ S2.size a := fun v33_3_r0 k2_hw4 => k2_hw4.2.1
theorem k2_off21_inb : ∀ (v33_3_r0 : BitVec 32) (k2_hw4 : k2_chk4 v33_3_r0), ∀ a, (k2_off21 v33_3_r0) a + S1x256x64.size a ≤ S2x256x64.size a := fun v33_3_r0 k2_hw4 => k2_hw4.2.2

abbrev grid3 : Pipeline.Grid := ⟨1, ![17], ![false]⟩

def k3_cond2 (i : grid3.Coords) : BitVec 1 :=
  let arg0 : BitVec 32 := BitVec.ofNat 32 (i 0).val
  let c16_i32_1269 : BitVec 32 := 16#32
  let v9695 : BitVec 1 := Scalar.cmpi .eq arg0 c16_i32_1269
  let v9696 : BitVec 32 := Scalar.extui v9695
  let c0_i32_1270 : BitVec 32 := 0#32
  let v9697 : BitVec 1 := Scalar.cmpi .ne v9696 c0_i32_1270
  v9697

def cc3_transform_0 (i : grid3.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .smem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨2, ![2, 16], ![false, false]⟩

def k4_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_16_r0 : BitVec 32 := 0#32
  let c0_i32_17_r0 : BitVec 32 := 0#32
  ![v21_r0.toNat, 0, 0]
def k4_off2 (i : grid4.Coords) : Fin 2 → Nat :=
  let c0_i32_18_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v22_r0 : BitVec 32 := Scalar.muli c256_i32_r0 v7_r0
  ![0, v22_r0.toNat]
def k4_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
@[reducible] def k4_t1_loop : Scf.Loop 32 :=
  let c0_i32_28_r0 : BitVec 32 := 0#32
  let c2_i32_29_r0 : BitVec 32 := 2#32
  let v32_r0 : BitVec 32 := Scalar.addi c0_i32_28_r0 c2_i32_29_r0
  let c1_i32_30_r0 : BitVec 32 := 1#32
  ⟨c0_i32_28_r0, v32_r0, c1_i32_30_r0⟩
def k4_off4 (arg7_r0 : BitVec 32) : Fin 3 → Nat :=
  let c2_i32_104_r0 : BitVec 32 := 2#32
  let v150_r0 : BitVec 32 := Scalar.remui arg7_r0 c2_i32_104_r0
  let c0_i32_106_r0 : BitVec 32 := 0#32
  let c0_i32_107_r0 : BitVec 32 := 0#32
  ![v150_r0.toNat, 0, 0]
def k4_cond1 (i : grid4.Coords) (k4_t1 : Fin k4_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_63_r0 : BitVec 1 := 1#1
  let c1_i32_62_r0 : BitVec 32 := 1#32
  let v72_r0 : BitVec 32 := Scalar.addi arg11_r0 c1_i32_62_r0
  let v73_r0 : BitVec 32 := Scalar.select true_63_r0 v72_r0 arg11_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v82_r0 : BitVec 1 := Scalar.cmpi .ne v66_r0 v76_r0
  let c0_i32_28_r0 : BitVec 32 := 0#32
  let c1_i32_30_r0 : BitVec 32 := 1#32
  let arg6_r0 : BitVec 32 := Scf.iv c0_i32_28_r0 c1_i32_30_r0 k4_t1
  let c1_i32_70_r0 : BitVec 32 := 1#32
  let v83_r0 : BitVec 1 := Scalar.cmpi .sge arg6_r0 c1_i32_70_r0
  let true_71_r0 : BitVec 1 := 1#1
  let v84_r0 : BitVec 1 := Scalar.xori v83_r0 true_71_r0
  let v85_r0 : BitVec 1 := Scalar.andi v82_r0 v84_r0
  let true_72_r0 : BitVec 1 := 1#1
  let v86_r0 : BitVec 1 := Scalar.andi v85_r0 true_72_r0
  let v87_r0 : BitVec 32 := Scalar.extui v86_r0
  let c0_i32_73_r0 : BitVec 32 := 0#32
  let v88_r0 : BitVec 1 := Scalar.cmpi .ne v87_r0 c0_i32_73_r0
  v88_r0

def k4_off5 (i : grid4.Coords) (arg11_r0 : BitVec 32) : Fin 2 → Nat :=
  let c0_i32_108_r0 : BitVec 32 := 0#32
  let c256_i32_105_r0 : BitVec 32 := 256#32
  let true_63_r0 : BitVec 1 := 1#1
  let c1_i32_62_r0 : BitVec 32 := 1#32
  let v72_r0 : BitVec 32 := Scalar.addi arg11_r0 c1_i32_62_r0
  let v73_r0 : BitVec 32 := Scalar.select true_63_r0 v72_r0 arg11_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v76_r0 : BitVec 32 := Scalar.addi v75_r0 v4
  let v151_r0 : BitVec 32 := Scalar.muli c256_i32_105_r0 v76_r0
  ![0, v151_r0.toNat]
def k4_off6 (arg7_r0 : BitVec 32) : Fin 1 → Nat :=
  let c2_i32_104_r0 : BitVec 32 := 2#32
  let v150_r0 : BitVec 32 := Scalar.remui arg7_r0 c2_i32_104_r0
  ![v150_r0.toNat]
def k4_off7 (arg8_r0 : BitVec 32) : Fin 3 → Nat :=
  let c2_i32_105_r0 : BitVec 32 := 2#32
  let v151_r0 : BitVec 32 := Scalar.remui arg8_r0 c2_i32_105_r0
  let c0_i32_106_r0 : BitVec 32 := 0#32
  let c0_i32_107_r0 : BitVec 32 := 0#32
  ![v151_r0.toNat, 0, 0]
def k4_cond2 (i : grid4.Coords) (k4_t1 : Fin k4_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_59_r0 : BitVec 1 := 1#1
  let c1_i32_58_r0 : BitVec 32 := 1#32
  let v67_r0 : BitVec 32 := Scalar.subi arg11_r0 c1_i32_58_r0
  let v68_r0 : BitVec 32 := Scalar.select true_59_r0 v67_r0 arg11_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v96_r0 : BitVec 1 := Scalar.cmpi .ne v66_r0 v71_r0
  let c0_i32_28_r0 : BitVec 32 := 0#32
  let c1_i32_30_r0 : BitVec 32 := 1#32
  let arg6_r0 : BitVec 32 := Scf.iv c0_i32_28_r0 c1_i32_30_r0 k4_t1
  let c0_i32_56_r0 : BitVec 32 := 0#32
  let v64_r0 : BitVec 1 := Scalar.cmpi .eq arg6_r0 c0_i32_56_r0
  let v97_r0 : BitVec 1 := Scalar.ori v96_r0 v64_r0
  let c0_i32_78_r0 : BitVec 32 := 0#32
  let v98_r0 : BitVec 1 := Scalar.cmpi .sge arg6_r0 c0_i32_78_r0
  let v99_r0 : BitVec 1 := Scalar.andi v97_r0 v98_r0
  let v100_r0 : BitVec 32 := Scalar.extui v99_r0
  let c0_i32_79_r0 : BitVec 32 := 0#32
  let v101_r0 : BitVec 1 := Scalar.cmpi .ne v100_r0 c0_i32_79_r0
  v101_r0

def k4_off8 (i : grid4.Coords) (arg11_r0 : BitVec 32) : Fin 2 → Nat :=
  let c0_i32_108_r0 : BitVec 32 := 0#32
  let c256_i32_104_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let v150_r0 : BitVec 32 := Scalar.muli c256_i32_104_r0 v66_r0
  ![0, v150_r0.toNat]
def k4_off9 (arg8_r0 : BitVec 32) : Fin 1 → Nat :=
  let c2_i32_105_r0 : BitVec 32 := 2#32
  let v151_r0 : BitVec 32 := Scalar.remui arg8_r0 c2_i32_105_r0
  ![v151_r0.toNat]
def k4_off10 (arg8_r0 : BitVec 32) : Fin 3 → Nat :=
  let c2_i32_82_r0 : BitVec 32 := 2#32
  let v108_r0 : BitVec 32 := Scalar.remui arg8_r0 c2_i32_82_r0
  let c0_i32_104_r1 : BitVec 32 := 0#32
  let c0_i32_105_r1 : BitVec 32 := 0#32
  ![v108_r0.toNat, 0, 0]

def k4_chk2 (arg8_r0 : BitVec 32) : Prop :=
  (∀ a, (k4_off10 arg8_r0) a + S1x1x256.size a ≤ S2x1x256.size a)
theorem k4_off10_inb : ∀ (arg8_r0 : BitVec 32) (k4_hw2 : k4_chk2 arg8_r0), ∀ a, (k4_off10 arg8_r0) a + S1x1x256.size a ≤ S2x1x256.size a := fun arg8_r0 k4_hw2 => k4_hw2

def k4_off11 (arg9_r0 : BitVec 32) : Fin 3 → Nat :=
  let c2_i32_83_r0 : BitVec 32 := 2#32
  let v109_r0 : BitVec 32 := Scalar.remui arg9_r0 c2_i32_83_r0
  let v112_r0 : Index := Scalar.indexCast v109_r0
  let c0_86_r0 : Index := 0#32
  let c0_87_r0 : Index := 0#32
  ![v112_r0.toNat, 0, 0]

def k4_chk3 (arg9_r0 : BitVec 32) : Prop :=
  (∀ a, (k4_off11 arg9_r0) a + S1x256x64.size a ≤ S2x256x64.size a)
theorem k4_off11_inb : ∀ (arg9_r0 : BitVec 32) (k4_hw3 : k4_chk3 arg9_r0), ∀ a, (k4_off11 arg9_r0) a + S1x256x64.size a ≤ S2x256x64.size a := fun arg9_r0 k4_hw3 => k4_hw3

def k4_off12 (arg9_r0 : BitVec 32) : Fin 3 → Nat :=
  let c2_i32_104_r0 : BitVec 32 := 2#32
  let v150_r0 : BitVec 32 := Scalar.remui arg9_r0 c2_i32_104_r0
  let c0_i32_106_r0 : BitVec 32 := 0#32
  let c0_i32_107_r0 : BitVec 32 := 0#32
  ![v150_r0.toNat, 0, 0]
def k4_cond5 (i : grid4.Coords) (k4_t1 : Fin k4_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_63_r0 : BitVec 1 := 1#1
  let c1_i32_62_r0 : BitVec 32 := 1#32
  let v72_r0 : BitVec 32 := Scalar.addi arg11_r0 c1_i32_62_r0
  let v73_r0 : BitVec 32 := Scalar.select true_63_r0 v72_r0 arg11_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v121_r0 : BitVec 1 := Scalar.cmpi .ne v66_r0 v76_r0
  let c0_i32_28_r0 : BitVec 32 := 0#32
  let c1_i32_30_r0 : BitVec 32 := 1#32
  let arg6_r0 : BitVec 32 := Scf.iv c0_i32_28_r0 c1_i32_30_r0 k4_t1
  let c1_i32_57_r0 : BitVec 32 := 1#32
  let v65_r0 : BitVec 1 := Scalar.cmpi .eq arg6_r0 c1_i32_57_r0
  let v122_r0 : BitVec 1 := Scalar.ori v121_r0 v65_r0
  let v123_r0 : BitVec 32 := Scalar.extui v122_r0
  let c0_i32_89_r0 : BitVec 32 := 0#32
  let v124_r0 : BitVec 1 := Scalar.cmpi .ne v123_r0 c0_i32_89_r0
  v124_r0

def k4_off13 (i : grid4.Coords) (arg11_r0 : BitVec 32) : Fin 2 → Nat :=
  let c256_i32_105_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let v151_r0 : BitVec 32 := Scalar.muli c256_i32_105_r0 v66_r0
  let c0_i32_108_r0 : BitVec 32 := 0#32
  ![v151_r0.toNat, 0]
def k4_off14 (arg9_r0 : BitVec 32) : Fin 1 → Nat :=
  let c2_i32_104_r0 : BitVec 32 := 2#32
  let v150_r0 : BitVec 32 := Scalar.remui arg9_r0 c2_i32_104_r0
  ![v150_r0.toNat]
def k4_off15 (arg10_r0 : BitVec 32) : Fin 3 → Nat :=
  let c2_i32_104_r0 : BitVec 32 := 2#32
  let v150_r0 : BitVec 32 := Scalar.remui arg10_r0 c2_i32_104_r0
  let c0_i32_106_r0 : BitVec 32 := 0#32
  let c0_i32_107_r0 : BitVec 32 := 0#32
  ![v150_r0.toNat, 0, 0]
def k4_cond7 (i : grid4.Coords) (k4_t1 : Fin k4_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_59_r0 : BitVec 1 := 1#1
  let c1_i32_58_r0 : BitVec 32 := 1#32
  let v67_r0 : BitVec 32 := Scalar.subi arg11_r0 c1_i32_58_r0
  let v68_r0 : BitVec 32 := Scalar.select true_59_r0 v67_r0 arg11_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v134_r0 : BitVec 1 := Scalar.cmpi .ne v66_r0 v71_r0
  let c0_i32_28_r0 : BitVec 32 := 0#32
  let c1_i32_30_r0 : BitVec 32 := 1#32
  let arg6_r0 : BitVec 32 := Scf.iv c0_i32_28_r0 c1_i32_30_r0 k4_t1
  let c0_i32_56_r0 : BitVec 32 := 0#32
  let v64_r0 : BitVec 1 := Scalar.cmpi .eq arg6_r0 c0_i32_56_r0
  let true_95_r0 : BitVec 1 := 1#1
  let v135_r0 : BitVec 1 := Scalar.xori v64_r0 true_95_r0
  let v136_r0 : BitVec 1 := Scalar.andi v134_r0 v135_r0
  let v137_r0 : BitVec 32 := Scalar.extui v136_r0
  let c0_i32_96_r0 : BitVec 32 := 0#32
  let v138_r0 : BitVec 1 := Scalar.cmpi .ne v137_r0 c0_i32_96_r0
  v138_r0

def k4_off16 (i : grid4.Coords) (arg11_r0 : BitVec 32) : Fin 2 → Nat :=
  let c256_i32_105_r0 : BitVec 32 := 256#32
  let true_59_r0 : BitVec 1 := 1#1
  let c1_i32_58_r0 : BitVec 32 := 1#32
  let v67_r0 : BitVec 32 := Scalar.subi arg11_r0 c1_i32_58_r0
  let v68_r0 : BitVec 32 := Scalar.select true_59_r0 v67_r0 arg11_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v71_r0 : BitVec 32 := Scalar.addi v70_r0 v4
  let v151_r0 : BitVec 32 := Scalar.muli c256_i32_105_r0 v71_r0
  let c0_i32_108_r0 : BitVec 32 := 0#32
  ![v151_r0.toNat, 0]
def k4_off17 (arg10_r0 : BitVec 32) : Fin 1 → Nat :=
  let c2_i32_104_r0 : BitVec 32 := 2#32
  let v150_r0 : BitVec 32 := Scalar.remui arg10_r0 c2_i32_104_r0
  ![v150_r0.toNat]

def k4_chk1 (i : grid4.Coords) (k4_t1 : Fin k4_t1_loop.trips) (arg7_r0 : BitVec 32) (arg8_r0 : BitVec 32) (arg9_r0 : BitVec 32) (arg10_r0 : BitVec 32) (arg11_r0 : BitVec 32) : Prop :=
  (∀ (k4_h1 : k4_cond1 i k4_t1 arg11_r0 = 1#1), ∀ a, (k4_off4 arg7_r0) a + S1x1x256.size a ≤ S2x1x256.size a) ∧
  (∀ (k4_h1 : k4_cond1 i k4_t1 arg11_r0 = 1#1), ∀ a, (k4_off5 i arg11_r0) a + S1x256.size a ≤ S1x16384.size a) ∧
  (∀ (k4_h1 : k4_cond1 i k4_t1 arg11_r0 = 1#1), ∀ a, (k4_off6 arg7_r0) a + S1.size a ≤ S2.size a) ∧
  (∀ (k4_h2 : k4_cond2 i k4_t1 arg11_r0 = 1#1), ∀ a, (k4_off7 arg8_r0) a + S1x1x256.size a ≤ S2x1x256.size a) ∧
  (∀ (k4_h2 : k4_cond2 i k4_t1 arg11_r0 = 1#1), ∀ a, (k4_off8 i arg11_r0) a + S1x256.size a ≤ S1x16384.size a) ∧
  (∀ (k4_h2 : k4_cond2 i k4_t1 arg11_r0 = 1#1), ∀ a, (k4_off9 arg8_r0) a + S1.size a ≤ S2.size a) ∧
  (∀ (k4_h5 : k4_cond5 i k4_t1 arg11_r0 = 1#1), ∀ a, (k4_off12 arg9_r0) a + S1x256x64.size a ≤ S2x256x64.size a) ∧
  (∀ (k4_h5 : k4_cond5 i k4_t1 arg11_r0 = 1#1), ∀ a, (k4_off13 i arg11_r0) a + S256x64.size a ≤ S16384x64.size a) ∧
  (∀ (k4_h5 : k4_cond5 i k4_t1 arg11_r0 = 1#1), ∀ a, (k4_off14 arg9_r0) a + S1.size a ≤ S2.size a) ∧
  (∀ (k4_h7 : k4_cond7 i k4_t1 arg11_r0 = 1#1), ∀ a, (k4_off15 arg10_r0) a + S1x256x64.size a ≤ S2x256x64.size a) ∧
  (∀ (k4_h7 : k4_cond7 i k4_t1 arg11_r0 = 1#1), ∀ a, (k4_off16 i arg11_r0) a + S256x64.size a ≤ S16384x64.size a) ∧
  (∀ (k4_h7 : k4_cond7 i k4_t1 arg11_r0 = 1#1), ∀ a, (k4_off17 arg10_r0) a + S1.size a ≤ S2.size a)
theorem k4_off4_inb : ∀ (i : grid4.Coords) (k4_t1 : Fin k4_t1_loop.trips) (arg7_r0 : BitVec 32) (arg8_r0 : BitVec 32) (arg9_r0 : BitVec 32) (arg10_r0 : BitVec 32) (arg11_r0 : BitVec 32) (k4_hw1 : k4_chk1 i k4_t1 arg7_r0 arg8_r0 arg9_r0 arg10_r0 arg11_r0), ∀ (k4_h1 : k4_cond1 i k4_t1 arg11_r0 = 1#1), ∀ a, (k4_off4 arg7_r0) a + S1x1x256.size a ≤ S2x1x256.size a := fun i k4_t1 arg7_r0 arg8_r0 arg9_r0 arg10_r0 arg11_r0 k4_hw1 k4_h1 => k4_hw1.1 k4_h1
theorem k4_off5_inb : ∀ (i : grid4.Coords) (k4_t1 : Fin k4_t1_loop.trips) (arg7_r0 : BitVec 32) (arg8_r0 : BitVec 32) (arg9_r0 : BitVec 32) (arg10_r0 : BitVec 32) (arg11_r0 : BitVec 32) (k4_hw1 : k4_chk1 i k4_t1 arg7_r0 arg8_r0 arg9_r0 arg10_r0 arg11_r0), ∀ (k4_h1 : k4_cond1 i k4_t1 arg11_r0 = 1#1), ∀ a, (k4_off5 i arg11_r0) a + S1x256.size a ≤ S1x16384.size a := fun i k4_t1 arg7_r0 arg8_r0 arg9_r0 arg10_r0 arg11_r0 k4_hw1 k4_h1 => k4_hw1.2.1 k4_h1
theorem k4_off6_inb : ∀ (i : grid4.Coords) (k4_t1 : Fin k4_t1_loop.trips) (arg7_r0 : BitVec 32) (arg8_r0 : BitVec 32) (arg9_r0 : BitVec 32) (arg10_r0 : BitVec 32) (arg11_r0 : BitVec 32) (k4_hw1 : k4_chk1 i k4_t1 arg7_r0 arg8_r0 arg9_r0 arg10_r0 arg11_r0), ∀ (k4_h1 : k4_cond1 i k4_t1 arg11_r0 = 1#1), ∀ a, (k4_off6 arg7_r0) a + S1.size a ≤ S2.size a := fun i k4_t1 arg7_r0 arg8_r0 arg9_r0 arg10_r0 arg11_r0 k4_hw1 k4_h1 => k4_hw1.2.2.1 k4_h1
theorem k4_off7_inb : ∀ (i : grid4.Coords) (k4_t1 : Fin k4_t1_loop.trips) (arg7_r0 : BitVec 32) (arg8_r0 : BitVec 32) (arg9_r0 : BitVec 32) (arg10_r0 : BitVec 32) (arg11_r0 : BitVec 32) (k4_hw1 : k4_chk1 i k4_t1 arg7_r0 arg8_r0 arg9_r0 arg10_r0 arg11_r0), ∀ (k4_h2 : k4_cond2 i k4_t1 arg11_r0 = 1#1), ∀ a, (k4_off7 arg8_r0) a + S1x1x256.size a ≤ S2x1x256.size a := fun i k4_t1 arg7_r0 arg8_r0 arg9_r0 arg10_r0 arg11_r0 k4_hw1 k4_h2 => k4_hw1.2.2.2.1 k4_h2
theorem k4_off8_inb : ∀ (i : grid4.Coords) (k4_t1 : Fin k4_t1_loop.trips) (arg7_r0 : BitVec 32) (arg8_r0 : BitVec 32) (arg9_r0 : BitVec 32) (arg10_r0 : BitVec 32) (arg11_r0 : BitVec 32) (k4_hw1 : k4_chk1 i k4_t1 arg7_r0 arg8_r0 arg9_r0 arg10_r0 arg11_r0), ∀ (k4_h2 : k4_cond2 i k4_t1 arg11_r0 = 1#1), ∀ a, (k4_off8 i arg11_r0) a + S1x256.size a ≤ S1x16384.size a := fun i k4_t1 arg7_r0 arg8_r0 arg9_r0 arg10_r0 arg11_r0 k4_hw1 k4_h2 => k4_hw1.2.2.2.2.1 k4_h2
theorem k4_off9_inb : ∀ (i : grid4.Coords) (k4_t1 : Fin k4_t1_loop.trips) (arg7_r0 : BitVec 32) (arg8_r0 : BitVec 32) (arg9_r0 : BitVec 32) (arg10_r0 : BitVec 32) (arg11_r0 : BitVec 32) (k4_hw1 : k4_chk1 i k4_t1 arg7_r0 arg8_r0 arg9_r0 arg10_r0 arg11_r0), ∀ (k4_h2 : k4_cond2 i k4_t1 arg11_r0 = 1#1), ∀ a, (k4_off9 arg8_r0) a + S1.size a ≤ S2.size a := fun i k4_t1 arg7_r0 arg8_r0 arg9_r0 arg10_r0 arg11_r0 k4_hw1 k4_h2 => k4_hw1.2.2.2.2.2.1 k4_h2
theorem k4_off12_inb : ∀ (i : grid4.Coords) (k4_t1 : Fin k4_t1_loop.trips) (arg7_r0 : BitVec 32) (arg8_r0 : BitVec 32) (arg9_r0 : BitVec 32) (arg10_r0 : BitVec 32) (arg11_r0 : BitVec 32) (k4_hw1 : k4_chk1 i k4_t1 arg7_r0 arg8_r0 arg9_r0 arg10_r0 arg11_r0), ∀ (k4_h5 : k4_cond5 i k4_t1 arg11_r0 = 1#1), ∀ a, (k4_off12 arg9_r0) a + S1x256x64.size a ≤ S2x256x64.size a := fun i k4_t1 arg7_r0 arg8_r0 arg9_r0 arg10_r0 arg11_r0 k4_hw1 k4_h5 => k4_hw1.2.2.2.2.2.2.1 k4_h5
theorem k4_off13_inb : ∀ (i : grid4.Coords) (k4_t1 : Fin k4_t1_loop.trips) (arg7_r0 : BitVec 32) (arg8_r0 : BitVec 32) (arg9_r0 : BitVec 32) (arg10_r0 : BitVec 32) (arg11_r0 : BitVec 32) (k4_hw1 : k4_chk1 i k4_t1 arg7_r0 arg8_r0 arg9_r0 arg10_r0 arg11_r0), ∀ (k4_h5 : k4_cond5 i k4_t1 arg11_r0 = 1#1), ∀ a, (k4_off13 i arg11_r0) a + S256x64.size a ≤ S16384x64.size a := fun i k4_t1 arg7_r0 arg8_r0 arg9_r0 arg10_r0 arg11_r0 k4_hw1 k4_h5 => k4_hw1.2.2.2.2.2.2.2.1 k4_h5
theorem k4_off14_inb : ∀ (i : grid4.Coords) (k4_t1 : Fin k4_t1_loop.trips) (arg7_r0 : BitVec 32) (arg8_r0 : BitVec 32) (arg9_r0 : BitVec 32) (arg10_r0 : BitVec 32) (arg11_r0 : BitVec 32) (k4_hw1 : k4_chk1 i k4_t1 arg7_r0 arg8_r0 arg9_r0 arg10_r0 arg11_r0), ∀ (k4_h5 : k4_cond5 i k4_t1 arg11_r0 = 1#1), ∀ a, (k4_off14 arg9_r0) a + S1.size a ≤ S2.size a := fun i k4_t1 arg7_r0 arg8_r0 arg9_r0 arg10_r0 arg11_r0 k4_hw1 k4_h5 => k4_hw1.2.2.2.2.2.2.2.2.1 k4_h5
theorem k4_off15_inb : ∀ (i : grid4.Coords) (k4_t1 : Fin k4_t1_loop.trips) (arg7_r0 : BitVec 32) (arg8_r0 : BitVec 32) (arg9_r0 : BitVec 32) (arg10_r0 : BitVec 32) (arg11_r0 : BitVec 32) (k4_hw1 : k4_chk1 i k4_t1 arg7_r0 arg8_r0 arg9_r0 arg10_r0 arg11_r0), ∀ (k4_h7 : k4_cond7 i k4_t1 arg11_r0 = 1#1), ∀ a, (k4_off15 arg10_r0) a + S1x256x64.size a ≤ S2x256x64.size a := fun i k4_t1 arg7_r0 arg8_r0 arg9_r0 arg10_r0 arg11_r0 k4_hw1 k4_h7 => k4_hw1.2.2.2.2.2.2.2.2.2.1 k4_h7
theorem k4_off16_inb : ∀ (i : grid4.Coords) (k4_t1 : Fin k4_t1_loop.trips) (arg7_r0 : BitVec 32) (arg8_r0 : BitVec 32) (arg9_r0 : BitVec 32) (arg10_r0 : BitVec 32) (arg11_r0 : BitVec 32) (k4_hw1 : k4_chk1 i k4_t1 arg7_r0 arg8_r0 arg9_r0 arg10_r0 arg11_r0), ∀ (k4_h7 : k4_cond7 i k4_t1 arg11_r0 = 1#1), ∀ a, (k4_off16 i arg11_r0) a + S256x64.size a ≤ S16384x64.size a := fun i k4_t1 arg7_r0 arg8_r0 arg9_r0 arg10_r0 arg11_r0 k4_hw1 k4_h7 => k4_hw1.2.2.2.2.2.2.2.2.2.2.1 k4_h7
theorem k4_off17_inb : ∀ (i : grid4.Coords) (k4_t1 : Fin k4_t1_loop.trips) (arg7_r0 : BitVec 32) (arg8_r0 : BitVec 32) (arg9_r0 : BitVec 32) (arg10_r0 : BitVec 32) (arg11_r0 : BitVec 32) (k4_hw1 : k4_chk1 i k4_t1 arg7_r0 arg8_r0 arg9_r0 arg10_r0 arg11_r0), ∀ (k4_h7 : k4_cond7 i k4_t1 arg11_r0 = 1#1), ∀ a, (k4_off17 arg10_r0) a + S1.size a ≤ S2.size a := fun i k4_t1 arg7_r0 arg8_r0 arg9_r0 arg10_r0 arg11_r0 k4_hw1 k4_h7 => k4_hw1.2.2.2.2.2.2.2.2.2.2.2 k4_h7

def k4_off18 (v33_3_r0 : BitVec 32) : Fin 3 → Nat :=
  let c2_i32_48_r0 : BitVec 32 := 2#32
  let v54_r0 : BitVec 32 := Scalar.remui v33_3_r0 c2_i32_48_r0
  let c0_i32_50_r0 : BitVec 32 := 0#32
  let c0_i32_51_r0 : BitVec 32 := 0#32
  ![v54_r0.toNat, 0, 0]

def k4_off19 (i : grid4.Coords) (v33_4_r0 : BitVec 32) : Fin 2 → Nat :=
  let c256_i32_49_r0 : BitVec 32 := 256#32
  let true_33_r0 : BitVec 1 := 1#1
  let c1_i32_32_r0 : BitVec 32 := 1#32
  let v34_r0 : BitVec 32 := Scalar.subi v33_4_r0 c1_i32_32_r0
  let v35_r0 : BitVec 32 := Scalar.select true_33_r0 v34_r0 v33_4_r0
  let c_m1_i32_34_r0 : BitVec 32 := 4294967295#32
  let v36_r0 : BitVec 1 := Scalar.cmpi .eq v35_r0 c_m1_i32_34_r0
  let c1_i32_35_r0 : BitVec 32 := 1#32
  let v37_r0 : BitVec 32 := Scalar.select v36_r0 c1_i32_35_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v38_r0 : BitVec 32 := Scalar.addi v37_r0 v4
  let v55_r0 : BitVec 32 := Scalar.muli c256_i32_49_r0 v38_r0
  let c0_i32_52_r0 : BitVec 32 := 0#32
  ![v55_r0.toNat, 0]

def k4_chk5 (i : grid4.Coords) (v33_4_r0 : BitVec 32) : Prop :=
  (∀ a, (k4_off19 i v33_4_r0) a + S256x64.size a ≤ S16384x64.size a)
theorem k4_off19_inb : ∀ (i : grid4.Coords) (v33_4_r0 : BitVec 32) (k4_hw5 : k4_chk5 i v33_4_r0), ∀ a, (k4_off19 i v33_4_r0) a + S256x64.size a ≤ S16384x64.size a := fun i v33_4_r0 k4_hw5 => k4_hw5

def k4_off20 (v33_3_r0 : BitVec 32) : Fin 1 → Nat :=
  let c2_i32_48_r0 : BitVec 32 := 2#32
  let v54_r0 : BitVec 32 := Scalar.remui v33_3_r0 c2_i32_48_r0
  ![v54_r0.toNat]
def k4_off21 (v33_3_r0 : BitVec 32) : Fin 3 → Nat :=
  let c2_i32_48_r0 : BitVec 32 := 2#32
  let v54_r0 : BitVec 32 := Scalar.remui v33_3_r0 c2_i32_48_r0
  let c0_i32_54_r0 : BitVec 32 := 0#32
  let c0_i32_55_r0 : BitVec 32 := 0#32
  ![v54_r0.toNat, 0, 0]

def k4_chk4 (v33_3_r0 : BitVec 32) : Prop :=
  (∀ a, (k4_off18 v33_3_r0) a + S1x256x64.size a ≤ S2x256x64.size a) ∧
  (∀ a, (k4_off20 v33_3_r0) a + S1.size a ≤ S2.size a) ∧
  (∀ a, (k4_off21 v33_3_r0) a + S1x256x64.size a ≤ S2x256x64.size a)
theorem k4_off18_inb : ∀ (v33_3_r0 : BitVec 32) (k4_hw4 : k4_chk4 v33_3_r0), ∀ a, (k4_off18 v33_3_r0) a + S1x256x64.size a ≤ S2x256x64.size a := fun v33_3_r0 k4_hw4 => k4_hw4.1
theorem k4_off20_inb : ∀ (v33_3_r0 : BitVec 32) (k4_hw4 : k4_chk4 v33_3_r0), ∀ a, (k4_off20 v33_3_r0) a + S1.size a ≤ S2.size a := fun v33_3_r0 k4_hw4 => k4_hw4.2.1
theorem k4_off21_inb : ∀ (v33_3_r0 : BitVec 32) (k4_hw4 : k4_chk4 v33_3_r0), ∀ a, (k4_off21 v33_3_r0) a + S1x256x64.size a ≤ S2x256x64.size a := fun v33_3_r0 k4_hw4 => k4_hw4.2.2

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S32768x64 : Shape := ⟨2, ![32768, 64]⟩
abbrev S8192x64 : Shape := ⟨2, ![8192, 64]⟩
abbrev S_ : Shape := ⟨0, ![]⟩
abbrev S32768 : Shape := ⟨1, ![32768]⟩
abbrev S32768x1 : Shape := ⟨2, ![32768, 1]⟩
abbrev S8192 : Shape := ⟨1, ![8192]⟩
abbrev S64x8192 : Shape := ⟨2, ![64, 8192]⟩
abbrev S32768x8192 : Shape := ⟨2, ![32768, 8192]⟩
abbrev S1x8192 : Shape := ⟨2, ![1, 8192]⟩
abbrev S1 : Shape := ⟨1, ![1]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S8192x64, .f32⟩
  | .hbm, ⟨2, _⟩ => ⟨S32768x64, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S64x8192, .f32⟩
  | .hbm, ⟨10, _⟩ => ⟨S32768x8192, .f32⟩
  | .hbm, ⟨11, _⟩ => ⟨S_, .f32⟩
  | .hbm, ⟨12, _⟩ => ⟨S32768x8192, .f32⟩
  | .hbm, ⟨13, _⟩ => ⟨S32768x8192, .f32⟩
  | .hbm, ⟨14, _⟩ => ⟨S32768x8192, .f32⟩
  | .hbm, ⟨15, _⟩ => ⟨S32768x8192, .f32⟩
  | .hbm, ⟨16, _⟩ => ⟨S1x8192, .f32⟩
  | .hbm, ⟨17, _⟩ => ⟨S32768x8192, .f32⟩
  | .hbm, ⟨18, _⟩ => ⟨S32768x8192, .f32⟩
  | .hbm, ⟨19, _⟩ => ⟨S32768x8192, .i32⟩
  | .hbm, ⟨20, _⟩ => ⟨S_, .f32⟩
  | .hbm, ⟨21, _⟩ => ⟨S_, .i32⟩
  | .hbm, ⟨22, _⟩ => ⟨S32768, .f32⟩
  | .hbm, ⟨23, _⟩ => ⟨S32768, .i32⟩
  | .hbm, ⟨24, _⟩ => ⟨S_, .i32⟩
  | .hbm, ⟨25, _⟩ => ⟨S32768, .i32⟩
  | .hbm, ⟨26, _⟩ => ⟨S32768, .i1⟩
  | .hbm, ⟨27, _⟩ => ⟨S_, .i32⟩
  | .hbm, ⟨28, _⟩ => ⟨S32768, .i32⟩
  | .hbm, ⟨29, _⟩ => ⟨S32768, .i32⟩
  | .hbm, ⟨30, _⟩ => ⟨S32768, .i32⟩
  | .hbm, ⟨31, _⟩ => ⟨S32768x1, .i32⟩
  | .hbm, ⟨32, _⟩ => ⟨S1, .i32⟩
  | .hbm, ⟨33, _⟩ => ⟨S_, .i32⟩
  | .hbm, ⟨34, _⟩ => ⟨S32768x1, .i32⟩
  | .hbm, ⟨35, _⟩ => ⟨S32768x1, .i1⟩
  | .hbm, ⟨36, _⟩ => ⟨S1x1, .i32⟩
  | .hbm, ⟨37, _⟩ => ⟨S32768x1, .i32⟩
  | .hbm, ⟨38, _⟩ => ⟨S32768x1, .i1⟩
  | .hbm, ⟨39, _⟩ => ⟨S32768x1, .i1⟩
  | .hbm, ⟨40, _⟩ => ⟨S_, .i1⟩
  | .hbm, ⟨41, _⟩ => ⟨S32768, .i1⟩
  | .hbm, ⟨42, _⟩ => ⟨S32768x64, .f32⟩
  | .hbm, ⟨43, _⟩ => ⟨S32768x64, .i1⟩
  | .hbm, ⟨44, _⟩ => ⟨S_, .f32⟩
  | .hbm, ⟨45, _⟩ => ⟨S32768x64, .f32⟩
  | .hbm, ⟨46, _⟩ => ⟨S32768x64, .f32⟩
  | .hbm, ⟨47, _⟩ => ⟨S32768x64, .f32⟩
  | .hbm, ⟨48, _⟩ => ⟨S32768x64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S32768x64, .f32⟩
  | .hbm, ⟨54, _⟩ => ⟨S32768x64, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_2 : Ref sig .tc := ⟨.hbm, 49, rfl⟩
abbrev main_v18 : Ref sig .tc := ⟨.hbm, 50, rfl⟩
abbrev main_cst_3 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩

abbrev nD : Nat := 1
abbrev τ : Topo := Topo.v7x

variable {F : FTy → Type} [FloatOps F]
-- ==== Gather.lean ====
abbrev S8192x64 : Shape := ⟨2, ![8192, 64]⟩
abbrev S32768 : Shape := ⟨1, ![32768]⟩
abbrev S8192x128 : Shape := ⟨2, ![8192, 128]⟩
abbrev S8192 : Shape := ⟨1, ![8192]⟩
abbrev S16384 : Shape := ⟨1, ![16384]⟩
abbrev S1x16384 : Shape := ⟨2, ![1, 16384]⟩
abbrev S16384x64 : Shape := ⟨2, ![16384, 64]⟩
abbrev S256x128 : Shape := ⟨2, ![256, 128]⟩
abbrev S2x1x256 : Shape := ⟨3, ![2, 1, 256]⟩
abbrev S2 : Shape := ⟨1, ![2]⟩
abbrev S2x256x64 : Shape := ⟨3, ![2, 256, 64]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S256 : Shape := ⟨1, ![256]⟩
abbrev S256x64 : Shape := ⟨2, ![256, 64]⟩
abbrev S1x256x64 : Shape := ⟨3, ![1, 256, 64]⟩
abbrev S32768x64 : Shape := ⟨2, ![32768, 64]⟩

abbrev nBuf : Table → Nat
  | .hbm => 11
  | .local .tc .vmem => 3
  | .local .scVector .vmem => 6
  | _ => 0

abbrev bufTy : (tb : Table) → Fin (nBuf tb) → BufTy
  | .hbm, ⟨0, _⟩ => ⟨S8192x64, .f32⟩
  | .hbm, ⟨1, _⟩ => ⟨S32768, .i32⟩
  | .hbm, ⟨2, _⟩ => ⟨S8192x128, .f32⟩
  | .hbm, ⟨3, _⟩ => ⟨S8192, .f32⟩
  | .hbm, ⟨4, _⟩ => ⟨S16384, .i32⟩
  | .hbm, ⟨5, _⟩ => ⟨S1x16384, .i32⟩
  | .hbm, ⟨6, _⟩ => ⟨S16384x64, .f32⟩
  | .hbm, ⟨7, _⟩ => ⟨S16384, .i32⟩
  | .hbm, ⟨8, _⟩ => ⟨S1x16384, .i32⟩
  | .hbm, ⟨9, _⟩ => ⟨S16384x64, .f32⟩
  | .hbm, ⟨10, _⟩ => ⟨S32768x64, .f32⟩
  | .local .tc .vmem, ⟨0, _⟩ => ⟨S8192x64, .f32⟩
  | .local .tc .vmem, ⟨1, _⟩ => ⟨S8192x128, .f32⟩
  | .local .tc .vmem, ⟨2, _⟩ => ⟨S8192, .f32⟩
  | .local .scVector .vmem, ⟨0, _⟩ => ⟨S256x128, .f32⟩
  | .local .scVector .vmem, ⟨1, _⟩ => ⟨S2x1x256, .i32⟩
  | .local .scVector .vmem, ⟨2, _⟩ => ⟨S2x256x64, .f32⟩
  | .local .scVector .vmem, ⟨3, _⟩ => ⟨S256x128, .f32⟩
  | .local .scVector .vmem, ⟨4, _⟩ => ⟨S2x1x256, .i32⟩
  | .local .scVector .vmem, ⟨5, _⟩ => ⟨S2x256x64, .f32⟩
  | _, _ => ⟨S8192x64, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v0_0_scv : Ref sig .scVector := ⟨.hbm, 2, rfl⟩
abbrev main_v2_scv : Ref sig .scVector := ⟨.hbm, 5, rfl⟩
abbrev main_v3_scv : Ref sig .scVector := ⟨.hbm, 6, rfl⟩
abbrev main_v5_scv : Ref sig .scVector := ⟨.hbm, 8, rfl⟩
abbrev main_v6_scv : Ref sig .scVector := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch0 : Ref sig .scVector := ⟨.vmem, 0, rfl⟩
abbrev cc1_scoped0 : Ref sig .scVector := ⟨.vmem, 1, rfl⟩
abbrev cc1_scoped2 : Ref sig .scVector := ⟨.vmem, 2, rfl⟩
abbrev cc2_scratch0 : Ref sig .scVector := ⟨.vmem, 3, rfl⟩
abbrev cc2_scoped0 : Ref sig .scVector := ⟨.vmem, 4, rfl⟩
abbrev cc2_scoped2 : Ref sig .scVector := ⟨.vmem, 5, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_16_r0 : BitVec 32 := 0#32
  let c0_i32_17_r0 : BitVec 32 := 0#32
  ![v21_r0.toNat, 0, 0]
def k1_off2 (i : grid1.Coords) : Fin 2 → Nat :=
  let c0_i32_18_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v22_r0 : BitVec 32 := Scalar.muli c256_i32_r0 v7_r0
  ![0, v22_r0.toNat]
def k1_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
@[reducible] def k1_t1_loop : Scf.Loop 32 :=
  let c0_i32_28_r0 : BitVec 32 := 0#32
  let c2_i32_29_r0 : BitVec 32 := 2#32
  let v32_r0 : BitVec 32 := Scalar.addi c0_i32_28_r0 c2_i32_29_r0
  let c1_i32_30_r0 : BitVec 32 := 1#32
  ⟨c0_i32_28_r0, v32_r0, c1_i32_30_r0⟩
def k1_off4 (arg7_r0 : BitVec 32) : Fin 3 → Nat :=
  let c2_i32_104_r0 : BitVec 32 := 2#32
  let v150_r0 : BitVec 32 := Scalar.remui arg7_r0 c2_i32_104_r0
  let c0_i32_106_r0 : BitVec 32 := 0#32
  let c0_i32_107_r0 : BitVec 32 := 0#32
  ![v150_r0.toNat, 0, 0]
def k1_cond1 (i : grid1.Coords) (k1_t1 : Fin k1_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_63_r0 : BitVec 1 := 1#1
  let c1_i32_62_r0 : BitVec 32 := 1#32
  let v72_r0 : BitVec 32 := Scalar.addi arg11_r0 c1_i32_62_r0
  let v73_r0 : BitVec 32 := Scalar.select true_63_r0 v72_r0 arg11_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v82_r0 : BitVec 1 := Scalar.cmpi .ne v66_r0 v76_r0
  let c0_i32_28_r0 : BitVec 32 := 0#32
  let c1_i32_30_r0 : BitVec 32 := 1#32
  let arg6_r0 : BitVec 32 := Scf.iv c0_i32_28_r0 c1_i32_30_r0 k1_t1
  let c1_i32_70_r0 : BitVec 32 := 1#32
  let v83_r0 : BitVec 1 := Scalar.cmpi .sge arg6_r0 c1_i32_70_r0
  let true_71_r0 : BitVec 1 := 1#1
  let v84_r0 : BitVec 1 := Scalar.xori v83_r0 true_71_r0
  let v85_r0 : BitVec 1 := Scalar.andi v82_r0 v84_r0
  let true_72_r0 : BitVec 1 := 1#1
  let v86_r0 : BitVec 1 := Scalar.andi v85_r0 true_72_r0
  let v87_r0 : BitVec 32 := Scalar.extui v86_r0
  let c0_i32_73_r0 : BitVec 32 := 0#32
  let v88_r0 : BitVec 1 := Scalar.cmpi .ne v87_r0 c0_i32_73_r0
  v88_r0

def k1_off5 (i : grid1.Coords) (arg11_r0 : BitVec 32) : Fin 2 → Nat :=
  let c0_i32_108_r0 : BitVec 32 := 0#32
  let c256_i32_105_r0 : BitVec 32 := 256#32
  let true_63_r0 : BitVec 1 := 1#1
  let c1_i32_62_r0 : BitVec 32 := 1#32
  let v72_r0 : BitVec 32 := Scalar.addi arg11_r0 c1_i32_62_r0
  let v73_r0 : BitVec 32 := Scalar.select true_63_r0 v72_r0 arg11_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v76_r0 : BitVec 32 := Scalar.addi v75_r0 v4
  let v151_r0 : BitVec 32 := Scalar.muli c256_i32_105_r0 v76_r0
  ![0, v151_r0.toNat]
def k1_off6 (arg7_r0 : BitVec 32) : Fin 1 → Nat :=
  let c2_i32_104_r0 : BitVec 32 := 2#32
  let v150_r0 : BitVec 32 := Scalar.remui arg7_r0 c2_i32_104_r0
  ![v150_r0.toNat]
def k1_off7 (arg8_r0 : BitVec 32) : Fin 3 → Nat :=
  let c2_i32_105_r0 : BitVec 32 := 2#32
  let v151_r0 : BitVec 32 := Scalar.remui arg8_r0 c2_i32_105_r0
  let c0_i32_106_r0 : BitVec 32 := 0#32
  let c0_i32_107_r0 : BitVec 32 := 0#32
  ![v151_r0.toNat, 0, 0]
def k1_cond2 (i : grid1.Coords) (k1_t1 : Fin k1_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_59_r0 : BitVec 1 := 1#1
  let c1_i32_58_r0 : BitVec 32 := 1#32
  let v67_r0 : BitVec 32 := Scalar.subi arg11_r0 c1_i32_58_r0
  let v68_r0 : BitVec 32 := Scalar.select true_59_r0 v67_r0 arg11_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v96_r0 : BitVec 1 := Scalar.cmpi .ne v66_r0 v71_r0
  let c0_i32_28_r0 : BitVec 32 := 0#32
  let c1_i32_30_r0 : BitVec 32 := 1#32
  let arg6_r0 : BitVec 32 := Scf.iv c0_i32_28_r0 c1_i32_30_r0 k1_t1
  let c0_i32_56_r0 : BitVec 32 := 0#32
  let v64_r0 : BitVec 1 := Scalar.cmpi .eq arg6_r0 c0_i32_56_r0
  let v97_r0 : BitVec 1 := Scalar.ori v96_r0 v64_r0
  let c0_i32_78_r0 : BitVec 32 := 0#32
  let v98_r0 : BitVec 1 := Scalar.cmpi .sge arg6_r0 c0_i32_78_r0
  let v99_r0 : BitVec 1 := Scalar.andi v97_r0 v98_r0
  let v100_r0 : BitVec 32 := Scalar.extui v99_r0
  let c0_i32_79_r0 : BitVec 32 := 0#32
  let v101_r0 : BitVec 1 := Scalar.cmpi .ne v100_r0 c0_i32_79_r0
  v101_r0

def k1_off8 (i : grid1.Coords) (arg11_r0 : BitVec 32) : Fin 2 → Nat :=
  let c0_i32_108_r0 : BitVec 32 := 0#32
  let c256_i32_104_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let v150_r0 : BitVec 32 := Scalar.muli c256_i32_104_r0 v66_r0
  ![0, v150_r0.toNat]
def k1_off9 (arg8_r0 : BitVec 32) : Fin 1 → Nat :=
  let c2_i32_105_r0 : BitVec 32 := 2#32
  let v151_r0 : BitVec 32 := Scalar.remui arg8_r0 c2_i32_105_r0
  ![v151_r0.toNat]
def k1_off10 (arg8_r0 : BitVec 32) : Fin 3 → Nat :=
  let c2_i32_82_r0 : BitVec 32 := 2#32
  let v108_r0 : BitVec 32 := Scalar.remui arg8_r0 c2_i32_82_r0
  let c0_i32_104_r1 : BitVec 32 := 0#32
  let c0_i32_105_r1 : BitVec 32 := 0#32
  ![v108_r0.toNat, 0, 0]

def k1_chk2 (arg8_r0 : BitVec 32) : Prop :=
  (∀ a, (k1_off10 arg8_r0) a + S1x1x256.size a ≤ S2x1x256.size a)
theorem k1_off10_inb : ∀ (arg8_r0 : BitVec 32) (k1_hw2 : k1_chk2 arg8_r0), ∀ a, (k1_off10 arg8_r0) a + S1x1x256.size a ≤ S2x1x256.size a := fun arg8_r0 k1_hw2 => k1_hw2

def k1_off11 (arg9_r0 : BitVec 32) : Fin 3 → Nat :=
  let c2_i32_83_r0 : BitVec 32 := 2#32
  let v109_r0 : BitVec 32 := Scalar.remui arg9_r0 c2_i32_83_r0
  let v112_r0 : Index := Scalar.indexCast v109_r0
  let c0_86_r0 : Index := 0#32
  let c0_87_r0 : Index := 0#32
  ![v112_r0.toNat, 0, 0]

def k1_chk3 (arg9_r0 : BitVec 32) : Prop :=
  (∀ a, (k1_off11 arg9_r0) a + S1x256x64.size a ≤ S2x256x64.size a)
theorem k1_off11_inb : ∀ (arg9_r0 : BitVec 32) (k1_hw3 : k1_chk3 arg9_r0), ∀ a, (k1_off11 arg9_r0) a + S1x256x64.size a ≤ S2x256x64.size a := fun arg9_r0 k1_hw3 => k1_hw3

def k1_off12 (arg9_r0 : BitVec 32) : Fin 3 → Nat :=
  let c2_i32_104_r0 : BitVec 32 := 2#32
  let v150_r0 : BitVec 32 := Scalar.remui arg9_r0 c2_i32_104_r0
  let c0_i32_106_r0 : BitVec 32 := 0#32
  let c0_i32_107_r0 : BitVec 32 := 0#32
  ![v150_r0.toNat, 0, 0]
def k1_cond5 (i : grid1.Coords) (k1_t1 : Fin k1_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_63_r0 : BitVec 1 := 1#1
  let c1_i32_62_r0 : BitVec 32 := 1#32
  let v72_r0 : BitVec 32 := Scalar.addi arg11_r0 c1_i32_62_r0
  let v73_r0 : BitVec 32 := Scalar.select true_63_r0 v72_r0 arg11_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v121_r0 : BitVec 1 := Scalar.cmpi .ne v66_r0 v76_r0
  let c0_i32_28_r0 : BitVec 32 := 0#32
  let c1_i32_30_r0 : BitVec 32 := 1#32
  let arg6_r0 : BitVec 32 := Scf.iv c0_i32_28_r0 c1_i32_30_r0 k1_t1
  let c1_i32_57_r0 : BitVec 32 := 1#32
  let v65_r0 : BitVec 1 := Scalar.cmpi .eq arg6_r0 c1_i32_57_r0
  let v122_r0 : BitVec 1 := Scalar.ori v121_r0 v65_r0
  let v123_r0 : BitVec 32 := Scalar.extui v122_r0
  let c0_i32_89_r0 : BitVec 32 := 0#32
  let v124_r0 : BitVec 1 := Scalar.cmpi .ne v123_r0 c0_i32_89_r0
  v124_r0

def k1_off13 (i : grid1.Coords) (arg11_r0 : BitVec 32) : Fin 2 → Nat :=
  let c256_i32_105_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let v151_r0 : BitVec 32 := Scalar.muli c256_i32_105_r0 v66_r0
  let c0_i32_108_r0 : BitVec 32 := 0#32
  ![v151_r0.toNat, 0]
def k1_off14 (arg9_r0 : BitVec 32) : Fin 1 → Nat :=
  let c2_i32_104_r0 : BitVec 32 := 2#32
  let v150_r0 : BitVec 32 := Scalar.remui arg9_r0 c2_i32_104_r0
  ![v150_r0.toNat]
def k1_off15 (arg10_r0 : BitVec 32) : Fin 3 → Nat :=
  let c2_i32_104_r0 : BitVec 32 := 2#32
  let v150_r0 : BitVec 32 := Scalar.remui arg10_r0 c2_i32_104_r0
  let c0_i32_106_r0 : BitVec 32 := 0#32
  let c0_i32_107_r0 : BitVec 32 := 0#32
  ![v150_r0.toNat, 0, 0]
def k1_cond7 (i : grid1.Coords) (k1_t1 : Fin k1_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_59_r0 : BitVec 1 := 1#1
  let c1_i32_58_r0 : BitVec 32 := 1#32
  let v67_r0 : BitVec 32 := Scalar.subi arg11_r0 c1_i32_58_r0
  let v68_r0 : BitVec 32 := Scalar.select true_59_r0 v67_r0 arg11_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v134_r0 : BitVec 1 := Scalar.cmpi .ne v66_r0 v71_r0
  let c0_i32_28_r0 : BitVec 32 := 0#32
  let c1_i32_30_r0 : BitVec 32 := 1#32
  let arg6_r0 : BitVec 32 := Scf.iv c0_i32_28_r0 c1_i32_30_r0 k1_t1
  let c0_i32_56_r0 : BitVec 32 := 0#32
  let v64_r0 : BitVec 1 := Scalar.cmpi .eq arg6_r0 c0_i32_56_r0
  let true_95_r0 : BitVec 1 := 1#1
  let v135_r0 : BitVec 1 := Scalar.xori v64_r0 true_95_r0
  let v136_r0 : BitVec 1 := Scalar.andi v134_r0 v135_r0
  let v137_r0 : BitVec 32 := Scalar.extui v136_r0
  let c0_i32_96_r0 : BitVec 32 := 0#32
  let v138_r0 : BitVec 1 := Scalar.cmpi .ne v137_r0 c0_i32_96_r0
  v138_r0

def k1_off16 (i : grid1.Coords) (arg11_r0 : BitVec 32) : Fin 2 → Nat :=
  let c256_i32_105_r0 : BitVec 32 := 256#32
  let true_59_r0 : BitVec 1 := 1#1
  let c1_i32_58_r0 : BitVec 32 := 1#32
  let v67_r0 : BitVec 32 := Scalar.subi arg11_r0 c1_i32_58_r0
  let v68_r0 : BitVec 32 := Scalar.select true_59_r0 v67_r0 arg11_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v71_r0 : BitVec 32 := Scalar.addi v70_r0 v4
  let v151_r0 : BitVec 32 := Scalar.muli c256_i32_105_r0 v71_r0
  let c0_i32_108_r0 : BitVec 32 := 0#32
  ![v151_r0.toNat, 0]
def k1_off17 (arg10_r0 : BitVec 32) : Fin 1 → Nat :=
  let c2_i32_104_r0 : BitVec 32 := 2#32
  let v150_r0 : BitVec 32 := Scalar.remui arg10_r0 c2_i32_104_r0
  ![v150_r0.toNat]

def k1_chk1 (i : grid1.Coords) (k1_t1 : Fin k1_t1_loop.trips) (arg7_r0 : BitVec 32) (arg8_r0 : BitVec 32) (arg9_r0 : BitVec 32) (arg10_r0 : BitVec 32) (arg11_r0 : BitVec 32) : Prop :=
  (∀ (k1_h1 : k1_cond1 i k1_t1 arg11_r0 = 1#1), ∀ a, (k1_off4 arg7_r0) a + S1x1x256.size a ≤ S2x1x256.size a) ∧
  (∀ (k1_h1 : k1_cond1 i k1_t1 arg11_r0 = 1#1), ∀ a, (k1_off5 i arg11_r0) a + S1x256.size a ≤ S1x16384.size a) ∧
  (∀ (k1_h1 : k1_cond1 i k1_t1 arg11_r0 = 1#1), ∀ a, (k1_off6 arg7_r0) a + S1.size a ≤ S2.size a) ∧
  (∀ (k1_h2 : k1_cond2 i k1_t1 arg11_r0 = 1#1), ∀ a, (k1_off7 arg8_r0) a + S1x1x256.size a ≤ S2x1x256.size a) ∧
  (∀ (k1_h2 : k1_cond2 i k1_t1 arg11_r0 = 1#1), ∀ a, (k1_off8 i arg11_r0) a + S1x256.size a ≤ S1x16384.size a) ∧
  (∀ (k1_h2 : k1_cond2 i k1_t1 arg11_r0 = 1#1), ∀ a, (k1_off9 arg8_r0) a + S1.size a ≤ S2.size a) ∧
  (∀ (k1_h5 : k1_cond5 i k1_t1 arg11_r0 = 1#1), ∀ a, (k1_off12 arg9_r0) a + S1x256x64.size a ≤ S2x256x64.size a) ∧
  (∀ (k1_h5 : k1_cond5 i k1_t1 arg11_r0 = 1#1), ∀ a, (k1_off13 i arg11_r0) a + S256x64.size a ≤ S16384x64.size a) ∧
  (∀ (k1_h5 : k1_cond5 i k1_t1 arg11_r0 = 1#1), ∀ a, (k1_off14 arg9_r0) a + S1.size a ≤ S2.size a) ∧
  (∀ (k1_h7 : k1_cond7 i k1_t1 arg11_r0 = 1#1), ∀ a, (k1_off15 arg10_r0) a + S1x256x64.size a ≤ S2x256x64.size a) ∧
  (∀ (k1_h7 : k1_cond7 i k1_t1 arg11_r0 = 1#1), ∀ a, (k1_off16 i arg11_r0) a + S256x64.size a ≤ S16384x64.size a) ∧
  (∀ (k1_h7 : k1_cond7 i k1_t1 arg11_r0 = 1#1), ∀ a, (k1_off17 arg10_r0) a + S1.size a ≤ S2.size a)
theorem k1_off4_inb : ∀ (i : grid1.Coords) (k1_t1 : Fin k1_t1_loop.trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h1 : k1_cond1 i k1_t1 arg11_r0 = 1#1), ∀ a, (k1_off4 arg7_r0) a + S1x1x256.size a ≤ S2x1x256.size a := fun i k1_t1 arg7_r0 arg8_r0 arg9_r0 arg10_r0 arg11_r0 k1_hw1 k1_h1 => k1_hw1.1 k1_h1
theorem k1_off5_inb : ∀ (i : grid1.Coords) (k1_t1 : Fin k1_t1_loop.trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h1 : k1_cond1 i k1_t1 arg11_r0 = 1#1), ∀ a, (k1_off5 i arg11_r0) a + S1x256.size a ≤ S1x16384.size a := fun i k1_t1 arg7_r0 arg8_r0 arg9_r0 arg10_r0 arg11_r0 k1_hw1 k1_h1 => k1_hw1.2.1 k1_h1
theorem k1_off6_inb : ∀ (i : grid1.Coords) (k1_t1 : Fin k1_t1_loop.trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h1 : k1_cond1 i k1_t1 arg11_r0 = 1#1), ∀ a, (k1_off6 arg7_r0) a + S1.size a ≤ S2.size a := fun i k1_t1 arg7_r0 arg8_r0 arg9_r0 arg10_r0 arg11_r0 k1_hw1 k1_h1 => k1_hw1.2.2.1 k1_h1
theorem k1_off7_inb : ∀ (i : grid1.Coords) (k1_t1 : Fin k1_t1_loop.trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h2 : k1_cond2 i k1_t1 arg11_r0 = 1#1), ∀ a, (k1_off7 arg8_r0) a + S1x1x256.size a ≤ S2x1x256.size a := fun i k1_t1 arg7_r0 arg8_r0 arg9_r0 arg10_r0 arg11_r0 k1_hw1 k1_h2 => k1_hw1.2.2.2.1 k1_h2
theorem k1_off8_inb : ∀ (i : grid1.Coords) (k1_t1 : Fin k1_t1_loop.trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h2 : k1_cond2 i k1_t1 arg11_r0 = 1#1), ∀ a, (k1_off8 i arg11_r0) a + S1x256.size a ≤ S1x16384.size a := fun i k1_t1 arg7_r0 arg8_r0 arg9_r0 arg10_r0 arg11_r0 k1_hw1 k1_h2 => k1_hw1.2.2.2.2.1 k1_h2
theorem k1_off9_inb : ∀ (i : grid1.Coords) (k1_t1 : Fin k1_t1_loop.trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h2 : k1_cond2 i k1_t1 arg11_r0 = 1#1), ∀ a, (k1_off9 arg8_r0) a + S1.size a ≤ S2.size a := fun i k1_t1 arg7_r0 arg8_r0 arg9_r0 arg10_r0 arg11_r0 k1_hw1 k1_h2 => k1_hw1.2.2.2.2.2.1 k1_h2
theorem k1_off12_inb : ∀ (i : grid1.Coords) (k1_t1 : Fin k1_t1_loop.trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h5 : k1_cond5 i k1_t1 arg11_r0 = 1#1), ∀ a, (k1_off12 arg9_r0) a + S1x256x64.size a ≤ S2x256x64.size a := fun i k1_t1 arg7_r0 arg8_r0 arg9_r0 arg10_r0 arg11_r0 k1_hw1 k1_h5 => k1_hw1.2.2.2.2.2.2.1 k1_h5
theorem k1_off13_inb : ∀ (i : grid1.Coords) (k1_t1 : Fin k1_t1_loop.trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h5 : k1_cond5 i k1_t1 arg11_r0 = 1#1), ∀ a, (k1_off13 i arg11_r0) a + S256x64.size a ≤ S16384x64.size a := fun i k1_t1 arg7_r0 arg8_r0 arg9_r0 arg10_r0 arg11_r0 k1_hw1 k1_h5 => k1_hw1.2.2.2.2.2.2.2.1 k1_h5
theorem k1_off14_inb : ∀ (i : grid1.Coords) (k1_t1 : Fin k1_t1_loop.trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h5 : k1_cond5 i k1_t1 arg11_r0 = 1#1), ∀ a, (k1_off14 arg9_r0) a + S1.size a ≤ S2.size a := fun i k1_t1 arg7_r0 arg8_r0 arg9_r0 arg10_r0 arg11_r0 k1_hw1 k1_h5 => k1_hw1.2.2.2.2.2.2.2.2.1 k1_h5
theorem k1_off15_inb : ∀ (i : grid1.Coords) (k1_t1 : Fin k1_t1_loop.trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h7 : k1_cond7 i k1_t1 arg11_r0 = 1#1), ∀ a, (k1_off15 arg10_r0) a + S1x256x64.size a ≤ S2x256x64.size a := fun i k1_t1 arg7_r0 arg8_r0 arg9_r0 arg10_r0 arg11_r0 k1_hw1 k1_h7 => k1_hw1.2.2.2.2.2.2.2.2.2.1 k1_h7
theorem k1_off16_inb : ∀ (i : grid1.Coords) (k1_t1 : Fin k1_t1_loop.trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h7 : k1_cond7 i k1_t1 arg11_r0 = 1#1), ∀ a, (k1_off16 i arg11_r0) a + S256x64.size a ≤ S16384x64.size a := fun i k1_t1 arg7_r0 arg8_r0 arg9_r0 arg10_r0 arg11_r0 k1_hw1 k1_h7 => k1_hw1.2.2.2.2.2.2.2.2.2.2.1 k1_h7
theorem k1_off17_inb : ∀ (i : grid1.Coords) (k1_t1 : Fin k1_t1_loop.trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h7 : k1_cond7 i k1_t1 arg11_r0 = 1#1), ∀ a, (k1_off17 arg10_r0) a + S1.size a ≤ S2.size a := fun i k1_t1 arg7_r0 arg8_r0 arg9_r0 arg10_r0 arg11_r0 k1_hw1 k1_h7 => k1_hw1.2.2.2.2.2.2.2.2.2.2.2 k1_h7

def k1_off18 (v33_3_r0 : BitVec 32) : Fin 3 → Nat :=
  let c2_i32_48_r0 : BitVec 32 := 2#32
  let v54_r0 : BitVec 32 := Scalar.remui v33_3_r0 c2_i32_48_r0
  let c0_i32_50_r0 : BitVec 32 := 0#32
  let c0_i32_51_r0 : BitVec 32 := 0#32
  ![v54_r0.toNat, 0, 0]

def k1_off19 (i : grid1.Coords) (v33_4_r0 : BitVec 32) : Fin 2 → Nat :=
  let c256_i32_49_r0 : BitVec 32 := 256#32
  let true_33_r0 : BitVec 1 := 1#1
  let c1_i32_32_r0 : BitVec 32 := 1#32
  let v34_r0 : BitVec 32 := Scalar.subi v33_4_r0 c1_i32_32_r0
  let v35_r0 : BitVec 32 := Scalar.select true_33_r0 v34_r0 v33_4_r0
  let c_m1_i32_34_r0 : BitVec 32 := 4294967295#32
  let v36_r0 : BitVec 1 := Scalar.cmpi .eq v35_r0 c_m1_i32_34_r0
  let c1_i32_35_r0 : BitVec 32 := 1#32
  let v37_r0 : BitVec 32 := Scalar.select v36_r0 c1_i32_35_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v38_r0 : BitVec 32 := Scalar.addi v37_r0 v4
  let v55_r0 : BitVec 32 := Scalar.muli c256_i32_49_r0 v38_r0
  let c0_i32_52_r0 : BitVec 32 := 0#32
  ![v55_r0.toNat, 0]

def k1_chk5 (i : grid1.Coords) (v33_4_r0 : BitVec 32) : Prop :=
  (∀ a, (k1_off19 i v33_4_r0) a + S256x64.size a ≤ S16384x64.size a)
theorem k1_off19_inb : ∀ (i : grid1.Coords) (v33_4_r0 : BitVec 32) (k1_hw5 : k1_chk5 i v33_4_r0), ∀ a, (k1_off19 i v33_4_r0) a + S256x64.size a ≤ S16384x64.size a := fun i v33_4_r0 k1_hw5 => k1_hw5

def k1_off20 (v33_3_r0 : BitVec 32) : Fin 1 → Nat :=
  let c2_i32_48_r0 : BitVec 32 := 2#32
  let v54_r0 : BitVec 32 := Scalar.remui v33_3_r0 c2_i32_48_r0
  ![v54_r0.toNat]
def k1_off21 (v33_3_r0 : BitVec 32) : Fin 3 → Nat :=
  let c2_i32_48_r0 : BitVec 32 := 2#32
  let v54_r0 : BitVec 32 := Scalar.remui v33_3_r0 c2_i32_48_r0
  let c0_i32_54_r0 : BitVec 32 := 0#32
  let c0_i32_55_r0 : BitVec 32 := 0#32
  ![v54_r0.toNat, 0, 0]

def k1_chk4 (v33_3_r0 : BitVec 32) : Prop :=
  (∀ a, (k1_off18 v33_3_r0) a + S1x256x64.size a ≤ S2x256x64.size a) ∧
  (∀ a, (k1_off20 v33_3_r0) a + S1.size a ≤ S2.size a) ∧
  (∀ a, (k1_off21 v33_3_r0) a + S1x256x64.size a ≤ S2x256x64.size a)
theorem k1_off18_inb : ∀ (v33_3_r0 : BitVec 32) (k1_hw4 : k1_chk4 v33_3_r0), ∀ a, (k1_off18 v33_3_r0) a + S1x256x64.size a ≤ S2x256x64.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x256x64.size a ≤ S2x256x64.size a := fun v33_3_r0 k1_hw4 => k1_hw4.2.2

abbrev grid2 : Pipeline.Grid := ⟨2, ![2, 16], ![false, false]⟩

def k2_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_16_r0 : BitVec 32 := 0#32
  let c0_i32_17_r0 : BitVec 32 := 0#32
  ![v21_r0.toNat, 0, 0]
def k2_off2 (i : grid2.Coords) : Fin 2 → Nat :=
  let c0_i32_18_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v22_r0 : BitVec 32 := Scalar.muli c256_i32_r0 v7_r0
  ![0, v22_r0.toNat]
def k2_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
@[reducible] def k2_t1_loop : Scf.Loop 32 :=
  let c0_i32_28_r0 : BitVec 32 := 0#32
  let c2_i32_29_r0 : BitVec 32 := 2#32
  let v32_r0 : BitVec 32 := Scalar.addi c0_i32_28_r0 c2_i32_29_r0
  let c1_i32_30_r0 : BitVec 32 := 1#32
  ⟨c0_i32_28_r0, v32_r0, c1_i32_30_r0⟩
def k2_off4 (arg7_r0 : BitVec 32) : Fin 3 → Nat :=
  let c2_i32_104_r0 : BitVec 32 := 2#32
  let v150_r0 : BitVec 32 := Scalar.remui arg7_r0 c2_i32_104_r0
  let c0_i32_106_r0 : BitVec 32 := 0#32
  let c0_i32_107_r0 : BitVec 32 := 0#32
  ![v150_r0.toNat, 0, 0]
def k2_cond1 (i : grid2.Coords) (k2_t1 : Fin k2_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_63_r0 : BitVec 1 := 1#1
  let c1_i32_62_r0 : BitVec 32 := 1#32
  let v72_r0 : BitVec 32 := Scalar.addi arg11_r0 c1_i32_62_r0
  let v73_r0 : BitVec 32 := Scalar.select true_63_r0 v72_r0 arg11_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v82_r0 : BitVec 1 := Scalar.cmpi .ne v66_r0 v76_r0
  let c0_i32_28_r0 : BitVec 32 := 0#32
  let c1_i32_30_r0 : BitVec 32 := 1#32
  let arg6_r0 : BitVec 32 := Scf.iv c0_i32_28_r0 c1_i32_30_r0 k2_t1
  let c1_i32_70_r0 : BitVec 32 := 1#32
  let v83_r0 : BitVec 1 := Scalar.cmpi .sge arg6_r0 c1_i32_70_r0
  let true_71_r0 : BitVec 1 := 1#1
  let v84_r0 : BitVec 1 := Scalar.xori v83_r0 true_71_r0
  let v85_r0 : BitVec 1 := Scalar.andi v82_r0 v84_r0
  let true_72_r0 : BitVec 1 := 1#1
  let v86_r0 : BitVec 1 := Scalar.andi v85_r0 true_72_r0
  let v87_r0 : BitVec 32 := Scalar.extui v86_r0
  let c0_i32_73_r0 : BitVec 32 := 0#32
  let v88_r0 : BitVec 1 := Scalar.cmpi .ne v87_r0 c0_i32_73_r0
  v88_r0

def k2_off5 (i : grid2.Coords) (arg11_r0 : BitVec 32) : Fin 2 → Nat :=
  let c0_i32_108_r0 : BitVec 32 := 0#32
  let c256_i32_105_r0 : BitVec 32 := 256#32
  let true_63_r0 : BitVec 1 := 1#1
  let c1_i32_62_r0 : BitVec 32 := 1#32
  let v72_r0 : BitVec 32 := Scalar.addi arg11_r0 c1_i32_62_r0
  let v73_r0 : BitVec 32 := Scalar.select true_63_r0 v72_r0 arg11_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v76_r0 : BitVec 32 := Scalar.addi v75_r0 v4
  let v151_r0 : BitVec 32 := Scalar.muli c256_i32_105_r0 v76_r0
  ![0, v151_r0.toNat]
def k2_off6 (arg7_r0 : BitVec 32) : Fin 1 → Nat :=
  let c2_i32_104_r0 : BitVec 32 := 2#32
  let v150_r0 : BitVec 32 := Scalar.remui arg7_r0 c2_i32_104_r0
  ![v150_r0.toNat]
def k2_off7 (arg8_r0 : BitVec 32) : Fin 3 → Nat :=
  let c2_i32_105_r0 : BitVec 32 := 2#32
  let v151_r0 : BitVec 32 := Scalar.remui arg8_r0 c2_i32_105_r0
  let c0_i32_106_r0 : BitVec 32 := 0#32
  let c0_i32_107_r0 : BitVec 32 := 0#32
  ![v151_r0.toNat, 0, 0]
def k2_cond2 (i : grid2.Coords) (k2_t1 : Fin k2_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_59_r0 : BitVec 1 := 1#1
  let c1_i32_58_r0 : BitVec 32 := 1#32
  let v67_r0 : BitVec 32 := Scalar.subi arg11_r0 c1_i32_58_r0
  let v68_r0 : BitVec 32 := Scalar.select true_59_r0 v67_r0 arg11_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v96_r0 : BitVec 1 := Scalar.cmpi .ne v66_r0 v71_r0
  let c0_i32_28_r0 : BitVec 32 := 0#32
  let c1_i32_30_r0 : BitVec 32 := 1#32
  let arg6_r0 : BitVec 32 := Scf.iv c0_i32_28_r0 c1_i32_30_r0 k2_t1
  let c0_i32_56_r0 : BitVec 32 := 0#32
  let v64_r0 : BitVec 1 := Scalar.cmpi .eq arg6_r0 c0_i32_56_r0
  let v97_r0 : BitVec 1 := Scalar.ori v96_r0 v64_r0
  let c0_i32_78_r0 : BitVec 32 := 0#32
  let v98_r0 : BitVec 1 := Scalar.cmpi .sge arg6_r0 c0_i32_78_r0
  let v99_r0 : BitVec 1 := Scalar.andi v97_r0 v98_r0
  let v100_r0 : BitVec 32 := Scalar.extui v99_r0
  let c0_i32_79_r0 : BitVec 32 := 0#32
  let v101_r0 : BitVec 1 := Scalar.cmpi .ne v100_r0 c0_i32_79_r0
  v101_r0

def k2_off8 (i : grid2.Coords) (arg11_r0 : BitVec 32) : Fin 2 → Nat :=
  let c0_i32_108_r0 : BitVec 32 := 0#32
  let c256_i32_104_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let v150_r0 : BitVec 32 := Scalar.muli c256_i32_104_r0 v66_r0
  ![0, v150_r0.toNat]
def k2_off9 (arg8_r0 : BitVec 32) : Fin 1 → Nat :=
  let c2_i32_105_r0 : BitVec 32 := 2#32
  let v151_r0 : BitVec 32 := Scalar.remui arg8_r0 c2_i32_105_r0
  ![v151_r0.toNat]
def k2_off10 (arg8_r0 : BitVec 32) : Fin 3 → Nat :=
  let c2_i32_82_r0 : BitVec 32 := 2#32
  let v108_r0 : BitVec 32 := Scalar.remui arg8_r0 c2_i32_82_r0
  let c0_i32_104_r1 : BitVec 32 := 0#32
  let c0_i32_105_r1 : BitVec 32 := 0#32
  ![v108_r0.toNat, 0, 0]

def k2_chk2 (arg8_r0 : BitVec 32) : Prop :=
  (∀ a, (k2_off10 arg8_r0) a + S1x1x256.size a ≤ S2x1x256.size a)
theorem k2_off10_inb : ∀ (arg8_r0 : BitVec 32) (k2_hw2 : k2_chk2 arg8_r0), ∀ a, (k2_off10 arg8_r0) a + S1x1x256.size a ≤ S2x1x256.size a := fun arg8_r0 k2_hw2 => k2_hw2

def k2_off11 (arg9_r0 : BitVec 32) : Fin 3 → Nat :=
  let c2_i32_83_r0 : BitVec 32 := 2#32
  let v109_r0 : BitVec 32 := Scalar.remui arg9_r0 c2_i32_83_r0
  let v112_r0 : Index := Scalar.indexCast v109_r0
  let c0_86_r0 : Index := 0#32
  let c0_87_r0 : Index := 0#32
  ![v112_r0.toNat, 0, 0]

def k2_chk3 (arg9_r0 : BitVec 32) : Prop :=
  (∀ a, (k2_off11 arg9_r0) a + S1x256x64.size a ≤ S2x256x64.size a)
theorem k2_off11_inb : ∀ (arg9_r0 : BitVec 32) (k2_hw3 : k2_chk3 arg9_r0), ∀ a, (k2_off11 arg9_r0) a + S1x256x64.size a ≤ S2x256x64.size a := fun arg9_r0 k2_hw3 => k2_hw3

def k2_off12 (arg9_r0 : BitVec 32) : Fin 3 → Nat :=
  let c2_i32_104_r0 : BitVec 32 := 2#32
  let v150_r0 : BitVec 32 := Scalar.remui arg9_r0 c2_i32_104_r0
  let c0_i32_106_r0 : BitVec 32 := 0#32
  let c0_i32_107_r0 : BitVec 32 := 0#32
  ![v150_r0.toNat, 0, 0]
def k2_cond5 (i : grid2.Coords) (k2_t1 : Fin k2_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_63_r0 : BitVec 1 := 1#1
  let c1_i32_62_r0 : BitVec 32 := 1#32
  let v72_r0 : BitVec 32 := Scalar.addi arg11_r0 c1_i32_62_r0
  let v73_r0 : BitVec 32 := Scalar.select true_63_r0 v72_r0 arg11_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v121_r0 : BitVec 1 := Scalar.cmpi .ne v66_r0 v76_r0
  let c0_i32_28_r0 : BitVec 32 := 0#32
  let c1_i32_30_r0 : BitVec 32 := 1#32
  let arg6_r0 : BitVec 32 := Scf.iv c0_i32_28_r0 c1_i32_30_r0 k2_t1
  let c1_i32_57_r0 : BitVec 32 := 1#32
  let v65_r0 : BitVec 1 := Scalar.cmpi .eq arg6_r0 c1_i32_57_r0
  let v122_r0 : BitVec 1 := Scalar.ori v121_r0 v65_r0
  let v123_r0 : BitVec 32 := Scalar.extui v122_r0
  let c0_i32_89_r0 : BitVec 32 := 0#32
  let v124_r0 : BitVec 1 := Scalar.cmpi .ne v123_r0 c0_i32_89_r0
  v124_r0

def k2_off13 (i : grid2.Coords) (arg11_r0 : BitVec 32) : Fin 2 → Nat :=
  let c256_i32_105_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let v151_r0 : BitVec 32 := Scalar.muli c256_i32_105_r0 v66_r0
  let c0_i32_108_r0 : BitVec 32 := 0#32
  ![v151_r0.toNat, 0]
def k2_off14 (arg9_r0 : BitVec 32) : Fin 1 → Nat :=
  let c2_i32_104_r0 : BitVec 32 := 2#32
  let v150_r0 : BitVec 32 := Scalar.remui arg9_r0 c2_i32_104_r0
  ![v150_r0.toNat]
def k2_off15 (arg10_r0 : BitVec 32) : Fin 3 → Nat :=
  let c2_i32_104_r0 : BitVec 32 := 2#32
  let v150_r0 : BitVec 32 := Scalar.remui arg10_r0 c2_i32_104_r0
  let c0_i32_106_r0 : BitVec 32 := 0#32
  let c0_i32_107_r0 : BitVec 32 := 0#32
  ![v150_r0.toNat, 0, 0]
def k2_cond7 (i : grid2.Coords) (k2_t1 : Fin k2_t1_loop.trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg11_r0 v4
  let true_59_r0 : BitVec 1 := 1#1
  let c1_i32_58_r0 : BitVec 32 := 1#32
  let v67_r0 : BitVec 32 := Scalar.subi arg11_r0 c1_i32_58_r0
  let v68_r0 : BitVec 32 := Scalar.select true_59_r0 v67_r0 arg11_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v134_r0 : BitVec 1 := Scalar.cmpi .ne v66_r0 v71_r0
  let c0_i32_28_r0 : BitVec 32 := 0#32
  let c1_i32_30_r0 : BitVec 32 := 1#32
  let arg6_r0 : BitVec 32 := Scf.iv c0_i32_28_r0 c1_i32_30_r0 k2_t1
  let c0_i32_56_r0 : BitVec 32 := 0#32
  let v64_r0 : BitVec 1 := Scalar.cmpi .eq arg6_r0 c0_i32_56_r0
  let true_95_r0 : BitVec 1 := 1#1
  let v135_r0 : BitVec 1 := Scalar.xori v64_r0 true_95_r0
  let v136_r0 : BitVec 1 := Scalar.andi v134_r0 v135_r0
  let v137_r0 : BitVec 32 := Scalar.extui v136_r0
  let c0_i32_96_r0 : BitVec 32 := 0#32
  let v138_r0 : BitVec 1 := Scalar.cmpi .ne v137_r0 c0_i32_96_r0
  v138_r0

def k2_off16 (i : grid2.Coords) (arg11_r0 : BitVec 32) : Fin 2 → Nat :=
  let c256_i32_105_r0 : BitVec 32 := 256#32
  let true_59_r0 : BitVec 1 := 1#1
  let c1_i32_58_r0 : BitVec 32 := 1#32
  let v67_r0 : BitVec 32 := Scalar.subi arg11_r0 c1_i32_58_r0
  let v68_r0 : BitVec 32 := Scalar.select true_59_r0 v67_r0 arg11_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v71_r0 : BitVec 32 := Scalar.addi v70_r0 v4
  let v151_r0 : BitVec 32 := Scalar.muli c256_i32_105_r0 v71_r0
  let c0_i32_108_r0 : BitVec 32 := 0#32
  ![v151_r0.toNat, 0]
def k2_off17 (arg10_r0 : BitVec 32) : Fin 1 → Nat :=
  let c2_i32_104_r0 : BitVec 32 := 2#32
  let v150_r0 : BitVec 32 := Scalar.remui arg10_r0 c2_i32_104_r0
  ![v150_r0.toNat]

def k2_chk1 (i : grid2.Coords) (k2_t1 : Fin k2_t1_loop.trips) (arg7_r0 : BitVec 32) (arg8_r0 : BitVec 32) (arg9_r0 : BitVec 32) (arg10_r0 : BitVec 32) (arg11_r0 : BitVec 32) : Prop :=
  (∀ (k2_h1 : k2_cond1 i k2_t1 arg11_r0 = 1#1), ∀ a, (k2_off4 arg7_r0) a + S1x1x256.size a ≤ S2x1x256.size a) ∧
  (∀ (k2_h1 : k2_cond1 i k2_t1 arg11_r0 = 1#1), ∀ a, (k2_off5 i arg11_r0) a + S1x256.size a ≤ S1x16384.size a) ∧
  (∀ (k2_h1 : k2_cond1 i k2_t1 arg11_r0 = 1#1), ∀ a, (k2_off6 arg7_r0) a + S1.size a ≤ S2.size a) ∧
  (∀ (k2_h2 : k2_cond2 i k2_t1 arg11_r0 = 1#1), ∀ a, (k2_off7 arg8_r0) a + S1x1x256.size a ≤ S2x1x256.size a) ∧
  (∀ (k2_h2 : k2_cond2 i k2_t1 arg11_r0 = 1#1), ∀ a, (k2_off8 i arg11_r0) a + S1x256.size a ≤ S1x16384.size a) ∧
  (∀ (k2_h2 : k2_cond2 i k2_t1 arg11_r0 = 1#1), ∀ a, (k2_off9 arg8_r0) a + S1.size a ≤ S2.size a) ∧
  (∀ (k2_h5 : k2_cond5 i k2_t1 arg11_r0 = 1#1), ∀ a, (k2_off12 arg9_r0) a + S1x256x64.size a ≤ S2x256x64.size a) ∧
  (∀ (k2_h5 : k2_cond5 i k2_t1 arg11_r0 = 1#1), ∀ a, (k2_off13 i arg11_r0) a + S256x64.size a ≤ S16384x64.size a) ∧
  (∀ (k2_h5 : k2_cond5 i k2_t1 arg11_r0 = 1#1), ∀ a, (k2_off14 arg9_r0) a + S1.size a ≤ S2.size a) ∧
  (∀ (k2_h7 : k2_cond7 i k2_t1 arg11_r0 = 1#1), ∀ a, (k2_off15 arg10_r0) a + S1x256x64.size a ≤ S2x256x64.size a) ∧
  (∀ (k2_h7 : k2_cond7 i k2_t1 arg11_r0 = 1#1), ∀ a, (k2_off16 i arg11_r0) a + S256x64.size a ≤ S16384x64.size a) ∧
  (∀ (k2_h7 : k2_cond7 i k2_t1 arg11_r0 = 1#1), ∀ a, (k2_off17 arg10_r0) a + S1.size a ≤ S2.size a)
theorem k2_off4_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i k2_t1 arg11_r0 = 1#1), ∀ a, (k2_off4 arg7_r0) a + S1x1x256.size a ≤ S2x1x256.size a := fun i k2_t1 arg7_r0 arg8_r0 arg9_r0 arg10_r0 arg11_r0 k2_hw1 k2_h1 => k2_hw1.1 k2_h1
theorem k2_off5_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i k2_t1 arg11_r0 = 1#1), ∀ a, (k2_off5 i arg11_r0) a + S1x256.size a ≤ S1x16384.size a := fun i k2_t1 arg7_r0 arg8_r0 arg9_r0 arg10_r0 arg11_r0 k2_hw1 k2_h1 => k2_hw1.2.1 k2_h1
theorem k2_off6_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i k2_t1 arg11_r0 = 1#1), ∀ a, (k2_off6 arg7_r0) a + S1.size a ≤ S2.size a := fun i k2_t1 arg7_r0 arg8_r0 arg9_r0 arg10_r0 arg11_r0 k2_hw1 k2_h1 => k2_hw1.2.2.1 k2_h1
theorem k2_off7_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h2 : k2_cond2 i k2_t1 arg11_r0 = 1#1), ∀ a, (k2_off7 arg8_r0) a + S1x1x256.size a ≤ S2x1x256.size a := fun i k2_t1 arg7_r0 arg8_r0 arg9_r0 arg10_r0 arg11_r0 k2_hw1 k2_h2 => k2_hw1.2.2.2.1 k2_h2
theorem k2_off8_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h2 : k2_cond2 i k2_t1 arg11_r0 = 1#1), ∀ a, (k2_off8 i arg11_r0) a + S1x256.size a ≤ S1x16384.size a := fun i k2_t1 arg7_r0 arg8_r0 arg9_r0 arg10_r0 arg11_r0 k2_hw1 k2_h2 => k2_hw1.2.2.2.2.1 k2_h2
theorem k2_off9_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h2 : k2_cond2 i k2_t1 arg11_r0 = 1#1), ∀ a, (k2_off9 arg8_r0) a + S1.size a ≤ S2.size a := fun i k2_t1 arg7_r0 arg8_r0 arg9_r0 arg10_r0 arg11_r0 k2_hw1 k2_h2 => k2_hw1.2.2.2.2.2.1 k2_h2
theorem k2_off12_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h5 : k2_cond5 i k2_t1 arg11_r0 = 1#1), ∀ a, (k2_off12 arg9_r0) a + S1x256x64.size a ≤ S2x256x64.size a := fun i k2_t1 arg7_r0 arg8_r0 arg9_r0 arg10_r0 arg11_r0 k2_hw1 k2_h5 => k2_hw1.2.2.2.2.2.2.1 k2_h5
theorem k2_off13_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h5 : k2_cond5 i k2_t1 arg11_r0 = 1#1), ∀ a, (k2_off13 i arg11_r0) a + S256x64.size a ≤ S16384x64.size a := fun i k2_t1 arg7_r0 arg8_r0 arg9_r0 arg10_r0 arg11_r0 k2_hw1 k2_h5 => k2_hw1.2.2.2.2.2.2.2.1 k2_h5
theorem k2_off14_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h5 : k2_cond5 i k2_t1 arg11_r0 = 1#1), ∀ a, (k2_off14 arg9_r0) a + S1.size a ≤ S2.size a := fun i k2_t1 arg7_r0 arg8_r0 arg9_r0 arg10_r0 arg11_r0 k2_hw1 k2_h5 => k2_hw1.2.2.2.2.2.2.2.2.1 k2_h5
theorem k2_off15_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h7 : k2_cond7 i k2_t1 arg11_r0 = 1#1), ∀ a, (k2_off15 arg10_r0) a + S1x256x64.size a ≤ S2x256x64.size a := fun i k2_t1 arg7_r0 arg8_r0 arg9_r0 arg10_r0 arg11_r0 k2_hw1 k2_h7 => k2_hw1.2.2.2.2.2.2.2.2.2.1 k2_h7
theorem k2_off16_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h7 : k2_cond7 i k2_t1 arg11_r0 = 1#1), ∀ a, (k2_off16 i arg11_r0) a + S256x64.size a ≤ S16384x64.size a := fun i k2_t1 arg7_r0 arg8_r0 arg9_r0 arg10_r0 arg11_r0 k2_hw1 k2_h7 => k2_hw1.2.2.2.2.2.2.2.2.2.2.1 k2_h7
theorem k2_off17_inb : ∀ (i : grid2.Coords) (k2_t1 : Fin k2_t1_loop.trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h7 : k2_cond7 i k2_t1 arg11_r0 = 1#1), ∀ a, (k2_off17 arg10_r0) a + S1.size a ≤ S2.size a := fun i k2_t1 arg7_r0 arg8_r0 arg9_r0 arg10_r0 arg11_r0 k2_hw1 k2_h7 => k2_hw1.2.2.2.2.2.2.2.2.2.2.2 k2_h7

def k2_off18 (v33_3_r0 : BitVec 32) : Fin 3 → Nat :=
  let c2_i32_48_r0 : BitVec 32 := 2#32
  let v54_r0 : BitVec 32 := Scalar.remui v33_3_r0 c2_i32_48_r0
  let c0_i32_50_r0 : BitVec 32 := 0#32
  let c0_i32_51_r0 : BitVec 32 := 0#32
  ![v54_r0.toNat, 0, 0]

def k2_off19 (i : grid2.Coords) (v33_4_r0 : BitVec 32) : Fin 2 → Nat :=
  let c256_i32_49_r0 : BitVec 32 := 256#32
  let true_33_r0 : BitVec 1 := 1#1
  let c1_i32_32_r0 : BitVec 32 := 1#32
  let v34_r0 : BitVec 32 := Scalar.subi v33_4_r0 c1_i32_32_r0
  let v35_r0 : BitVec 32 := Scalar.select true_33_r0 v34_r0 v33_4_r0
  let c_m1_i32_34_r0 : BitVec 32 := 4294967295#32
  let v36_r0 : BitVec 1 := Scalar.cmpi .eq v35_r0 c_m1_i32_34_r0
  let c1_i32_35_r0 : BitVec 32 := 1#32
  let v37_r0 : BitVec 32 := Scalar.select v36_r0 c1_i32_35_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v38_r0 : BitVec 32 := Scalar.addi v37_r0 v4
  let v55_r0 : BitVec 32 := Scalar.muli c256_i32_49_r0 v38_r0
  let c0_i32_52_r0 : BitVec 32 := 0#32
  ![v55_r0.toNat, 0]

def k2_chk5 (i : grid2.Coords) (v33_4_r0 : BitVec 32) : Prop :=
  (∀ a, (k2_off19 i v33_4_r0) a + S256x64.size a ≤ S16384x64.size a)
theorem k2_off19_inb : ∀ (i : grid2.Coords) (v33_4_r0 : BitVec 32) (k2_hw5 : k2_chk5 i v33_4_r0), ∀ a, (k2_off19 i v33_4_r0) a + S256x64.size a ≤ S16384x64.size a := fun i v33_4_r0 k2_hw5 => k2_hw5

def k2_off20 (v33_3_r0 : BitVec 32) : Fin 1 → Nat :=
  let c2_i32_48_r0 : BitVec 32 := 2#32
  let v54_r0 : BitVec 32 := Scalar.remui v33_3_r0 c2_i32_48_r0
  ![v54_r0.toNat]
def k2_off21 (v33_3_r0 : BitVec 32) : Fin 3 → Nat :=
  let c2_i32_48_r0 : BitVec 32 := 2#32
  let v54_r0 : BitVec 32 := Scalar.remui v33_3_r0 c2_i32_48_r0
  let c0_i32_54_r0 : BitVec 32 := 0#32
  let c0_i32_55_r0 : BitVec 32 := 0#32
  ![v54_r0.toNat, 0, 0]

def k2_chk4 (v33_3_r0 : BitVec 32) : Prop :=
  (∀ a, (k2_off18 v33_3_r0) a + S1x256x64.size a ≤ S2x256x64.size a) ∧
  (∀ a, (k2_off20 v33_3_r0) a + S1.size a ≤ S2.size a) ∧
  (∀ a, (k2_off21 v33_3_r0) a + S1x256x64.size a ≤ S2x256x64.size a)
theorem k2_off18_inb : ∀ (v33_3_r0 : BitVec 32) (k2_hw4 : k2_chk4 v33_3_r0), ∀ a, (k2_off18 v33_3_r0) a + S1x256x64.size a ≤ S2x256x64.size a := fun v33_3_r0 k2_hw4 => k2_hw4.1
theorem k2_off20_inb : ∀ (v33_3_r0 : BitVec 32) (k2_hw4 : k2_chk4 v33_3_r0), ∀ a, (k2_off20 v33_3_r0) a + S1.size a ≤ S2.size a := fun v33_3_r0 k2_hw4 => k2_hw4.2.1
theorem k2_off21_inb : ∀ (v33_3_r0 : BitVec 32) (k2_hw4 : k2_chk4 v33_3_r0), ∀ a, (k2_off21 v33_3_r0) a + S1x256x64.size a ≤ S2x256x64.size a := fun v33_3_r0 k2_hw4 => k2_hw4.2.2

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== Rows.lean ====
abbrev S8192x64 : Shape := ⟨2, ![8192, 64]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x64 : Shape := ⟨2, ![32768, 64]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S32768, .i32⟩
  | .hbm, ⟨2, _⟩ => ⟨S_, .i32⟩
  | .hbm, ⟨3, _⟩ => ⟨S32768, .i32⟩
  | .hbm, ⟨4, _⟩ => ⟨S32768, .i1⟩
  | .hbm, ⟨5, _⟩ => ⟨S_, .i32⟩
  | .hbm, ⟨6, _⟩ => ⟨S32768, .i32⟩
  | .hbm, ⟨7, _⟩ => ⟨S32768, .i32⟩
  | .hbm, ⟨8, _⟩ => ⟨S32768, .i32⟩
  | .hbm, ⟨9, _⟩ => ⟨S32768x1, .i32⟩
  | .hbm, ⟨10, _⟩ => ⟨S1, .i32⟩
  | .hbm, ⟨11, _⟩ => ⟨S_, .i32⟩
  | .hbm, ⟨12, _⟩ => ⟨S32768x1, .i32⟩
  | .hbm, ⟨13, _⟩ => ⟨S32768x1, .i1⟩
  | .hbm, ⟨14, _⟩ => ⟨S1x1, .i32⟩
  | .hbm, ⟨15, _⟩ => ⟨S32768x1, .i32⟩
  | .hbm, ⟨16, _⟩ => ⟨S32768x1, .i1⟩
  | .hbm, ⟨17, _⟩ => ⟨S32768x1, .i1⟩
  | .hbm, ⟨18, _⟩ => ⟨S_, .i1⟩
  | .hbm, ⟨19, _⟩ => ⟨S32768, .i1⟩
  | .hbm, ⟨20, _⟩ => ⟨S32768x64, .f32⟩
  | .hbm, ⟨21, _⟩ => ⟨S32768x64, .i1⟩
  | .hbm, ⟨22, _⟩ => ⟨S_, .f32⟩
  | .hbm, ⟨23, _⟩ => ⟨S32768x64, .f32⟩
  | .hbm, ⟨24, _⟩ => ⟨S32768x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Tile.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UP : Type := UR sig nD τ
abbrev UU : Type := UH × (UP × Counters)

local notation "𝕄" => MT nD τ sig (HIx 2) (Elt F) ℕ UU ℕ

/-! ## The words of the pipelined loop, at every tile -/

abbrev tr0 : Fin k2_t1_loop.trips := ⟨0, by decide⟩
abbrev tr1 : Fin k2_t1_loop.trips := ⟨1, by decide⟩

theorem c1_0 : ∀ i : grid2.Coords, k2_cond1 i tr0 0#32 = 1#1 := by decide +kernel
theorem c2_0 : ∀ i : grid2.Coords, k2_cond2 i tr0 0#32 = 1#1 := by decide +kernel
theorem c5_0 : ∀ i : grid2.Coords, k2_cond5 i tr0 0#32 = 1#1 := by decide +kernel
theorem c7_0 : ∀ i : grid2.Coords, ¬ k2_cond7 i tr0 0#32 = 1#1 := by decide +kernel
theorem c1_1 : ∀ i : grid2.Coords, ¬ k2_cond1 i tr1 1#32 = 1#1 := by decide +kernel
theorem c2_1 : ∀ i : grid2.Coords, k2_cond2 i tr1 1#32 = 1#1 := by decide +kernel
theorem c5_1 : ∀ i : grid2.Coords, k2_cond5 i tr1 1#32 = 1#1 := by decide +kernel
theorem c7_1 : ∀ i : grid2.Coords, k2_cond7 i tr1 1#32 = 1#1 := by decide +kernel
theorem chk1_0 : ∀ i : grid2.Coords, k2_chk1 i tr0 1#32 0#32 0#32 0#32 0#32 := by decide +kernel
theorem chk1_1 : ∀ i : grid2.Coords, k2_chk1 i tr1 2#32 1#32 1#32 0#32 1#32 := by decide +kernel
theorem chk5_2 : ∀ i : grid2.Coords, k2_chk5 i 0#32 := by decide +kernel
theorem chk4_2 : k2_chk4 1#32 := by decide +kernel
theorem off2 : ∀ i : grid2.Coords, k2_off2 i = ![0, 512 * (i 1).val + 8192 * (i 0).val] := by decide +kernel
theorem off5_0 : ∀ i : grid2.Coords, k2_off5 i 0#32 = ![0, 512 * (i 1).val + 8192 * (i 0).val + 256] := by decide +kernel
theorem off8_0 : ∀ i : grid2.Coords, k2_off8 i 0#32 = ![0, 512 * (i 1).val + 8192 * (i 0).val] := by decide +kernel
theorem off8_1 : ∀ i : grid2.Coords, k2_off8 i 1#32 = ![0, 512 * (i 1).val + 8192 * (i 0).val + 256] := by decide +kernel
theorem off13_0 : ∀ i : grid2.Coords, k2_off13 i 0#32 = ![512 * (i 1).val + 8192 * (i 0).val, 0] := by decide +kernel
theorem off13_1 : ∀ i : grid2.Coords, k2_off13 i 1#32 = ![512 * (i 1).val + 8192 * (i 0).val + 256, 0] := by decide +kernel
theorem off16_1 : ∀ i : grid2.Coords, k2_off16 i 1#32 = ![512 * (i 1).val + 8192 * (i 0).val, 0] := by decide +kernel
theorem off19_2 : ∀ i : grid2.Coords, k2_off19 i 0#32 = ![512 * (i 1).val + 8192 * (i 0).val + 256, 0] := by decide +kernel

/-! ## Cells -/

section Cells
variable (A : DmaSems sig S2)

theorem inb0 : ∀ a, (![0] : Fin 1 → Nat) a + S1.size a ≤ S2.size a := by decide
theorem inb1 : ∀ a, (![1] : Fin 1 → Nat) a + S1.size a ≤ S2.size a := by decide

def sem0 : DmaSems sig S_ := (A.slice (Rect.unit (s := S2) ![0] S1.size inb0)).squeeze S_ squeezes_S1_S_
def sem1 : DmaSems sig S_ := (A.slice (Rect.unit (s := S2) ![1] S1.size inb1)).squeeze S_ squeezes_S1_S_

theorem sem0_of {off : Fin 1 → Nat} (e : off = ![0]) (hh) :
    (A.slice (Rect.unit (s := S2) off S1.size hh)).squeeze S_ squeezes_S1_S_ = sem0 A := by subst e; rfl
theorem sem1_of {off : Fin 1 → Nat} (e : off = ![1]) (hh) :
    (A.slice (Rect.unit (s := S2) off S1.size hh)).squeeze S_ squeezes_S1_S_ = sem1 A := by subst e; rfl

@[sl_canon] theorem s3 (hh) : (A.slice (Rect.unit (s := S2) k2_off3 S1.size hh)).squeeze S_ squeezes_S1_S_ = sem0 A := sem0_of A (by decide) _
@[sl_canon] theorem s6 (hh) : (A.slice (Rect.unit (s := S2) (k2_off6 1#32) S1.size hh)).squeeze S_ squeezes_S1_S_ = sem1 A := sem1_of A (by decide) _
@[sl_canon] theorem s9_0 (hh) : (A.slice (Rect.unit (s := S2) (k2_off9 0#32) S1.size hh)).squeeze S_ squeezes_S1_S_ = sem0 A := sem0_of A (by decide) _
@[sl_canon] theorem s9_1 (hh) : (A.slice (Rect.unit (s := S2) (k2_off9 1#32) S1.size hh)).squeeze S_ squeezes_S1_S_ = sem1 A := sem1_of A (by decide) _
@[sl_canon] theorem s14_0 (hh) : (A.slice (Rect.unit (s := S2) (k2_off14 0#32) S1.size hh)).squeeze S_ squeezes_S1_S_ = sem0 A := sem0_of A (by decide) _
@[sl_canon] theorem s14_1 (hh) : (A.slice (Rect.unit (s := S2) (k2_off14 1#32) S1.size hh)).squeeze S_ squeezes_S1_S_ = sem1 A := sem1_of A (by decide) _
@[sl_canon] theorem s17_0 (hh) : (A.slice (Rect.unit (s := S2) (k2_off17 0#32) S1.size hh)).squeeze S_ squeezes_S1_S_ = sem0 A := sem0_of A (by decide) _
@[sl_canon] theorem s20_1 (hh) : (A.slice (Rect.unit (s := S2) (k2_off20 1#32) S1.size hh)).squeeze S_ squeezes_S1_S_ = sem1 A := sem1_of A (by decide) _
end Cells

instance : ClosedOff (k2_off4 1#32) := ⟨![1, 0, 0], by decide +kernel⟩
instance : ClosedOff (k2_off7 0#32) := ⟨![0, 0, 0], by decide +kernel⟩
instance : ClosedOff (k2_off7 1#32) := ⟨![1, 0, 0], by decide +kernel⟩
instance : ClosedOff (k2_off10 0#32) := ⟨![0, 0, 0], by decide +kernel⟩
instance : ClosedOff (k2_off10 1#32) := ⟨![1, 0, 0], by decide +kernel⟩
instance : ClosedOff (k2_off11 0#32) := ⟨![0, 0, 0], by decide +kernel⟩
instance : ClosedOff (k2_off11 1#32) := ⟨![1, 0, 0], by decide +kernel⟩
instance : ClosedOff (k2_off12 0#32) := ⟨![0, 0, 0], by decide +kernel⟩
instance : ClosedOff (k2_off12 1#32) := ⟨![1, 0, 0], by decide +kernel⟩
instance : ClosedOff (k2_off15 0#32) := ⟨![0, 0, 0], by decide +kernel⟩
instance : ClosedOff (k2_off18 1#32) := ⟨![1, 0, 0], by decide +kernel⟩
instance : ClosedOff (k2_off21 1#32) := ⟨![1, 0, 0], by decide +kernel⟩
instance (i : grid2.Coords) : ClosedOff (k2_off5 i 0#32) := ⟨_, off5_0 i⟩
instance (i : grid2.Coords) : ClosedOff (k2_off8 i 0#32) := ⟨_, off8_0 i⟩
instance (i : grid2.Coords) : ClosedOff (k2_off8 i 1#32) := ⟨_, off8_1 i⟩
instance (i : grid2.Coords) : ClosedOff (k2_off13 i 0#32) := ⟨_, off13_0 i⟩
instance (i : grid2.Coords) : ClosedOff (k2_off13 i 1#32) := ⟨_, off13_1 i⟩
instance (i : grid2.Coords) : ClosedOff (k2_off16 i 1#32) := ⟨_, off16_1 i⟩
instance (i : grid2.Coords) : ClosedOff (k2_off19 i 0#32) := ⟨_, off19_2 i⟩

section Slots
theorem inbA (s : Fin 2) : ∀ a, (![s.val, 0, 0] : Fin 3 → Nat) a + S1x1x256.size a ≤ S2x1x256.size a := by
  have := s.isLt; intro a; fin_cases a
  · show s.val + 1 ≤ 2; omega
  · show 0 + 1 ≤ 1; omega
  · show 0 + 256 ≤ 256; omega
theorem inbB (s : Fin 2) : ∀ a, (![s.val, 0, 0] : Fin 3 → Nat) a + S1x256x64.size a ≤ S2x256x64.size a := by
  have := s.isLt; intro a; fin_cases a
  · show s.val + 1 ≤ 2; omega
  · show 0 + 256 ≤ 256; omega
  · show 0 + 64 ≤ 64; omega
instance : ClosedOff (![((0 : Fin 2)).val, 0, 0] : Fin 3 → Nat) := ⟨![0, 0, 0], rfl⟩
instance : ClosedOff (![((1 : Fin 2)).val, 0, 0] : Fin 3 → Nat) := ⟨![1, 0, 0], rfl⟩

variable (aV : Memref sig .scVector .vmem S2x1x256 .i32) (bV : Memref sig .scVector .vmem S2x256x64 .f32)

def aS (s : Fin 2) : Memref sig .scVector .vmem S1x256 .i32 :=
  (aV.slice (Rect.unit (s := S2x1x256) ![s.val, 0, 0] S1x1x256.size (inbA s)) (fun _ => rfl)).squeeze S1x256 squeezes_S1x1x256_S1x256
def bS (s : Fin 2) : Memref sig .scVector .vmem S256x64 .f32 :=
  (bV.slice (Rect.unit (s := S2x256x64) ![s.val, 0, 0] S1x256x64.size (inbB s)) (fun _ => rfl)).squeeze S256x64 squeezes_S1x256x64_S256x64

theorem aS_of {off : Fin 3 → Nat} (s : Fin 2) (e : off = ![s.val, 0, 0]) (hh hs) :
    (aV.slice (Rect.unit (s := S2x1x256) off S1x1x256.size hh) hs).squeeze S1x256 squeezes_S1x1x256_S1x256 = aS aV s := by subst e; rfl
theorem bS_of {off : Fin 3 → Nat} (s : Fin 2) (e : off = ![s.val, 0, 0]) (hh hs) :
    (bV.slice (Rect.unit (s := S2x256x64) off S1x256x64.size hh) hs).squeeze S256x64 squeezes_S1x256x64_S256x64 = bS bV s := by subst e; rfl

@[sl_canon] theorem a1 (hh hs) : (aV.slice (Rect.unit (s := S2x1x256) k2_off1 S1x1x256.size hh) hs).squeeze S1x256 squeezes_S1x1x256_S1x256 = aS aV 0 := aS_of aV 0 (by decide) _ _
@[sl_canon] theorem a4 (hh hs) : (aV.slice (Rect.unit (s := S2x1x256) (k2_off4 1#32) S1x1x256.size hh) hs).squeeze S1x256 squeezes_S1x1x256_S1x256 = aS aV 1 := aS_of aV 1 (by decide) _ _
@[sl_canon] theorem a7_0 (hh hs) : (aV.slice (Rect.unit (s := S2x1x256) (k2_off7 0#32) S1x1x256.size hh) hs).squeeze S1x256 squeezes_S1x1x256_S1x256 = aS aV 0 := aS_of aV 0 (by decide) _ _
@[sl_canon] theorem a7_1 (hh hs) : (aV.slice (Rect.unit (s := S2x1x256) (k2_off7 1#32) S1x1x256.size hh) hs).squeeze S1x256 squeezes_S1x1x256_S1x256 = aS aV 1 := aS_of aV 1 (by decide) _ _
@[sl_canon] theorem a10_0 (hh hs) : (aV.slice (Rect.unit (s := S2x1x256) (k2_off10 0#32) S1x1x256.size hh) hs).squeeze S1x256 squeezes_S1x1x256_S1x256 = aS aV 0 := aS_of aV 0 (by decide) _ _
@[sl_canon] theorem a10_1 (hh hs) : (aV.slice (Rect.unit (s := S2x1x256) (k2_off10 1#32) S1x1x256.size hh) hs).squeeze S1x256 squeezes_S1x1x256_S1x256 = aS aV 1 := aS_of aV 1 (by decide) _ _
@[sl_canon] theorem b12_0 (hh hs) : (bV.slice (Rect.unit (s := S2x256x64) (k2_off12 0#32) S1x256x64.size hh) hs).squeeze S256x64 squeezes_S1x256x64_S256x64 = bS bV 0 := bS_of bV 0 (by decide) _ _
@[sl_canon] theorem b12_1 (hh hs) : (bV.slice (Rect.unit (s := S2x256x64) (k2_off12 1#32) S1x256x64.size hh) hs).squeeze S256x64 squeezes_S1x256x64_S256x64 = bS bV 1 := bS_of bV 1 (by decide) _ _
@[sl_canon] theorem b15 (hh hs) : (bV.slice (Rect.unit (s := S2x256x64) (k2_off15 0#32) S1x256x64.size hh) hs).squeeze S256x64 squeezes_S1x256x64_S256x64 = bS bV 0 := bS_of bV 0 (by decide) _ _
@[sl_canon] theorem b18 (hh hs) : (bV.slice (Rect.unit (s := S2x256x64) (k2_off18 1#32) S1x256x64.size hh) hs).squeeze S256x64 squeezes_S1x256x64_S256x64 = bS bV 1 := bS_of bV 1 (by decide) _ _
@[sl_canon] theorem b21 (hh hs) : (bV.slice (Rect.unit (s := S2x256x64) (k2_off21 1#32) S1x256x64.size hh) hs).squeeze S256x64 squeezes_S1x256x64_S256x64 = bS bV 1 := bS_of bV 1 (by decide) _ _

/-- The list a gather reads: slot `s`'s one row. -/
abbrev aL (s : Fin 2) : Memref sig .scVector .vmem S256 .i32 :=
  ((aS aV s).slice (Rect.unit (s := S1x256) ![0, 0] S1x256.size inb_S1x256_S1x256_0_0) (fun _ => rfl)).squeeze S256 squeezes_S1x256_S256

theorem aL_read (s : Fin 2) (f : (aS aV s).view.ty.Contents (Elt F)) (p : S1x256.Idx → Elt F .i32) (x : S256.Idx) :
    (aL aV s).view.read (Elt F) ((aS aV s).view.writes (Elt F) f [⟨Rect.whole S1x256, p⟩]) x
      = p ((Rect.unit (s := S1x256) ![0, 0] S1x256.size inb_S1x256_S1x256_0_0).emb (Shape.reshapeEquiv squeezes_S1x256_S256.numel_eq x)) := by
  show (aS aV s).view.read (Elt F) _ _ = _
  rw [View.read_writes_whole]; rfl
end Slots

section Blocks
variable (oV : Memref sig .scVector .hbm S16384x64 .f32) (L : grid2.Coords)
theorem inbO (L : grid2.Coords) (s : Fin 2) : ∀ a, (![512 * (L 1).val + 8192 * (L 0).val + 256 * s.val, 0] : Fin 2 → Nat) a + S256x64.size a ≤ S16384x64.size a := by
  have h0 : (L 0).val < 2 := (L 0).isLt
  have h1 : (L 1).val < 16 := (L 1).isLt
  have := s.isLt
  intro a; fin_cases a
  · show 512 * (L 1).val + 8192 * (L 0).val + 256 * s.val + 256 ≤ 16384; omega
  · show 0 + 64 ≤ 64; omega
/-- Block `s` of tile `L`'s rows of the output. -/
def oB (s : Fin 2) : Memref sig .scVector .hbm S256x64 .f32 :=
  oV.slice (Rect.unit (s := S16384x64) ![512 * (L 1).val + 8192 * (L 0).val + 256 * s.val, 0] S256x64.size (inbO L s)) (fun _ => rfl)
theorem oB_of {off : Fin 2 → Nat} (s : Fin 2) (e : off = ![512 * (L 1).val + 8192 * (L 0).val + 256 * s.val, 0]) (hh hs) :
    oV.slice (Rect.unit (s := S16384x64) off S256x64.size hh) hs = oB oV L s := by subst e; rfl
@[sl_canon] theorem o13_0 (hh hs) : oV.slice (Rect.unit (s := S16384x64) (k2_off13 L 0#32) S256x64.size hh) hs = oB oV L 0 := oB_of oV L 0 (off13_0 L) _ _
@[sl_canon] theorem o13_1 (hh hs) : oV.slice (Rect.unit (s := S16384x64) (k2_off13 L 1#32) S256x64.size hh) hs = oB oV L 1 := oB_of oV L 1 (off13_1 L) _ _
@[sl_canon] theorem o16_1 (hh hs) : oV.slice (Rect.unit (s := S16384x64) (k2_off16 L 1#32) S256x64.size hh) hs = oB oV L 0 := oB_of oV L 0 (off16_1 L) _ _
@[sl_canon] theorem o19_2 (hh hs) : oV.slice (Rect.unit (s := S16384x64) (k2_off19 L 0#32) S256x64.size hh) hs = oB oV L 1 := oB_of oV L 1 (off19_2 L) _ _
end Blocks

/-! ## What a block of the output holds -/

section Value
variable {α : Type}

/-- The gathered rows: at row `r` and column `j`, the table's row that word `r` of the list names, at column `j`. -/
def gath (tbl : S8192x128.Idx → α) (idx : S1x16384.Idx → BitVec 32) (x : S16384x64.Idx) : α :=
  tbl (fun
    | 0 => ⟨(idx (fun | 0 => ⟨0, Nat.one_pos⟩ | 1 => ⟨(x 0).val, (x 0).isLt⟩ | ⟨_ + 2, h⟩ => absurd h (Nat.not_lt.2 (Nat.le_add_left _ _)))).toNat % 8192, Nat.mod_lt _ (by decide)⟩
    | 1 => ⟨(x 1).val, Nat.lt_of_lt_of_le (x 1).isLt (by decide)⟩
    | ⟨_ + 2, h⟩ => absurd h (Nat.not_lt.2 (Nat.le_add_left _ _)))

/-- A slot of the output ring, stored whole through its buffer, reads the vector stored. -/
theorem bS_read (bV : Memref sig .scVector .vmem S2x256x64 .f32) (s : Fin 2) (fb : bV.view.ty.Contents (Elt F)) (v : S256x64.Idx → Elt F .f32)
    {off : Fin 3 → Nat} (e : off = ![s.val, 0, 0]) (hh) (h1 h2) :
    (bS bV s).view.read (Elt F) (View.write (Elt F) (bV.access (Rect.unit (s := S2x256x64) off S1x256x64.size hh)) fb
      (shapeCast S1x256x64 (shapeCast S256x64 v h1) h2) Finset.univ) = v := by
  subst e
  funext x
  have h : (bS bV s).view.read (Elt F) (View.write (Elt F) (bV.access (Rect.unit (s := S2x256x64) ![s.val, 0, 0] S1x256x64.size hh)) fb
      (shapeCast S1x256x64 (shapeCast S256x64 v h1) h2) Finset.univ) x
      = (bV.access (Rect.unit (s := S2x256x64) ![s.val, 0, 0] S1x256x64.size hh)).read (Elt F) (View.write (Elt F) (bV.access (Rect.unit (s := S2x256x64) ![s.val, 0, 0] S1x256x64.size hh)) fb
          (shapeCast S1x256x64 (shapeCast S256x64 v h1) h2) Finset.univ) (Shape.reshapeEquiv squeezes_S1x256x64_S256x64.numel_eq x) := rfl
  rw [h, View.read_write_univ]
  unfold shapeCast
  rw [Shape.reshapeEquiv_reshapeEquiv, Shape.reshapeEquiv_reshapeEquiv, Shape.reshapeEquiv_self]

/-- Place `k` of the list is row `0`, column `k`, of the slot. -/
theorem rowIx (k : Fin S256.numel) : (Shape.reshapeEquiv squeezes_S1x256_S256.numel_eq (S256.rowMajor.symm k) 0).val = 0
    ∧ (Shape.reshapeEquiv squeezes_S1x256_S256.numel_eq (S256.rowMajor.symm k) 1).val = k.val := by
  have e := Shape.rowMajor_reshapeEquiv squeezes_S1x256_S256.numel_eq (S256.rowMajor.symm k)
  rw [Equiv.apply_symm_apply] at e
  generalize Shape.reshapeEquiv squeezes_S1x256_S256.numel_eq (S256.rowMajor.symm k) = u at e ⊢
  have h0 : (u 0).val < 1 := (u 0).isLt
  have e' := (Shape.rowMajor_val_two u).symm.trans e
  have h1 : (u 0).val * 256 + (u 1).val = k.val := e'
  omega

/-- The gathered block loaded back, its first columns: at row `r`, column `j`, the table at the row the list names. -/
theorem load_gath [FloatOps F] (xV : Memref sig .scVector .hbm S8192x128 .f32) (iV : Memref sig .scVector .hbm S1x16384 .i32)
    (gV : Memref sig .scVector .vmem S256x128 .f32) (aV : Memref sig .scVector .vmem S2x1x256 .i32) (s : Fin 2)
    (tbl : xV.view.ty.Contents (Elt F)) (idx : iV.view.ty.Contents (Elt F)) (hidx : ∀ x, (iV.view.read (Elt F) idx x).toNat < 8192)
    (base : ℕ) {off : Fin 2 → Nat} (e : off = ![0, base]) (hoff) (f : (aS aV s).view.ty.Contents (Elt F)) (hn) (hin) (hc : 0 + base + 256 ≤ 16384)
    (Ws : List (View.Piece (Elt F) S256x128 .f32)) (hB) (x : S256x64.Idx) (y : S16384x64.Idx) (hy0 : (y 0).val = base + (x 0).val) (hy1 : (y 1).val = (x 1).val) :
    gV.view.readCov (⟨Rect.whole S256x128,
        SparseCore.gatherPayload gathers_S8192x128_S256x128 ((xV.slice (Rect.unit (s := S8192x128) ![0, 0] S8192x128.size hB) (fun _ => rfl)).view.read (Elt F) tbl)
          (SparseCore.rows ((aL aV s).view.read (Elt F) ((aS aV s).view.writes (Elt F) f
            [⟨Rect.whole S1x256, ReadAs.same.apply ((iV.slice (Rect.unit (s := S1x16384) off S1x256.size hoff) (fun _ => rfl)).view.read (Elt F) idx)⟩])) hn hin)⟩ :: Ws)
      (Rect.unit (s := S256x128) ![0, 0] S256x64.size inb_S256x128_S256x64_0_0).toLoadRect x
    = gath (xV.view.read (Elt F) tbl) (iV.view.read (Elt F) idx) y := by
  subst e
  unfold View.readCov
  rw [View.readAt_apply]
  refine (View.read_writes_cons_hit _ _ (Rect.whole S256x128) _ Ws ((Rect.unit (s := S256x128) ![0, 0] S256x64.size inb_S256x128_S256x64_0_0).toLoadRect.idx x) _ (Rect.emb_whole_apply _ _)).trans ?_
  unfold SparseCore.gatherPayload gath
  show xV.view.read (Elt F) tbl ((Rect.unit (s := S8192x128) ![0, 0] S8192x128.size hB).emb _) = _
  refine congrArg (xV.view.read (Elt F) tbl) (funext fun a => Fin.ext ?_)
  rw [Rect.emb_apply]
  match a with
  | 0 =>
    have e1 := congrArg Fin.val (Shape.Gathers.idx_axis gathers_S8192x128_S256x128 (SparseCore.rows ((aL aV s).view.read (Elt F) ((aS aV s).view.writes (Elt F) f
            [⟨Rect.whole S1x256, ReadAs.same.apply ((iV.slice (Rect.unit (s := S1x16384) ![0, base] S1x256.size hoff) (fun _ => rfl)).view.read (Elt F) idx)⟩])) hn hin)
            ((Rect.unit (s := S256x128) ![0, 0] S256x64.size inb_S256x128_S256x64_0_0).toLoadRect.idx x))
    refine (Nat.zero_add _).trans ((Nat.one_mul _).trans (e1.trans ?_))
    show ((aL aV s).view.read (Elt F) ((aS aV s).view.writes (Elt F) f _) _).toNat = _
    rw [aL_read]
    show (iV.view.read (Elt F) idx ((Rect.unit (s := S1x16384) ![0, base] S1x256.size hoff).emb _)).toNat = (iV.view.read (Elt F) idx _).toNat % 8192
    rw [Nat.mod_eq_of_lt (hidx _)]
    refine congrArg (fun z => (iV.view.read (Elt F) idx z).toNat) (funext fun b => Fin.ext ?_)
    rw [Rect.emb_apply, Rect.emb_apply]
    generalize hk : Fin.cast _ _ = k
    have hk' : k.val = (x 0).val := by rw [← hk]; show 0 + 1 * (x 0).val = _; omega
    obtain ⟨u0, u1⟩ := rowIx k
    match b with
    | 0 =>
      show 0 + 1 * (0 + 1 * _) = 0
      rw [u0]
    | 1 =>
      show base + 1 * (0 + 1 * _) = (y 0).val
      rw [u1]; omega
  | 1 =>
    show 0 + 1 * _ = _
    rw [Shape.Gathers.idx_of_ne _ _ _ _ (by decide)]
    show 0 + 1 * (0 + 1 * (x 1).val) = (y 1).val
    omega
end Value

section Tile
variable [FloatOps F] (d : Dev nD) (L : grid2.Coords)

abbrev thr (d : Dev nD) (L : grid2.Coords) : Thread nD τ := V d ((L 0).castLE hcore2) ((L 1).castLE hsub2)

variable (xV : Memref sig .scVector .hbm S8192x128 .f32) (hx : xV.IsWhole)
  (iV : Memref sig .scVector .hbm S1x16384 .i32) (hi : iV.IsWhole)
  (oV : Memref sig .scVector .hbm S16384x64 .f32) (ho : oV.IsWhole)
  (gV : Memref sig .scVector .vmem S256x128 .f32) (hg : gV.IsWhole)
  (aV : Memref sig .scVector .vmem S2x1x256 .i32) (ha : aV.IsWhole)
  (bV : Memref sig .scVector .vmem S2x256x64 .f32) (hb : bV.IsWhole)
  (s5 s6 : DmaSems sig S2) (s7 : DmaSems sig S_)

/-- Block `s` of tile `L`'s rows holds the gathered rows. -/
def Holds (tbl : xV.view.ty.Contents (Elt F)) (idx : iV.view.ty.Contents (Elt F)) (s : Fin 2) (f : (oB oV L s).view.ty.Contents (Elt F)) : Prop :=
  ∀ (x : S256x64.Idx) (y : S16384x64.Idx), (y 0).val = 512 * (L 1).val + 8192 * (L 0).val + 256 * s.val + (x 0).val → (y 1).val = (x 1).val →
    (oB oV L s).view.read (Elt F) f x = gath (xV.view.read (Elt F) tbl) (iV.view.read (Elt F) idx) y

set_option maxRecDepth 65536 in
set_option sl_exec.dmaWindow true in
set_option sl_exec.dmaWindowSet true in
set_option maxHeartbeats 4000000 in
theorem body (O : CellTallies nD τ sig (HIx 2)) (W : Waits sig (HIx 2))
    (q q' : PosShare TreeShare) (tbl : Buf (Elt F) (xV.view.loc (thr d L))) (idx : Buf (Elt F) (iV.view.loc (thr d L)))
    (hidx : ∀ x, (iV.view.read (Elt F) idx x).toNat < 8192)
    (fo : Buf (Elt F) ((oB oV L 0).view.loc (thr d L))) (fo' : Buf (Elt F) ((oB oV L 1).view.loc (thr d L))) (fg : Buf (Elt F) (gV.view.loc (thr d L)))
    (fa : Buf (Elt F) ((aS aV 0).view.loc (thr d L))) (fa' : Buf (Elt F) ((aS aV 1).view.loc (thr d L))) (fb : Buf (Elt F) ((bS bV 0).view.loc (thr d L))) (fb' : Buf (Elt F) ((bS bV 1).view.loc (thr d L))) :
    (iprop(Transfers.MayWaits (thr d L) (default : HIx 2) O
        ∗ (xV.view.loc (thr d L) ↦[xV.view.set]{q} tbl) ∗ (iV.view.loc (thr d L) ↦[iV.view.set]{q'} idx)
        ∗ ((oB oV L 0).view.loc (thr d L) ↦[(oB oV L 0).view.set]{fullShare} fo)
        ∗ ((oB oV L 1).view.loc (thr d L) ↦[(oB oV L 1).view.set]{fullShare} fo')
        ∗ (gV.view.loc (thr d L) ↦[gV.view.set]{fullShare} fg) ∗ ((aS aV 0).view.loc (thr d L) ↦[(aS aV 0).view.set]{fullShare} fa)
        ∗ ((aS aV 1).view.loc (thr d L) ↦[(aS aV 1).view.set]{fullShare} fa')
        ∗ ((bS bV 0).view.loc (thr d L) ↦[(bS bV 0).view.set]{fullShare} fb)
        ∗ ((bS bV 1).view.loc (thr d L) ↦[(bS bV 1).view.set]{fullShare} fb')
        ∗ semVal (thr d L, .dma (sem0 s5).sem) 0 ∗ semVal (thr d L, .dma (sem1 s5).sem) 0
        ∗ semVal (thr d L, .dma (sem0 s6).sem) 0 ∗ semVal (thr d L, .dma (sem1 s6).sem) 0 ∗ semVal (thr d L, .dma s7.sem) 0
        ∗ owes (thr d L) O W) : sProp 𝕄)
      ⊢ wp frame (wpE (defs₀ (F := F)) Variants.none (thr d L) none) Set.univ
          (cc2_gather_kernel L xV hx iV hi oV ho gV hg aV ha s5 bV hb s6 s7)
          fun _ => iprop((xV.view.loc (thr d L) ↦[xV.view.set]{q} tbl) ∗ (iV.view.loc (thr d L) ↦[iV.view.set]{q'} idx)
            ∗ (∃ f, ⌜Holds L xV iV oV tbl idx 0 f⌝ ∗ (oB oV L 0).view.loc (thr d L) ↦[(oB oV L 0).view.set]{fullShare} f)
            ∗ (∃ f, ⌜Holds L xV iV oV tbl idx 1 f⌝ ∗ (oB oV L 1).view.loc (thr d L) ↦[(oB oV L 1).view.set]{fullShare} f)
            ∗ (∃ f, gV.view.loc (thr d L) ↦[gV.view.set]{fullShare} f)
            ∗ (∃ f, (aS aV 0).view.loc (thr d L) ↦[(aS aV 0).view.set]{fullShare} f)
            ∗ (∃ f, (aS aV 1).view.loc (thr d L) ↦[(aS aV 1).view.set]{fullShare} f)
            ∗ (∃ f, (bS bV 0).view.loc (thr d L) ↦[(bS bV 0).view.set]{fullShare} f)
            ∗ (∃ f, (bS bV 1).view.loc (thr d L) ↦[(bS bV 1).view.set]{fullShare} f)
            ∗ semVal (thr d L, .dma (sem0 s5).sem) 0 ∗ semVal (thr d L, .dma (sem1 s5).sem) 0
            ∗ semVal (thr d L, .dma (sem0 s6).sem) 0 ∗ semVal (thr d L, .dma (sem1 s6).sem) 0 ∗ semVal (thr d L, .dma s7.sem) 0
            ∗ ∃ W', ⌜∀ p ∈ W', p ∈ W ∨ p.2 = default⌝ ∗ owes (thr d L) O W') := by
  simp only [cc2_gather_kernel_eq_skeleton]; unfold cc2_gather_kernel_skel
  simp only [k2_part3_eq_skeleton]; unfold k2_part3_skel
  simp only [k2_part4_eq_skeleton]; unfold k2_part4_skel
  iintro ⟨#Hmw, Hx, Hi, Ho0, Ho1, Hg, Ha0, Ha1, Hb0, Hb1, H50, H51, H60, H61, H7, HO⟩
  simp only [bind_assoc]
  sl_exec
  sl_unroll
  have hin0 : ∀ (f : (aS aV 0).view.ty.Contents (Elt F)) (x : S256.Idx), ((aL aV 0).view.read (Elt F) ((aS aV 0).view.writes (Elt F) f [⟨Rect.whole S1x256, body.sl.dma0 d L iV idx⟩]) x).toNat < S8192x128.size gathers_S8192x128_S256x128.axis := by
    intro f x; rw [aL_read]; exact hidx _
  have h10 := c1_0 L
  have h20 := c2_0 L
  have h50 := c5_0 L
  have h70 := c7_0 L
  have hk10 := chk1_0 L
  have hk20 : k2_chk2 0#32 := by decide
  have hk30 : k2_chk3 0#32 := by decide
  sl_exec
  have e127 : ∀ L, body.sl.v127_r0 L = 1#32 := by decide +kernel
  have e145 : ∀ L, body.sl.v145_r0 L = 1#32 := by decide +kernel
  have e91 : ∀ L, body.sl.v91_r0 L = 2#32 := by decide +kernel
  have e141 : ∀ L, body.sl.v141_r0 L = 0#32 := by decide +kernel
  rw [e127, e145, e91, e141]
  have h11 := c1_1 L
  have h21 := c2_1 L
  have h51 := c5_1 L
  have h71 := c7_1 L
  have hk11 := chk1_1 L
  have hk21 : k2_chk2 1#32 := by decide
  have hk31 : k2_chk3 1#32 := by decide
  have hin1 : ∀ (f : (aS aV 1).view.ty.Contents (Elt F)) (x : S256.Idx), ((aL aV 1).view.read (Elt F) ((aS aV 1).view.writes (Elt F) f [⟨Rect.whole S1x256, body.sl.dma0_1 d L iV idx h10 hk10⟩]) x).toNat < S8192x128.size gathers_S8192x128_S256x128.axis := by
    intro f x; rw [aL_read]; exact hidx _
  sl_exec
  have f141 : ∀ L, body.sl.v141_r0_1 L = 1#32 := by decide +kernel
  rw [f141]
  have hk52 := chk5_2 L
  have hk42 := chk4_2
  sl_exec
  sl_step
  isplitl [Hx]; · iexact Hx
  isplitl [Hi]; · iexact Hi
  isplitl [Ho0]
  · iexists _
    isplitr
    swap; · iexact Ho0
    ipureintro
    intro x y h0 h1
    sl_unfold_run_names
    rw [View.read_writes_whole]
    refine (congrFun (bS_read bV 0 fb _ (by decide) _ _ _) x).trans ?_
    exact load_gath xV iV gV aV 0 tbl idx hidx _ (off2 L) _ _ _ _ (by have := (inbO L 0 0); simpa using this) [] _ x y h0 h1
  isplitl [Ho1]
  · iexists _
    isplitr
    swap; · iexact Ho1
    ipureintro
    intro x y h0 h1
    sl_unfold_run_names
    rw [View.read_writes_whole]
    refine (congrFun (bS_read bV 1 fb' _ (by decide) _ _ _) x).trans ?_
    exact load_gath xV iV gV aV 1 tbl idx hidx _ (off5_0 L) _ _ _ _ (by have := (inbO L 1 0); simpa using this) _ _ x y h0 h1
  isplitl [Hg]; · iexists _; iexact Hg
  isplitl [Ha0]; · iexists _; iexact Ha0
  isplitl [Ha1]; · iexists _; iexact Ha1
  isplitl [Hb0]; · iexists _; iexact Hb0
  isplitl [Hb1]; · iexists _; iexact Hb1
  isplitl [H50]; · iexact H50
  isplitl [H51]; · iexact H51
  isplitl [H60]; · iexact H60
  isplitl [H61]; · iexact H61
  isplitl [H7]; · iexact H7
  iexists _; isplitr
  swap; · iexact HO
  ipureintro; intro p hp
  simp only [Finset.mem_insert] at hp
  rcases hp with h | h | h | h | h | h | h
  iterate 6 exact .inr (h ▸ rfl)
  exact .inl h
end Tile
end Cert.Proof.Tile
-- ==== Proof.Task.lean ====
module

public import proofs.«01_k».proof.Proof.Tile
public import proofs.«01_k».proof.Proof.Gen.KernelIdeal.Launch

@[expose] public section

noncomputable section

namespace Cert.Proof.Task

open Cert.KernelIdeal Cert.KernelIdeal.Gen Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- The second call's kernel is the first's. -/
theorem kernel2_eq [FloatOps F] : cc4_gather_kernel (F := F) = cc2_gather_kernel (F := F) := rfl

/-! ## A view's elements, cut by a family of rectangles -/

section Cut
variable {I : Type} [Fintype I]

theorem sets_disjoint {κ : Kind} {sp : Space} {s : Shape} {e : EltTy} (v : View sig κ sp s e) (R : I → Rect s)
    (hd : ∀ i j, i ≠ j → Disjoint (R i).set (R j).set) :
    ∀ i ∈ (Finset.univ : Finset I), ∀ j ∈ (Finset.univ : Finset I), i ≠ j → Disjoint ((v.slice (R i)).set) ((v.slice (R j)).set) := by
  intro i _ j _ h
  rw [View.set_slice, View.set_slice]
  exact (Finset.disjoint_map _).2 (hd i j h)

theorem sets_cover {κ : Kind} {sp : Space} {s : Shape} {e : EltTy} (v : View sig κ sp s e) (R : I → Rect s)
    (hc : ∀ x : s.Idx, ∃ i, x ∈ (R i).set) :
    (Finset.univ : Finset I).biUnion (fun i => (v.slice (R i)).set) = v.set := by
  ext x
  simp only [Finset.mem_biUnion, Finset.mem_univ, true_and]
  constructor
  · rintro ⟨i, h⟩; exact v.set_slice_subset (R i) h
  · intro h
    obtain ⟨y, -, rfl⟩ := Finset.mem_map.1 h
    obtain ⟨i, hi⟩ := hc y
    exact ⟨i, by rw [View.set_slice]; exact Finset.mem_map_of_mem _ hi⟩

variable (th : Thread nD τ) {sp : Space} {s : Shape} {e : EltTy} (v : View sig th.2.kind sp s e) (R : I → Rect s)

/-- A view's elements held are its rectangles' held one by one. -/
theorem pts_cut (hd : ∀ i j, i ≠ j → Disjoint (R i).set (R j).set) (hc : ∀ x : s.Idx, ∃ i, x ∈ (R i).set)
    (q : PosShare TreeShare) (f : Buf (Elt F) (v.loc th)) :
    (v.loc th ↦[v.set]{q} f : sProp 𝕄) = bigSep Finset.univ fun i => v.loc th ↦[(v.slice (R i)).set]{q} f := by
  rw [← pointsTo_biUnion Finset.univ (ℓ := v.loc th) (fun i => (v.slice (R i)).set) (sets_disjoint v R hd)]
  exact congrArg (fun S => (v.loc th ↦[S]{q} f : sProp 𝕄)) (sets_cover v R hc).symm

/-- Its rectangles held at contents of their own are the view's elements held at some contents. -/
theorem pts_join [∀ e, Nonempty (Elt F e)] (hd : ∀ i j, i ≠ j → Disjoint (R i).set (R j).set) (hc : ∀ x : s.Idx, ∃ i, x ∈ (R i).set)
    (q : PosShare TreeShare) :
    (bigSep Finset.univ fun i => iprop(∃ f : Buf (Elt F) (v.loc th), v.loc th ↦[(v.slice (R i)).set]{q} f))
      ⊢ (iprop(∃ f : Buf (Elt F) (v.loc th), v.loc th ↦[v.set]{q} f) : sProp 𝕄) := by
  have hne : Nonempty (Buf (Elt F) (v.loc th)) := ⟨fun _ => Classical.arbitrary _⟩
  classical
  refine (bigSep_exists_pi Finset.univ (fun i (f : Buf (Elt F) (v.loc th)) => (v.loc th ↦[(v.slice (R i)).set]{q} f : sProp 𝕄))).trans ?_
  iintro ⟨%fs, H⟩
  ihave H' := (pointsTo_biUnion_join (ℓ := v.loc th) (q := q) (Val := Elt F) Finset.univ (fun i => (v.slice (R i)).set) fs hne.some (sets_disjoint v R hd)) $$ H
  icases H' with ⟨%g, -, Hg⟩
  iexists g
  rw [show (Finset.univ : Finset I).biUnion (fun i => (v.slice (R i)).set) = v.set from sets_cover v R hc]
  iexact Hg
end Cut

/-! ## The two halves of a ring, the blocks of the output -/

abbrev rA (s : Fin 2) : Rect S2x1x256 := Rect.unit (s := S2x1x256) ![s.val, 0, 0] S1x1x256.size (inbA s)
abbrev rB (s : Fin 2) : Rect S2x256x64 := Rect.unit (s := S2x256x64) ![s.val, 0, 0] S1x256x64.size (inbB s)
abbrev rO (L : grid2.Coords) (s : Fin 2) : Rect S16384x64 :=
  Rect.unit (s := S16384x64) ![512 * (L 1).val + 8192 * (L 0).val + 256 * s.val, 0] S256x64.size (inbO L s)

theorem mem_rA (s : Fin 2) (y : S2x1x256.Idx) : y ∈ (rA s).set ↔ (y 0).val = s.val := by
  rw [LoadRect.mem_set]
  constructor
  · intro H
    obtain ⟨j, hj, e⟩ := H 0
    change j < 1 at hj; change (y 0).val = s.val + 1 * j at e
    omega
  · intro h a
    match a with
    | 0 => exact ⟨0, Nat.one_pos, by show (y 0).val = s.val + 1 * 0; omega⟩
    | 1 => exact ⟨(y 1).val, (y 1).isLt, by show (y 1).val = 0 + 1 * _; omega⟩
    | 2 => exact ⟨(y 2).val, (y 2).isLt, by show (y 2).val = 0 + 1 * _; omega⟩

theorem mem_rB (s : Fin 2) (y : S2x256x64.Idx) : y ∈ (rB s).set ↔ (y 0).val = s.val := by
  rw [LoadRect.mem_set]
  constructor
  · intro H
    obtain ⟨j, hj, e⟩ := H 0
    change j < 1 at hj; change (y 0).val = s.val + 1 * j at e
    omega
  · intro h a
    match a with
    | 0 => exact ⟨0, Nat.one_pos, by show (y 0).val = s.val + 1 * 0; omega⟩
    | 1 => exact ⟨(y 1).val, (y 1).isLt, by show (y 1).val = 0 + 1 * _; omega⟩
    | 2 => exact ⟨(y 2).val, (y 2).isLt, by show (y 2).val = 0 + 1 * _; omega⟩

theorem mem_rO (L : grid2.Coords) (s : Fin 2) (y : S16384x64.Idx) :
    y ∈ (rO L s).set ↔ 512 * (L 1).val + 8192 * (L 0).val + 256 * s.val ≤ (y 0).val
      ∧ (y 0).val < 512 * (L 1).val + 8192 * (L 0).val + 256 * s.val + 256 := by
  rw [LoadRect.mem_set]
  constructor
  · intro H
    obtain ⟨j, hj, e⟩ := H 0
    change j < 256 at hj; change (y 0).val = (512 * (L 1).val + 8192 * (L 0).val + 256 * s.val) + 1 * j at e
    omega
  · rintro ⟨h0, h1⟩ a
    match a with
    | 0 => exact ⟨(y 0).val - (512 * (L 1).val + 8192 * (L 0).val + 256 * s.val), by show _ < 256; omega,
        by show (y 0).val = (512 * (L 1).val + 8192 * (L 0).val + 256 * s.val) + 1 * _; omega⟩
    | 1 => exact ⟨(y 1).val, (y 1).isLt, by show (y 1).val = 0 + 1 * _; omega⟩

theorem rA_disjoint (i j : Fin 2) (h : i ≠ j) : Disjoint (rA i).set (rA j).set :=
  Finset.disjoint_left.2 fun y hi hj => h (Fin.ext (((mem_rA i y).1 hi).symm.trans ((mem_rA j y).1 hj)))
theorem rB_disjoint (i j : Fin 2) (h : i ≠ j) : Disjoint (rB i).set (rB j).set :=
  Finset.disjoint_left.2 fun y hi hj => h (Fin.ext (((mem_rB i y).1 hi).symm.trans ((mem_rB j y).1 hj)))
theorem rA_cover (y : S2x1x256.Idx) : ∃ i, y ∈ (rA i).set := ⟨y 0, (mem_rA _ _).2 rfl⟩
theorem rB_cover (y : S2x256x64.Idx) : ∃ i, y ∈ (rB i).set := ⟨y 0, (mem_rB _ _).2 rfl⟩

/-- The tile at core `c` and subcore `s`. -/
def coordsV (c : Fin (grid2.bound 0)) (s : Fin (grid2.bound 1)) : grid2.Coords :=
  fun | 0 => c | 1 => s | ⟨_ + 2, h⟩ => absurd h (Nat.not_lt.2 (Nat.le_add_left _ _))

/-- Every block of the output: by core, subcore and half. -/
abbrev rAll (x : Fin 2 × Fin 16 × Fin 2) : Rect S16384x64 := rO (coordsV x.1 x.2.1) x.2.2

theorem rAll_disjoint (i j : Fin 2 × Fin 16 × Fin 2) (h : i ≠ j) : Disjoint (rAll i).set (rAll j).set :=
  Finset.disjoint_left.2 fun y hi hj => h (by
    obtain ⟨a, b, c⟩ := i; obtain ⟨a', b', c'⟩ := j
    have h1 := (mem_rO _ _ y).1 hi
    have h2 := (mem_rO _ _ y).1 hj
    change 512 * b.val + 8192 * a.val + 256 * c.val ≤ (y 0).val ∧ (y 0).val < 512 * b.val + 8192 * a.val + 256 * c.val + 256 at h1
    change 512 * b'.val + 8192 * a'.val + 256 * c'.val ≤ (y 0).val ∧ (y 0).val < 512 * b'.val + 8192 * a'.val + 256 * c'.val + 256 at h2
    have := a.isLt; have := b.isLt; have := c.isLt; have := a'.isLt; have := b'.isLt; have := c'.isLt
    have e0 : a.val = a'.val := by omega
    have e1 : b.val = b'.val := by omega
    have e2 : c.val = c'.val := by omega
    rw [Fin.ext e0, Fin.ext e1, Fin.ext e2])

theorem rAll_cover (y : S16384x64.Idx) : ∃ i, y ∈ (rAll i).set := by
  have hy : (y 0).val < 16384 := (y 0).isLt
  refine ⟨(⟨(y 0).val / 8192, by omega⟩, ⟨(y 0).val % 8192 / 512, by omega⟩, ⟨(y 0).val % 512 / 256, by omega⟩), (mem_rO _ _ y).2 ?_⟩
  show 512 * ((y 0).val % 8192 / 512) + 8192 * ((y 0).val / 8192) + 256 * ((y 0).val % 512 / 256) ≤ (y 0).val
    ∧ (y 0).val < 512 * ((y 0).val % 8192 / 512) + 8192 * ((y 0).val / 8192) + 256 * ((y 0).val % 512 / 256) + 256
  omega

/-! ## One tile's task, from whole buffers -/

variable [FloatOps F] (d : Dev nD) (L : grid2.Coords)

variable (xV : Memref sig .scVector .hbm S8192x128 .f32) (hx : xV.IsWhole)
  (iV : Memref sig .scVector .hbm S1x16384 .i32) (hi : iV.IsWhole)
  (oV : Memref sig .scVector .hbm S16384x64 .f32) (ho : oV.IsWhole)
  (gV : Memref sig .scVector .vmem S256x128 .f32) (hg : gV.IsWhole)
  (aV : Memref sig .scVector .vmem S2x1x256 .i32) (ha : aV.IsWhole)
  (bV : Memref sig .scVector .vmem S2x256x64 .f32) (hb : bV.IsWhole)
  (s5 s6 : DmaSems sig S2) (s7 : DmaSems sig S_)

theorem set_aS (s : Fin 2) : (aS aV s).view.set = (aV.view.slice (rA s)).set := View.set_reshape _ _
theorem set_bS (s : Fin 2) : (bS bV s).view.set = (bV.view.slice (rB s)).set := View.set_reshape _ _

/-- A block that holds the gathered rows agrees with any contents of the output that are the gathered rows. -/
theorem agree (tbl : xV.view.ty.Contents (Elt F)) (idx : iV.view.ty.Contents (Elt F)) (G : oV.view.ty.Contents (Elt F))
    (hG : ∀ y, oV.view.read (Elt F) G y = gath (xV.view.read (Elt F) tbl) (iV.view.read (Elt F) idx) y)
    (s : Fin 2) (f : oV.view.ty.Contents (Elt F)) (hf : Holds L xV iV oV tbl idx s f) : ∀ i ∈ (oB oV L s).view.set, f i = G i := by
  intro i hi
  obtain ⟨x, -, rfl⟩ := Finset.mem_map.1 hi
  have h1 := hf x ((rO L s).idx x) (by show _ + 1 * (x 0).val = _; rw [Nat.one_mul]; rfl) (by show 0 + 1 * (x 1).val = _; omega)
  rw [← hG] at h1
  exact (Equiv.cast (congrArg (Elt F) oV.view.elt_eq)).injective h1

theorem task (O : CellTallies nD τ sig (HIx 2)) (W : Waits sig (HIx 2))
    (q q' : PosShare TreeShare) (tbl : Buf (Elt F) (xV.view.loc (thr d L))) (idx : Buf (Elt F) (iV.view.loc (thr d L)))
    (hidx : ∀ x, (iV.view.read (Elt F) idx x).toNat < 8192)
    (fo G : Buf (Elt F) (oV.view.loc (thr d L)))
    (hG : ∀ y, oV.view.read (Elt F) G y = gath (xV.view.read (Elt F) tbl) (iV.view.read (Elt F) idx) y) :
    (iprop(Transfers.MayWaits (thr d L) (default : HIx 2) O
        ∗ ((xV.view.loc (thr d L) ↦{q} tbl) ∗ (iV.view.loc (thr d L) ↦{q'} idx)
          ∗ (oV.view.loc (thr d L) ↦[(oB oV L 0).view.set]{fullShare} fo) ∗ (oV.view.loc (thr d L) ↦[(oB oV L 1).view.set]{fullShare} fo))
        ∗ ((∃ f, gV.view.loc (thr d L) ↦{fullShare} f) ∗ (∃ f, aV.view.loc (thr d L) ↦{fullShare} f) ∗ (∃ f, bV.view.loc (thr d L) ↦{fullShare} f))
        ∗ (semVal (thr d L, .dma (sem0 s5).sem) 0 ∗ semVal (thr d L, .dma (sem1 s5).sem) 0
          ∗ semVal (thr d L, .dma (sem0 s6).sem) 0 ∗ semVal (thr d L, .dma (sem1 s6).sem) 0 ∗ semVal (thr d L, .dma s7.sem) 0)
        ∗ owes (thr d L) O W) : sProp 𝕄)
      ⊢ wp frame (wpE (defs₀ (F := F)) Variants.none (thr d L) none) Set.univ
          (cc2_gather_kernel L xV hx iV hi oV ho gV hg aV ha s5 bV hb s6 s7)
          fun _ => iprop(((xV.view.loc (thr d L) ↦{q} tbl) ∗ (iV.view.loc (thr d L) ↦{q'} idx)
              ∗ (oV.view.loc (thr d L) ↦[(oB oV L 0).view.set]{fullShare} G) ∗ (oV.view.loc (thr d L) ↦[(oB oV L 1).view.set]{fullShare} G))
            ∗ ((∃ f, gV.view.loc (thr d L) ↦{fullShare} f) ∗ (∃ f, aV.view.loc (thr d L) ↦{fullShare} f) ∗ (∃ f, bV.view.loc (thr d L) ↦{fullShare} f))
            ∗ (semVal (thr d L, .dma (sem0 s5).sem) 0 ∗ semVal (thr d L, .dma (sem1 s5).sem) 0
              ∗ semVal (thr d L, .dma (sem0 s6).sem) 0 ∗ semVal (thr d L, .dma (sem1 s6).sem) 0 ∗ semVal (thr d L, .dma s7.sem) 0)
            ∗ ∃ W', ⌜∀ p ∈ W', p ∈ W ∨ p.2 = default⌝ ∗ owes (thr d L) O W') := by
  have hne : ∀ e, Nonempty (Elt F e) := inferInstance
  have eA : ∀ f, (aV.view.loc (thr d L) ↦{fullShare} f : sProp 𝕄) = iprop((aV.view.loc (thr d L) ↦[(aS aV 0).view.set]{fullShare} f) ∗ aV.view.loc (thr d L) ↦[(aS aV 1).view.set]{fullShare} f) := fun f => by
    rw [set_aS, set_aS, ← ha.set_eq_univ]
    exact (pts_cut (thr d L) aV.view rA rA_disjoint rA_cover fullShare f).trans (BI.bigSep_fin_two _)
  have eB : ∀ f, (bV.view.loc (thr d L) ↦{fullShare} f : sProp 𝕄) = iprop((bV.view.loc (thr d L) ↦[(bS bV 0).view.set]{fullShare} f) ∗ bV.view.loc (thr d L) ↦[(bS bV 1).view.set]{fullShare} f) := fun f => by
    rw [set_bS, set_bS, ← hb.set_eq_univ]
    exact (pts_cut (thr d L) bV.view rB rB_disjoint rB_cover fullShare f).trans (BI.bigSep_fin_two _)
  have jA : iprop((∃ f : Buf (Elt F) (aV.view.loc (thr d L)), aV.view.loc (thr d L) ↦[(aS aV 0).view.set]{fullShare} f) ∗ ∃ f : Buf (Elt F) (aV.view.loc (thr d L)), aV.view.loc (thr d L) ↦[(aS aV 1).view.set]{fullShare} f)
      ⊢ (iprop(∃ f, aV.view.loc (thr d L) ↦{fullShare} f) : sProp 𝕄) := by
    rw [set_aS, set_aS, ← ha.set_eq_univ]
    exact (Entails.of_eq (BI.bigSep_fin_two _).symm).trans (pts_join (thr d L) aV.view rA rA_disjoint rA_cover fullShare)
  have jB : iprop((∃ f : Buf (Elt F) (bV.view.loc (thr d L)), bV.view.loc (thr d L) ↦[(bS bV 0).view.set]{fullShare} f) ∗ ∃ f : Buf (Elt F) (bV.view.loc (thr d L)), bV.view.loc (thr d L) ↦[(bS bV 1).view.set]{fullShare} f)
      ⊢ (iprop(∃ f, bV.view.loc (thr d L) ↦{fullShare} f) : sProp 𝕄) := by
    rw [set_bS, set_bS, ← hb.set_eq_univ]
    exact (Entails.of_eq (BI.bigSep_fin_two _).symm).trans (pts_join (thr d L) bV.view rB rB_disjoint rB_cover fullShare)
  iintro ⟨#Hmw, ⟨Hx, Hi, Ho0, Ho1⟩, ⟨⟨%fg, Hg⟩, ⟨%fa, Ha⟩, ⟨%fb, Hb⟩⟩, ⟨H50, H51, H60, H61, H7⟩, HO⟩
  ihave Ha' := (Entails.of_eq (eA fa)) $$ Ha
  ihave Hb' := (Entails.of_eq (eB fb)) $$ Hb
  icases Ha' with ⟨Ha0, Ha1⟩
  icases Hb' with ⟨Hb0, Hb1⟩
  iapply (wp_wand frame _ _) $$ [Hx Hi Ho0 Ho1 Hg Ha0 Ha1 Hb0 Hb1 H50 H51 H60 H61 H7 HO]
  · iapply (body d L xV hx iV hi oV ho gV hg aV ha bV hb s5 s6 s7 O W q q' tbl idx hidx fo fo fg fa fa fb fb)
    isplitr; · iexact Hmw
    rw [hx.set_eq_univ, hi.set_eq_univ, hg.set_eq_univ]
    isplitl [Hx]; · iexact Hx
    isplitl [Hi]; · iexact Hi
    isplitl [Ho0]; · iexact Ho0
    isplitl [Ho1]; · iexact Ho1
    isplitl [Hg]; · iexact Hg
    isplitl [Ha0]; · iexact Ha0
    isplitl [Ha1]; · iexact Ha1
    isplitl [Hb0]; · iexact Hb0
    isplitl [Hb1]; · iexact Hb1
    isplitl [H50]; · iexact H50
    isplitl [H51]; · iexact H51
    isplitl [H60]; · iexact H60
    isplitl [H61]; · iexact H61
    isplitl [H7]; · iexact H7
    iexact HO
  iintro %u ⟨Hx, Hi, ⟨%f0, %hf0, Ho0⟩, ⟨%f1, %hf1, Ho1⟩, Hg, Ha0, Ha1, Hb0, Hb1, H50, H51, H60, H61, H7, HO⟩
  rw [hx.set_eq_univ, hi.set_eq_univ, hg.set_eq_univ]
  ihave Ho0' := (show ((oB oV L 0).view.loc (thr d L) ↦[(oB oV L 0).view.set]{fullShare} f0 : sProp 𝕄) ⊢ oV.view.loc (thr d L) ↦[(oB oV L 0).view.set]{fullShare} G from
      Entails.of_eq (pointsTo_congr (ℓ := oV.view.loc (thr d L)) (q := fullShare) (agree L xV iV oV tbl idx G hG 0 f0 hf0))) $$ Ho0
  ihave Ho1' := (show ((oB oV L 1).view.loc (thr d L) ↦[(oB oV L 1).view.set]{fullShare} f1 : sProp 𝕄) ⊢ oV.view.loc (thr d L) ↦[(oB oV L 1).view.set]{fullShare} G from
      Entails.of_eq (pointsTo_congr (ℓ := oV.view.loc (thr d L)) (q := fullShare) (agree L xV iV oV tbl idx G hG 1 f1 hf1))) $$ Ho1
  isplitl [Hx Hi Ho0' Ho1']
  · isplitl [Hx]; · iexact Hx
    isplitl [Hi]; · iexact Hi
    isplitl [Ho0']; · iexact Ho0'
    iexact Ho1'
  isplitl [Hg Ha0 Ha1 Hb0 Hb1]
  · isplitl [Hg]; · iexact Hg
    isplitl [Ha0 Ha1]
    · iapply jA
      isplitl [Ha0]; · iexact Ha0
      iexact Ha1
    · iapply jB
      isplitl [Hb0]; · iexact Hb0
      iexact Hb1
  isplitl [H50 H51 H60 H61 H7]
  · isplitl [H50]; · iexact H50
    isplitl [H51]; · iexact H51
    isplitl [H60]; · iexact H60
    isplitl [H61]; · iexact H61
    iexact H7
  iexact HO

end Cert.Proof.Task
-- ==== Proof.Prep.lean ====
module

public import proofs.«01_k».proof.Proof.Task
public import proofs.«01_k».proof.Proof.Gen.KernelIdeal.Points
public import Idealize.ShloMosaic.Lib.Pipeline.RegionsLoop
public import Idealize.ShloMosaic.Lib.WritesUnit
public import Idealize.ShloMosaic.Lib.VecWindow

@[expose] public section

noncomputable section

namespace Cert.Proof.Prep

open Cert.KernelIdeal Cert.KernelIdeal.Gen Cert.Proof.Tile

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The program as the launch sees it -/

abbrev ΛP : Labels := Pipeline.Sig Λ₀ (Fin 3) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev adm : (p : Fin 3) → (pcfgs (F := F) p).Adm := fun p => (cfgs p).toPCfg_adm

/-! ## The body, run by the executor -/

/-- What the body leaves in its two results' staging buffers, with the proof that it runs so. -/
def prepRun (c : Dev nD) (M0 : Memref sig .tc .vmem S8192x64 .f32) (h0 : M0.IsWhole) (M1 : Memref sig .tc .vmem S8192x128 .f32) (h1 : M1.IsWhole)
    (M2 : Memref sig .tc .vmem S8192 .f32) (h2 : M2.IsWhole) (f0 : Bf (F := F) c M0) :
    { W : Bf (F := F) c M1 × Bf (F := F) c M2 // ∀ (f1 : Bf (F := F) c M1) (f2 : Bf (F := F) c M2) (E : Set ℕ) (Q : PUnit → sProp 𝕄),
        iprop(pt c M0 f0 ∗ pt c M1 f1 ∗ pt c M2 f2 ∗ (iprop(pt c M0 f0 ∗ pt c M1 W.1 ∗ pt c M2 W.2) -∗ Q ⟨⟩))
          ⊢ wp frame (wpE (defs₀ (F := F)) Variants.none c none) E (cc0__prep_body M0 h0 M1 h1 M2 h2) Q } := by
  refine ⟨(?_, ?_), fun f1 f2 E Q => ?run⟩
  case run =>
    iintro ⟨H0, H1, H2, Hk⟩
    sl_exec!
    sl_step
    iapply Hk
    isplitl [H0]; · iexact H0
    isplitl [H1]; · iexact H1
    iexact H2

/-- The first result reads, in its first 64 columns, as the codebook. -/
theorem prepRun_read (c : Dev nD) (M0 : Memref sig .tc .vmem S8192x64 .f32) (h0 : M0.IsWhole) (M1 : Memref sig .tc .vmem S8192x128 .f32) (h1 : M1.IsWhole)
    (M2 : Memref sig .tc .vmem S8192 .f32) (h2 : M2.IsWhole) (f0 : Bf (F := F) c M0) (y : S8192x128.Idx) (x : S8192x64.Idx)
    (e0 : (y 0).val = (x 0).val) (e1 : (y 1).val = (x 1).val) :
    M1.view.read (Elt F) (prepRun c M0 h0 M1 h1 M2 h2 f0).1.1 y = M0.view.read (Elt F) f0 x := by
  have hx : (x 1).val < 64 := (x 1).isLt
  unfold prepRun
  dsimp only
  sl_unfold_run_names
  rw [View.read_writes_cons_unit_of_not_mem M1.view _ _ _ _ y rfl 1 (Or.inl (by show (y 1).val < 64; omega))]
  refine (View.read_writes_cons_unit_of_mem M1.view _ _ _ _ y x rfl (by
      intro a
      match a with
      | 0 => show (y 0).val = 0 + (x 0).val; omega
      | 1 => show (y 1).val = 0 + (x 1).val; omega)).trans ?_
  rw [View.readAt_apply]
  exact congrArg (M0.view.read (Elt F) f0) (funext fun a => Fin.ext (by
    match a with
    | 0 => show 0 + 1 * (x 0).val = (x 0).val; omega
    | 1 => show 0 + 1 * (x 1).val = (x 1).val; omega))

/-! ## The region's proof data, at an entry valuation -/

variable (V : (c : Dev nD) → (b : Ref sig .tc) → Buf (Elt F) ((c : Thread nD τ).loc b))
variable (O : Dev nD → CellTallies nD τ sig (HIx 2)) (hO : ∀ c g, O c g none = 0) (b : ℕ)

abbrev stg (c : Dev nD) : (cfg0.win 0).block.Idx → Elt F (cfg0.win 0).elt :=
  ((cfg0.win 0).blk t0_0).view.read (Elt F) (V c main_arg1)

abbrev R0 (c : Dev nD) := prepRun (F := F) c (stage0_0 0) (hstage0_0 0) (stage0_1 0) (hstage0_1 0) (stage0_2 0) (hstage0_2 0) (stg V c)

abbrev Φc (c : Dev nD) : sProp 𝕄 := Pipeline.scopedRest (Ix := HIx 2) (Name := ℕ) (U := UU) (Lvl := ℕ) (Val := Elt F) spec0 c

def dat (c : Dev nD) : Dat τ (Elt F) (HIx 2) ℕ UU ℕ cfg0 c where
  A w := V c (Pipeline.arrRef spec0 w)
  after w _ := match w with
    | ⟨0, _⟩ => stg V c
    | ⟨1, _⟩ => (R0 V c).1.1
    | ⟨2, _⟩ => (R0 V c).1.2
  Φ _ := Φc c
  q _ := fullShare
  owed _ := O c
  recorded _ := {p | (K (F := F)).lev ((c : Thread nD τ), p.1) p.2 ≤ b}

variable (e1 : (c : Dev nD) → Dat τ (Elt F) (HIx 2) ℕ UU ℕ (Pipeline.pin (pcfgs (F := F)) adm 1) c)
  (e2 : (c : Dev nD) → Dat τ (Elt F) (HIx 2) ℕ UU ℕ (Pipeline.pin (pcfgs (F := F)) adm 2) c)

/-- The three pipelines' proof data, the distances' two any. -/
def pdats : (p : Fin 3) → (c : Dev nD) → Dat τ (Elt F) (HIx 2) ℕ UU ℕ (Pipeline.pin (pcfgs (F := F)) adm p) c
  | 0 => fun c => dat V O b c
  | 1 => e1
  | 2 => e2

theorem before_in (c : Dev nD) (d : (cfg0.win 0).block.Idx → Elt F (cfg0.win 0).elt) : (dat V O b c).before 0 t0_0 d = stg V c := by
  unfold Dat.before; rw [if_pos (by decide)]; rfl

theorem body_obligation (c : Dev nD) : BodyObligation (dat V O b c) (defs₀ (F := F)) 𝒱₀ (none : HIx 2) Set.univ := fun t => by
  obtain rfl := fin_N0 t
  rw [bigSep_W0, bigSep_W0]
  simp only [owns_whole_eq]
  rw [show (dat V O b c).Φ t0_0.castSucc = Φc c from rfl, show (dat V O b c).Φ t0_0.succ = Φc c from rfl,
    show (dat V O b c).owesAt none t0_0.succ = (dat V O b c).owesAt none t0_0.castSucc from rfl]
  iintro ⟨HΦ, Howes, ⟨%d0, %f0, %hf0, H0⟩, ⟨%d1, %f1, -, H1⟩, ⟨%d2, %f2, -, H2⟩⟩
  rw [before_in] at hf0
  subst hf0
  iapply ((R0 V c).2 f1 f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-! ## The region over the thread state -/

/-- The two results' arrays after the region. -/
def wide (c : Dev nD) : Buf (Elt F) ((c : Thread nD τ).loc main_v0_0) := (dat V O b c).arrAt 1 cfg0.N
def sums (c : Dev nD) : Buf (Elt F) ((c : Thread nD τ).loc main_v0_1) := (dat V O b c).arrAt 2 cfg0.N

variable (Vp : (c : Dev nD) → (b : Ref sig .tc) → Buf (Elt F) ((c : Thread nD τ).loc b))

set_option backward.isDefEq.respectTransparency.types false in
def reg (hV1 : ∀ c, Vp c main_v0_0 = wide V O b c) (hV2 : ∀ c, Vp c main_v0_1 = sums V O b c)
    (hVne : ∀ c (r : Ref sig .tc), r ≠ main_v0_0 → r ≠ main_v0_1 → Vp c r = V c r) :
    Pipeline.RegionSeg (pcfgs (F := F)) adm (pdats V O b e1 e2) (none : HIx 2) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V O b c).loose
  hwaits c := Pipeline.cellsWaits_intro _ _ _ _ _ fun w s t => (K (F := F)).mayWait_none _ (hO c)
  pre c := iprop(unscopedBufs c (V c) ∗ ∃ W, ⌜(K (F := F)).WBelow (c : Thread nD τ) W b⌝ ∗ owes (c : Thread nD τ) (O c) W)
  post c := iprop(unscopedBufs c (Vp c) ∗ ∃ W, ⌜(K (F := F)).WBelow (c : Thread nD τ) W b⌝ ∗ owes (c : Thread nD τ) (O c) W)
  X _ := BI.emp
  Y _ := BI.emp
  Z c := iprop(Pipeline.unscopedRest (Ix := HIx 2) (Name := ℕ) (U := UU) (Lvl := ℕ) spec0 c (V c))
  hentry c := by
    rw [Pipeline.ownSems0_none]
    have hsplit := Pipeline.arrays_of_unscopedBufs (p := 0) (pcfgs (F := F)) adm (pdats V O b e1 e2) (launch0).win (launch0).arr_whole c
      ((pdats V O b e1 e2 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V O b e1 e2 0 c).Φ 0 = Φc c from rfl]
    iintro ⟨-, -, Hr⟩; iexact Hr
  hout c := by
    rw [Pipeline.ownSems0_none, show (pdats V O b e1 e2 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) (launch0).win (launch0).arr_whole c
      (pdats V O b e1 e2) ((pdats V O b e1 e2 0 c).share_full fun _ => rfl) (V c) (Vp c) ((pdats V O b e1 e2 0 c).arrAt · cfg0.N)
      (fun w => by
        fin_cases w
        · exact ((pdats V O b e1 e2 0 c).arrAt_in 0 rfl _).trans (hVne c main_arg1 (by decide) (by decide)).symm
        · exact (hV1 c).symm
        · exact (hV2 c).symm)
      (fun r hr => hVne c r (fun h => hr (h ▸ Finset.mem_image.mpr ⟨1, Finset.mem_univ _, rfl⟩)) (fun h => hr (h ▸ Finset.mem_image.mpr ⟨2, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW (Finset.mem_coe.mpr hp) with h | ⟨w, s, h⟩
      · exact h
      · rw [h]; exact Nat.zero_le _
    iexact HO

theorem read_wide (c : Dev nD) (f : Buf (Elt F) ((c : Thread nD τ).loc main_v0_0)) :
    ((cfg0.win 1).blk t0_0).view.read (Elt F) f = f :=
  Memref.read_access_unit_zero (Elt F) main_v0_0
    (show (fun a => (win0_1.index t0_0) a * main_v0_0.ty.shape.size a) = fun _ => 0 from
      funext fun a => by fin_cases a <;> decide) (fun a => by fin_cases a <;> decide) f

theorem read_arg (c : Dev nD) (f : Buf (Elt F) ((c : Thread nD τ).loc main_arg1)) :
    ((cfg0.win 0).blk t0_0).view.read (Elt F) f = f :=
  Memref.read_access_unit_zero (Elt F) main_arg1
    (show (fun a => (win0_0.index t0_0) a * main_arg1.ty.shape.size a) = fun _ => 0 from
      funext fun a => by fin_cases a <;> decide) (fun a => by fin_cases a <;> decide) f

theorem flushed_wide (c : Dev nD) (dt : Dat τ (Elt F) (HIx 2) ℕ UU ℕ cfg0 c) (X : S8192x128.Idx → Elt F .f32)
    (h : dt.after 1 t0_0 = X) (y : S8192x128.Idx) : dt.flushed 1 t0_0 y = X y := by
  subst h
  rfl

/-- The first result's array, in its first 64 columns, is the codebook. -/
theorem wide_apply (c : Dev nD) (y : S8192x128.Idx) (x : S8192x64.Idx) (e0 : (y 0).val = (x 0).val) (e1 : (y 1).val = (x 1).val) :
    wide V O b c y = V c main_arg1 x := by
  have hw : ((cfg0.win 1).blk t0_0).view.read (Elt F) (wide V O b c) = (dat V O b c).flushed 1 t0_0 := by
    unfold wide
    rw [show cfg0.N = t0_0.val + 1 from rfl, (dat V O b c).arrAt_succ (1 : Fin 3) t0_0, flush0_1, if_pos rfl]
    exact View.read_write_univ _ _
  rw [read_wide] at hw
  have ha : (dat V O b c).after 1 t0_0 = (R0 V c).1.1 := by dsimp only [dat]
  have h1 := congrFun hw y
  rw [h1, flushed_wide c (dat V O b c) (R0 V c).1.1 ha y]
  refine (prepRun_read c (stage0_0 0) (hstage0_0 0) (stage0_1 0) (hstage0_1 0) (stage0_2 0) (hstage0_2 0) (stg V c) y x e0 e1).trans ?_
  exact congrFun (read_arg c (V c main_arg1)) x

end Cert.Proof.Prep
-- ==== Proof.Pieces.lean ====
/-
  What one SparseCore call carries to its tasks and back: the table and the index array, each at a share, and the two
  blocks of the result that are the task's own. The tasks' pieces together are the three buffers whole.
-/
module

public import proofs.«01_k».proof.Proof.Prep
public import Idealize.ShloMosaic.Lib.StableHlo.Run
public import Idealize.ShloMosaic.Lib.Pipeline.Kit

@[expose] public section

noncomputable section

namespace Cert.Proof.Pieces

open Cert.KernelIdeal Cert.KernelIdeal.Gen Cert.Proof.Tile Cert.Proof.Task

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-! ## A share dealt to several readers -/

/-- Reader `i`'s part of the share `q` among `n + 1` readers: each takes half of what the ones before it left, the last
    one all of it. -/
def deal : (n : ℕ) → PosShare TreeShare → Fin (n + 1) → PosShare TreeShare
  | 0, q, _ => q
  | n + 1, q, i => Fin.cases q.left (deal n q.right) i

theorem bigSep_fin_cons {n : ℕ} (Φ : Fin (n + 1) → sProp 𝕄) :
    bigSep Finset.univ Φ = iprop(Φ 0 ∗ bigSep Finset.univ fun i : Fin n => Φ i.succ) := by
  rw [Fin.univ_succ, Finset.cons_eq_insert, SparseCore.bigSep_insert' (by simp), BI.bigSep_map]
  rfl

theorem pts_deal {ℓ : Loc nD τ sig} (A : Finset (Idx ℓ)) (f : Buf (Elt F) ℓ) :
    ∀ (n : ℕ) (q : PosShare TreeShare),
      (ℓ ↦[A]{q} f : sProp 𝕄) = bigSep Finset.univ fun i : Fin (n + 1) => ℓ ↦[A]{deal n q i} f
  | 0, q => (bigSep_univ_of_subsingleton (0 : Fin 1) (Φ := fun i : Fin 1 => (ℓ ↦[A]{deal 0 q i} f : sProp 𝕄))).symm
  | n + 1, q => by
    rw [bigSep_fin_cons, BI.Entails.antisymm (pointsTo_share (PosShare.mem_left_op_right q)).1 (pointsTo_share (PosShare.mem_left_op_right q)).2,
      pts_deal A f n q.right]
    rfl

/-- The share of what every task reads that the task on tile `k` of SparseCore `c` holds. -/
abbrev rq (c : Fin 2) (k : Fin 16) : PosShare TreeShare := deal 15 (deal 1 fullShare c) k

theorem pts_readers {ℓ : Loc nD τ sig} (f : Buf (Elt F) ℓ) :
    (ℓ ↦{fullShare} f : sProp 𝕄) = bigSep Finset.univ fun c : Fin 2 => bigSep Finset.univ fun k : Fin 16 => ℓ ↦{rq c k} f := by
  rw [pts_deal Finset.univ f 1 fullShare]
  exact bigSep_congr fun c _ => pts_deal Finset.univ f 15 _

/-! ## One task's piece -/

section Piece

variable (d : Dev nD) (t i o : DevRef τ sig) (S : Fin 2 → Fin 16 → Fin 2 → Finset (Idx ((d, o) : Loc nD τ sig)))
variable (W : Valuation τ sig (Elt F))

def piece (c : Fin 2) (k : Fin 16) : sProp 𝕄 :=
  iprop((((d, t) : Loc nD τ sig) ↦{rq c k} W t) ∗ (((d, i) : Loc nD τ sig) ↦{rq c k} W i)
    ∗ (((d, o) : Loc nD τ sig) ↦[S c k 0]{fullShare} W o) ∗ (((d, o) : Loc nD τ sig) ↦[S c k 1]{fullShare} W o))

instance piece_storable (c : Fin 2) (k : Fin 16) : BI.Storable (upEmb : UEmb _ 𝕄) (piece (F := F) d t i o S W c k) := by
  unfold piece; infer_instance

/-- The blocks make up the whole buffer. -/
def Cut : Prop := ∀ f : Buf (Elt F) ((d, o) : Loc nD τ sig), (((d, o) : Loc nD τ sig) ↦{fullShare} f : sProp 𝕄)
  = bigSep Finset.univ fun x : Fin 2 × Fin 16 × Fin 2 => ((d, o) : Loc nD τ sig) ↦[S x.1 x.2.1 x.2.2]{fullShare} f

variable (hS : Cut (F := F) d o S)

include hS in
theorem piece_all :
    (bigSep Finset.univ fun c : Fin 2 => bigSep Finset.univ fun k : Fin 16 => piece d t i o S W c k : sProp 𝕄)
      = iprop((((d, t) : Loc nD τ sig) ↦{fullShare} W t) ∗ (((d, i) : Loc nD τ sig) ↦{fullShare} W i)
          ∗ ((d, o) : Loc nD τ sig) ↦{fullShare} W o) := by
  unfold piece
  rw [pts_readers (ℓ := ((d, t) : Loc nD τ sig)) (W t), pts_readers (ℓ := ((d, i) : Loc nD τ sig)) (W i), hS (W o)]
  have h : ∀ c k, (bigSep Finset.univ fun s : Fin 2 => (((d, o) : Loc nD τ sig) ↦[S c k s]{fullShare} W o) : sProp 𝕄)
      = iprop((((d, o) : Loc nD τ sig) ↦[S c k 0]{fullShare} W o) ∗ (((d, o) : Loc nD τ sig) ↦[S c k 1]{fullShare} W o)) :=
    fun c k => BI.bigSep_fin_two _
  simp only [bigSep_univ_prod, h, bigSep_sep']

variable (hti : t ≠ i) (hto : t ≠ o) (hio : i ≠ o)

include hS hti hto hio in
/-- Held buffers with the three among them: every task's piece and the others. -/
theorem held_pieces (X : Finset (DevRef τ sig)) (hX : {t, i, o} ⊆ X) :
    (held (T d) X W : sProp 𝕄)
      = iprop((bigSep Finset.univ fun c : Fin 2 => bigSep Finset.univ fun k : Fin 16 => piece d t i o S W c k)
          ∗ held (T d) (X \ {t, i, o}) W) := by
  rw [StableHlo.held_sub_split _ hX, piece_all d t i o S W hS]
  congr 1
  unfold StableHlo.held
  rw [SparseCore.bigSep_insert' (by simp [hti, hto]), SparseCore.bigSep_insert' (by simpa using hio), bigSep_singleton]

include hto hio in
theorem held_rest (X : Finset (DevRef τ sig)) (G : o.ty.Contents (Elt F)) :
    (held (T d) (X \ {t, i, o}) (Function.update W o G) : sProp 𝕄)
      = held (T d) (X \ {t, i, o}) W :=
  StableHlo.held_congr _ fun b hb => Function.update_of_ne (fun e => (Finset.mem_sdiff.mp hb).2 (by simp [e])) _ _

end Piece

/-! ## The blocks of a call's result -/

/-- The block of a call's result that task `(c, k)` writes from slot `s`. -/
abbrev blk1 (c : Fin 2) (k : Fin 16) (s : Fin 2) : Finset S16384x64.Idx := (oB (Memref.whole main_v4_scv) (coordsV c k) s).view.set
abbrev blk2 (c : Fin 2) (k : Fin 16) (s : Fin 2) : Finset S16384x64.Idx := (oB (Memref.whole main_v8_scv) (coordsV c k) s).view.set

theorem cut1 (d : Dev nD) : Cut (F := F) d (Proc.devRef .tc main_v4) blk1 := fun f =>
  (congrArg (fun A => (((d, Proc.devRef .tc main_v4) : Loc nD τ sig) ↦[A]{fullShare} f : sProp 𝕄))
      (View.set_whole (main_v4_scv : Ref sig .scVector)).symm).trans
    (pts_cut (V d 0 0) (View.whole main_v4_scv) rAll rAll_disjoint rAll_cover fullShare f)
theorem cut2 (d : Dev nD) : Cut (F := F) d (Proc.devRef .tc main_v8) blk2 := fun f =>
  (congrArg (fun A => (((d, Proc.devRef .tc main_v8) : Loc nD τ sig) ↦[A]{fullShare} f : sProp 𝕄))
      (View.set_whole (main_v8_scv : Ref sig .scVector)).symm).trans
    (pts_cut (V d 0 0) (View.whole main_v8_scv) rAll rAll_disjoint rAll_cover fullShare f)

end Cert.Proof.Pieces

end
-- ==== Proof.Obl.lean ====
/-
  The two SparseCore calls' obligations: what each call carries, and every task of either call run from its piece of the
  table, the index array and the result, and from its own scratch.
-/
module

public import proofs.«01_k».proof.Proof.Pieces
public import Idealize.ShloMosaic.Lib.SparseCore.Quiescent

@[expose] public section

noncomputable section

namespace Cert.Proof.Obl

open Cert.KernelIdeal Cert.KernelIdeal.Gen Cert.Proof.Tile Cert.Proof.Task Cert.Proof.Prep Cert.Proof.Pieces

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

abbrev 𝒱 : Variants := 𝒱₀.lift
abbrev v₀ : 𝒱.V := Sum.inl none

/-! ## A tile's own scratch -/

section Own
variable (d : Dev nD) (c : Fin τ.nSC) (k : Fin τ.nSub)

/-- Three buffers of the tile's own, at some contents, out of all of them. -/
theorem own_three (r1 r2 r3 : Ref sig .scVector)
    (h1 : ((Proc.scVector c k).devRef r1).owner = .proc (.scVector c k)) (h2 : ((Proc.scVector c k).devRef r2).owner = .proc (.scVector c k))
    (h3 : ((Proc.scVector c k).devRef r3).owner = .proc (.scVector c k)) (n12 : r2 ≠ r1) (n13 : r3 ≠ r1) (n23 : r3 ≠ r2) :
    ∃ R : sProp 𝕄, (ownBufs (V d c k) : sProp 𝕄)
      = iprop((∃ f, (V d c k).loc r1 ↦{fullShare} f) ∗ (∃ f, (V d c k).loc r2 ↦{fullShare} f) ∗ (∃ f, (V d c k).loc r3 ↦{fullShare} f) ∗ R) := by
  refine ⟨bigSep ((((ownRefs (τ := τ) (.scVector c k)).erase ((Proc.scVector c k).devRef r1)).erase ((Proc.scVector c k).devRef r2)).erase
    ((Proc.scVector c k).devRef r3)) fun b => iprop(∃ f, ((d, b) : Loc nD τ sig) ↦{fullShare} f), ?_⟩
  have inj : ∀ {x y : Ref sig .scVector}, x ≠ y → (Proc.scVector c k : Proc τ).devRef x ≠ (Proc.scVector c k : Proc τ).devRef y :=
    fun h e => h (Proc.devRef_injective _ e)
  unfold SparseCore.Cfg.ownBufs
  refine (SparseCore.bigSep_erase' (SparseCore.Cfg.mem_ownRefs_of_owner h1)).trans ?_
  rw [SparseCore.bigSep_erase' (Finset.mem_erase.mpr ⟨inj n12, SparseCore.Cfg.mem_ownRefs_of_owner h2⟩),
    SparseCore.bigSep_erase' (Finset.mem_erase.mpr ⟨inj n23, Finset.mem_erase.mpr ⟨inj n13, SparseCore.Cfg.mem_ownRefs_of_owner h3⟩⟩)]

/-- Five semaphores of the tile's own, at zero, out of all of them. -/
theorem own_five (s : Fin 5 → SemLoc sig) (hs : ∀ i, (s i).isScoped .scVector = true) (hi : ∀ i j, i ≠ j → s i ≠ s j) :
    ∃ R : sProp 𝕄, (ownSems0 (V d c k) : sProp 𝕄)
      = iprop(semVal (V d c k, s 0) 0 ∗ semVal (V d c k, s 1) 0 ∗ semVal (V d c k, s 2) 0 ∗ semVal (V d c k, s 3) 0 ∗ semVal (V d c k, s 4) 0 ∗ R) := by
  have hm : ∀ i, ((V d c k, s i) : GSem nD τ sig) ∈ ownCells (V d c k) := fun i => mem_ownCells.mpr ⟨rfl, hs i⟩
  have ne : ∀ i j, i ≠ j → ((V d c k, s i) : GSem nD τ sig) ≠ (V d c k, s j) := fun i j h e => hi i j h (congrArg Prod.snd e)
  refine ⟨bigSep ((((((ownCells (V d c k)).erase (V d c k, s 0)).erase (V d c k, s 1)).erase (V d c k, s 2)).erase (V d c k, s 3)).erase (V d c k, s 4))
    fun g => semVal g 0, ?_⟩
  unfold SparseCore.Cfg.ownSems0
  rw [SparseCore.bigSep_erase' (hm 0),
    SparseCore.bigSep_erase' (i := ((V d c k, s 1) : GSem nD τ sig)) (Finset.mem_erase.mpr ⟨ne 1 0 (by decide), hm 1⟩),
    SparseCore.bigSep_erase' (i := ((V d c k, s 2) : GSem nD τ sig)) (Finset.mem_erase.mpr ⟨ne 2 1 (by decide), Finset.mem_erase.mpr ⟨ne 2 0 (by decide), hm 2⟩⟩),
    SparseCore.bigSep_erase' (i := ((V d c k, s 3) : GSem nD τ sig)) (Finset.mem_erase.mpr ⟨ne 3 2 (by decide), Finset.mem_erase.mpr ⟨ne 3 1 (by decide),
      Finset.mem_erase.mpr ⟨ne 3 0 (by decide), hm 3⟩⟩⟩),
    SparseCore.bigSep_erase' (i := ((V d c k, s 4) : GSem nD τ sig)) (Finset.mem_erase.mpr ⟨ne 4 3 (by decide), Finset.mem_erase.mpr ⟨ne 4 2 (by decide),
      Finset.mem_erase.mpr ⟨ne 4 1 (by decide), Finset.mem_erase.mpr ⟨ne 4 0 (by decide), hm 4⟩⟩⟩⟩)]

end Own

variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the calls carry -/

abbrev tD : DevRef τ sig := Proc.devRef .tc main_v0_0
abbrev i1D : DevRef τ sig := Proc.devRef .tc main_v3
abbrev o1D : DevRef τ sig := Proc.devRef .tc main_v4
abbrev i2D : DevRef τ sig := Proc.devRef .tc main_v7
abbrev o2D : DevRef τ sig := Proc.devRef .tc main_v8

-- the buffers before and after each call
variable (A1 B1 A2 B2 : Dev nD → Valuation τ sig (Elt F))

/-- Each call takes every task's piece and brings it back with the task's blocks written. -/
def P : (K (F := F)).Pay (nD := nD) (Val := Elt F) (Name := ℕ) (U := UU) where
  st := fun q d c => match q with
    | 0 => bigSep Finset.univ fun k : Fin 16 => piece d tD i1D o1D blk1 (A1 d) c k
    | 1 => bigSep Finset.univ fun k : Fin 16 => piece d tD i2D o2D blk2 (A2 d) c k
  dn := fun q d c => match q with
    | 0 => bigSep Finset.univ fun k : Fin 16 => piece d tD i1D o1D blk1 (B1 d) c k
    | 1 => bigSep Finset.univ fun k : Fin 16 => piece d tD i2D o2D blk2 (B2 d) c k
  go := fun q d c k => match q with
    | 0 => piece d tD i1D o1D blk1 (A1 d) c k
    | 1 => piece d tD i2D o2D blk2 (A2 d) c k
  td := fun q d c k => match q with
    | 0 => piece d tD i1D o1D blk1 (B1 d) c k
    | 1 => piece d tD i2D o2D blk2 (B2 d) c k
  x := fun _ _ => iprop(emp)

instance P_storable : (P (F := F) A1 B1 A2 B2).IsStorable where
  st q d c := match q with
    | 0 => (inferInstance : BI.Storable (upEmb : UEmb _ 𝕄) (bigSep Finset.univ fun k : Fin 16 => piece d tD i1D o1D blk1 (A1 d) c k))
    | 1 => (inferInstance : BI.Storable (upEmb : UEmb _ 𝕄) (bigSep Finset.univ fun k : Fin 16 => piece d tD i2D o2D blk2 (A2 d) c k))
  dn q d c := match q with
    | 0 => (inferInstance : BI.Storable (upEmb : UEmb _ 𝕄) (bigSep Finset.univ fun k : Fin 16 => piece d tD i1D o1D blk1 (B1 d) c k))
    | 1 => (inferInstance : BI.Storable (upEmb : UEmb _ 𝕄) (bigSep Finset.univ fun k : Fin 16 => piece d tD i2D o2D blk2 (B2 d) c k))
  go q d c k := match q with
    | 0 => piece_storable d tD i1D o1D blk1 (A1 d) c k
    | 1 => piece_storable d tD i2D o2D blk2 (A2 d) c k
  td q d c k := match q with
    | 0 => piece_storable d tD i1D o1D blk1 (B1 d) c k
    | 1 => piece_storable d tD i2D o2D blk2 (B2 d) c k

theorem split1 : (K (F := F)).VecSplit' (P A1 B1 A2 B2) 0 := by
  intro d c
  show (bigSep Finset.univ fun k : Fin 16 => piece d tD i1D o1D blk1 (A1 d) c k) ⊢ |={Set.univ}=> iprop(
    (bigSep Finset.univ fun k : Fin 16 => piece d tD i1D o1D blk1 (A1 d) c k)
    ∗ ((bigSep Finset.univ fun k : Fin 16 => piece d tD i1D o1D blk1 (B1 d) c k) -∗ (bigSep Finset.univ fun k : Fin 16 => piece d tD i1D o1D blk1 (B1 d) c k)))
  iintro H; imodintro
  isplitl [H]; · iexact H
  iintro H; iexact H

theorem split2 : (K (F := F)).VecSplit' (P A1 B1 A2 B2) 1 := by
  intro d c
  show (bigSep Finset.univ fun k : Fin 16 => piece d tD i2D o2D blk2 (A2 d) c k) ⊢ |={Set.univ}=> iprop(
    (bigSep Finset.univ fun k : Fin 16 => piece d tD i2D o2D blk2 (A2 d) c k)
    ∗ ((bigSep Finset.univ fun k : Fin 16 => piece d tD i2D o2D blk2 (B2 d) c k) -∗ (bigSep Finset.univ fun k : Fin 16 => piece d tD i2D o2D blk2 (B2 d) c k)))
  iintro H; imodintro
  isplitl [H]; · iexact H
  iintro H; iexact H

/-! ## One task -/

section One
variable (d : Dev nD) (L : grid2.Coords)
variable (xV : Memref sig .scVector .hbm S8192x128 .f32) (hx : xV.IsWhole)
  (iV : Memref sig .scVector .hbm S1x16384 .i32) (hi : iV.IsWhole)
  (oV : Memref sig .scVector .hbm S16384x64 .f32) (ho : oV.IsWhole)
  (gV : Memref sig .scVector .vmem S256x128 .f32) (hg : gV.IsWhole)
  (aV : Memref sig .scVector .vmem S2x1x256 .i32) (ha : aV.IsWhole)
  (bV : Memref sig .scVector .vmem S2x256x64 .f32) (hb : bV.IsWhole)
  (s5 s6 : DmaSems sig S2) (s7 : DmaSems sig S_)

/-- A task from the level facts, its operands and the tile's own storage. -/
theorem one (RB RS : sProp 𝕄)
    (hB : (ownBufs (thr d L) : sProp 𝕄) = iprop((∃ f, gV.view.loc (thr d L) ↦{fullShare} f) ∗ (∃ f, aV.view.loc (thr d L) ↦{fullShare} f)
      ∗ (∃ f, bV.view.loc (thr d L) ↦{fullShare} f) ∗ RB))
    (hS : (ownSems0 (thr d L) : sProp 𝕄) = iprop(semVal (thr d L, .dma (sem0 s5).sem) 0 ∗ semVal (thr d L, .dma (sem1 s5).sem) 0
          ∗ semVal (thr d L, .dma (sem0 s6).sem) 0 ∗ semVal (thr d L, .dma (sem1 s6).sem) 0 ∗ semVal (thr d L, .dma s7.sem) 0 ∗ RS))
    (O : CellTallies nD τ sig (HIx 2)) (W : Waits sig (HIx 2)) (hO : ∀ g, O g none = 0)
    (q q' : PosShare TreeShare) (tbl : Buf (Elt F) (xV.view.loc (thr d L))) (idx : Buf (Elt F) (iV.view.loc (thr d L)))
    (hidx : ∀ x, (iV.view.read (Elt F) idx x).toNat < 8192)
    (fo G : Buf (Elt F) (oV.view.loc (thr d L)))
    (hG : ∀ y, oV.view.read (Elt F) G y = gath (xV.view.read (Elt F) tbl) (iV.view.read (Elt F) idx) y) :
    (iprop(levAts (K (F := F)).L (K (F := F)).lev ∗ emp
        ∗ ((xV.view.loc (thr d L) ↦{q} tbl) ∗ (iV.view.loc (thr d L) ↦{q'} idx)
          ∗ (oV.view.loc (thr d L) ↦[(oB oV L 0).view.set]{fullShare} fo) ∗ (oV.view.loc (thr d L) ↦[(oB oV L 1).view.set]{fullShare} fo))
        ∗ scopedBufs (thr d L) ∗ scopedSems0 (thr d L) ∗ owes (thr d L) O W) : sProp 𝕄)
      ⊢ wp frame (wpE (defs₀ (F := F)) 𝒱₀ (thr d L) none) Set.univ
          (cc2_gather_kernel L xV hx iV hi oV ho gV hg aV ha s5 bV hb s6 s7)
          fun _ => iprop(((xV.view.loc (thr d L) ↦{q} tbl) ∗ (iV.view.loc (thr d L) ↦{q'} idx)
              ∗ (oV.view.loc (thr d L) ↦[(oB oV L 0).view.set]{fullShare} G) ∗ (oV.view.loc (thr d L) ↦[(oB oV L 1).view.set]{fullShare} G))
            ∗ scopedBufs (thr d L) ∗ scopedSems0 (thr d L)
            ∗ ∃ W', ⌜∀ p ∈ W', p ∈ W ∨ p.2 = none⌝ ∗ owes (thr d L) O W') := by
  rw [(K (F := F)).scopedBufs_V facts d ((L 0).castLE hcore2) ((L 1).castLE hsub2),
    SparseCore.Cfg.scopedSems0_V (Val := Elt F) d ((L 0).castLE hcore2) ((L 1).castLE hsub2)]
  rw [show (ownBufs (V d ((L 0).castLE hcore2) ((L 1).castLE hsub2)) : sProp 𝕄) = _ from hB,
    show (ownSems0 (V d ((L 0).castLE hcore2) ((L 1).castLE hsub2)) : sProp 𝕄) = _ from hS]
  iintro ⟨#Hlv, -, Hp, ⟨Hg, Ha, Hb, HRB⟩, ⟨H0, H1, H2, H3, H4, HRS⟩, HO⟩
  ihave Hmw := (show levAts (K (F := F)).L (K (F := F)).lev ⊢ Transfers.MayWaits (thr d L) (default : HIx 2) O from
    (K (F := F)).mayWaits_none (thr := thr d L) hO) $$ Hlv
  iapply (wp_wand frame _ _) $$ [Hp Hg Ha Hb H0 H1 H2 H3 H4 HO Hmw]
  · iapply (task d L xV hx iV hi oV ho gV hg aV ha bV hb s5 s6 s7 O W q q' tbl idx hidx fo G hG)
    isplitl [Hmw]; · iexact Hmw
    isplitl [Hp]; · iexact Hp
    isplitl [Hg Ha Hb]
    · isplitl [Hg]; · iexact Hg
      isplitl [Ha] <;> iassumption
    isplitl [H0 H1 H2 H3 H4]
    · isplitl [H0]; · iexact H0
      isplitl [H1]; · iexact H1
      isplitl [H2]; · iexact H2
      isplitl [H3] <;> iassumption
    iexact HO
  iintro %_ ⟨Hp, ⟨Hg, Ha, Hb⟩, ⟨H0, H1, H2, H3, H4⟩, HO⟩
  isplitl [Hp]; · iexact Hp
  isplitl [Hg Ha Hb HRB]
  · isplitl [Hg]; · iexact Hg
    isplitl [Ha]; · iexact Ha
    isplitl [Hb] <;> iassumption
  isplitl [H0 H1 H2 H3 H4 HRS]
  · isplitl [H0]; · iexact H0
    isplitl [H1]; · iexact H1
    isplitl [H2]; · iexact H2
    isplitl [H3]; · iexact H3
    isplitl [H4] <;> iassumption
  iexact HO

end One

/-! ## The obligations -/

/-- What a call's index array and its two valuations satisfy. -/
structure Ok (t i o : DevRef τ sig) (A B : Valuation τ sig (Elt F)) (tbl : S8192x128.Idx → Elt F .f32) (idx : S1x16384.Idx → BitVec 32)
    (G : S16384x64.Idx → Elt F .f32) : Prop where
  same_t : B t = A t
  same_i : B i = A i
  lt : ∀ x, (idx x).toNat < 8192
  rows : ∀ y, G y = gath tbl idx y

theorem post {th : Thread nD τ} {A B C : sProp 𝕄} {O : CellTallies nD τ sig (HIx 2)} {W : Waits sig (HIx 2)} {q : HIx 2 → Prop} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ q p.2⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem vector1 (c : Fin τ.nSC) (s : Fin τ.nSub) :
    defs₀ (F := F) (.scVector c s) 2 ()
      = SparseCore.onTile hcore2 hsub2 (fun c s => cc2_gather_kernel (coordsV c s)
          (Memref.whole main_v0_0_scv) (Memref.isWhole_whole _) (Memref.whole main_v3_scv) (Memref.isWhole_whole _) (Memref.whole main_v4_scv) (Memref.isWhole_whole _)
          (Memref.whole cc2_scratch0) (Memref.isWhole_whole _) (Memref.whole cc2_scoped0) (Memref.isWhole_whole _) cc2_scoped1
          (Memref.whole cc2_scoped2) (Memref.isWhole_whole _) cc2_scoped3 cc2_scoped4) ⟨⟩ c s := rfl
theorem vector2 (c : Fin τ.nSC) (s : Fin τ.nSub) :
    defs₀ (F := F) (.scVector c s) 4 ()
      = SparseCore.onTile hcore2 hsub2 (fun c s => cc2_gather_kernel (coordsV c s)
          (Memref.whole main_v0_0_scv) (Memref.isWhole_whole _) (Memref.whole main_v7_scv) (Memref.isWhole_whole _) (Memref.whole main_v8_scv) (Memref.isWhole_whole _)
          (Memref.whole cc4_scratch0) (Memref.isWhole_whole _) (Memref.whole cc4_scoped0) (Memref.isWhole_whole _) cc4_scoped1
          (Memref.whole cc4_scoped2) (Memref.isWhole_whole _) cc4_scoped3 cc4_scoped4) ⟨⟩ c s := rfl

abbrev cells (s5 s6 : DmaSems sig S2) (s7 : DmaSems sig S_) : Fin 5 → SemLoc sig :=
  ![.dma (sem0 s5).sem, .dma (sem1 s5).sem, .dma (sem0 s6).sem, .dma (sem1 s6).sem, .dma s7.sem]

theorem cells1_scoped : ∀ i, (cells cc2_scoped1 cc2_scoped3 cc2_scoped4 i).isScoped .scVector = true := by decide +kernel
theorem cells1_ne : ∀ i j, i ≠ j → cells cc2_scoped1 cc2_scoped3 cc2_scoped4 i ≠ cells cc2_scoped1 cc2_scoped3 cc2_scoped4 j := by decide +kernel
theorem cells2_scoped : ∀ i, (cells cc4_scoped1 cc4_scoped3 cc4_scoped4 i).isScoped .scVector = true := by decide +kernel
theorem cells2_ne : ∀ i j, i ≠ j → cells cc4_scoped1 cc4_scoped3 cc4_scoped4 i ≠ cells cc4_scoped1 cc4_scoped3 cc4_scoped4 j := by decide +kernel

set_option maxRecDepth 16384 in
theorem obl1 (h : ∀ d, Ok tD i1D o1D (A1 d) (B1 d) (A1 d tD) (A1 d i1D) (B1 d o1D)) :
    (K (F := F)).TileObl (D (F := F)) 𝒱 (P A1 B1 A2 B2) v₀ 0 := by
  intro d c i O W hO _ _
  simp only [show (P A1 B1 A2 B2).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [vector1]; simp only [SparseCore.onTile, hci, and_self, ↓reduceDIte]
  obtain ⟨RB, hB⟩ := own_three (F := F) d (((coordsV ⟨_, hci.1⟩ ⟨_, hci.2⟩ : grid2.Coords) 0).castLE hcore2) (((coordsV ⟨_, hci.1⟩ ⟨_, hci.2⟩ : grid2.Coords) 1).castLE hsub2)
    cc2_scratch0 cc2_scoped0 cc2_scoped2 rfl rfl rfl (by decide) (by decide) (by decide)
  obtain ⟨RS, hS⟩ := own_five (F := F) d (((coordsV ⟨_, hci.1⟩ ⟨_, hci.2⟩ : grid2.Coords) 0).castLE hcore2) (((coordsV ⟨_, hci.1⟩ ⟨_, hci.2⟩ : grid2.Coords) 1).castLE hsub2)
    (cells cc2_scoped1 cc2_scoped3 cc2_scoped4) cells1_scoped cells1_ne
  have key := one (F := F) d (coordsV ⟨_, hci.1⟩ ⟨_, hci.2⟩) (Memref.whole main_v0_0_scv) (Memref.isWhole_whole _) (Memref.whole main_v3_scv) (Memref.isWhole_whole _)
    (Memref.whole main_v4_scv) (Memref.isWhole_whole _) (Memref.whole cc2_scratch0) (Memref.isWhole_whole _) (Memref.whole cc2_scoped0) (Memref.isWhole_whole _)
    (Memref.whole cc2_scoped2) (Memref.isWhole_whole _) cc2_scoped1 cc2_scoped3 cc2_scoped4 RB RS hB hS O W hO (rq c i) (rq c i) (A1 d tD) (A1 d i1D) (h d).lt
    (A1 d o1D) (B1 d o1D) (h d).rows
  generalize cc2_gather_kernel (F := F) _ _ _ _ _ _ _ _ _ _ _ _ _ _ _ _ = prog at key ⊢
  rw [show (P A1 B1 A2 B2).go 0 d c i = piece d tD i1D o1D blk1 (A1 d) c i from rfl, show (P A1 B1 A2 B2).td 0 d c i = piece d tD i1D o1D blk1 (B1 d) c i from rfl]
  unfold Pieces.piece
  rw [(h d).same_t, (h d).same_i]
  exact key.trans (wp_mono frame _ _ fun _ => post)

set_option maxRecDepth 16384 in
theorem obl2 (h : ∀ d, Ok tD i2D o2D (A2 d) (B2 d) (A2 d tD) (A2 d i2D) (B2 d o2D)) :
    (K (F := F)).TileObl (D (F := F)) 𝒱 (P A1 B1 A2 B2) v₀ 1 := by
  intro d c i O W hO _ _
  simp only [show (P A1 B1 A2 B2).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 4 ())) _
  refine BI.Entails.trans ?_ (Pipeline.wp_liftProg (D (F := F)) (Pipeline.defs_kernel pcfgs defs₀) 𝒱₀ _ Set.univ none _ _)
  rw [vector2]; simp only [SparseCore.onTile, hci, and_self, ↓reduceDIte]
  obtain ⟨RB, hB⟩ := own_three (F := F) d (((coordsV ⟨_, hci.1⟩ ⟨_, hci.2⟩ : grid2.Coords) 0).castLE hcore2) (((coordsV ⟨_, hci.1⟩ ⟨_, hci.2⟩ : grid2.Coords) 1).castLE hsub2)
    cc4_scratch0 cc4_scoped0 cc4_scoped2 rfl rfl rfl (by decide) (by decide) (by decide)
  obtain ⟨RS, hS⟩ := own_five (F := F) d (((coordsV ⟨_, hci.1⟩ ⟨_, hci.2⟩ : grid2.Coords) 0).castLE hcore2) (((coordsV ⟨_, hci.1⟩ ⟨_, hci.2⟩ : grid2.Coords) 1).castLE hsub2)
    (cells cc4_scoped1 cc4_scoped3 cc4_scoped4) cells2_scoped cells2_ne
  have key := one (F := F) d (coordsV ⟨_, hci.1⟩ ⟨_, hci.2⟩) (Memref.whole main_v0_0_scv) (Memref.isWhole_whole _) (Memref.whole main_v7_scv) (Memref.isWhole_whole _)
    (Memref.whole main_v8_scv) (Memref.isWhole_whole _) (Memref.whole cc4_scratch0) (Memref.isWhole_whole _) (Memref.whole cc4_scoped0) (Memref.isWhole_whole _)
    (Memref.whole cc4_scoped2) (Memref.isWhole_whole _) cc4_scoped1 cc4_scoped3 cc4_scoped4 RB RS hB hS O W hO (rq c i) (rq c i) (A2 d tD) (A2 d i2D) (h d).lt
    (A2 d o2D) (B2 d o2D) (h d).rows
  generalize cc2_gather_kernel (F := F) _ _ _ _ _ _ _ _ _ _ _ _ _ _ _ _ = prog at key ⊢
  rw [show (P A1 B1 A2 B2).go 1 d c i = piece d tD i2D o2D blk2 (A2 d) c i from rfl, show (P A1 B1 A2 B2).td 1 d c i = piece d tD i2D o2D blk2 (B2 d) c i from rfl]
  unfold Pieces.piece
  rw [(h d).same_t, (h d).same_i]
  exact key.trans (wp_mono frame _ _ fun _ => post)

end Cert.Proof.Obl

end
-- ==== Proof.Dist.First.lean ====
/-
  The distance kernel at the first point of its grid: what the body leaves in each buffer, as the list of pieces stored.
-/
module

public import proofs.«01_k».proof.Proof.Tile
public import Idealize.ShloMosaic.Lib.Pipeline.FrameBody
public import Idealize.ShloMosaic.Lib.WholeRead

@[expose] public section

set_option maxRecDepth 16384

noncomputable section

namespace Cert.Proof.Dist

open Cert.KernelIdeal Cert.KernelIdeal.Gen Cert.Proof.Tile

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The grid's first point, where the scratch buffers are cleared. -/
abbrev isFirst (i : grid1.Coords) : Prop := (Scalar.cmpi .ne (Scalar.extui (Scalar.cmpi .eq (BitVec.ofNat 32 (i 0).val) 0#32)) 0#32) = 1#1
/-- The grid's last point, where the sum of the distances is written. -/
abbrev isLast (i : grid1.Coords) : Prop := k1_cond2 i = 1#1

/-- A memref's elements after the pieces `L` are stored over `f`, the last first. -/
abbrev wr (c : Dev nD) {sp : Space} {S : Shape} {e : EltTy} (M : Memref sig .tc sp S e) (f : Buf (Elt F) (M.view.loc (c : Thread nD τ)))
    (L : List (View.Piece (Elt F) S e)) : sProp 𝕄 :=
  M.view.loc (c : Thread nD τ) ↦[M.view.set]{fullShare} M.view.writes (Elt F) f L

-- the proof term of the run is large
set_option maxHeartbeats 4000000 in
/-- The pieces stored at the first point, with the proof that the body stores them. -/
noncomputable def runFirst (c : Dev nD) (i : grid1.Coords) (arg1 : Memref sig .tc .vmem S1024x64 .f32) (harg1 : arg1.IsWhole) (arg2 : Memref sig .tc .vmem S8192x128 .f32) (harg2 : arg2.IsWhole) (arg3 : Memref sig .tc .vmem S8192 .f32) (harg3 : arg3.IsWhole) (arg4 : Memref sig .tc .vmem S1024 .i32) (harg4 : arg4.IsWhole) (arg5 : Memref sig .tc .smem S1x1 .f32) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .i32) (harg9 : arg9.IsWhole) (hc0 : isFirst i) (hc1 : ¬isLast i)
    (x0 : Vec F S1024x64 .f32) (x1 : Vec F S8192x128 .f32) (x2 : Vec F S8192 .f32) :
    Σ' (L3 : List (View.Piece (Elt F) S1024 .i32)), Σ' (L4 : List (View.Piece (Elt F) S1x1 .f32)), Σ' (LS0 : List (View.Piece (Elt F) S1024x1 .f32)), Σ' (LS1 : List (View.Piece (Elt F) S1024x128 .f32)), Σ' (LS2 : List (View.Piece (Elt F) S1024x128 .f32)), { LS3 : List (View.Piece (Elt F) S1024x128 .i32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, wr c arg4 f L3) ∗ owns (c : Thread nD τ) arg5 fullShare xi4 ∗ (∃ f, wr c arg6 f LS0) ∗ (∃ f, wr c arg7 f LS1) ∗ (∃ f, wr c arg8 f LS2) ∗ (∃ f, wr c arg9 f LS3)) -∗ K ⟨⟩))
          ⊢ wp frame (wpE (defs₀ (F := F)) Variants.none c none) E (cc1__dist_body i arg1 harg1 arg2 harg2 arg3 harg3 arg4 harg4 arg5 harg5 arg6 harg6 arg7 harg7 arg8 harg8 arg9 harg9) K } := by
  refine ⟨?_, [], ?_, ?_, ?_, ?_, fun xi4 E K => ?run⟩
  case run =>
    simp only [cc1__dist_body_eq_skeleton]; unfold cc1__dist_body_skel
    simp only [k1_part186_eq_skeleton, k1_part1_eq_skeleton, k1_part2_eq_skeleton, k1_part3_eq_skeleton, k1_part4_eq_skeleton, k1_part5_eq_skeleton,
      k1_part6_eq_skeleton, k1_part7_eq_skeleton, k1_part8_eq_skeleton, k1_part9_eq_skeleton, k1_part10_eq_skeleton, k1_part11_eq_skeleton,
      k1_part12_eq_skeleton, k1_part13_eq_skeleton, k1_part14_eq_skeleton, k1_part15_eq_skeleton, k1_part16_eq_skeleton, k1_part17_eq_skeleton,
      k1_part18_eq_skeleton, k1_part19_eq_skeleton, k1_part20_eq_skeleton, k1_part21_eq_skeleton, k1_part22_eq_skeleton, k1_part23_eq_skeleton,
      k1_part24_eq_skeleton, k1_part25_eq_skeleton, k1_part26_eq_skeleton, k1_part27_eq_skeleton, k1_part28_eq_skeleton, k1_part29_eq_skeleton,
      k1_part30_eq_skeleton, k1_part31_eq_skeleton, k1_part32_eq_skeleton, k1_part33_eq_skeleton, k1_part34_eq_skeleton, k1_part35_eq_skeleton,
      k1_part36_eq_skeleton, k1_part37_eq_skeleton, k1_part38_eq_skeleton, k1_part39_eq_skeleton, k1_part40_eq_skeleton, k1_part41_eq_skeleton,
      k1_part42_eq_skeleton, k1_part43_eq_skeleton, k1_part44_eq_skeleton, k1_part45_eq_skeleton, k1_part46_eq_skeleton, k1_part47_eq_skeleton,
      k1_part48_eq_skeleton, k1_part49_eq_skeleton, k1_part50_eq_skeleton, k1_part51_eq_skeleton, k1_part52_eq_skeleton, k1_part53_eq_skeleton,
      k1_part54_eq_skeleton, k1_part55_eq_skeleton, k1_part56_eq_skeleton, k1_part57_eq_skeleton, k1_part58_eq_skeleton, k1_part59_eq_skeleton,
      k1_part60_eq_skeleton, k1_part187_eq_skeleton, k1_part61_eq_skeleton, k1_part62_eq_skeleton, k1_part63_eq_skeleton, k1_part64_eq_skeleton,
      k1_part65_eq_skeleton, k1_part66_eq_skeleton, k1_part67_eq_skeleton, k1_part68_eq_skeleton, k1_part69_eq_skeleton, k1_part70_eq_skeleton,
      k1_part71_eq_skeleton, k1_part72_eq_skeleton, k1_part73_eq_skeleton, k1_part74_eq_skeleton, k1_part75_eq_skeleton, k1_part76_eq_skeleton,
      k1_part77_eq_skeleton, k1_part78_eq_skeleton, k1_part79_eq_skeleton, k1_part80_eq_skeleton, k1_part81_eq_skeleton, k1_part82_eq_skeleton,
      k1_part83_eq_skeleton, k1_part84_eq_skeleton, k1_part85_eq_skeleton, k1_part86_eq_skeleton, k1_part87_eq_skeleton, k1_part88_eq_skeleton,
      k1_part89_eq_skeleton, k1_part90_eq_skeleton, k1_part91_eq_skeleton, k1_part92_eq_skeleton, k1_part93_eq_skeleton, k1_part94_eq_skeleton,
      k1_part95_eq_skeleton, k1_part96_eq_skeleton, k1_part97_eq_skeleton, k1_part98_eq_skeleton, k1_part99_eq_skeleton, k1_part100_eq_skeleton,
      k1_part101_eq_skeleton, k1_part102_eq_skeleton, k1_part103_eq_skeleton, k1_part104_eq_skeleton, k1_part105_eq_skeleton, k1_part106_eq_skeleton,
      k1_part107_eq_skeleton, k1_part108_eq_skeleton, k1_part109_eq_skeleton, k1_part110_eq_skeleton, k1_part111_eq_skeleton, k1_part112_eq_skeleton,
      k1_part113_eq_skeleton, k1_part114_eq_skeleton, k1_part115_eq_skeleton, k1_part116_eq_skeleton, k1_part117_eq_skeleton, k1_part118_eq_skeleton,
      k1_part119_eq_skeleton, k1_part120_eq_skeleton, k1_part188_eq_skeleton, k1_part121_eq_skeleton, k1_part122_eq_skeleton, k1_part123_eq_skeleton,
      k1_part124_eq_skeleton, k1_part125_eq_skeleton, k1_part126_eq_skeleton, k1_part127_eq_skeleton, k1_part128_eq_skeleton, k1_part129_eq_skeleton,
      k1_part130_eq_skeleton, k1_part131_eq_skeleton, k1_part132_eq_skeleton, k1_part133_eq_skeleton, k1_part134_eq_skeleton, k1_part135_eq_skeleton,
      k1_part136_eq_skeleton, k1_part137_eq_skeleton, k1_part138_eq_skeleton, k1_part139_eq_skeleton, k1_part140_eq_skeleton, k1_part141_eq_skeleton,
      k1_part142_eq_skeleton, k1_part143_eq_skeleton, k1_part144_eq_skeleton, k1_part145_eq_skeleton, k1_part146_eq_skeleton, k1_part147_eq_skeleton,
      k1_part148_eq_skeleton, k1_part149_eq_skeleton, k1_part150_eq_skeleton, k1_part151_eq_skeleton, k1_part152_eq_skeleton, k1_part153_eq_skeleton,
      k1_part154_eq_skeleton, k1_part155_eq_skeleton, k1_part156_eq_skeleton, k1_part157_eq_skeleton, k1_part158_eq_skeleton, k1_part159_eq_skeleton,
      k1_part160_eq_skeleton, k1_part161_eq_skeleton, k1_part162_eq_skeleton, k1_part163_eq_skeleton, k1_part164_eq_skeleton, k1_part165_eq_skeleton,
      k1_part166_eq_skeleton, k1_part167_eq_skeleton, k1_part168_eq_skeleton, k1_part169_eq_skeleton, k1_part170_eq_skeleton, k1_part171_eq_skeleton,
      k1_part172_eq_skeleton, k1_part173_eq_skeleton, k1_part174_eq_skeleton, k1_part175_eq_skeleton, k1_part176_eq_skeleton, k1_part177_eq_skeleton,
      k1_part178_eq_skeleton, k1_part179_eq_skeleton, k1_part180_eq_skeleton, k1_part181_eq_skeleton, k1_part182_eq_skeleton, k1_part183_eq_skeleton,
      k1_part184_eq_skeleton, k1_part185_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [HS0]; · iexists _; iexact HS0
    isplitl [HS1]; · iexists _; iexact HS1
    isplitl [HS2]; · iexists _; iexact HS2
    iexists _; iexact HS3

end Cert.Proof.Dist

end
-- ==== Proof.Dist.Mid.lean ====
/-
  The distance kernel at a point that is neither the first nor the last.
-/
module

public import proofs.«01_k».proof.Proof.Dist.First

@[expose] public section

set_option maxRecDepth 16384

noncomputable section

namespace Cert.Proof.Dist

open Cert.KernelIdeal Cert.KernelIdeal.Gen Cert.Proof.Tile

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

-- the proof term of the run is large
set_option maxHeartbeats 4000000 in
/-- The pieces stored at a middle point, with the proof that the body stores them. -/
noncomputable def runMid (c : Dev nD) (i : grid1.Coords) (arg1 : Memref sig .tc .vmem S1024x64 .f32) (harg1 : arg1.IsWhole) (arg2 : Memref sig .tc .vmem S8192x128 .f32) (harg2 : arg2.IsWhole) (arg3 : Memref sig .tc .vmem S8192 .f32) (harg3 : arg3.IsWhole) (arg4 : Memref sig .tc .vmem S1024 .i32) (harg4 : arg4.IsWhole) (arg5 : Memref sig .tc .smem S1x1 .f32) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .i32) (harg9 : arg9.IsWhole) (hc0 : ¬isFirst i) (hc1 : ¬isLast i)
    (x0 : Vec F S1024x64 .f32) (x1 : Vec F S8192x128 .f32) (x2 : Vec F S8192 .f32) (xs0 : Vec F S1024x1 .f32) (xs1 : Vec F S1024x128 .f32) (xs2 : Vec F S1024x128 .f32) (xs3 : Vec F S1024x128 .i32) :
    Σ' (L3 : List (View.Piece (Elt F) S1024 .i32)), Σ' (L4 : List (View.Piece (Elt F) S1x1 .f32)), Σ' (LS0 : List (View.Piece (Elt F) S1024x1 .f32)), Σ' (LS1 : List (View.Piece (Elt F) S1024x128 .f32)), Σ' (LS2 : List (View.Piece (Elt F) S1024x128 .f32)), { LS3 : List (View.Piece (Elt F) S1024x128 .i32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xi4 ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ owns (c : Thread nD τ) arg3 fullShare x2 ∗ (∃ f, wr c arg4 f L3) ∗ owns (c : Thread nD τ) arg5 fullShare xi4 ∗ (∃ f, wr c arg6 f LS0) ∗ (wr c arg7 (harg7.unread xs1) LS1) ∗ (∃ f, wr c arg8 f LS2) ∗ (∃ f, wr c arg9 f LS3)) -∗ K ⟨⟩))
          ⊢ wp frame (wpE (defs₀ (F := F)) Variants.none c none) E (cc1__dist_body i arg1 harg1 arg2 harg2 arg3 harg3 arg4 harg4 arg5 harg5 arg6 harg6 arg7 harg7 arg8 harg8 arg9 harg9) K } := by
  refine ⟨?_, [], ?_, ?_, ?_, ?_, fun xi4 E K => ?run⟩
  case run =>
    simp only [cc1__dist_body_eq_skeleton]; unfold cc1__dist_body_skel
    simp only [k1_part186_eq_skeleton, k1_part1_eq_skeleton, k1_part2_eq_skeleton, k1_part3_eq_skeleton, k1_part4_eq_skeleton, k1_part5_eq_skeleton,
      k1_part6_eq_skeleton, k1_part7_eq_skeleton, k1_part8_eq_skeleton, k1_part9_eq_skeleton, k1_part10_eq_skeleton, k1_part11_eq_skeleton,
      k1_part12_eq_skeleton, k1_part13_eq_skeleton, k1_part14_eq_skeleton, k1_part15_eq_skeleton, k1_part16_eq_skeleton, k1_part17_eq_skeleton,
      k1_part18_eq_skeleton, k1_part19_eq_skeleton, k1_part20_eq_skeleton, k1_part21_eq_skeleton, k1_part22_eq_skeleton, k1_part23_eq_skeleton,
      k1_part24_eq_skeleton, k1_part25_eq_skeleton, k1_part26_eq_skeleton, k1_part27_eq_skeleton, k1_part28_eq_skeleton, k1_part29_eq_skeleton,
      k1_part30_eq_skeleton, k1_part31_eq_skeleton, k1_part32_eq_skeleton, k1_part33_eq_skeleton, k1_part34_eq_skeleton, k1_part35_eq_skeleton,
      k1_part36_eq_skeleton, k1_part37_eq_skeleton, k1_part38_eq_skeleton, k1_part39_eq_skeleton, k1_part40_eq_skeleton, k1_part41_eq_skeleton,
      k1_part42_eq_skeleton, k1_part43_eq_skeleton, k1_part44_eq_skeleton, k1_part45_eq_skeleton, k1_part46_eq_skeleton, k1_part47_eq_skeleton,
      k1_part48_eq_skeleton, k1_part49_eq_skeleton, k1_part50_eq_skeleton, k1_part51_eq_skeleton, k1_part52_eq_skeleton, k1_part53_eq_skeleton,
      k1_part54_eq_skeleton, k1_part55_eq_skeleton, k1_part56_eq_skeleton, k1_part57_eq_skeleton, k1_part58_eq_skeleton, k1_part59_eq_skeleton,
      k1_part60_eq_skeleton, k1_part187_eq_skeleton, k1_part61_eq_skeleton, k1_part62_eq_skeleton, k1_part63_eq_skeleton, k1_part64_eq_skeleton,
      k1_part65_eq_skeleton, k1_part66_eq_skeleton, k1_part67_eq_skeleton, k1_part68_eq_skeleton, k1_part69_eq_skeleton, k1_part70_eq_skeleton,
      k1_part71_eq_skeleton, k1_part72_eq_skeleton, k1_part73_eq_skeleton, k1_part74_eq_skeleton, k1_part75_eq_skeleton, k1_part76_eq_skeleton,
      k1_part77_eq_skeleton, k1_part78_eq_skeleton, k1_part79_eq_skeleton, k1_part80_eq_skeleton, k1_part81_eq_skeleton, k1_part82_eq_skeleton,
      k1_part83_eq_skeleton, k1_part84_eq_skeleton, k1_part85_eq_skeleton, k1_part86_eq_skeleton, k1_part87_eq_skeleton, k1_part88_eq_skeleton,
      k1_part89_eq_skeleton, k1_part90_eq_skeleton, k1_part91_eq_skeleton, k1_part92_eq_skeleton, k1_part93_eq_skeleton, k1_part94_eq_skeleton,
      k1_part95_eq_skeleton, k1_part96_eq_skeleton, k1_part97_eq_skeleton, k1_part98_eq_skeleton, k1_part99_eq_skeleton, k1_part100_eq_skeleton,
      k1_part101_eq_skeleton, k1_part102_eq_skeleton, k1_part103_eq_skeleton, k1_part104_eq_skeleton, k1_part105_eq_skeleton, k1_part106_eq_skeleton,
      k1_part107_eq_skeleton, k1_part108_eq_skeleton, k1_part109_eq_skeleton, k1_part110_eq_skeleton, k1_part111_eq_skeleton, k1_part112_eq_skeleton,
      k1_part113_eq_skeleton, k1_part114_eq_skeleton, k1_part115_eq_skeleton, k1_part116_eq_skeleton, k1_part117_eq_skeleton, k1_part118_eq_skeleton,
      k1_part119_eq_skeleton, k1_part120_eq_skeleton, k1_part188_eq_skeleton, k1_part121_eq_skeleton, k1_part122_eq_skeleton, k1_part123_eq_skeleton,
      k1_part124_eq_skeleton, k1_part125_eq_skeleton, k1_part126_eq_skeleton, k1_part127_eq_skeleton, k1_part128_eq_skeleton, k1_part129_eq_skeleton,
      k1_part130_eq_skeleton, k1_part131_eq_skeleton, k1_part132_eq_skeleton, k1_part133_eq_skeleton, k1_part134_eq_skeleton, k1_part135_eq_skeleton,
      k1_part136_eq_skeleton, k1_part137_eq_skeleton, k1_part138_eq_skeleton, k1_part139_eq_skeleton, k1_part140_eq_skeleton, k1_part141_eq_skeleton,
      k1_part142_eq_skeleton, k1_part143_eq_skeleton, k1_part144_eq_skeleton, k1_part145_eq_skeleton, k1_part146_eq_skeleton, k1_part147_eq_skeleton,
      k1_part148_eq_skeleton, k1_part149_eq_skeleton, k1_part150_eq_skeleton, k1_part151_eq_skeleton, k1_part152_eq_skeleton, k1_part153_eq_skeleton,
      k1_part154_eq_skeleton, k1_part155_eq_skeleton, k1_part156_eq_skeleton, k1_part157_eq_skeleton, k1_part158_eq_skeleton, k1_part159_eq_skeleton,
      k1_part160_eq_skeleton, k1_part161_eq_skeleton, k1_part162_eq_skeleton, k1_part163_eq_skeleton, k1_part164_eq_skeleton, k1_part165_eq_skeleton,
      k1_part166_eq_skeleton, k1_part167_eq_skeleton, k1_part168_eq_skeleton, k1_part169_eq_skeleton, k1_part170_eq_skeleton, k1_part171_eq_skeleton,
      k1_part172_eq_skeleton, k1_part173_eq_skeleton, k1_part174_eq_skeleton, k1_part175_eq_skeleton, k1_part176_eq_skeleton, k1_part177_eq_skeleton,
      k1_part178_eq_skeleton, k1_part179_eq_skeleton, k1_part180_eq_skeleton, k1_part181_eq_skeleton, k1_part182_eq_skeleton, k1_part183_eq_skeleton,
      k1_part184_eq_skeleton, k1_part185_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg5.eq_unread hf4; obtain rfl := harg6.eq_unread hfs0; obtain rfl := harg7.eq_unread hfs1; obtain rfl := harg8.eq_unread hfs2; obtain rfl := harg9.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [HS0]; · iexists _; iexact HS0
    isplitl [HS1]; · iexact HS1
    isplitl [HS2]; · iexists _; iexact HS2
    iexists _; iexact HS3

end Cert.Proof.Dist

end
-- ==== Proof.Dist.Last.lean ====
/-
  The distance kernel at the last point of its grid.
-/
module

public import proofs.«01_k».proof.Proof.Dist.Mid

@[expose] public section

set_option maxRecDepth 16384

noncomputable section

namespace Cert.Proof.Dist

open Cert.KernelIdeal Cert.KernelIdeal.Gen Cert.Proof.Tile

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

-- the proof term of the run is large
set_option maxHeartbeats 4000000 in
/-- The pieces stored at the last point, with the proof that the body stores them. -/
noncomputable def runLast (c : Dev nD) (i : grid1.Coords) (arg1 : Memref sig .tc .vmem S1024x64 .f32) (harg1 : arg1.IsWhole) (arg2 : Memref sig .tc .vmem S8192x128 .f32) (harg2 : arg2.IsWhole) (arg3 : Memref sig .tc .vmem S8192 .f32) (harg3 : arg3.IsWhole) (arg4 : Memref sig .tc .vmem S1024 .i32) (harg4 : arg4.IsWhole) (arg5 : Memref sig .tc .smem S1x1 .f32) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .i32) (harg9 : arg9.IsWhole) (hc0 : ¬isFirst i) (hc1 : isLast i)
    (x0 : Vec F S1024x64 .f32) (x1 : Vec F S8192x128 .f32) (x2 : Vec F S8192 .f32) (xs0 : Vec F S1024x1 .f32) (xs1 : Vec F S1024x128 .f32) (xs2 : Vec F S1024x128 .f32) (xs3 : Vec F S1024x128 .i32) :
    Σ' (L3 : List (View.Piece (Elt F) S1024 .i32)), Σ' (L4 : List (View.Piece (Elt F) S1x1 .f32)), Σ' (LS0 : List (View.Piece (Elt F) S1024x1 .f32)), Σ' (LS1 : List (View.Piece (Elt F) S1024x128 .f32)), Σ' (LS2 : List (View.Piece (Elt F) S1024x128 .f32)), { LS3 : List (View.Piece (Elt F) S1024x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
            ∗ (iprop(owns (c : Thread nD τ) arg1 fullShare x0 ∗ owns (c : Thread nD τ) arg2 fullShare x1 ∗ owns (c : Thread nD τ) arg3 fullShare x2 ∗ (∃ f, wr c arg4 f L3) ∗ (∃ f, wr c arg5 f L4) ∗ (∃ f, wr c arg6 f LS0) ∗ (wr c arg7 (harg7.unread xs1) LS1) ∗ (∃ f, wr c arg8 f LS2) ∗ (∃ f, wr c arg9 f LS3)) -∗ K ⟨⟩))
          ⊢ wp frame (wpE (defs₀ (F := F)) Variants.none c none) E (cc1__dist_body i arg1 harg1 arg2 harg2 arg3 harg3 arg4 harg4 arg5 harg5 arg6 harg6 arg7 harg7 arg8 harg8 arg9 harg9) K } := by
  refine ⟨?_, ?_, ?_, ?_, ?_, ?_, fun E K => ?run⟩
  case run =>
    simp only [cc1__dist_body_eq_skeleton]; unfold cc1__dist_body_skel
    simp only [k1_part186_eq_skeleton, k1_part1_eq_skeleton, k1_part2_eq_skeleton, k1_part3_eq_skeleton, k1_part4_eq_skeleton, k1_part5_eq_skeleton,
      k1_part6_eq_skeleton, k1_part7_eq_skeleton, k1_part8_eq_skeleton, k1_part9_eq_skeleton, k1_part10_eq_skeleton, k1_part11_eq_skeleton,
      k1_part12_eq_skeleton, k1_part13_eq_skeleton, k1_part14_eq_skeleton, k1_part15_eq_skeleton, k1_part16_eq_skeleton, k1_part17_eq_skeleton,
      k1_part18_eq_skeleton, k1_part19_eq_skeleton, k1_part20_eq_skeleton, k1_part21_eq_skeleton, k1_part22_eq_skeleton, k1_part23_eq_skeleton,
      k1_part24_eq_skeleton, k1_part25_eq_skeleton, k1_part26_eq_skeleton, k1_part27_eq_skeleton, k1_part28_eq_skeleton, k1_part29_eq_skeleton,
      k1_part30_eq_skeleton, k1_part31_eq_skeleton, k1_part32_eq_skeleton, k1_part33_eq_skeleton, k1_part34_eq_skeleton, k1_part35_eq_skeleton,
      k1_part36_eq_skeleton, k1_part37_eq_skeleton, k1_part38_eq_skeleton, k1_part39_eq_skeleton, k1_part40_eq_skeleton, k1_part41_eq_skeleton,
      k1_part42_eq_skeleton, k1_part43_eq_skeleton, k1_part44_eq_skeleton, k1_part45_eq_skeleton, k1_part46_eq_skeleton, k1_part47_eq_skeleton,
      k1_part48_eq_skeleton, k1_part49_eq_skeleton, k1_part50_eq_skeleton, k1_part51_eq_skeleton, k1_part52_eq_skeleton, k1_part53_eq_skeleton,
      k1_part54_eq_skeleton, k1_part55_eq_skeleton, k1_part56_eq_skeleton, k1_part57_eq_skeleton, k1_part58_eq_skeleton, k1_part59_eq_skeleton,
      k1_part60_eq_skeleton, k1_part187_eq_skeleton, k1_part61_eq_skeleton, k1_part62_eq_skeleton, k1_part63_eq_skeleton, k1_part64_eq_skeleton,
      k1_part65_eq_skeleton, k1_part66_eq_skeleton, k1_part67_eq_skeleton, k1_part68_eq_skeleton, k1_part69_eq_skeleton, k1_part70_eq_skeleton,
      k1_part71_eq_skeleton, k1_part72_eq_skeleton, k1_part73_eq_skeleton, k1_part74_eq_skeleton, k1_part75_eq_skeleton, k1_part76_eq_skeleton,
      k1_part77_eq_skeleton, k1_part78_eq_skeleton, k1_part79_eq_skeleton, k1_part80_eq_skeleton, k1_part81_eq_skeleton, k1_part82_eq_skeleton,
      k1_part83_eq_skeleton, k1_part84_eq_skeleton, k1_part85_eq_skeleton, k1_part86_eq_skeleton, k1_part87_eq_skeleton, k1_part88_eq_skeleton,
      k1_part89_eq_skeleton, k1_part90_eq_skeleton, k1_part91_eq_skeleton, k1_part92_eq_skeleton, k1_part93_eq_skeleton, k1_part94_eq_skeleton,
      k1_part95_eq_skeleton, k1_part96_eq_skeleton, k1_part97_eq_skeleton, k1_part98_eq_skeleton, k1_part99_eq_skeleton, k1_part100_eq_skeleton,
      k1_part101_eq_skeleton, k1_part102_eq_skeleton, k1_part103_eq_skeleton, k1_part104_eq_skeleton, k1_part105_eq_skeleton, k1_part106_eq_skeleton,
      k1_part107_eq_skeleton, k1_part108_eq_skeleton, k1_part109_eq_skeleton, k1_part110_eq_skeleton, k1_part111_eq_skeleton, k1_part112_eq_skeleton,
      k1_part113_eq_skeleton, k1_part114_eq_skeleton, k1_part115_eq_skeleton, k1_part116_eq_skeleton, k1_part117_eq_skeleton, k1_part118_eq_skeleton,
      k1_part119_eq_skeleton, k1_part120_eq_skeleton, k1_part188_eq_skeleton, k1_part121_eq_skeleton, k1_part122_eq_skeleton, k1_part123_eq_skeleton,
      k1_part124_eq_skeleton, k1_part125_eq_skeleton, k1_part126_eq_skeleton, k1_part127_eq_skeleton, k1_part128_eq_skeleton, k1_part129_eq_skeleton,
      k1_part130_eq_skeleton, k1_part131_eq_skeleton, k1_part132_eq_skeleton, k1_part133_eq_skeleton, k1_part134_eq_skeleton, k1_part135_eq_skeleton,
      k1_part136_eq_skeleton, k1_part137_eq_skeleton, k1_part138_eq_skeleton, k1_part139_eq_skeleton, k1_part140_eq_skeleton, k1_part141_eq_skeleton,
      k1_part142_eq_skeleton, k1_part143_eq_skeleton, k1_part144_eq_skeleton, k1_part145_eq_skeleton, k1_part146_eq_skeleton, k1_part147_eq_skeleton,
      k1_part148_eq_skeleton, k1_part149_eq_skeleton, k1_part150_eq_skeleton, k1_part151_eq_skeleton, k1_part152_eq_skeleton, k1_part153_eq_skeleton,
      k1_part154_eq_skeleton, k1_part155_eq_skeleton, k1_part156_eq_skeleton, k1_part157_eq_skeleton, k1_part158_eq_skeleton, k1_part159_eq_skeleton,
      k1_part160_eq_skeleton, k1_part161_eq_skeleton, k1_part162_eq_skeleton, k1_part163_eq_skeleton, k1_part164_eq_skeleton, k1_part165_eq_skeleton,
      k1_part166_eq_skeleton, k1_part167_eq_skeleton, k1_part168_eq_skeleton, k1_part169_eq_skeleton, k1_part170_eq_skeleton, k1_part171_eq_skeleton,
      k1_part172_eq_skeleton, k1_part173_eq_skeleton, k1_part174_eq_skeleton, k1_part175_eq_skeleton, k1_part176_eq_skeleton, k1_part177_eq_skeleton,
      k1_part178_eq_skeleton, k1_part179_eq_skeleton, k1_part180_eq_skeleton, k1_part181_eq_skeleton, k1_part182_eq_skeleton, k1_part183_eq_skeleton,
      k1_part184_eq_skeleton, k1_part185_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg6.eq_unread hfs0; obtain rfl := harg7.eq_unread hfs1; obtain rfl := harg8.eq_unread hfs2; obtain rfl := harg9.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [HS0]; · iexists _; iexact HS0
    isplitl [HS1]; · iexact HS1
    isplitl [HS2]; · iexists _; iexact HS2
    iexists _; iexact HS3

end Cert.Proof.Dist

end
-- ==== Proof.Dist.Spec.lean ====
/-
  The distance kernel's arithmetic, strip by strip: the running minimum of a strip's scores over the 64 groups of codebook
  rows, the group it is attained at, and the sums that are kept.
-/
module

public import proofs.«01_k».proof.Proof.Gen.KernelIdeal

@[expose] public section

noncomputable section

namespace Cert.Proof.Dist

open Cert.KernelIdeal Cert.KernelIdeal.Gen

open Idealize.ShloMosaic

variable {F : FTy → Type} [FloatOps F]

theorem slices_D (r : Fin 16) (j : ℕ) : S1024x8192.Slices ![64 * r.val, 128 * (j % 64)] S64x128 :=
  ⟨rfl, fun a => match a with
    | ⟨0, _⟩ => (by have := r.isLt; show 64 * r.val + 64 ≤ 1024; omega)
    | ⟨1, _⟩ => (by have := Nat.mod_lt j (by decide : 0 < 64); show 128 * (j % 64) + 128 ≤ 8192; omega)⟩

theorem slices_C (j : ℕ) : S8192.Slices ![128 * (j % 64)] S128 :=
  ⟨rfl, fun a => match a with
    | ⟨0, _⟩ => (by have := Nat.mod_lt j (by decide : 0 < 64); show 128 * (j % 64) + 128 ≤ 8192; omega)⟩

/-- Strip `r`'s scores against the codebook rows of group `j`. -/
def score (D : FVec F S1024x8192 .f32) (C : FVec F S8192 .f32) (r : Fin 16) (j : ℕ) : FVec F S64x128 .f32 :=
  addf (extractStridedSlice S64x128 ![64 * r.val, 128 * (j % 64)] D (slices_D r j))
    (broadcastTo S64x128 (shapeCast S1x128 (extractStridedSlice S128 ![128 * (j % 64)] C (slices_C j)) shapeCasts_S128_S1x128) broadcasts_S1x128_S64x128)

/-- The minimum of strip `r`'s scores over the first `n` groups, lane by lane. -/
def runMin (D : FVec F S1024x8192 .f32) (C : FVec F S8192 .f32) (r : Fin 16) (n : ℕ) : FVec F S64x128 .f32 :=
  Nat.rec (broadcast S64x128 (Scalar.ofBits .f32 0x7F800000#32)) (fun j v => minimumf v (score D C r j)) n

/-- The first of the first `n` groups at which that minimum is attained. -/
def runJ (D : FVec F S1024x8192 .f32) (C : FVec F S8192 .f32) (r : Fin 16) (n : ℕ) : IVec S64x128 32 :=
  Nat.rec (broadcast S64x128 0#32)
    (fun j v => select (cmpf .olt (score D C r j) (runMin D C r j)) (broadcast S64x128 (BitVec.ofNat 32 j)) v) n

/-- Each row's least lane. -/
def least (m : FVec F S64x128 .f32) : FVec F S64x1 .f32 :=
  shapeCast S64x1 (multiReduction .minimumf [1] S64 m 0x7F800000#32 reduces_S64x128_S64 (.inl rfl) rfl) shapeCasts_S64_S64x1

/-- Each row's index: the least of the codebook rows at which the row's least lane is attained. -/
def first (m : FVec F S64x128 .f32) (j : IVec S64x128 32) : IVec S64 32 :=
  multiReductionI .minsi [1] S64
    (select (cmpf .oeq m (broadcastTo S64x128 (least m) broadcasts_S64x1_S64x128))
      (addi (muli j (broadcast S64x128 128#32)) (iota .tc S64x128 32 [1] iota_S64x128_d1_w32)) (broadcast S64x128 8192#32))
    2147483647#32 reduces_S64x128_S64 rfl

/-- The inner products of the block's rows with the codebook's. -/
def dots (zp : FVec F S1024x128 .f32) (cbw : FVec F S8192x128 .f32) : FVec F S1024x8192 .f32 :=
  matmul dot_S1024x128_S8192x128_S1024x8192_1_1_0_0_n_n none zp cbw (constant S1024x8192 .f32 0x00000000#32)

/-- Each row's sum of squares. -/
def zsq (z : FVec F S1024x64 .f32) : FVec F S1024x1 .f32 :=
  shapeCast S1024x1 (multiReduction .add [1] S1024 (mulf z z) 0x00000000#32 reduces_S1024x64_S1024 (.inl rfl) rfl) shapeCasts_S1024_S1024x1

/-- Minus twice the block. -/
def neg2 (z : FVec F S1024x64 .f32) : FVec F S1024x64 .f32 := mulf z (broadcast S1024x64 (Scalar.ofBits .f32 0xC0000000#32))

/-- The weight of the block before: zero at the first point. -/
def wBefore (i : grid1.Coords) : F .f32 :=
  Scalar.select (Scalar.cmpi .sgt (BitVec.ofNat 32 (i 0).val) 0#32) (Scalar.ofBits .f32 0x3F800000#32) (Scalar.ofBits .f32 0x00000000#32)
/-- The weight of this block: zero at the last point. -/
def wNow (i : grid1.Coords) : F .f32 :=
  Scalar.select (Scalar.cmpi .slt (BitVec.ofNat 32 (i 0).val) 16#32) (Scalar.ofBits .f32 0x3F800000#32) (Scalar.ofBits .f32 0x00000000#32)

/-- The sixteen strips, the last first. -/
def strips : List (Fin 16) :=
  [⟨15, by decide⟩, ⟨14, by decide⟩, ⟨13, by decide⟩, ⟨12, by decide⟩, ⟨11, by decide⟩, ⟨10, by decide⟩, ⟨9, by decide⟩, ⟨8, by decide⟩,
    ⟨7, by decide⟩, ⟨6, by decide⟩, ⟨5, by decide⟩, ⟨4, by decide⟩, ⟨3, by decide⟩, ⟨2, by decide⟩, ⟨1, by decide⟩, ⟨0, by decide⟩]

theorem mem_strips (r : Fin 16) : r ∈ strips := by revert r; decide

theorem inb128 (r : Fin 16) : ∀ a : Fin S1024x128.rank, (![64 * r.val, 0] : Fin 2 → ℕ) a + S64x128.size a ≤ S1024x128.size a := by revert r; decide
theorem inb1 (r : Fin 16) : ∀ a : Fin S1024x1.rank, (![64 * r.val, 0] : Fin 2 → ℕ) a + S64x1.size a ≤ S1024x1.size a := by revert r; decide
theorem inb0 (r : Fin 16) : ∀ a : Fin S1024.rank, (![64 * r.val] : Fin 1 → ℕ) a + S64.size a ≤ S1024.size a := by revert r; decide

abbrev rect128 (r : Fin 16) : Rect S1024x128 := Rect.unit (s := S1024x128) ![64 * r.val, 0] S64x128.size (inb128 r)
abbrev rect1 (r : Fin 16) : Rect S1024x1 := Rect.unit (s := S1024x1) ![64 * r.val, 0] S64x1.size (inb1 r)
abbrev rect0 (r : Fin 16) : Rect S1024 := Rect.unit (s := S1024) ![64 * r.val] S64.size (inb0 r)

/-- The pieces of the running minimum's buffer. -/
def piecesM (D : FVec F S1024x8192 .f32) (C : FVec F S8192 .f32) : List (View.Piece (Elt F) S1024x128 .f32) :=
  strips.map fun r => ⟨rect128 r, shapeCast S64x128 (runMin D C r 64) shapeCasts_S64x128_S64x128⟩
/-- The pieces of the group buffer. -/
def piecesJ (D : FVec F S1024x8192 .f32) (C : FVec F S8192 .f32) : List (View.Piece (Elt F) S1024x128 .i32) :=
  strips.map fun r => ⟨rect128 r, shapeCast S64x128 (runJ D C r 64) shapeCasts_S64x128_S64x128⟩

/-- The pieces of the index block, from each strip's minima and groups. -/
def piecesI (m : Fin 16 → FVec F S64x128 .f32) (j : Fin 16 → IVec S64x128 32) : List (View.Piece (Elt F) S1024 .i32) :=
  strips.map fun r => ⟨rect0 r, first (m r) (j r)⟩
/-- The accumulator's strip with each row's least lane added. -/
def accStrip (i : grid1.Coords) (m : FVec F S64x128 .f32) (a : FVec F S64x1 .f32) : FVec F S64x1 .f32 :=
  addf a (mulf (least m) (broadcast S64x1 (wBefore i)))
/-- The pieces of the accumulator, from each strip's minima and the accumulator before. -/
def piecesA (i : grid1.Coords) (m : Fin 16 → FVec F S64x128 .f32) (a : Fin 16 → FVec F S64x1 .f32) : List (View.Piece (Elt F) S1024x1 .f32) :=
  strips.map fun r => ⟨rect1 r, shapeCast S64x1 (accStrip i (m r) (a r)) shapeCasts_S64x1_S64x1⟩
/-- The accumulator with this block's sums of squares added. -/
def accNow (i : grid1.Coords) (z : FVec F S1024x64 .f32) (a : FVec F S1024x1 .f32) : FVec F S1024x1 .f32 :=
  addf a (mulf (zsq z) (broadcast S1024x1 (wNow i)))
/-- The accumulator's sum. -/
def total (a : FVec F S1024x1 .f32) : F .f32 :=
  extractAt ![0, 0, 0] (shapeCast S1x1x1 (multiReduction .add [1, 2] S1 (shapeCast S1x1024x1 a shapeCasts_S1024x1_S1x1024x1) 0x00000000#32
    reduces_S1x1024x1_S1 (.inl rfl) rfl) shapeCasts_S1_S1x1x1) inpos_S1x1x1_p0_0_0

/-! ## Whole blocks -/

/-- The strip a row lies in, and its place in the strip. -/
abbrev strip (n : Fin 1024) : Fin 16 := ⟨n.val / 64, by have := n.isLt; omega⟩
abbrev place (n : Fin 1024) : Fin 64 := ⟨n.val % 64, Nat.mod_lt _ (by decide)⟩

def at128 (p : Fin 64) (q : Fin 128) : S64x128.Idx := fun | 0 => p | 1 => q
def at1 (p : Fin 64) : S64x1.Idx := fun | 0 => p | 1 => (0 : Fin 1)
def at0 (p : Fin 64) : S64.Idx := fun | 0 => p
def atZ (p : Fin 1024) (q : Fin 64) : S1024x64.Idx := fun | 0 => p | 1 => q

/-- The running minima of a block's rows. -/
def minima (D : FVec F S1024x8192 .f32) (C : FVec F S8192 .f32) : FVec F S1024x128 .f32 :=
  fun y => runMin D C (strip (y 0)) 64 (at128 (place (y 0)) (y 1))
/-- The groups at which they are attained. -/
def groups (D : FVec F S1024x8192 .f32) (C : FVec F S8192 .f32) : IVec S1024x128 32 :=
  fun y => runJ D C (strip (y 0)) 64 (at128 (place (y 0)) (y 1))
/-- The block minus doubled, beside 64 columns of zeros. -/
def pad (z : FVec F S1024x64 .f32) : FVec F S1024x128 .f32 :=
  fun y => if h : (y 1).val < 64 then neg2 z (atZ (y 0) ⟨(y 1).val, h⟩) else Scalar.ofBits .f32 0x00000000#32
/-- A buffer's strip. -/
abbrev strip128 {α : Type} (v : S1024x128.Idx → α) (r : Fin 16) : S64x128.Idx → α := fun x => v ((rect128 r).idx x)
abbrev strip1 {α : Type} (v : S1024x1.Idx → α) (r : Fin 16) : S64x1.Idx → α := fun x => v ((rect1 r).idx x)
/-- The block's indices, from the minima and groups of the point before. -/
def indices (m : FVec F S1024x128 .f32) (j : IVec S1024x128 32) : IVec S1024 32 :=
  fun y => first (strip128 m (strip (y 0))) (strip128 j (strip (y 0))) (at0 (place (y 0)))
/-- The accumulator with the least lanes of the point before added. -/
def accBefore (i : grid1.Coords) (m : FVec F S1024x128 .f32) (a : FVec F S1024x1 .f32) : FVec F S1024x1 .f32 :=
  fun y => accStrip i (strip128 m (strip (y 0))) (strip1 a (strip (y 0))) (at1 (place (y 0)))
/-- The accumulator after a point. -/
def accAfter (i : grid1.Coords) (z : FVec F S1024x64 .f32) (m : FVec F S1024x128 .f32) (a : FVec F S1024x1 .f32) : FVec F S1024x1 .f32 :=
  accNow i z (accBefore i m a)

/-- The buffers as the first point clears them. -/
abbrev zeroA : FVec F S1024x1 .f32 := broadcast S1024x1 (Scalar.ofBits .f32 0x00000000#32)
abbrev zeroM : FVec F S1024x128 .f32 := broadcast S1024x128 (Scalar.ofBits .f32 0x00000000#32)
abbrev zeroJ : IVec S1024x128 32 := broadcast S1024x128 0#32

end Cert.Proof.Dist

end
-- ==== Proof.Dist.Pieces.lean ====
/-
  The pieces each run stores, and what the buffers read as once they are stored.
-/
module

public import proofs.«01_k».proof.Proof.Dist.Last
public import proofs.«01_k».proof.Proof.Dist.Spec
public import Idealize.ShloMosaic.Lib.WritesUnit
public import Idealize.ShloMosaic.Lib.VecWindow
import all proofs.«01_k».proof.Proof.Dist.First
import all proofs.«01_k».proof.Proof.Dist.Mid
import all proofs.«01_k».proof.Proof.Dist.Last

@[expose] public section

noncomputable section

namespace Cert.Proof.Dist

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Tile

variable {F : FTy → Type} [FloatOps F]

/-! ## Stores strip by strip -/

section Read
variable {sig' : RefSig} {κ : Kind} {sp : Space} {s : Shape} {e : EltTy} (v : View sig' κ sp s e)

/-- A buffer stored strip by strip reads, where the strips lie, as the one function whose strips were stored. -/
theorem read_strips (f : v.ty.Contents (Elt F)) (rect : Fin 16 → Rect s) (w : (r : Fin 16) → (rect r).shape.Idx → Elt F e) (G : s.Idx → Elt F e)
    (hw : ∀ r x, w r x = G ((rect r).emb x)) (l : List (Fin 16)) (L : List (View.Piece (Elt F) s e)) (y : s.Idx) (hy : ∃ r ∈ l, y ∈ (rect r).set) :
    v.read (Elt F) (v.writes (Elt F) f ((l.map fun r => (⟨rect r, w r⟩ : View.Piece (Elt F) s e)) ++ L)) y = G y := by
  induction l with
  | nil => obtain ⟨_, h, _⟩ := hy; exact absurd h List.not_mem_nil
  | cons a l ih =>
    by_cases ha : y ∈ (rect a).set
    · obtain ⟨x, rfl⟩ := (rect a).exists_idx_of_mem ha
      exact (View.read_writes_cons_emb v f (rect a) (w a) _ x).trans (hw a x)
    · have : v.read (Elt F) (v.writes (Elt F) f (⟨rect a, w a⟩ :: ((l.map fun r => (⟨rect r, w r⟩ : View.Piece (Elt F) s e)) ++ L))) y
          = v.read (Elt F) (v.writes (Elt F) f ((l.map fun r => (⟨rect r, w r⟩ : View.Piece (Elt F) s e)) ++ L)) y := by
        rw [View.writes_cons]
        exact View.read_slice_write_of_not_mem _ _ _ _ (by rw [Rect.map_emb_univ]; exact ha)
      refine this.trans (ih ?_)
      obtain ⟨r, hr, hy⟩ := hy
      rcases List.mem_cons.mp hr with rfl | hr
      · exact absurd hy ha
      · exact ⟨r, hr, hy⟩

/-- Stores strip by strip, each of a function of what the strip held. -/
def chain (rect : Fin 16 → Rect s) [∀ e, Nonempty (Elt F e)] (w : (r : Fin 16) → ((rect r).shape.Idx → Elt F e) → (rect r).shape.Idx → Elt F e)
    (L : List (View.Piece (Elt F) s e)) : List (Fin 16) → List (View.Piece (Elt F) s e)
  | [] => L
  | r :: l => ⟨rect r, w r (v.readCov (chain rect w L l) (rect r))⟩ :: chain rect w L l

theorem readCov_chain [∀ e, Nonempty (Elt F e)] (rect : Fin 16 → Rect s) (w : (r : Fin 16) → ((rect r).shape.Idx → Elt F e) → (rect r).shape.Idx → Elt F e)
    (L : List (View.Piece (Elt F) s e)) (hd : ∀ r r', r ≠ r' → Disjoint (rect r).set (rect r').set) (l : List (Fin 16)) (r : Fin 16) (hr : r ∉ l) :
    v.readCov (chain v rect w L l) (rect r) = v.readCov L (rect r) := by
  induction l with
  | nil => rfl
  | cons a l ih =>
    rw [List.mem_cons, not_or] at hr
    unfold chain
    rw [View.readCov_cons_of_disjoint _ _ _ _ (by rw [show ((rect r : LoadRect s)).set = (rect r).set from rfl]; exact hd _ _ (Ne.symm hr.1)), ih hr.2]

theorem chain_eq [∀ e, Nonempty (Elt F e)] (rect : Fin 16 → Rect s) (w : (r : Fin 16) → ((rect r).shape.Idx → Elt F e) → (rect r).shape.Idx → Elt F e)
    (L : List (View.Piece (Elt F) s e)) (hd : ∀ r r', r ≠ r' → Disjoint (rect r).set (rect r').set) (l : List (Fin 16)) (hl : l.Nodup) :
    chain v rect w L l = (l.map fun r => (⟨rect r, w r (v.readCov L (rect r))⟩ : View.Piece (Elt F) s e)) ++ L := by
  induction l with
  | nil => rfl
  | cons a l ih =>
    rw [List.nodup_cons] at hl
    show _ :: _ = _ :: _
    rw [readCov_chain v rect w L hd l a hl.1, ih hl.2]
    rfl
end Read

theorem rect128_emb (r : Fin 16) (x : S64x128.Idx) : (((rect128 r).emb x) 0).val = 64 * r.val + (x 0).val ∧ (((rect128 r).emb x) 1).val = (x 1).val :=
  ⟨by show _ + 1 * (x 0).val = _; rw [Nat.one_mul]; rfl, by show 0 + 1 * (x 1).val = _; omega⟩

theorem mem128 (y : S1024x128.Idx) : y ∈ (rect128 (strip (y 0))).set := by
  have h0 : (y 0).val < 1024 := (y 0).isLt
  have h1 : (y 1).val < 128 := (y 1).isLt
  rw [Rect.mem_set_unit]
  intro a
  match a with
  | 0 => exact ⟨by show 64 * ((y 0).val / 64) ≤ _; omega, by show (y 0).val < 64 * ((y 0).val / 64) + 64; omega⟩
  | 1 => exact ⟨Nat.zero_le _, by show (y 1).val < 0 + 128; omega⟩
theorem mem1 (y : S1024x1.Idx) : y ∈ (rect1 (strip (y 0))).set := by
  have h0 : (y 0).val < 1024 := (y 0).isLt
  have h1 : (y 1).val < 1 := (y 1).isLt
  rw [Rect.mem_set_unit]
  intro a
  match a with
  | 0 => exact ⟨by show 64 * ((y 0).val / 64) ≤ _; omega, by show (y 0).val < 64 * ((y 0).val / 64) + 64; omega⟩
  | 1 => exact ⟨Nat.zero_le _, by show (y 1).val < 0 + 1; omega⟩
theorem mem0 (y : S1024.Idx) : y ∈ (rect0 (strip (y 0))).set := by
  have h0 : (y 0).val < 1024 := (y 0).isLt
  rw [Rect.mem_set_unit]
  intro a
  match a with
  | 0 => exact ⟨by show 64 * ((y 0).val / 64) ≤ _; omega, by show (y 0).val < 64 * ((y 0).val / 64) + 64; omega⟩

theorem disj1 (r r' : Fin 16) (h : r ≠ r') : Disjoint (rect1 r).set (rect1 r').set := by
  rw [Finset.disjoint_left]
  intro y hy hy'
  rw [Rect.mem_set_unit] at hy hy'
  have a : 64 * r.val ≤ (y 0).val ∧ (y 0).val < 64 * r.val + 64 := hy 0
  have b : 64 * r'.val ≤ (y 0).val ∧ (y 0).val < 64 * r'.val + 64 := hy' 0
  exact h (Fin.ext (by omega))

theorem strip_emb (r : Fin 16) (n : Fin 1024) (k : Fin 64) (h : n.val = 64 * r.val + k.val) : strip n = r ∧ place n = k :=
  ⟨Fin.ext (by show n.val / 64 = _; have := k.isLt; omega), Fin.ext (by show n.val % 64 = _; have := k.isLt; omega)⟩

theorem at128_eq (x : S64x128.Idx) (p : Fin 64) (q : Fin 128) (hp : p = x 0) (hq : q.val = (x 1).val) : at128 p q = x :=
  funext fun a => match a with | 0 => hp | 1 => Fin.ext hq
theorem at1_eq (x : S64x1.Idx) (p : Fin 64) (hp : p = x 0) : at1 p = x :=
  funext fun a => match a with | 0 => hp | 1 => (Fin.ext (by have : (x 1).val < 1 := (x 1).isLt; show 0 = (x 1).val; omega))
theorem at0_eq (x : S64.Idx) (p : Fin 64) (hp : p = x 0) : at0 p = x :=
  funext fun a => match a with | 0 => hp

section Buffers
variable {sig' : RefSig} {κ : Kind} {sp : Space}

theorem read_piecesM (v : View sig' κ sp S1024x128 .f32) (f : v.ty.Contents (Elt F)) (D : FVec F S1024x8192 .f32) (C : FVec F S8192 .f32) (L) :
    v.read (Elt F) (v.writes (Elt F) f (piecesM D C ++ L)) = minima D C :=
  funext fun y => read_strips v f rect128 _ (minima D C) (fun r x => by
    obtain ⟨e0, e1⟩ := rect128_emb r x
    obtain ⟨h0, h1⟩ := strip_emb r _ (x 0) e0
    unfold minima
    rw [h0, h1, at128_eq x (x 0) _ rfl e1, shapeCast_self]) strips L y ⟨_, mem_strips _, mem128 y⟩

theorem read_piecesJ (v : View sig' κ sp S1024x128 .i32) (f : v.ty.Contents (Elt F)) (D : FVec F S1024x8192 .f32) (C : FVec F S8192 .f32) (L) :
    v.read (Elt F) (v.writes (Elt F) f (piecesJ D C ++ L)) = groups D C :=
  funext fun y => read_strips v f rect128 _ (groups D C) (fun r x => by
    obtain ⟨e0, e1⟩ := rect128_emb r x
    obtain ⟨h0, h1⟩ := strip_emb r _ (x 0) e0
    unfold groups
    rw [h0, h1, at128_eq x (x 0) _ rfl e1, shapeCast_self]) strips L y ⟨_, mem_strips _, mem128 y⟩

theorem read_piecesI (v : View sig' κ sp S1024 .i32) (f : v.ty.Contents (Elt F)) (m : FVec F S1024x128 .f32) (j : IVec S1024x128 32) :
    v.read (Elt F) (v.writes (Elt F) f (piecesI (strip128 m) (strip128 j))) = indices m j :=
  funext fun y => (by
    have := read_strips v f rect0 (fun r => first (strip128 m r) (strip128 j r)) (indices m j) (fun r x => by
      have e0 : (((rect0 r).emb x) 0).val = 64 * r.val + (x 0).val := by show _ + 1 * (x 0).val = _; rw [Nat.one_mul]; rfl
      obtain ⟨h0, h1⟩ := strip_emb r _ (x 0) e0
      unfold indices
      rw [h0, h1, at0_eq x (x 0) rfl]) strips [] y ⟨_, mem_strips _, mem0 y⟩
    rw [List.append_nil] at this
    exact this)

theorem read_piecesA (v : View sig' κ sp S1024x1 .f32) (f : v.ty.Contents (Elt F)) (i : grid1.Coords) (m : FVec F S1024x128 .f32) (a : FVec F S1024x1 .f32) (L) :
    v.read (Elt F) (v.writes (Elt F) f (piecesA i (strip128 m) (strip1 a) ++ L)) = accBefore i m a :=
  funext fun y => read_strips v f rect1 (fun r => shapeCast S64x1 (accStrip i (strip128 m r) (strip1 a r)) shapeCasts_S64x1_S64x1) (accBefore i m a) (fun r x => by
    have e0 : (((rect1 r).emb x) 0).val = 64 * r.val + (x 0).val := by show _ + 1 * (x 0).val = _; rw [Nat.one_mul]; rfl
    obtain ⟨h0, h1⟩ := strip_emb r _ (x 0) e0
    unfold accBefore
    rw [h0, h1, at1_eq x (x 0) rfl, shapeCast_self]) strips L y ⟨_, mem_strips _, mem1 y⟩

end Buffers

/-- The block minus doubled over a buffer already padded. -/
theorem read_neg2 {sig' : RefSig} {κ : Kind} {sp : Space} (v : View sig' κ sp S1024x128 .f32) (f : v.ty.Contents (Elt F)) (z : FVec F S1024x64 .f32)
    (inb : ∀ a, ![0, 0] a + S1024x64.size a ≤ S1024x128.size a) (L) (hz : ∀ y : S1024x128.Idx, 64 ≤ (y 1).val → v.read (Elt F) (v.writes (Elt F) f L) y = Scalar.ofBits .f32 0x00000000#32) :
    v.read (Elt F) (v.writes (Elt F) f (⟨Rect.unit ![0, 0] S1024x64.size inb, neg2 z⟩ :: L)) = pad z :=
  funext fun y => by
    unfold pad
    by_cases h : (y 1).val < 64
    · rw [dif_pos h]
      exact View.read_writes_cons_unit_of_mem v _ _ _ _ y (atZ (y 0) ⟨(y 1).val, h⟩) rfl (fun a => by
        match a with
        | 0 => show (y 0).val = 0 + (y 0).val; omega
        | 1 => show (y 1).val = 0 + (y 1).val; omega)
    · rw [dif_neg h, View.read_writes_cons_unit_of_not_mem v _ _ _ _ y rfl 1 (Or.inr (by show 0 + 64 ≤ (y 1).val; omega))]
      exact hz y (by omega)

theorem pad_high (z : FVec F S1024x64 .f32) (y : S1024x128.Idx) (h : 64 ≤ (y 1).val) : pad z y = Scalar.ofBits .f32 0x00000000#32 := by
  unfold pad; rw [dif_neg (by omega)]

local notation "𝕄" => MT nD τ sig (HIx 2) (Elt F) ℕ UU ℕ

set_option maxRecDepth 100000

theorem pay67 (x : Vec F S1024x64 .f32) : k1_pay67 x = neg2 x := by unfold k1_pay67 k1_pay65 neg2; dsimp only; rw [shapeCast_self, shapeCast_self]
theorem pay66 (x : Vec F S1024x64 .f32) : k1_pay66 x = zsq x := by unfold k1_pay66 k1_pay65 zsq; dsimp only; rw [shapeCast_self]
theorem pay68 (x : Vec F S1024x128 .f32) (y : Vec F S8192x128 .f32) : k1_pay68 x y = dots x y := by unfold k1_pay68 dots; rw [shapeCast_self]
theorem pay69 (x : Vec F S8192 .f32) : k1_pay69 x = x := by unfold k1_pay69; rw [shapeCast_self]
theorem pay2 (i : grid1.Coords) (z : FVec F S1024x64 .f32) (a : Vec F S1024x1 .f32) : k1_pay2 (k1_pay9 i) (zsq z) a = accNow i z a := by
  unfold k1_pay2 accNow; exact shapeCast_self _ _
theorem pay3 (a : Vec F S1024x1 .f32) : k1_pay3 a = total a := rfl

section Points
variable (c : Dev nD) (i : grid1.Coords) (arg1 : Memref sig .tc .vmem S1024x64 .f32) (harg1 : arg1.IsWhole) (arg2 : Memref sig .tc .vmem S8192x128 .f32) (harg2 : arg2.IsWhole) (arg3 : Memref sig .tc .vmem S8192 .f32) (harg3 : arg3.IsWhole) (arg4 : Memref sig .tc .vmem S1024 .i32) (harg4 : arg4.IsWhole) (arg5 : Memref sig .tc .smem S1x1 .f32) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .i32) (harg9 : arg9.IsWhole) (x0 : Vec F S1024x64 .f32) (x1 : Vec F S8192x128 .f32) (x2 : Vec F S8192 .f32) (xs0 : Vec F S1024x1 .f32) (xs1 : Vec F S1024x128 .f32) (xs2 : Vec F S1024x128 .f32) (xs3 : Vec F S1024x128 .i32)

/-- A strip read of a buffer's own contents. -/
theorem readAt_strip {s : Shape} {e : EltTy} {sp : Space} (M : Memref sig .tc sp s e) (h : M.IsWhole) (X : s.Idx → Elt F e) (r : Rect s) :
    View.readAt (Elt F) M.view r.toLoadRect (h.unread X) = fun x => X (r.idx x) :=
  funext fun x => (View.readAt_apply _ _ _).trans (by rw [h.read_unread])

theorem wr_owns {s : Shape} {e : EltTy} {sp : Space} (M : Memref sig .tc sp s e) (f : M.view.ty.Contents (Elt F)) (L : List (View.Piece (Elt F) s e)) (X : s.Idx → Elt F e)
    (h : M.view.read (Elt F) (M.view.writes (Elt F) f L) = X) : (wr c M f L : sProp 𝕄) ⊢ owns (c : Thread nD τ) M fullShare X := by
  unfold owns; iintro H; iexists _; isplitr; swap; (· iexact H); ipureintro; exact h

/-! ### The middle points -/

section Mid
variable (hc0 : ¬isFirst i) (hc1 : ¬isLast i)

theorem mid_M : (runMid c i arg1 harg1 arg2 harg2 arg3 harg3 arg4 harg4 arg5 harg5 arg6 harg6 arg7 harg7 arg8 harg8 arg9 harg9 hc0 hc1 x0 x1 x2 xs0 xs1 xs2 xs3).2.2.2.2.1 = piecesM (runMid.sl.r_18 c arg1 harg1 arg2 harg2 arg7 harg7 x0 x1 xs1) (runMid.sl.r_19 c arg3 harg3 x2) := rfl
theorem mid_J : (runMid c i arg1 harg1 arg2 harg2 arg3 harg3 arg4 harg4 arg5 harg5 arg6 harg6 arg7 harg7 arg8 harg8 arg9 harg9 hc0 hc1 x0 x1 x2 xs0 xs1 xs2 xs3).2.2.2.2.2.1 = piecesJ (runMid.sl.r_18 c arg1 harg1 arg2 harg2 arg7 harg7 x0 x1 xs1) (runMid.sl.r_19 c arg3 harg3 x2) := rfl
theorem mid_I : (runMid c i arg1 harg1 arg2 harg2 arg3 harg3 arg4 harg4 arg5 harg5 arg6 harg6 arg7 harg7 arg8 harg8 arg9 harg9 hc0 hc1 x0 x1 x2 xs0 xs1 xs2 xs3).1
    = piecesI (fun r => View.readAt (Elt F) arg8.view (rect128 r).toLoadRect (harg8.unread xs2)) (fun r => View.readAt (Elt F) arg9.view (rect128 r).toLoadRect (harg9.unread xs3)) := rfl
theorem mid_A : runMid.sl.HS0_16 c i arg6 harg6 arg8 harg8 xs0 xs2
    = piecesA i (fun r => View.readAt (Elt F) arg8.view (rect128 r).toLoadRect (harg8.unread xs2)) (fun r => View.readAt (Elt F) arg6.view (rect1 r).toLoadRect (harg6.unread xs0)) := rfl
theorem mid_r19 : runMid.sl.r_19 c arg3 harg3 x2 = x2 := by
  unfold runMid.sl.r_19
  rw [pay69]
  exact (View.readAt_full arg3.view _ _).trans (harg3.read_unread x2)
theorem mid_z (inb : ∀ a, ![0, 0] a + S1024x64.size a ≤ S1024x64.size a) : View.readAt (Elt F) arg1.view (Rect.unit ![0, 0] S1024x64.size inb).toLoadRect (harg1.unread x0) = x0 :=
  (View.readAt_full arg1.view _ _).trans (harg1.read_unread x0)
theorem mid_r16 : runMid.sl.r_16 c arg1 harg1 x0 = zsq x0 := by
  unfold runMid.sl.r_16
  rw [pay66, mid_z]

theorem mid_Z (hp : ∃ z, xs1 = pad z) : arg7.view.read (Elt F) (arg7.view.writes (Elt F) (harg7.unread xs1) (runMid.sl.HS1_1 c arg1 harg1 x0)) = pad x0 := by
  unfold runMid.sl.HS1_1
  rw [pay67, mid_z]
  obtain ⟨z, rfl⟩ := hp
  exact read_neg2 _ _ x0 _ [] fun y hy => by
    rw [show arg7.view.writes (Elt F) (harg7.unread (pad z)) [] = harg7.unread (pad z) from rfl, harg7.read_unread]; exact pad_high z y hy

theorem mid_r18 (hp : ∃ z, xs1 = pad z) : runMid.sl.r_18 c arg1 harg1 arg2 harg2 arg7 harg7 x0 x1 xs1 = dots (pad x0) x1 := by
  unfold runMid.sl.r_18 runMid.sl.r_17
  rw [pay68]
  exact congrArg₂ dots ((View.readAt_full arg7.view _ _).trans (mid_Z c arg1 harg1 arg7 harg7 x0 xs1 hp)) ((View.readAt_full arg2.view _ _).trans (harg2.read_unread x1))

theorem mid_v9688 : runMid.sl.v9688 c i arg6 harg6 arg8 harg8 xs0 xs2 = accBefore i xs2 xs0 := by
  unfold runMid.sl.v9688
  rw [mid_A]
  simp only [readAt_strip]
  refine (View.readAt_full arg6.view _ _).trans ?_
  rw [← List.append_nil (piecesA _ _ _)]
  exact read_piecesA arg6.view _ i xs2 xs0 []

include hc0 hc1 in
/-- A middle point: the indices of the block before, and this block's minima. -/
theorem point_mid (hp : ∃ z, xs1 = pad z) (xi4 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ owns (c : Thread nD τ) arg5 fullShare xi4 ∗ owns (c : Thread nD τ) arg6 fullShare xs0 ∗ owns (c : Thread nD τ) arg7 fullShare xs1 ∗ owns (c : Thread nD τ) arg8 fullShare xs2 ∗ owns (c : Thread nD τ) arg9 fullShare xs3
        ∗ (iprop(owns (c : Thread nD τ) arg1 fullShare x0 ∗ owns (c : Thread nD τ) arg2 fullShare x1 ∗ owns (c : Thread nD τ) arg3 fullShare x2 ∗ owns (c : Thread nD τ) arg4 fullShare (indices xs2 xs3)
            ∗ owns (c : Thread nD τ) arg5 fullShare xi4 ∗ owns (c : Thread nD τ) arg6 fullShare (accAfter i x0 xs2 xs0) ∗ owns (c : Thread nD τ) arg7 fullShare (pad x0)
            ∗ owns (c : Thread nD τ) arg8 fullShare (minima (dots (pad x0) x1) x2) ∗ owns (c : Thread nD τ) arg9 fullShare (groups (dots (pad x0) x1) x2)) -∗ K ⟨⟩))
      ⊢ wp frame (wpE (defs₀ (F := F)) Variants.none c none) E (cc1__dist_body i arg1 harg1 arg2 harg2 arg3 harg3 arg4 harg4 arg5 harg5 arg6 harg6 arg7 harg7 arg8 harg8 arg9 harg9) K := by
  refine .trans ?_ ((runMid c i arg1 harg1 arg2 harg2 arg3 harg3 arg4 harg4 arg5 harg5 arg6 harg6 arg7 harg7 arg8 harg8 arg9 harg9 hc0 hc1 x0 x1 x2 xs0 xs1 xs2 xs3).2.2.2.2.2.2 xi4 E K)
  iintro ⟨H1, H2, H3, H4, H5, H6, H7, H8, H9, Hk⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, ⟨%f4, H4⟩, H5, ⟨%f6, H6⟩, H7, ⟨%f8, H8⟩, ⟨%f9, H9⟩⟩
  iapply Hk
  isplitl [H1]; · iexact H1
  isplitl [H2]; · iexact H2
  isplitl [H3]; · iexact H3
  isplitl [H4]
  · iapply (wr_owns c arg4 f4 _ _ (by rw [mid_I]; simp only [readAt_strip]; exact read_piecesI arg4.view f4 xs2 xs3)) $$ H4
  isplitl [H5]; · iexact H5
  isplitl [H6]
  · iapply (wr_owns c arg6 f6 _ _ (by
      refine (View.read_writes_full arg6.view _ _ _ _).trans ?_
      rw [mid_r16, mid_v9688, pay2]; rfl)) $$ H6
  isplitl [H7]
  · iapply (wr_owns c arg7 (harg7.unread xs1) _ _ (by exact mid_Z c arg1 harg1 arg7 harg7 x0 xs1 hp)) $$ H7
  isplitl [H8]
  · iapply (wr_owns c arg8 f8 _ _ (by
      rw [mid_M, mid_r18 _ _ _ _ _ _ _ _ _ _ hp, mid_r19, ← List.append_nil (piecesM _ _)]; exact read_piecesM arg8.view f8 _ _ [])) $$ H8
  iapply (wr_owns c arg9 f9 _ _ (by
      rw [mid_J, mid_r18 _ _ _ _ _ _ _ _ _ _ hp, mid_r19, ← List.append_nil (piecesJ _ _)]; exact read_piecesJ arg9.view f9 _ _ [])) $$ H9
end Mid

/-! ### The last point -/

section Last
variable (hc0 : ¬isFirst i) (hc1 : isLast i)

theorem last_M : (runLast c i arg1 harg1 arg2 harg2 arg3 harg3 arg4 harg4 arg5 harg5 arg6 harg6 arg7 harg7 arg8 harg8 arg9 harg9 hc0 hc1 x0 x1 x2 xs0 xs1 xs2 xs3).2.2.2.2.1 = piecesM (runMid.sl.r_18 c arg1 harg1 arg2 harg2 arg7 harg7 x0 x1 xs1) (runMid.sl.r_19 c arg3 harg3 x2) := rfl
theorem last_J : (runLast c i arg1 harg1 arg2 harg2 arg3 harg3 arg4 harg4 arg5 harg5 arg6 harg6 arg7 harg7 arg8 harg8 arg9 harg9 hc0 hc1 x0 x1 x2 xs0 xs1 xs2 xs3).2.2.2.2.2.1 = piecesJ (runMid.sl.r_18 c arg1 harg1 arg2 harg2 arg7 harg7 x0 x1 xs1) (runMid.sl.r_19 c arg3 harg3 x2) := rfl
theorem last_I : (runLast c i arg1 harg1 arg2 harg2 arg3 harg3 arg4 harg4 arg5 harg5 arg6 harg6 arg7 harg7 arg8 harg8 arg9 harg9 hc0 hc1 x0 x1 x2 xs0 xs1 xs2 xs3).1
    = piecesI (fun r => View.readAt (Elt F) arg8.view (rect128 r).toLoadRect (harg8.unread xs2)) (fun r => View.readAt (Elt F) arg9.view (rect128 r).toLoadRect (harg9.unread xs3)) := rfl
theorem last_acc : k1_pay2 (k1_pay9 i) (runLast.sl.r_16 c arg1 harg1 x0) (runLast.sl.v9688 c i arg6 harg6 arg8 harg8 xs0 xs2) = accAfter i x0 xs2 xs0 := by
  rw [show runLast.sl.r_16 c arg1 harg1 x0 = runMid.sl.r_16 c arg1 harg1 x0 from rfl, show runLast.sl.v9688 c i arg6 harg6 arg8 harg8 xs0 xs2 = runMid.sl.v9688 c i arg6 harg6 arg8 harg8 xs0 xs2 from rfl,
    mid_r16, mid_v9688, pay2]
  rfl
theorem last_v9698 : runLast.sl.v9698 c i arg1 harg1 arg6 harg6 arg8 harg8 x0 xs0 xs2 = accAfter i x0 xs2 xs0 := by
  unfold runLast.sl.v9698 runLast.sl.HS0_17
  rw [last_acc]
  exact View.readCov_full arg6.view _ _ _ _
theorem last_T : (runLast c i arg1 harg1 arg2 harg2 arg3 harg3 arg4 harg4 arg5 harg5 arg6 harg6 arg7 harg7 arg8 harg8 arg9 harg9 hc0 hc1 x0 x1 x2 xs0 xs1 xs2 xs3).2.1 = [⟨Rect.unit ![0, 0] ![1, 1] inb_S1x1_S1x1_0_0, fun _ => k1_pay3 (runLast.sl.v9698 c i arg1 harg1 arg6 harg6 arg8 harg8 x0 xs0 xs2)⟩] := rfl

include hc0 hc1 in
/-- The last point: as a middle one, and the accumulator's sum. -/
theorem point_last (hp : ∃ z, xs1 = pad z) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3
        ∗ (iprop(owns (c : Thread nD τ) arg1 fullShare x0 ∗ owns (c : Thread nD τ) arg2 fullShare x1 ∗ owns (c : Thread nD τ) arg3 fullShare x2 ∗ owns (c : Thread nD τ) arg4 fullShare (indices xs2 xs3)
            ∗ owns (c : Thread nD τ) arg5 fullShare (fun _ => total (accAfter i x0 xs2 xs0)) ∗ owns (c : Thread nD τ) arg6 fullShare (accAfter i x0 xs2 xs0) ∗ owns (c : Thread nD τ) arg7 fullShare (pad x0)
            ∗ owns (c : Thread nD τ) arg8 fullShare (minima (dots (pad x0) x1) x2) ∗ owns (c : Thread nD τ) arg9 fullShare (groups (dots (pad x0) x1) x2)) -∗ K ⟨⟩))
      ⊢ wp frame (wpE (defs₀ (F := F)) Variants.none c none) E (cc1__dist_body i arg1 harg1 arg2 harg2 arg3 harg3 arg4 harg4 arg5 harg5 arg6 harg6 arg7 harg7 arg8 harg8 arg9 harg9) K := by
  refine .trans ?_ ((runLast c i arg1 harg1 arg2 harg2 arg3 harg3 arg4 harg4 arg5 harg5 arg6 harg6 arg7 harg7 arg8 harg8 arg9 harg9 hc0 hc1 x0 x1 x2 xs0 xs1 xs2 xs3).2.2.2.2.2.2 E K)
  iintro ⟨H1, H2, H3, H4, H5, H6, H7, H8, H9, Hk⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, ⟨%f4, H4⟩, ⟨%f5, H5⟩, ⟨%f6, H6⟩, H7, ⟨%f8, H8⟩, ⟨%f9, H9⟩⟩
  iapply Hk
  isplitl [H1]; · iexact H1
  isplitl [H2]; · iexact H2
  isplitl [H3]; · iexact H3
  isplitl [H4]
  · iapply (wr_owns c arg4 f4 _ _ (by rw [last_I]; simp only [readAt_strip]; exact read_piecesI arg4.view f4 xs2 xs3)) $$ H4
  isplitl [H5]
  · iapply (wr_owns c arg5 f5 _ _ (by
      rw [last_T]
      refine (View.read_writes_full arg5.view _ _ _ _).trans ?_
      rw [last_v9698]; rfl)) $$ H5
  isplitl [H6]
  · iapply (wr_owns c arg6 f6 _ _ (by
      refine (View.read_writes_full arg6.view _ _ _ _).trans ?_
      exact last_acc c i arg1 harg1 arg6 harg6 arg8 harg8 x0 xs0 xs2)) $$ H6
  isplitl [H7]
  · iapply (wr_owns c arg7 (harg7.unread xs1) _ _ (by exact mid_Z c arg1 harg1 arg7 harg7 x0 xs1 hp)) $$ H7
  isplitl [H8]
  · iapply (wr_owns c arg8 f8 _ _ (by
      rw [last_M, mid_r18 _ _ _ _ _ _ _ _ _ _ hp, mid_r19, ← List.append_nil (piecesM _ _)]; exact read_piecesM arg8.view f8 _ _ [])) $$ H8
  iapply (wr_owns c arg9 f9 _ _ (by
      rw [last_J, mid_r18 _ _ _ _ _ _ _ _ _ _ hp, mid_r19, ← List.append_nil (piecesJ _ _)]; exact read_piecesJ arg9.view f9 _ _ [])) $$ H9
end Last

/-! ### The first point -/

section First
variable (hc0 : isFirst i) (hc1 : ¬isLast i)

/-- A strip read after one store of the whole buffer. -/
theorem readCov_whole {s : Shape} {e : EltTy} {sp : Space} (M : Memref sig .tc sp s e) {off : Fin s.rank → ℕ} (inb : ∀ a, off a + s.size a ≤ s.size a)
    (w : (Rect.unit off s.size inb).shape.Idx → Elt F e) (r : Rect s) : M.view.readCov [⟨Rect.unit off s.size inb, w⟩] r.toLoadRect = fun x => w (r.idx x) :=
  funext fun x => (View.readAt_apply _ _ _).trans (by rw [View.read_writes_full])

theorem pay6 : (k1_pay6 : FVec F S1024x128 .f32) = zeroM := by unfold k1_pay6; dsimp only; rw [shapeCast_self]
theorem pay7 : k1_pay7 = zeroJ := by unfold k1_pay7; exact shapeCast_self _ _
theorem pay4 : (k1_pay4 : FVec F S1024x1 .f32) = zeroA := by unfold k1_pay4; dsimp only; rw [shapeCast_self]
theorem pay5 (x : S1024x64.Idx) : (k1_pay5 : FVec F S1024x64 .f32) x = Scalar.ofBits .f32 0x00000000#32 := by unfold k1_pay5; exact congrFun (shapeCast_self _ _) x

theorem first_m (r : Fin 16) : arg8.view.readCov (runFirst.sl.HS2_1 (F := F)) (rect128 r).toLoadRect = strip128 zeroM r := by
  unfold runFirst.sl.HS2_1
  rw [pay6]
  exact readCov_whole arg8 _ _ _
theorem first_j (r : Fin 16) : arg9.view.readCov (Val := Elt F) runFirst.sl.HS3_1 (rect128 r).toLoadRect = strip128 zeroJ r := by
  unfold runFirst.sl.HS3_1
  rw [pay7]
  exact readCov_whole arg9 _ _ _
theorem first_a (r : Fin 16) : arg6.view.readCov (runFirst.sl.HS0_1 (F := F)) (rect1 r).toLoadRect = strip1 zeroA r := by
  unfold runFirst.sl.HS0_1
  rw [pay4]
  exact readCov_whole arg6 _ _ _

theorem first_M : (runFirst c i arg1 harg1 arg2 harg2 arg3 harg3 arg4 harg4 arg5 harg5 arg6 harg6 arg7 harg7 arg8 harg8 arg9 harg9 hc0 hc1 x0 x1 x2).2.2.2.2.1 = piecesM (runFirst.sl.r_12 c arg1 harg1 arg2 harg2 arg7 x0 x1) (runFirst.sl.r_13 c arg3 harg3 x2) ++ runFirst.sl.HS2_1 := rfl
theorem first_J : (runFirst c i arg1 harg1 arg2 harg2 arg3 harg3 arg4 harg4 arg5 harg5 arg6 harg6 arg7 harg7 arg8 harg8 arg9 harg9 hc0 hc1 x0 x1 x2).2.2.2.2.2.1 = piecesJ (runFirst.sl.r_12 c arg1 harg1 arg2 harg2 arg7 x0 x1) (runFirst.sl.r_13 c arg3 harg3 x2) ++ runFirst.sl.HS3_1 := rfl
theorem first_I' : (runFirst c i arg1 harg1 arg2 harg2 arg3 harg3 arg4 harg4 arg5 harg5 arg6 harg6 arg7 harg7 arg8 harg8 arg9 harg9 hc0 hc1 x0 x1 x2).1
    = piecesI (fun r => arg8.view.readCov (runFirst.sl.HS2_1 (F := F)) (rect128 r).toLoadRect) (fun r => arg9.view.readCov (Val := Elt F) runFirst.sl.HS3_1 (rect128 r).toLoadRect) := rfl
theorem first_I : (runFirst c i arg1 harg1 arg2 harg2 arg3 harg3 arg4 harg4 arg5 harg5 arg6 harg6 arg7 harg7 arg8 harg8 arg9 harg9 hc0 hc1 x0 x1 x2).1 = piecesI (strip128 zeroM) (strip128 zeroJ) := by
  rw [first_I']
  exact congrArg₂ piecesI (funext fun r => first_m arg8 r) (funext fun r => first_j arg9 r)
theorem first_A' : runFirst.sl.HS0_17 c i arg6 arg8
    = chain arg6.view rect1 (fun r a => shapeCast S64x1 (accStrip i (arg8.view.readCov (runFirst.sl.HS2_1 (F := F)) (rect128 r).toLoadRect) a) shapeCasts_S64x1_S64x1) runFirst.sl.HS0_1 strips := rfl
theorem first_A : runFirst.sl.HS0_17 c i arg6 arg8 = piecesA i (strip128 zeroM) (strip1 (zeroA (F := F))) ++ runFirst.sl.HS0_1 := by
  rw [first_A', chain_eq _ _ _ _ disj1 _ (by decide)]
  simp only [first_m, first_a]
  rfl
theorem first_r11 : runFirst.sl.r_11 c arg1 harg1 x0 = zsq x0 := mid_r16 c arg1 harg1 x0
theorem first_r13 : runFirst.sl.r_13 c arg3 harg3 x2 = x2 := mid_r19 c arg3 harg3 x2
theorem first_Z (f : arg7.view.ty.Contents (Elt F)) : arg7.view.read (Elt F) (arg7.view.writes (Elt F) f (runFirst.sl.HS1_2 c arg1 harg1 x0)) = pad x0 := by
  unfold runFirst.sl.HS1_2
  rw [pay67, mid_z]
  exact read_neg2 _ _ x0 _ _ fun y hy => by
    have h0 : (y 1).val < 128 := (y 1).isLt
    refine (View.read_writes_cons_unit_of_mem arg7.view _ _ _ _ y (atZ (y 0) ⟨(y 1).val - 64, by omega⟩) rfl (fun a => ?_)).trans (pay5 _)
    match a with
    | 0 => show (y 0).val = 0 + (y 0).val; omega
    | 1 => show (y 1).val = 64 + ((y 1).val - 64); omega
theorem first_r12 : runFirst.sl.r_12 c arg1 harg1 arg2 harg2 arg7 x0 x1 = dots (pad x0) x1 := by
  unfold runFirst.sl.r_12 runFirst.sl.v338
  rw [pay68]
  exact congrArg₂ dots ((View.readAt_full arg7.view _ _).trans (first_Z c arg1 harg1 arg7 x0 _)) ((View.readAt_full arg2.view _ _).trans (harg2.read_unread x1))
theorem first_v9688 : runFirst.sl.v9688 c i arg6 arg8 = accBefore i zeroM (zeroA (F := F)) := by
  unfold runFirst.sl.v9688
  rw [first_A]
  exact (View.readAt_full arg6.view _ _).trans (read_piecesA arg6.view _ i zeroM zeroA _)

include hc0 hc1 in
/-- The first point, over cleared buffers. -/
theorem point_first (xi4 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ owns (c : Thread nD τ) arg5 fullShare xi4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare (indices (zeroM (F := F)) zeroJ)
            ∗ owns (c : Thread nD τ) arg5 fullShare xi4 ∗ owns (c : Thread nD τ) arg6 fullShare (accAfter i x0 zeroM zeroA) ∗ owns (c : Thread nD τ) arg7 fullShare (pad x0)
            ∗ owns (c : Thread nD τ) arg8 fullShare (minima (dots (pad x0) x1) x2) ∗ owns (c : Thread nD τ) arg9 fullShare (groups (dots (pad x0) x1) x2)) -∗ K ⟨⟩))
      ⊢ wp frame (wpE (defs₀ (F := F)) Variants.none c none) E (cc1__dist_body i arg1 harg1 arg2 harg2 arg3 harg3 arg4 harg4 arg5 harg5 arg6 harg6 arg7 harg7 arg8 harg8 arg9 harg9) K := by
  refine .trans ?_ ((runFirst c i arg1 harg1 arg2 harg2 arg3 harg3 arg4 harg4 arg5 harg5 arg6 harg6 arg7 harg7 arg8 harg8 arg9 harg9 hc0 hc1 x0 x1 x2).2.2.2.2.2.2 xi4 E K)
  iintro ⟨H1, H2, H3, H4, H5, H6, H7, H8, H9, Hk⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, ⟨%f4, H4⟩, H5, ⟨%f6, H6⟩, ⟨%f7, H7⟩, ⟨%f8, H8⟩, ⟨%f9, H9⟩⟩
  iapply Hk
  isplitl [H1]; · iexact H1
  isplitl [H2]; · iexact H2
  isplitl [H3]; · iexact H3
  isplitl [H4]
  · iapply (wr_owns c arg4 f4 _ _ (by rw [first_I]; exact read_piecesI arg4.view f4 zeroM zeroJ)) $$ H4
  isplitl [H5]; · iexact H5
  isplitl [H6]
  · iapply (wr_owns c arg6 f6 _ _ (by
      refine (View.read_writes_full arg6.view _ _ _ _).trans ?_
      rw [first_r11, first_v9688, pay2]; rfl)) $$ H6
  isplitl [H7]
  · iapply (wr_owns c arg7 f7 _ _ (by exact first_Z c arg1 harg1 arg7 x0 f7)) $$ H7
  isplitl [H8]
  · iapply (wr_owns c arg8 f8 _ _ (by
      rw [first_M, first_r12, first_r13]; exact read_piecesM arg8.view f8 _ _ _)) $$ H8
  iapply (wr_owns c arg9 f9 _ _ (by
      rw [first_J, first_r12, first_r13]; exact read_piecesJ arg9.view f9 _ _ _)) $$ H9
end First

end Points

end Cert.Proof.Dist

end
-- ==== Proof.Dist.Step.lean ====
/-
  What the distance kernel's buffers hold after each point of its grid, and one point.
-/
module

public import proofs.«01_k».proof.Proof.Dist.Pieces
public import proofs.«01_k».proof.Proof.Gen.KernelIdeal.Points
public import proofs.«01_k».proof.Proof.Gen.KernelIdeal.Launch
public import Idealize.ShloMosaic.Lib.WordCmp

@[expose] public section

noncomputable section

namespace Cert.Proof.Dist

open Cert.KernelIdeal Cert.KernelIdeal.Gen Cert.Proof.Tile

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The grid's coordinate at a position. -/
def co (n : ℕ) : grid1.Coords := if h : n < grid1.N then grid1.coords ⟨n, h⟩ else grid1.coords ⟨0, by decide⟩

theorem co_eq (t : Fin grid1.N) : co t.val = grid1.coords t := dif_pos t.isLt

theorem isFirst_iff (t : Fin grid1.N) : isFirst (grid1.coords t) ↔ t.val = 0 := by
  have ht : t.val < 17 := Nat.lt_of_lt_of_eq t.isLt N_1
  have e0 : (grid1.coords t 0).val = t.val / 1 % 17 := Pipeline.Grid.coords_val t 0 (by decide) rfl
  have : isFirst (grid1.coords t) ↔ t.val % 17 = 0 := by
    simp only [isFirst, e0]
    word_cmp
  rw [this]; omega

theorem isLast_iff (t : Fin grid1.N) : isLast (grid1.coords t) ↔ t.val = 16 := by
  have ht : t.val < 17 := Nat.lt_of_lt_of_eq t.isLt N_1
  have e0 : (grid1.coords t 0).val = t.val / 1 % 17 := Pipeline.Grid.coords_val t 0 (by decide) rfl
  have : isLast (grid1.coords t) ↔ t.val % 17 = 16 := by
    simp only [isLast, k1_cond2, e0]
    word_cmp
  rw [this]; omega

def atN (p : Fin 16384) (q : Fin 64) : S16384x64.Idx := fun | 0 => p | 1 => q
def atV (p : Fin 16384) : S16384.Idx := fun | 0 => p
/-- The block of 1024 rows at a position: the last one again at the grid's last point. -/
def rowsOf (Z : FVec F S16384x64 .f32) (n : ℕ) : FVec F S1024x64 .f32 :=
  fun y => Z (atN ⟨min n 15 * 1024 + (y 0).val, by have : (y 0).val < 1024 := (y 0).isLt; omega⟩ (y 1))

section State
variable (zb : ℕ → FVec F S1024x64 .f32) (cbw : FVec F S8192x128 .f32) (csq : FVec F S8192 .f32)

/-- The running minima before a position, -/
def minimaAt : ℕ → FVec F S1024x128 .f32
  | 0 => zeroM
  | n + 1 => minima (dots (pad (zb n)) cbw) csq
/-- the groups, -/
def groupsAt : ℕ → IVec S1024x128 32
  | 0 => zeroJ
  | n + 1 => groups (dots (pad (zb n)) cbw) csq
/-- the accumulator, -/
def accAt : ℕ → FVec F S1024x1 .f32
  | 0 => zeroA
  | n + 1 => accAfter (co n) (zb n) (minimaAt zb cbw csq n) (accAt n)
/-- and the indices stored at it. -/
def idxAt (n : ℕ) : IVec S1024 32 := indices (minimaAt zb cbw csq n) (groupsAt zb cbw csq n)

/-- All 16384 indices: the block's at a position are stored at the next. -/
def allIdx : IVec S16384 32 := fun y => idxAt zb cbw csq ((y 0).val / 1024 + 1) (fun | 0 => ⟨(y 0).val % 1024, Nat.mod_lt _ (by decide)⟩)
theorem allIdx_at (n : ℕ) (hn : 1 ≤ n) (x : S1024.Idx) (y : S16384.Idx) (h : (y 0).val = (n - 1) * 1024 + (x 0).val) :
    idxAt zb cbw csq n x = allIdx zb cbw csq y := by
  have hx : (x 0).val < 1024 := (x 0).isLt
  unfold allIdx
  have e : (y 0).val / 1024 + 1 = n := by omega
  rw [e]
  refine congrArg (idxAt zb cbw csq n) (funext fun a => ?_)
  match a with
  | ⟨0, _⟩ => exact Fin.ext (by show (x 0).val = (y 0).val % 1024; omega)
/-- The sum stored at the last point. -/
def allSum : FVec F S1x1 .f32 := fun _ => total (accAt zb cbw csq 17)

variable (c : Dev nD) (s0 : Memref sig .tc .vmem S1024x1 .f32) (s1 : Memref sig .tc .vmem S1024x128 .f32) (s2 : Memref sig .tc .vmem S1024x128 .f32) (s3 : Memref sig .tc .vmem S1024x128 .i32)

/-- The kernel's own buffers before a position. -/
def carried : ℕ → sProp 𝕄
  | 0 => iprop((∃ d, owns (c : Thread nD τ) s0 fullShare d) ∗ (∃ d, owns (c : Thread nD τ) s1 fullShare d) ∗ (∃ d, owns (c : Thread nD τ) s2 fullShare d) ∗ (∃ d, owns (c : Thread nD τ) s3 fullShare d))
  | n + 1 => iprop(owns (c : Thread nD τ) s0 fullShare (accAt zb cbw csq (n + 1)) ∗ owns (c : Thread nD τ) s1 fullShare (pad (zb n))
      ∗ owns (c : Thread nD τ) s2 fullShare (minimaAt zb cbw csq (n + 1)) ∗ owns (c : Thread nD τ) s3 fullShare (groupsAt zb cbw csq (n + 1)))

/-- One point of the grid. -/
theorem step_at (n : ℕ) (hn : n < grid1.N) (arg1 : Memref sig .tc .vmem S1024x64 .f32) (harg1 : arg1.IsWhole) (arg2 : Memref sig .tc .vmem S8192x128 .f32) (harg2 : arg2.IsWhole) (arg3 : Memref sig .tc .vmem S8192 .f32) (harg3 : arg3.IsWhole) (arg4 : Memref sig .tc .vmem S1024 .i32) (harg4 : arg4.IsWhole) (arg5 : Memref sig .tc .smem S1x1 .f32) (harg5 : arg5.IsWhole)
    (hs0 : s0.IsWhole) (hs1 : s1.IsWhole) (hs2 : s2.IsWhole) (hs3 : s3.IsWhole) (xi4 : Vec F S1x1 .f32) (E : Set ℕ) (K : PUnit → sProp 𝕄) :
    iprop(carried zb cbw csq c s0 s1 s2 s3 n ∗ owns (c : Thread nD τ) arg1 fullShare (zb n) ∗ owns (c : Thread nD τ) arg2 fullShare cbw ∗ owns (c : Thread nD τ) arg3 fullShare csq
        ∗ (∃ d, owns (c : Thread nD τ) arg4 fullShare d) ∗ owns (c : Thread nD τ) arg5 fullShare xi4
        ∗ (iprop(carried zb cbw csq c s0 s1 s2 s3 (n + 1) ∗ owns (c : Thread nD τ) arg1 fullShare (zb n) ∗ owns (c : Thread nD τ) arg2 fullShare cbw ∗ owns (c : Thread nD τ) arg3 fullShare csq
            ∗ owns (c : Thread nD τ) arg4 fullShare (idxAt zb cbw csq n)
            ∗ owns (c : Thread nD τ) arg5 fullShare (if n = 16 then (fun _ => total (accAt zb cbw csq (n + 1))) else xi4)) -∗ K ⟨⟩))
      ⊢ wp frame (wpE (defs₀ (F := F)) Variants.none c none) E (cc1__dist_body (grid1.coords ⟨n, hn⟩) arg1 harg1 arg2 harg2 arg3 harg3 arg4 harg4 arg5 harg5 s0 hs0 s1 hs1 s2 hs2 s3 hs3) K := by
  match n, hn with
  | 0, hn =>
    have h0 : isFirst (grid1.coords ⟨0, hn⟩) := (isFirst_iff _).mpr rfl
    have h1 : ¬isLast (grid1.coords ⟨0, hn⟩) := fun h => absurd ((isLast_iff _).mp h) (by simp)
    rw [if_neg (by decide)]
    refine .trans ?_ (point_first c (grid1.coords ⟨0, hn⟩) arg1 harg1 arg2 harg2 arg3 harg3 arg4 harg4 arg5 harg5 s0 hs0 s1 hs1 s2 hs2 s3 hs3 (zb 0) cbw csq h0 h1 xi4 E K)
    unfold carried
    simp only [minimaAt, groupsAt, accAt, idxAt, show co 0 = grid1.coords ⟨0, hn⟩ from co_eq ⟨0, hn⟩]
    iintro ⟨⟨HS0, HS1, HS2, HS3⟩, H1, H2, H3, H4, H5, Hk⟩
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H1, H2, H3, H4, H5, HS0, HS1, HS2, HS3⟩
    iapply Hk
    isplitl [HS0 HS1 HS2 HS3]
    · isplitl [HS0]; · iexact HS0
      isplitl [HS1]; · iexact HS1
      isplitl [HS2]; · iexact HS2
      iexact HS3
    isplitl [H1]; · iexact H1
    isplitl [H2]; · iexact H2
    isplitl [H3]; · iexact H3
    isplitl [H4] <;> iassumption
  | n + 1, hn =>
    have h0 : ¬isFirst (grid1.coords ⟨n + 1, hn⟩) := fun h => absurd ((isFirst_iff _).mp h) (by simp)
    by_cases hl : n + 1 = 16
    · have h1 : isLast (grid1.coords ⟨n + 1, hn⟩) := (isLast_iff _).mpr hl
      rw [if_pos hl]
      refine .trans ?_ (point_last c (grid1.coords ⟨n + 1, hn⟩) arg1 harg1 arg2 harg2 arg3 harg3 arg4 harg4 arg5 harg5 s0 hs0 s1 hs1 s2 hs2 s3 hs3 (zb (n + 1)) cbw csq
        (accAt zb cbw csq (n + 1)) (pad (zb n)) (minimaAt zb cbw csq (n + 1)) (groupsAt zb cbw csq (n + 1)) h0 h1 ⟨_, rfl⟩ E K)
      have hA : accAt zb cbw csq (n + 1 + 1) = accAfter (grid1.coords ⟨n + 1, hn⟩) (zb (n + 1)) (minimaAt zb cbw csq (n + 1)) (accAt zb cbw csq (n + 1)) := by
        rw [accAt, show co (n + 1) = grid1.coords ⟨n + 1, hn⟩ from co_eq ⟨n + 1, hn⟩]
      simp only [carried, idxAt]
      rw [hA]
      iintro ⟨⟨HS0, HS1, HS2, HS3⟩, H1, H2, H3, H4, H5, Hk⟩
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H1, H2, H3, H4, H5, HS0, HS1, HS2, HS3⟩
      iapply Hk
      isplitl [HS0 HS1 HS2 HS3]
      · isplitl [HS0]; · iexact HS0
        isplitl [HS1]; · iexact HS1
        isplitl [HS2]; · iexact HS2
        iexact HS3
      isplitl [H1]; · iexact H1
      isplitl [H2]; · iexact H2
      isplitl [H3]; · iexact H3
      isplitl [H4]; · iexact H4
      iexact H5
    · have h1 : ¬isLast (grid1.coords ⟨n + 1, hn⟩) := fun h => hl ((isLast_iff _).mp h)
      rw [if_neg hl]
      refine .trans ?_ (point_mid c (grid1.coords ⟨n + 1, hn⟩) arg1 harg1 arg2 harg2 arg3 harg3 arg4 harg4 arg5 harg5 s0 hs0 s1 hs1 s2 hs2 s3 hs3 (zb (n + 1)) cbw csq
        (accAt zb cbw csq (n + 1)) (pad (zb n)) (minimaAt zb cbw csq (n + 1)) (groupsAt zb cbw csq (n + 1)) h0 h1 ⟨_, rfl⟩ xi4 E K)
      have hA : accAt zb cbw csq (n + 1 + 1) = accAfter (grid1.coords ⟨n + 1, hn⟩) (zb (n + 1)) (minimaAt zb cbw csq (n + 1)) (accAt zb cbw csq (n + 1)) := by
        rw [accAt, show co (n + 1) = grid1.coords ⟨n + 1, hn⟩ from co_eq ⟨n + 1, hn⟩]
      simp only [carried, idxAt]
      rw [hA]
      iintro ⟨⟨HS0, HS1, HS2, HS3⟩, H1, H2, H3, H4, H5, Hk⟩
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H1, H2, H3, H4, H5, HS0, HS1, HS2, HS3⟩
      iapply Hk
      isplitl [HS0 HS1 HS2 HS3]
      · isplitl [HS0]; · iexact HS0
        isplitl [HS1]; · iexact HS1
        isplitl [HS2]; · iexact HS2
        iexact HS3
      isplitl [H1]; · iexact H1
      isplitl [H2]; · iexact H2
      isplitl [H3]; · iexact H3
      isplitl [H4]; · iexact H4
      iexact H5
end State

end Cert.Proof.Dist

end
-- ==== Proof.Dist.Region1.lean ====
/-
  The first distance call's region: its proof data, its body and its entry and exit.
-/
module

public import proofs.«01_k».proof.Proof.Dist.Step
public import proofs.«01_k».proof.Proof.Prep
public import Idealize.ShloMosaic.Lib.Pipeline.FrameBody

@[expose] public section

noncomputable section

namespace Cert.Proof.Dist.R1

open Cert.KernelIdeal Cert.KernelIdeal.Gen Cert.Proof.Tile Cert.Proof.Prep

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

variable (V : (c : Dev nD) → (b : Ref sig .tc) → Buf (Elt F) ((c : Thread nD τ).loc b))
variable (O : Dev nD → CellTallies nD τ sig (HIx 2)) (hO : ∀ c g, O c g none = 0) (b : ℕ)

/-- A window's block at a point, off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of rows at a position, -/
def zb (c : Dev nD) (n : ℕ) : FVec F S1024x64 .f32 := if h : n < cfg1.N then iblk V c 0 ⟨n, h⟩ else iblk V c 0 ⟨0, by decide⟩
theorem zb_eq (c : Dev nD) (t : Fin cfg1.N) : zb V c t.val = iblk V c 0 t := dif_pos t.isLt
/-- the codebook, -/
abbrev cw (c : Dev nD) : FVec F S8192x128 .f32 := V c main_v0_0
/-- and its rows' sums of squares. -/
abbrev cq (c : Dev nD) : FVec F S8192 .f32 := V c main_v0_1

theorem index1 (t : Fin cfg1.N) (a : Fin 2) : win1_1.index t a = 0 := by fin_cases a <;> rfl
theorem index2 (t : Fin cfg1.N) (a : Fin 1) : win1_2.index t a = 0 := by fin_cases a; rfl
theorem iblk1 (c : Dev nD) (t : Fin cfg1.N) : iblk V c 1 t = cw V c :=
  Memref.read_access_unit_zero (Elt F) main_v0_0 (off := fun a => win1_1.index t a * main_v0_0.ty.shape.size a)
    (funext fun a => by rw [index1, Nat.zero_mul]) (fun a => by rw [index1, Nat.zero_mul, Nat.zero_add]) (V c main_v0_0)
theorem iblk2 (c : Dev nD) (t : Fin cfg1.N) : iblk V c 2 t = cq V c :=
  Memref.read_access_unit_zero (Elt F) main_v0_1 (off := fun a => win1_2.index t a * main_v0_1.ty.shape.size a)
    (funext fun a => by rw [index2, Nat.zero_mul]) (fun a => by rw [index2, Nat.zero_mul, Nat.zero_add]) (V c main_v0_1)

/-- The kernel's own buffers. -/
def own : List (Ref sig .tc) := [cc1_scratch0, cc1_scratch1, cc1_scratch2, cc1_scratch3]

def dat (c : Dev nD) : Dat τ (Elt F) (HIx 2) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => idxAt (zb V c) (cw V c) (cq V c) t.val
    | ⟨4, _⟩ => fun _ => total (accAt (zb V c) (cw V c) (cq V c) (t.val + 1))
  Φ t := iprop(carried (zb V c) (cw V c) (cq V c) c (Memref.whole cc1_scratch0) (Memref.whole cc1_scratch1) (Memref.whole cc1_scratch2) (Memref.whole cc1_scratch3) t.val
    ∗ Pipeline.scopedRestBut (Ix := HIx 2) (Name := ℕ) (U := UU) (Lvl := ℕ) (Val := Elt F) spec1 c own)
  q _ := fullShare
  owed _ := O c
  recorded _ := {p | (K (F := F)).lev ((c : Thread nD τ), p.1) p.2 ≤ b}

theorem before0 (c : Dev nD) (t : Fin cfg1.N) (d) : (dat V O b c).before 0 t d = iblk V c 0 t :=
  ((dat V O b c).before_in_eq_fetched 0 rfl (fun _ => rfl) (fun _ _ _ => rfl) (fun t => by rfl) t d).trans (by rfl)
theorem before1 (c : Dev nD) (t : Fin cfg1.N) (d) : (dat V O b c).before 1 t d = iblk V c 1 t :=
  ((dat V O b c).before_in_eq_fetched 1 rfl (fun _ => rfl) (fun _ _ _ => rfl) (fun t => by rfl) t d).trans (by rfl)
theorem before2 (c : Dev nD) (t : Fin cfg1.N) (d) : (dat V O b c).before 2 t d = iblk V c 2 t :=
  ((dat V O b c).before_in_eq_fetched 2 rfl (fun _ => rfl) (fun _ _ _ => rfl) (fun t => by rfl) t d).trans (by rfl)

theorem after3 (c : Dev nD) (t : Fin cfg1.N) : (dat V O b c).after 3 t = idxAt (zb V c) (cw V c) (cq V c) t.val := by dsimp only [dat]
theorem after4 (c : Dev nD) (t : Fin cfg1.N) : (dat V O b c).after 4 t = fun _ => total (accAt (zb V c) (cw V c) (cq V c) (t.val + 1)) := by dsimp only [dat]

theorem idle4 : ∀ t : Fin cfg1.N, t.val ≠ 16 → cfg1.idle 4 (grid1.coords t) = true := by decide +kernel
theorem noFlush4 : ∀ t : Fin cfg1.N, t.val ≠ 16 → (cfg1.win 4).flush t = false := by decide +kernel
theorem live4 : ∀ t : Fin cfg1.N, t.val = 16 → cfg1.idle 4 (grid1.coords t) = false := by decide +kernel

theorem leaves0 (c : Dev nD) (t : Fin cfg1.N) : (dat V O b c).leavesExact 0 t = owns (c : Thread nD τ) (st1_0 t) fullShare (iblk V c 0 t) := by
  unfold Dat.leavesExact; rw [show cfg1.idle 0 (cfg1.grid.coords t) = false from rfl]; rfl
theorem leaves1 (c : Dev nD) (t : Fin cfg1.N) : (dat V O b c).leavesExact 1 t = owns (c : Thread nD τ) (st1_1 t) fullShare (iblk V c 1 t) := by
  unfold Dat.leavesExact; rw [show cfg1.idle 1 (cfg1.grid.coords t) = false from rfl]; rfl
theorem leaves2 (c : Dev nD) (t : Fin cfg1.N) : (dat V O b c).leavesExact 2 t = owns (c : Thread nD τ) (st1_2 t) fullShare (iblk V c 2 t) := by
  unfold Dat.leavesExact; rw [show cfg1.idle 2 (cfg1.grid.coords t) = false from rfl]; rfl
theorem leaves3 (c : Dev nD) (t : Fin cfg1.N) : (dat V O b c).leavesExact 3 t = owns (c : Thread nD τ) (st1_3 t) fullShare (idxAt (zb V c) (cw V c) (cq V c) t.val) := by
  unfold Dat.leavesExact; rw [show cfg1.idle 3 (cfg1.grid.coords t) = false from rfl]
  exact congrArg (owns (c : Thread nD τ) (st1_3 t) fullShare) (after3 V O b c t)
theorem leaves4 (c : Dev nD) (t : Fin cfg1.N) (h : t.val = 16) :
    (dat V O b c).leavesExact 4 t = owns (c : Thread nD τ) (st1_4 t) fullShare (fun _ => total (accAt (zb V c) (cw V c) (cq V c) (t.val + 1))) := by
  unfold Dat.leavesExact; rw [show cfg1.idle 4 (cfg1.grid.coords t) = false from live4 t h]
  exact congrArg (owns (c : Thread nD τ) (st1_4 t) fullShare) (after4 V O b c t)

theorem sound_body (c : Dev nD) (t : Fin cfg1.N) :
    iprop((dat V O b c).Φ t.castSucc ∗ (dat V O b c).owesAt none t.castSucc
        ∗ (∃ d, owns (c : Thread nD τ) (st1_0 t) fullShare ((dat V O b c).before 0 t d))
        ∗ (∃ d, owns (c : Thread nD τ) (st1_1 t) fullShare ((dat V O b c).before 1 t d))
        ∗ (∃ d, owns (c : Thread nD τ) (st1_2 t) fullShare ((dat V O b c).before 2 t d))
        ∗ (∃ d, owns (c : Thread nD τ) (st1_3 t) fullShare ((dat V O b c).before 3 t d))
        ∗ (∃ d, owns (c : Thread nD τ) (st1_4 t) fullShare ((dat V O b c).before 4 t d)))
      ⊢ wp frame (wpE (defs₀ (F := F)) Variants.none c none) Set.univ (bodyAt1 t) (fun _ => iprop((dat V O b c).Φ t.succ ∗ (dat V O b c).owesAt none t.succ
          ∗ (dat V O b c).leavesExact 0 t ∗ (dat V O b c).leavesExact 1 t ∗ (dat V O b c).leavesExact 2 t ∗ (dat V O b c).leavesExact 3 t
          ∗ (dat V O b c).leavesExact 4 t)) := by
  simp only [before0, before1, before2]
  rw [leaves0, leaves1, leaves2, leaves3]
  rw [show (dat V O b c).owesAt none t.succ = (dat V O b c).owesAt none t.castSucc from rfl,
    show (dat V O b c).Φ t.castSucc = iprop(carried (zb V c) (cw V c) (cq V c) c (Memref.whole cc1_scratch0) (Memref.whole cc1_scratch1) (Memref.whole cc1_scratch2) (Memref.whole cc1_scratch3) t.val
      ∗ Pipeline.scopedRestBut (Ix := HIx 2) (Name := ℕ) (U := UU) (Lvl := ℕ) (Val := Elt F) spec1 c own) from rfl,
    show (dat V O b c).Φ t.succ = iprop(carried (zb V c) (cw V c) (cq V c) c (Memref.whole cc1_scratch0) (Memref.whole cc1_scratch1) (Memref.whole cc1_scratch2) (Memref.whole cc1_scratch3) (t.val + 1)
      ∗ Pipeline.scopedRestBut (Ix := HIx 2) (Name := ℕ) (U := UU) (Lvl := ℕ) (Val := Elt F) spec1 c own) from rfl]
  rw [← zb_eq, iblk1, iblk2]
  iintro ⟨⟨HS, Hr⟩, Howes, ⟨%d0, H0⟩, ⟨%d1, H1⟩, ⟨%d2, H2⟩, ⟨%d3, H3⟩, ⟨%d4, H4⟩⟩
  iapply (step_at (zb V c) (cw V c) (cq V c) c (Memref.whole cc1_scratch0) (Memref.whole cc1_scratch1) (Memref.whole cc1_scratch2) (Memref.whole cc1_scratch3) t.val t.isLt
    (st1_0 t) (hstage1_0 ((cfg1.slots t 0).cast nbuf1_0)) (st1_1 t) (hstage1_1 ((cfg1.slots t 1).cast nbuf1_1)) (st1_2 t) (hstage1_2 ((cfg1.slots t 2).cast nbuf1_2))
    (st1_3 t) (hstage1_3 ((cfg1.slots t 3).cast nbuf1_3)) (st1_4 t) (hstage1_4 ((cfg1.slots t 4).cast nbuf1_4)) _ _ _ _ ((dat V O b c).before 4 t d4) Set.univ _)
  isplitl [HS]; · iexact HS
  isplitl [H0]; · iexact H0
  isplitl [H1]; · iexact H1
  isplitl [H2]; · iexact H2
  isplitl [H3]; · iexists _; iexact H3
  isplitl [H4]; · iexact H4
  iintro ⟨HS, H0, H1, H2, H3, H4⟩
  isplitl [HS Hr]
  · isplitl [HS]; · iexact HS
    iexact Hr
  isplitl [Howes]; · iexact Howes
  isplitl [H0]; · iexact H0
  isplitl [H1]; · iexact H1
  isplitl [H2]; · iexact H2
  isplitl [H3]; · iexact H3
  by_cases h : t.val = 16
  · rw [leaves4 V O b c t h, if_pos h]; iexact H4
  · rw [Dat.leavesExact_idle (dat V O b c) 4 t (idle4 t h) (noFlush4 t h), if_neg h]
    iexists d4; iexact H4

theorem body_obligation (c : Dev nD) : BodyObligation (dat V O b c) (defs₀ (F := F)) 𝒱₀ (none : HIx 2) Set.univ := fun t => by
  rw [bigSep_W1, bigSep_W1]
  exact sound_body V O b c t

/-! ## What the arrays hold -/

theorem index0 : ∀ t : Fin cfg1.N, win1_0.index t 0 = min t.val 15 ∧ win1_0.index t 1 = 0 := by decide +kernel
theorem index3 : ∀ t : Fin cfg1.N, win1_3.index t 0 = t.val - 1 ∧ win1_3.xsize (grid1.coords t) 0 = 1024 := by decide +kernel
theorem flush3 : ∀ t : Fin cfg1.N, (cfg1.win 3).flush t = true ↔ 1 ≤ t.val := by decide +kernel
theorem index4 (t : Fin cfg1.N) (a : Fin 2) : win1_4.index t a = 0 := by fin_cases a <;> rfl

/-- The block at a point is its rows of the array. -/
theorem iblk0 (c : Dev nD) (t : Fin cfg1.N) : iblk V c 0 t = rowsOf (V c main_v1) t.val := by
  funext y
  refine congrArg (V c main_v1) (funext fun a => Fin.ext ?_)
  refine (Window.rect_emb_val win1_0 t y a).trans ?_
  match a with
  | ⟨0, _⟩ => show win1_0.index t 0 * 1024 + _ = _; rw [(index0 t).1]; rfl
  | ⟨1, _⟩ => show win1_0.index t 1 * 64 + _ = _; rw [(index0 t).2, Nat.zero_mul, Nat.zero_add]; rfl

theorem zb_rows (c : Dev nD) (n : ℕ) (hn : n < 17) : zb V c n = rowsOf (V c main_v1) n := by
  rw [zb_eq V c ⟨n, hn⟩, iblk0]

theorem mem3 (t : Fin cfg1.N) (i : S16384.Idx) :
    i ∈ ((cfg1.win 3).blk t).view.set ↔ (t.val - 1) * 1024 ≤ (i 0 : ℕ) ∧ (i 0 : ℕ) < (t.val - 1) * 1024 + 1024 := by
  show i ∈ ((View.whole main_v2_0).slice (win1_3.rect t)).set ↔ _
  rw [View.set_slice_whole, Rect.mem_set_unit]
  refine ⟨fun h => ?_, fun h a => ?_⟩
  · have : win1_3.index t 0 * 1024 ≤ (i 0 : ℕ) ∧ (i 0 : ℕ) < win1_3.index t 0 * 1024 + win1_3.xsize (grid1.coords t) 0 := h 0
    rw [(index3 t).1, (index3 t).2] at this; exact this
  · match a with
    | ⟨0, _⟩ =>
      show win1_3.index t 0 * 1024 ≤ (i 0 : ℕ) ∧ (i 0 : ℕ) < win1_3.index t 0 * 1024 + win1_3.xsize (grid1.coords t) 0
      rw [(index3 t).1, (index3 t).2]; exact h

theorem mem4 (t : Fin cfg1.N) (i : S1x1.Idx) : i ∈ ((cfg1.win 4).blk t).view.set := by
  show i ∈ ((View.whole main_v2_1).slice (win1_4.rect t)).set
  rw [View.set_slice_whole, Rect.mem_set_unit]
  have h0 : (i 0 : ℕ) < 1 := (i 0).isLt
  have h1 : (i 1 : ℕ) < 1 := (i 1).isLt
  intro a
  match a with
  | ⟨0, _⟩ => show win1_4.index t 0 * 1 ≤ (i 0 : ℕ) ∧ (i 0 : ℕ) < win1_4.index t 0 * 1 + 1; rw [index4]; omega
  | ⟨1, _⟩ => show win1_4.index t 1 * 1 ≤ (i 1 : ℕ) ∧ (i 1 : ℕ) < win1_4.index t 1 * 1 + 1; rw [index4]; omega

theorem cut3 (t : Fin cfg1.N) (X : S1024.Idx → Elt F .i32) (y : S1024.Idx) : (cfg1.win 3).cut (grid1.coords t) X y = X y := rfl
theorem read3 (c : Dev nD) (t : Fin cfg1.N) (G : Buf (Elt F) ((c : Thread nD τ).loc main_v2_0)) (y : S1024.Idx) :
    ((cfg1.win 3).blk t).view.read (Elt F) G y = G ((win1_3.rect t).emb y) := rfl

/-- The index array after the region. -/
theorem arr3 (c : Dev nD) : (dat V O b c).arrAt 3 cfg1.N = allIdx (zb V c) (cw V c) (cq V c) := by
  refine (dat V O b c).arrAt_eq_of_cover 3 _ (fun t hf => ?_) fun i => ?_
  · have ht := (flush3 t).mp hf
    show (cfg1.win 3).cut (grid1.coords t) ((dat V O b c).after 3 t) = _
    rw [after3]
    funext y
    have e : (((win1_3.rect t).emb y : S16384.Idx) 0).val = (t.val - 1) * 1024 + ((y : S1024.Idx) 0).val := by
      refine (Window.rect_emb_val win1_3 t y 0).trans ?_
      show win1_3.index t 0 * 1024 + _ = _
      rw [(index3 t).1]
    exact (cut3 t _ y).trans ((allIdx_at (zb V c) (cw V c) (cq V c) t.val ht y _ e).trans (read3 c t _ y).symm)
  · have hi : (i 0 : ℕ) < 16384 := (i 0).isLt
    have hN : cfg1.N = 17 := N_1
    refine ⟨⟨(i 0 : ℕ) / 1024 + 1, by omega⟩, (flush3 _).mpr (Nat.le_add_left _ _), (mem3 _ i).mpr ?_⟩
    dsimp only
    omega

/-- The sum's array after the region. -/
theorem arr4 (c : Dev nD) : (dat V O b c).arrAt 4 cfg1.N = allSum (zb V c) (cw V c) (cq V c) := by
  have hN : cfg1.N = 17 := N_1
  refine (dat V O b c).arrAt_eq_of_cover 4 _ (fun t hf => ?_) fun i => ?_
  · have ht : t.val = 16 := by have := (flush1_4 t).mp hf; have := t.isLt; omega
    show (cfg1.win 4).cut (grid1.coords t) ((dat V O b c).after 4 t) = _
    rw [after4, ht]
    rfl
  · exact ⟨⟨16, by omega⟩, (flush1_4 _).mpr rfl, mem4 _ i⟩

/-! ## The region over the thread state -/

theorem rest_split (c : Dev nD) : (Pipeline.scopedRest (Ix := HIx 2) (Name := ℕ) (U := UU) (Lvl := ℕ) (Val := Elt F) spec1 c : sProp 𝕄)
    = iprop(((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f)
          ∗ (∃ f : Buf (Elt F) ((c : Thread nD τ).loc cc1_scratch2), ((c : Thread nD τ).loc cc1_scratch2) ↦{fullShare} f)
          ∗ (∃ f : Buf (Elt F) ((c : Thread nD τ).loc cc1_scratch3), ((c : Thread nD τ).loc cc1_scratch3) ↦{fullShare} f))
        ∗ Pipeline.scopedRestBut (Ix := HIx 2) (Name := ℕ) (U := UU) (Lvl := ℕ) (Val := Elt F) spec1 c own) :=
  Pipeline.scopedRest_split_of_list spec1 c own (by decide) (by decide)

theorem phi_in (c : Dev nD) : (Pipeline.scopedRest (Ix := HIx 2) (Name := ℕ) (U := UU) (Lvl := ℕ) (Val := Elt F) spec1 c : sProp 𝕄) ⊢ (dat V O b c).Φ 0 := by
  rw [rest_split]
  show _ ⊢ iprop(carried (zb V c) (cw V c) (cq V c) c (Memref.whole cc1_scratch0) (Memref.whole cc1_scratch1) (Memref.whole cc1_scratch2) (Memref.whole cc1_scratch3) 0
    ∗ Pipeline.scopedRestBut (Ix := HIx 2) (Name := ℕ) (U := UU) (Lvl := ℕ) (Val := Elt F) spec1 c own)
  unfold carried
  simp only [owns_whole]
  iintro ⟨⟨H0, H1, H2, H3⟩, Hr⟩
  isplitl [H0 H1 H2 H3]
  · isplitl [H0]; · iexact H0
    isplitl [H1]; · iexact H1
    isplitl [H2]; · iexact H2
    iexact H3
  iexact Hr

theorem phi_out (c : Dev nD) : (dat V O b c).Φ (Fin.last _) ⊢ (Pipeline.scopedRest (Ix := HIx 2) (Name := ℕ) (U := UU) (Lvl := ℕ) (Val := Elt F) spec1 c : sProp 𝕄) := by
  rw [rest_split]
  show iprop(carried (zb V c) (cw V c) (cq V c) c (Memref.whole cc1_scratch0) (Memref.whole cc1_scratch1) (Memref.whole cc1_scratch2) (Memref.whole cc1_scratch3) (16 + 1)
    ∗ Pipeline.scopedRestBut (Ix := HIx 2) (Name := ℕ) (U := UU) (Lvl := ℕ) (Val := Elt F) spec1 c own) ⊢ _
  unfold carried
  simp only [owns_whole]
  iintro ⟨⟨H0, H1, H2, H3⟩, Hr⟩
  isplitl [H0 H1 H2 H3]
  · isplitl [H0]; · iexists _; iexact H0
    isplitl [H1]; · iexists _; iexact H1
    isplitl [H2]; · iexists _; iexact H2
    iexists _; iexact H3
  iexact Hr

variable (V' : (c : Dev nD) → (b : Ref sig .tc) → Buf (Elt F) ((c : Thread nD τ).loc b))
variable (O' : Dev nD → CellTallies nD τ sig (HIx 2)) (b' : ℕ)
variable (e2 : (c : Dev nD) → Dat τ (Elt F) (HIx 2) ℕ UU ℕ (Pipeline.pin (pcfgs (F := F)) adm 2) c)
variable (Vp : (c : Dev nD) → (b : Ref sig .tc) → Buf (Elt F) ((c : Thread nD τ).loc b))

set_option backward.isDefEq.respectTransparency.types false in
def reg (hV3 : ∀ c, Vp c main_v2_0 = allIdx (zb V c) (cw V c) (cq V c)) (hV4 : ∀ c, Vp c main_v2_1 = allSum (zb V c) (cw V c) (cq V c))
    (hVne : ∀ c (r : Ref sig .tc), r ≠ main_v2_0 → r ≠ main_v2_1 → Vp c r = V c r) :
    Pipeline.RegionSeg (pcfgs (F := F)) adm (pdats V' O' b' (dat V O b) e2) (none : HIx 2) defs₀ 𝒱₀ (K (F := F)).L (K (F := F)).lev 1 where
  win := (launch1).win.to₀
  block_pos := (launch1).block_pos
  stage_whole := (launch1).stage_whole
  K := PEmpty
  osem k := k.elim
  ho := Pipeline.OwnSemFacts.none _
  hbody c := (body_obligation V O b c).loose
  hwaits c := Pipeline.cellsWaits_intro _ _ _ _ _ fun w s t => (K (F := F)).mayWait_none _ (hO c)
  pre c := iprop(unscopedBufs c (V c) ∗ ∃ W, ⌜(K (F := F)).WBelow (c : Thread nD τ) W b⌝ ∗ owes (c : Thread nD τ) (O c) W)
  post c := iprop(unscopedBufs c (Vp c) ∗ ∃ W, ⌜(K (F := F)).WBelow (c : Thread nD τ) W b⌝ ∗ owes (c : Thread nD τ) (O c) W)
  X _ := BI.emp
  Y _ := BI.emp
  Z c := iprop(Pipeline.unscopedRest (Ix := HIx 2) (Name := ℕ) (U := UU) (Lvl := ℕ) spec1 c (V c))
  hentry c := by
    rw [Pipeline.ownSems0_none]
    have hsplit := Pipeline.arrays_of_unscopedBufs (p := 1) (pcfgs (F := F)) adm (pdats V' O' b' (dat V O b) e2) (launch1).win (launch1).arr_whole c
      ((pdats V' O' b' (dat V O b) e2 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V' O' b' (dat V O b) e2 1 c).Φ 0 = (dat V O b c).Φ 0 from rfl]
    iintro ⟨-, -, Hr⟩
    iapply (phi_in V O b c); iexact Hr
  hout c := by
    rw [Pipeline.ownSems0_none, show (pdats V' O' b' (dat V O b) e2 1 c).Φ (Fin.last _) = (dat V O b c).Φ (Fin.last _) from rfl]
    iintro Hr
    isplitr; · iempintro
    isplitr; · iempintro
    iapply (phi_out V O b c); iexact Hr
  hexit c := by
    have hjoin := Pipeline.unscopedBufs_of_arrays (p := 1) (pcfgs (F := F)) adm (Ix := HIx 2) (Name := ℕ) (U := UU) (Lvl := ℕ) (launch1).win (launch1).arr_whole c
      (pdats V' O' b' (dat V O b) e2) ((pdats V' O' b' (dat V O b) e2 1 c).share_full fun _ => rfl) (V c) (Vp c) ((pdats V' O' b' (dat V O b) e2 1 c).arrAt · cfg1.N)
      (fun w => by
        fin_cases w
        · exact ((dat V O b c).arrAt_in 0 rfl _).trans (hVne c main_v1 (by decide) (by decide)).symm
        · exact ((dat V O b c).arrAt_in 1 rfl _).trans (hVne c main_v0_0 (by decide) (by decide)).symm
        · exact ((dat V O b c).arrAt_in 2 rfl _).trans (hVne c main_v0_1 (by decide) (by decide)).symm
        · exact (arr3 V O b c).trans (hV3 c).symm
        · exact (arr4 V O b c).trans (hV4 c).symm)
      (fun r hr => hVne c r (fun h => hr (h ▸ Finset.mem_image.mpr ⟨3, Finset.mem_univ _, rfl⟩)) (fun h => hr (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW (Finset.mem_coe.mpr hp) with h | ⟨w, s, h⟩
      · exact h
      · rw [h]; exact Nat.zero_le _
    iexact HO

end Cert.Proof.Dist.R1

end
-- ==== Proof.Dist.Region3.lean ====
/-
  The second distance call's region: its proof data, its body and its entry and exit.
-/
module

public import proofs.«01_k».proof.Proof.Dist.Step
public import proofs.«01_k».proof.Proof.Prep
public import Idealize.ShloMosaic.Lib.Pipeline.FrameBody

@[expose] public section

noncomputable section

namespace Cert.Proof.Dist.R3

open Cert.KernelIdeal Cert.KernelIdeal.Gen Cert.Proof.Tile Cert.Proof.Prep

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

variable (V : (c : Dev nD) → (b : Ref sig .tc) → Buf (Elt F) ((c : Thread nD τ).loc b))
variable (O : Dev nD → CellTallies nD τ sig (HIx 2)) (hO : ∀ c g, O c g none = 0) (b : ℕ)

/-- A window's block at a point, off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block of rows at a position, -/
def zb (c : Dev nD) (n : ℕ) : FVec F S1024x64 .f32 := if h : n < cfg3.N then iblk V c 0 ⟨n, h⟩ else iblk V c 0 ⟨0, by decide⟩
theorem zb_eq (c : Dev nD) (t : Fin cfg3.N) : zb V c t.val = iblk V c 0 t := dif_pos t.isLt
/-- the codebook, -/
abbrev cw (c : Dev nD) : FVec F S8192x128 .f32 := V c main_v0_0
/-- and its rows' sums of squares. -/
abbrev cq (c : Dev nD) : FVec F S8192 .f32 := V c main_v0_1

theorem index1 (t : Fin cfg3.N) (a : Fin 2) : win3_1.index t a = 0 := by fin_cases a <;> rfl
theorem index2 (t : Fin cfg3.N) (a : Fin 1) : win3_2.index t a = 0 := by fin_cases a; rfl
theorem iblk1 (c : Dev nD) (t : Fin cfg3.N) : iblk V c 1 t = cw V c :=
  Memref.read_access_unit_zero (Elt F) main_v0_0 (off := fun a => win3_1.index t a * main_v0_0.ty.shape.size a)
    (funext fun a => by rw [index1, Nat.zero_mul]) (fun a => by rw [index1, Nat.zero_mul, Nat.zero_add]) (V c main_v0_0)
theorem iblk2 (c : Dev nD) (t : Fin cfg3.N) : iblk V c 2 t = cq V c :=
  Memref.read_access_unit_zero (Elt F) main_v0_1 (off := fun a => win3_2.index t a * main_v0_1.ty.shape.size a)
    (funext fun a => by rw [index2, Nat.zero_mul]) (fun a => by rw [index2, Nat.zero_mul, Nat.zero_add]) (V c main_v0_1)

/-- The kernel's own buffers. -/
def own : List (Ref sig .tc) := [cc3_scratch0, cc3_scratch1, cc3_scratch2, cc3_scratch3]

def dat (c : Dev nD) : Dat τ (Elt F) (HIx 2) ℕ UU ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => idxAt (zb V c) (cw V c) (cq V c) t.val
    | ⟨4, _⟩ => fun _ => total (accAt (zb V c) (cw V c) (cq V c) (t.val + 1))
  Φ t := iprop(carried (zb V c) (cw V c) (cq V c) c (Memref.whole cc3_scratch0) (Memref.whole cc3_scratch1) (Memref.whole cc3_scratch2) (Memref.whole cc3_scratch3) t.val
    ∗ Pipeline.scopedRestBut (Ix := HIx 2) (Name := ℕ) (U := UU) (Lvl := ℕ) (Val := Elt F) spec3 c own)
  q _ := fullShare
  owed _ := O c
  recorded _ := {p | (K (F := F)).lev ((c : Thread nD τ), p.1) p.2 ≤ b}

theorem before0 (c : Dev nD) (t : Fin cfg3.N) (d) : (dat V O b c).before 0 t d = iblk V c 0 t :=
  ((dat V O b c).before_in_eq_fetched 0 rfl (fun _ => rfl) (fun _ _ _ => rfl) (fun t => by rfl) t d).trans (by rfl)
theorem before1 (c : Dev nD) (t : Fin cfg3.N) (d) : (dat V O b c).before 1 t d = iblk V c 1 t :=
  ((dat V O b c).before_in_eq_fetched 1 rfl (fun _ => rfl) (fun _ _ _ => rfl) (fun t => by rfl) t d).trans (by rfl)
theorem before2 (c : Dev nD) (t : Fin cfg3.N) (d) : (dat V O b c).before 2 t d = iblk V c 2 t :=
  ((dat V O b c).before_in_eq_fetched 2 rfl (fun _ => rfl) (fun _ _ _ => rfl) (fun t => by rfl) t d).trans (by rfl)

theorem after3 (c : Dev nD) (t : Fin cfg3.N) : (dat V O b c).after 3 t = idxAt (zb V c) (cw V c) (cq V c) t.val := by dsimp only [dat]
theorem after4 (c : Dev nD) (t : Fin cfg3.N) : (dat V O b c).after 4 t = fun _ => total (accAt (zb V c) (cw V c) (cq V c) (t.val + 1)) := by dsimp only [dat]

theorem idle4 : ∀ t : Fin cfg3.N, t.val ≠ 16 → cfg3.idle 4 (grid3.coords t) = true := by decide +kernel
theorem noFlush4 : ∀ t : Fin cfg3.N, t.val ≠ 16 → (cfg3.win 4).flush t = false := by decide +kernel
theorem live4 : ∀ t : Fin cfg3.N, t.val = 16 → cfg3.idle 4 (grid3.coords t) = false := by decide +kernel

theorem leaves0 (c : Dev nD) (t : Fin cfg3.N) : (dat V O b c).leavesExact 0 t = owns (c : Thread nD τ) (st3_0 t) fullShare (iblk V c 0 t) := by
  unfold Dat.leavesExact; rw [show cfg3.idle 0 (cfg3.grid.coords t) = false from rfl]; rfl
theorem leaves1 (c : Dev nD) (t : Fin cfg3.N) : (dat V O b c).leavesExact 1 t = owns (c : Thread nD τ) (st3_1 t) fullShare (iblk V c 1 t) := by
  unfold Dat.leavesExact; rw [show cfg3.idle 1 (cfg3.grid.coords t) = false from rfl]; rfl
theorem leaves2 (c : Dev nD) (t : Fin cfg3.N) : (dat V O b c).leavesExact 2 t = owns (c : Thread nD τ) (st3_2 t) fullShare (iblk V c 2 t) := by
  unfold Dat.leavesExact; rw [show cfg3.idle 2 (cfg3.grid.coords t) = false from rfl]; rfl
theorem leaves3 (c : Dev nD) (t : Fin cfg3.N) : (dat V O b c).leavesExact 3 t = owns (c : Thread nD τ) (st3_3 t) fullShare (idxAt (zb V c) (cw V c) (cq V c) t.val) := by
  unfold Dat.leavesExact; rw [show cfg3.idle 3 (cfg3.grid.coords t) = false from rfl]
  exact congrArg (owns (c : Thread nD τ) (st3_3 t) fullShare) (after3 V O b c t)
theorem leaves4 (c : Dev nD) (t : Fin cfg3.N) (h : t.val = 16) :
    (dat V O b c).leavesExact 4 t = owns (c : Thread nD τ) (st3_4 t) fullShare (fun _ => total (accAt (zb V c) (cw V c) (cq V c) (t.val + 1))) := by
  unfold Dat.leavesExact; rw [show cfg3.idle 4 (cfg3.grid.coords t) = false from live4 t h]
  exact congrArg (owns (c : Thread nD τ) (st3_4 t) fullShare) (after4 V O b c t)

/-- The two calls run one kernel. -/
theorem same : @cc3__dist_body F _ = @cc1__dist_body F _ := rfl

theorem sound_body (c : Dev nD) (t : Fin cfg3.N) :
    iprop((dat V O b c).Φ t.castSucc ∗ (dat V O b c).owesAt none t.castSucc
        ∗ (∃ d, owns (c : Thread nD τ) (st3_0 t) fullShare ((dat V O b c).before 0 t d))
        ∗ (∃ d, owns (c : Thread nD τ) (st3_1 t) fullShare ((dat V O b c).before 1 t d))
        ∗ (∃ d, owns (c : Thread nD τ) (st3_2 t) fullShare ((dat V O b c).before 2 t d))
        ∗ (∃ d, owns (c : Thread nD τ) (st3_3 t) fullShare ((dat V O b c).before 3 t d))
        ∗ (∃ d, owns (c : Thread nD τ) (st3_4 t) fullShare ((dat V O b c).before 4 t d)))
      ⊢ wp frame (wpE (defs₀ (F := F)) Variants.none c none) Set.univ (bodyAt3 t) (fun _ => iprop((dat V O b c).Φ t.succ ∗ (dat V O b c).owesAt none t.succ
          ∗ (dat V O b c).leavesExact 0 t ∗ (dat V O b c).leavesExact 1 t ∗ (dat V O b c).leavesExact 2 t ∗ (dat V O b c).leavesExact 3 t
          ∗ (dat V O b c).leavesExact 4 t)) := by
  simp only [before0, before1, before2]
  rw [leaves0, leaves1, leaves2, leaves3]
  rw [show (dat V O b c).owesAt none t.succ = (dat V O b c).owesAt none t.castSucc from rfl,
    show (dat V O b c).Φ t.castSucc = iprop(carried (zb V c) (cw V c) (cq V c) c (Memref.whole cc3_scratch0) (Memref.whole cc3_scratch1) (Memref.whole cc3_scratch2) (Memref.whole cc3_scratch3) t.val
      ∗ Pipeline.scopedRestBut (Ix := HIx 2) (Name := ℕ) (U := UU) (Lvl := ℕ) (Val := Elt F) spec3 c own) from rfl,
    show (dat V O b c).Φ t.succ = iprop(carried (zb V c) (cw V c) (cq V c) c (Memref.whole cc3_scratch0) (Memref.whole cc3_scratch1) (Memref.whole cc3_scratch2) (Memref.whole cc3_scratch3) (t.val + 1)
      ∗ Pipeline.scopedRestBut (Ix := HIx 2) (Name := ℕ) (U := UU) (Lvl := ℕ) (Val := Elt F) spec3 c own) from rfl]
  rw [← zb_eq, iblk1, iblk2]
  unfold bodyAt3
  rw [same]
  iintro ⟨⟨HS, Hr⟩, Howes, ⟨%d0, H0⟩, ⟨%d1, H1⟩, ⟨%d2, H2⟩, ⟨%d3, H3⟩, ⟨%d4, H4⟩⟩
  iapply (step_at (zb V c) (cw V c) (cq V c) c (Memref.whole cc3_scratch0) (Memref.whole cc3_scratch1) (Memref.whole cc3_scratch2) (Memref.whole cc3_scratch3) t.val t.isLt
    (st3_0 t) (hstage3_0 ((cfg3.slots t 0).cast nbuf3_0)) (st3_1 t) (hstage3_1 ((cfg3.slots t 1).cast nbuf3_1)) (st3_2 t) (hstage3_2 ((cfg3.slots t 2).cast nbuf3_2))
    (st3_3 t) (hstage3_3 ((cfg3.slots t 3).cast nbuf3_3)) (st3_4 t) (hstage3_4 ((cfg3.slots t 4).cast nbuf3_4)) _ _ _ _ ((dat V O b c).before 4 t d4) Set.univ _)
  isplitl [HS]; · iexact HS
  isplitl [H0]; · iexact H0
  isplitl [H1]; · iexact H1
  isplitl [H2]; · iexact H2
  isplitl [H3]; · iexists _; iexact H3
  isplitl [H4]; · iexact H4
  iintro ⟨HS, H0, H1, H2, H3, H4⟩
  isplitl [HS Hr]
  · isplitl [HS]; · iexact HS
    iexact Hr
  isplitl [Howes]; · iexact Howes
  isplitl [H0]; · iexact H0
  isplitl [H1]; · iexact H1
  isplitl [H2]; · iexact H2
  isplitl [H3]; · iexact H3
  by_cases h : t.val = 16
  · rw [leaves4 V O b c t h, if_pos h]; iexact H4
  · rw [Dat.leavesExact_idle (dat V O b c) 4 t (idle4 t h) (noFlush4 t h), if_neg h]
    iexists d4; iexact H4

theorem body_obligation (c : Dev nD) : BodyObligation (dat V O b c) (defs₀ (F := F)) 𝒱₀ (none : HIx 2) Set.univ := fun t => by
  rw [bigSep_W3, bigSep_W3]
  exact sound_body V O b c t

/-! ## What the arrays hold -/

theorem index0 : ∀ t : Fin cfg3.N, win3_0.index t 0 = min t.val 15 ∧ win3_0.index t 1 = 0 := by decide +kernel
theorem index3 : ∀ t : Fin cfg3.N, win3_3.index t 0 = t.val - 1 ∧ win3_3.xsize (grid3.coords t) 0 = 1024 := by decide +kernel
theorem flush3 : ∀ t : Fin cfg3.N, (cfg3.win 3).flush t = true ↔ 1 ≤ t.val := by decide +kernel
theorem index4 (t : Fin cfg3.N) (a : Fin 2) : win3_4.index t a = 0 := by fin_cases a <;> rfl

/-- The block at a point is its rows of the array. -/
theorem iblk0 (c : Dev nD) (t : Fin cfg3.N) : iblk V c 0 t = rowsOf (V c main_v5) t.val := by
  funext y
  refine congrArg (V c main_v5) (funext fun a => Fin.ext ?_)
  refine (Window.rect_emb_val win3_0 t y a).trans ?_
  match a with
  | ⟨0, _⟩ => show win3_0.index t 0 * 1024 + _ = _; rw [(index0 t).1]; rfl
  | ⟨1, _⟩ => show win3_0.index t 1 * 64 + _ = _; rw [(index0 t).2, Nat.zero_mul, Nat.zero_add]; rfl

theorem zb_rows (c : Dev nD) (n : ℕ) (hn : n < 17) : zb V c n = rowsOf (V c main_v5) n := by
  rw [zb_eq V c ⟨n, hn⟩, iblk0]

theorem mem3 (t : Fin cfg3.N) (i : S16384.Idx) :
    i ∈ ((cfg3.win 3).blk t).view.set ↔ (t.val - 1) * 1024 ≤ (i 0 : ℕ) ∧ (i 0 : ℕ) < (t.val - 1) * 1024 + 1024 := by
  show i ∈ ((View.whole main_v6_0).slice (win3_3.rect t)).set ↔ _
  rw [View.set_slice_whole, Rect.mem_set_unit]
  refine ⟨fun h => ?_, fun h a => ?_⟩
  · have : win3_3.index t 0 * 1024 ≤ (i 0 : ℕ) ∧ (i 0 : ℕ) < win3_3.index t 0 * 1024 + win3_3.xsize (grid3.coords t) 0 := h 0
    rw [(index3 t).1, (index3 t).2] at this; exact this
  · match a with
    | ⟨0, _⟩ =>
      show win3_3.index t 0 * 1024 ≤ (i 0 : ℕ) ∧ (i 0 : ℕ) < win3_3.index t 0 * 1024 + win3_3.xsize (grid3.coords t) 0
      rw [(index3 t).1, (index3 t).2]; exact h

theorem mem4 (t : Fin cfg3.N) (i : S1x1.Idx) : i ∈ ((cfg3.win 4).blk t).view.set := by
  show i ∈ ((View.whole main_v6_1).slice (win3_4.rect t)).set
  rw [View.set_slice_whole, Rect.mem_set_unit]
  have h0 : (i 0 : ℕ) < 1 := (i 0).isLt
  have h1 : (i 1 : ℕ) < 1 := (i 1).isLt
  intro a
  match a with
  | ⟨0, _⟩ => show win3_4.index t 0 * 1 ≤ (i 0 : ℕ) ∧ (i 0 : ℕ) < win3_4.index t 0 * 1 + 1; rw [index4]; omega
  | ⟨1, _⟩ => show win3_4.index t 1 * 1 ≤ (i 1 : ℕ) ∧ (i 1 : ℕ) < win3_4.index t 1 * 1 + 1; rw [index4]; omega

theorem cut3 (t : Fin cfg3.N) (X : S1024.Idx → Elt F .i32) (y : S1024.Idx) : (cfg3.win 3).cut (grid3.coords t) X y = X y := rfl
theorem read3 (c : Dev nD) (t : Fin cfg3.N) (G : Buf (Elt F) ((c : Thread nD τ).loc main_v6_0)) (y : S1024.Idx) :
    ((cfg3.win 3).blk t).view.read (Elt F) G y = G ((win3_3.rect t).emb y) := rfl

/-- The index array after the region. -/
theorem arr3 (c : Dev nD) : (dat V O b c).arrAt 3 cfg3.N = allIdx (zb V c) (cw V c) (cq V c) := by
  refine (dat V O b c).arrAt_eq_of_cover 3 _ (fun t hf => ?_) fun i => ?_
  · have ht := (flush3 t).mp hf
    show (cfg3.win 3).cut (grid3.coords t) ((dat V O b c).after 3 t) = _
    rw [after3]
    funext y
    have e : (((win3_3.rect t).emb y : S16384.Idx) 0).val = (t.val - 1) * 1024 + ((y : S1024.Idx) 0).val := by
      refine (Window.rect_emb_val win3_3 t y 0).trans ?_
      show win3_3.index t 0 * 1024 + _ = _
      rw [(index3 t).1]
    exact (cut3 t _ y).trans ((allIdx_at (zb V c) (cw V c) (cq V c) t.val ht y _ e).trans (read3 c t _ y).symm)
  · have hi : (i 0 : ℕ) < 16384 := (i 0).isLt
    have hN : cfg3.N = 17 := N_3
    refine ⟨⟨(i 0 : ℕ) / 1024 + 1, by omega⟩, (flush3 _).mpr (Nat.le_add_left _ _), (mem3 _ i).mpr ?_⟩
    dsimp only
    omega

/-- The sum's array after the region. -/
theorem arr4 (c : Dev nD) : (dat V O b c).arrAt 4 cfg3.N = allSum (zb V c) (cw V c) (cq V c) := by
  have hN : cfg3.N = 17 := N_3
  refine (dat V O b c).arrAt_eq_of_cover 4 _ (fun t hf => ?_) fun i => ?_
  · have ht : t.val = 16 := by have := (flush3_4 t).mp hf; have := t.isLt; omega
    show (cfg3.win 4).cut (grid3.coords t) ((dat V O b c).after 4 t) = _
    rw [after4, ht]
    rfl
  · exact ⟨⟨16, by omega⟩, (flush3_4 _).mpr rfl, mem4 _ i⟩

/-! ## The region over the thread state -/

theorem rest_split (c : Dev nD) : (Pipeline.scopedRest (Ix := HIx 2) (Name := ℕ) (U := UU) (Lvl := ℕ) (Val := Elt F) spec3 c : sProp 𝕄)
    = iprop(((∃ f : Buf (Elt F) ((c : Thread nD τ).loc cc3_scratch0), ((c : Thread nD τ).loc cc3_scratch0) ↦{fullShare} f)
          ∗ (∃ f : Buf (Elt F) ((c : Thread nD τ).loc cc3_scratch1), ((c : Thread nD τ).loc cc3_scratch1) ↦{fullShare} f)
          ∗ (∃ f : Buf (Elt F) ((c : Thread nD τ).loc cc3_scratch2), ((c : Thread nD τ).loc cc3_scratch2) ↦{fullShare} f)
          ∗ (∃ f : Buf (Elt F) ((c : Thread nD τ).loc cc3_scratch3), ((c : Thread nD τ).loc cc3_scratch3) ↦{fullShare} f))
        ∗ Pipeline.scopedRestBut (Ix := HIx 2) (Name := ℕ) (U := UU) (Lvl := ℕ) (Val := Elt F) spec3 c own) :=
  Pipeline.scopedRest_split_of_list spec3 c own (by decide) (by decide)

theorem phi_in (c : Dev nD) : (Pipeline.scopedRest (Ix := HIx 2) (Name := ℕ) (U := UU) (Lvl := ℕ) (Val := Elt F) spec3 c : sProp 𝕄) ⊢ (dat V O b c).Φ 0 := by
  rw [rest_split]
  show _ ⊢ iprop(carried (zb V c) (cw V c) (cq V c) c (Memref.whole cc3_scratch0) (Memref.whole cc3_scratch1) (Memref.whole cc3_scratch2) (Memref.whole cc3_scratch3) 0
    ∗ Pipeline.scopedRestBut (Ix := HIx 2) (Name := ℕ) (U := UU) (Lvl := ℕ) (Val := Elt F) spec3 c own)
  unfold carried
  simp only [owns_whole]
  iintro ⟨⟨H0, H1, H2, H3⟩, Hr⟩
  isplitl [H0 H1 H2 H3]
  · isplitl [H0]; · iexact H0
    isplitl [H1]; · iexact H1
    isplitl [H2]; · iexact H2
    iexact H3
  iexact Hr

theorem phi_out (c : Dev nD) : (dat V O b c).Φ (Fin.last _) ⊢ (Pipeline.scopedRest (Ix := HIx 2) (Name := ℕ) (U := UU) (Lvl := ℕ) (Val := Elt F) spec3 c : sProp 𝕄) := by
  rw [rest_split]
  show iprop(carried (zb V c) (cw V c) (cq V c) c (Memref.whole cc3_scratch0) (Memref.whole cc3_scratch1) (Memref.whole cc3_scratch2) (Memref.whole cc3_scratch3) (16 + 1)
    ∗ Pipeline.scopedRestBut (Ix := HIx 2) (Name := ℕ) (U := UU) (Lvl := ℕ) (Val := Elt F) spec3 c own) ⊢ _
  unfold carried
  simp only [owns_whole]
  iintro ⟨⟨H0, H1, H2, H3⟩, Hr⟩
  isplitl [H0 H1 H2 H3]
  · isplitl [H0]; · iexists _; iexact H0
    isplitl [H1]; · iexists _; iexact H1
    isplitl [H2]; · iexists _; iexact H2
    iexists _; iexact H3
  iexact Hr

variable (V' : (c : Dev nD) → (b : Ref sig .tc) → Buf (Elt F) ((c : Thread nD τ).loc b))
variable (O' : Dev nD → CellTallies nD τ sig (HIx 2)) (b' : ℕ)
variable (e1 : (c : Dev nD) → Dat τ (Elt F) (HIx 2) ℕ UU ℕ (Pipeline.pin (pcfgs (F := F)) adm 1) c)
variable (Vp : (c : Dev nD) → (b : Ref sig .tc) → Buf (Elt F) ((c : Thread nD τ).loc b))

set_option backward.isDefEq.respectTransparency.types false in
def reg (hV3 : ∀ c, Vp c main_v6_0 = allIdx (zb V c) (cw V c) (cq V c)) (hV4 : ∀ c, Vp c main_v6_1 = allSum (zb V c) (cw V c) (cq V c))
    (hVne : ∀ c (r : Ref sig .tc), r ≠ main_v6_0 → r ≠ main_v6_1 → Vp c r = V c r) :
    Pipeline.RegionSeg (pcfgs (F := F)) adm (pdats V' O' b' e1 (dat V O b)) (none : HIx 2) defs₀ 𝒱₀ (K (F := F)).L (K (F := F)).lev 2 where
  win := (launch3).win.to₀
  block_pos := (launch3).block_pos
  stage_whole := (launch3).stage_whole
  K := PEmpty
  osem k := k.elim
  ho := Pipeline.OwnSemFacts.none _
  hbody c := (body_obligation V O b c).loose
  hwaits c := Pipeline.cellsWaits_intro _ _ _ _ _ fun w s t => (K (F := F)).mayWait_none _ (hO c)
  pre c := iprop(unscopedBufs c (V c) ∗ ∃ W, ⌜(K (F := F)).WBelow (c : Thread nD τ) W b⌝ ∗ owes (c : Thread nD τ) (O c) W)
  post c := iprop(unscopedBufs c (Vp c) ∗ ∃ W, ⌜(K (F := F)).WBelow (c : Thread nD τ) W b⌝ ∗ owes (c : Thread nD τ) (O c) W)
  X _ := BI.emp
  Y _ := BI.emp
  Z c := iprop(Pipeline.unscopedRest (Ix := HIx 2) (Name := ℕ) (U := UU) (Lvl := ℕ) spec3 c (V c))
  hentry c := by
    rw [Pipeline.ownSems0_none]
    have hsplit := Pipeline.arrays_of_unscopedBufs (p := 2) (pcfgs (F := F)) adm (pdats V' O' b' e1 (dat V O b)) (launch3).win (launch3).arr_whole c
      ((pdats V' O' b' e1 (dat V O b) 2 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V' O' b' e1 (dat V O b) 2 c).Φ 0 = (dat V O b c).Φ 0 from rfl]
    iintro ⟨-, -, Hr⟩
    iapply (phi_in V O b c); iexact Hr
  hout c := by
    rw [Pipeline.ownSems0_none, show (pdats V' O' b' e1 (dat V O b) 2 c).Φ (Fin.last _) = (dat V O b c).Φ (Fin.last _) from rfl]
    iintro Hr
    isplitr; · iempintro
    isplitr; · iempintro
    iapply (phi_out V O b c); iexact Hr
  hexit c := by
    have hjoin := Pipeline.unscopedBufs_of_arrays (p := 2) (pcfgs (F := F)) adm (Ix := HIx 2) (Name := ℕ) (U := UU) (Lvl := ℕ) (launch3).win (launch3).arr_whole c
      (pdats V' O' b' e1 (dat V O b)) ((pdats V' O' b' e1 (dat V O b) 2 c).share_full fun _ => rfl) (V c) (Vp c) ((pdats V' O' b' e1 (dat V O b) 2 c).arrAt · cfg3.N)
      (fun w => by
        fin_cases w
        · exact ((dat V O b c).arrAt_in 0 rfl _).trans (hVne c main_v5 (by decide) (by decide)).symm
        · exact ((dat V O b c).arrAt_in 1 rfl _).trans (hVne c main_v0_0 (by decide) (by decide)).symm
        · exact ((dat V O b c).arrAt_in 2 rfl _).trans (hVne c main_v0_1 (by decide) (by decide)).symm
        · exact (arr3 V O b c).trans (hV3 c).symm
        · exact (arr4 V O b c).trans (hV4 c).symm)
      (fun r hr => hVne c r (fun h => hr (h ▸ Finset.mem_image.mpr ⟨3, Finset.mem_univ _, rfl⟩)) (fun h => hr (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW (Finset.mem_coe.mpr hp) with h | ⟨w, s, h⟩
      · exact h
      · rw [h]; exact Nat.zero_le _
    iexact HO

end Cert.Proof.Dist.R3

end
-- ==== Proof.Launch.lean ====
/-
  The program's run: the preparation, then twice the distances of a half of the rows and the SparseCore call that gathers
  the rows their indices name, and the host operations between them. It ends with the arguments as launched and the
  results as the calls leave them.
-/
module

public import proofs.«01_k».proof.Proof.Obl
public import proofs.«01_k».proof.Proof.Dist.Region1
public import proofs.«01_k».proof.Proof.Dist.Region3
public import Idealize.ShloMosaic.Lib.Pipeline.Value

@[expose] public section

noncomputable section

namespace Cert.Proof.Launch

open Cert.KernelIdeal Cert.KernelIdeal.Gen Cert.Proof.Tile Cert.Proof.Task Cert.Proof.Prep Cert.Proof.Pieces Cert.Proof.Obl Cert.Proof.Dist

open Idealize.ShloMosaic
open Idealize.ShloMosaic.TcCoe
open Idealize.ShloMosaic.Pipeline (cellsGhost toksInit ucRefs launchToks)
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The ghost state dealt at the launch -/

abbrev EH : Emb UH (MT nD τ sig (HIx 2) (Elt F) ℕ UU ℕ) := embL
abbrev EP : Emb UP (MT nD τ sig (HIx 2) (Elt F) ℕ UU ℕ) := (Emb.inl : Emb UP (UP × Counters)).trans embR

instance : (EP (F := F)).LandsIn (upEmb : UEmb _ 𝕄) := by unfold EP; infer_instance

abbrev pcs := Pipeline.pin (pcfgs (F := F)) adm
theorem inj : Function.Injective (Pipeline.cellOf (nD := nD) (τ := τ) (pcs (F := F))) := cellOf_inj

def u₀ : UU := (initOf (K (F := F)).hsCells (K (F := F)).hsToks, (initOf (Pipeline.cells (pcs (F := F)) inj) (launchToks (pcs (F := F)) inj), 1))

/-- What the launch deals device `d` for a pipeline, -/
abbrev ghostAt (p : Fin 3) (d : Dev nD) : sProp 𝕄 := iprop(cellsGhost (pcs (F := F)) EP p d ∗ toksInit (pcs (F := F)) EP p d)
/-- and for all three. -/
abbrev ghost (d : Dev nD) : sProp 𝕄 :=
  iprop((bigSep Finset.univ fun p : Fin 3 => cellsGhost (pcs (F := F)) EP p d) ∗ bigSep Finset.univ fun p : Fin 3 => toksInit (pcs (F := F)) EP p d)

/-! ## The buffers along the run -/

variable (m : (ℓ : Loc nD τ sig) → Buf (Elt F) ℓ) (ρ : Dev nD → PrngReg)

abbrev ref (b : Ref sig .tc) : DevRef τ sig := Proc.devRef .tc b

/-- What the TensorCore owes before call `n`, and below what. -/
abbrev Oc (n : ℕ) (d : Dev nD) : CellTallies nD τ sig (HIx 2) := (K (F := F)).Otc d n
abbrev bnd (n : ℕ) : ℕ := 8 * SparseCore.Cfg.Blocks.fst (Q := 2) (N := 2) n

theorem hOc (n : ℕ) (c : Dev nD) (g : GSem nD τ sig) : Oc (F := F) n c g none = 0 := by
  by_contra h
  have := SparseCore.Cfg.lev_of_Otc_pos (K := K (F := F)) (Nat.pos_of_ne_zero h)
  simp [SparseCore.Cfg.lev] at this

abbrev Vb (c : Dev nD) (b : Ref sig .tc) : Buf (Elt F) ((c : Thread nD τ).loc b) := m ((c : Thread nD τ).loc b)

def V0 (d : Dev nD) : Valuation τ sig (Elt F) := fun b => m (d, b)
/-- After the preparation: the codebook in the first 64 columns of a wider table. -/
def V1 (d : Dev nD) : Valuation τ sig (Elt F) :=
  Function.update (Function.update (V0 m d) (ref main_v0_0) (wide (Vb m) (Oc (F := F) 0) (bnd 0) d)) (ref main_v0_1) (sums (Vb m) (Oc (F := F) 0) (bnd 0) d)

abbrev opS1 : HloOp τ sig (Elt F) :=
  StableHlo.unary main_arg0 main_v1 ((extractStridedSlice S16384x64 ![0, 0] · slices_S32768x64_S16384x64_0_0) : (⟨S32768x64, .f32⟩ : BufTy).Contents (Elt F) → (⟨S16384x64, .f32⟩ : BufTy).Contents (Elt F))
abbrev opR1 : HloOp τ sig (Elt F) :=
  StableHlo.reshape main_v2_0 main_v3 (rfl : (.i32 : EltTy) = .i32) shapeCasts_S16384_S1x16384
abbrev opS2 : HloOp τ sig (Elt F) :=
  StableHlo.unary main_arg0 main_v5 ((extractStridedSlice S16384x64 ![16384, 0] · slices_S32768x64_S16384x64_16384_0) : (⟨S32768x64, .f32⟩ : BufTy).Contents (Elt F) → (⟨S16384x64, .f32⟩ : BufTy).Contents (Elt F))
abbrev opR2 : HloOp τ sig (Elt F) :=
  StableHlo.reshape main_v6_0 main_v7 (rfl : (.i32 : EltTy) = .i32) shapeCasts_S16384_S1x16384
abbrev opI : HloOp τ sig (Elt F) :=
  StableHlo.binary main_v2_0 main_v6_0 main_v9 ((fun a b => concatenate S32768 0 [⟨S16384, a⟩, ⟨S16384, b⟩] concatenates_S16384_S16384_S32768_d0) : (⟨S16384, .i32⟩ : BufTy).Contents (Elt F) → (⟨S16384, .i32⟩ : BufTy).Contents (Elt F) → (⟨S32768, .i32⟩ : BufTy).Contents (Elt F))
abbrev opC : HloOp τ sig (Elt F) :=
  StableHlo.binary main_v4 main_v8 main_v10 ((fun a b => concatenate S32768x64 0 [⟨S16384x64, a⟩, ⟨S16384x64, b⟩] concatenates_S16384x64_S16384x64_S32768x64_d0) : (⟨S16384x64, .f32⟩ : BufTy).Contents (Elt F) → (⟨S16384x64, .f32⟩ : BufTy).Contents (Elt F) → (⟨S32768x64, .f32⟩ : BufTy).Contents (Elt F))
abbrev opL1 : HloOp τ sig (Elt F) :=
  StableHlo.reshape main_v2_1 main_v11 (rfl : (.f32 : EltTy) = .f32) shapeCasts_S1x1_S_
abbrev opZ : HloOp τ sig (Elt F) :=
  StableHlo.nullary main_cst (constant S_ .f32 0x00000000#32)
abbrev opA1 : HloOp τ sig (Elt F) :=
  StableHlo.binary main_cst main_v11 main_v12 (addf : (⟨S_, .f32⟩ : BufTy).Contents (Elt F) → (⟨S_, .f32⟩ : BufTy).Contents (Elt F) → (⟨S_, .f32⟩ : BufTy).Contents (Elt F))
abbrev opL2 : HloOp τ sig (Elt F) :=
  StableHlo.reshape main_v6_1 main_v13 (rfl : (.f32 : EltTy) = .f32) shapeCasts_S1x1_S_
abbrev opA2 : HloOp τ sig (Elt F) :=
  StableHlo.binary main_v12 main_v13 main_v14 (addf : (⟨S_, .f32⟩ : BufTy).Contents (Elt F) → (⟨S_, .f32⟩ : BufTy).Contents (Elt F) → (⟨S_, .f32⟩ : BufTy).Contents (Elt F))
abbrev opD : HloOp τ sig (Elt F) :=
  StableHlo.nullary main_cst_0 (constant S_ .f32 0x4A000000#32)
abbrev opQ : HloOp τ sig (Elt F) :=
  StableHlo.binary main_v14 main_cst_0 main_v15 (Host.divf : (⟨S_, .f32⟩ : BufTy).Contents (Elt F) → (⟨S_, .f32⟩ : BufTy).Contents (Elt F) → (⟨S_, .f32⟩ : BufTy).Contents (Elt F))
abbrev endOps : List (HloOp τ sig (Elt F)) := [opI, opC, opL1, opZ, opA1, opL2, opA2, opD, opQ]

/-- The buffers as a region finds them. -/
abbrev asRefs (V : Dev nD → Valuation τ sig (Elt F)) (c : Dev nD) (b : Ref sig .tc) : Buf (Elt F) ((c : Thread nD τ).loc b) := V c (ref b)

def S1 (d : Dev nD) : Valuation τ sig (Elt F) := (opS1 (F := F)).result (V1 m d)
def I1 (d : Dev nD) : IVec S16384 32 := allIdx (R1.zb (asRefs (S1 m)) d) (R1.cw (asRefs (S1 m)) d) (R1.cq (asRefs (S1 m)) d)
def L1 (d : Dev nD) : FVec F S1x1 .f32 := allSum (R1.zb (asRefs (S1 m)) d) (R1.cw (asRefs (S1 m)) d) (R1.cq (asRefs (S1 m)) d)
/-- After the first half's distances. -/
def V2 (d : Dev nD) : Valuation τ sig (Elt F) := Function.update (Function.update (S1 m d) (ref main_v2_0) (I1 m d)) (ref main_v2_1) (L1 m d)
def A1 (d : Dev nD) : Valuation τ sig (Elt F) := (opR1 (F := F)).result (V2 m d)
def G1 (d : Dev nD) : S16384x64.Idx → Elt F .f32 := gath (A1 m d tD) (A1 m d i1D)
/-- After the first half's gather. -/
def B1 (d : Dev nD) : Valuation τ sig (Elt F) := Function.update (A1 m d) o1D (G1 m d)
def S2 (d : Dev nD) : Valuation τ sig (Elt F) := (opS2 (F := F)).result (B1 m d)
def I2 (d : Dev nD) : IVec S16384 32 := allIdx (R3.zb (asRefs (S2 m)) d) (R3.cw (asRefs (S2 m)) d) (R3.cq (asRefs (S2 m)) d)
def L2 (d : Dev nD) : FVec F S1x1 .f32 := allSum (R3.zb (asRefs (S2 m)) d) (R3.cw (asRefs (S2 m)) d) (R3.cq (asRefs (S2 m)) d)
/-- After the second half's distances. -/
def V3 (d : Dev nD) : Valuation τ sig (Elt F) := Function.update (Function.update (S2 m d) (ref main_v6_0) (I2 m d)) (ref main_v6_1) (L2 m d)
def A2 (d : Dev nD) : Valuation τ sig (Elt F) := (opR2 (F := F)).result (V3 m d)
def G2 (d : Dev nD) : S16384x64.Idx → Elt F .f32 := gath (A2 m d tD) (A2 m d i2D)
/-- After the second half's gather. -/
def B2 (d : Dev nD) : Valuation τ sig (Elt F) := Function.update (A2 m d) o2D (G2 m d)
/-- At the end. -/
def VE (d : Dev nD) : Valuation τ sig (Elt F) := StableHlo.after endOps (B2 m d)

/-- The indices computed are rows of the codebook. -/
def PreOK : Prop := ∀ (d : Dev nD) (j : S16384.Idx), (I1 m d j).toNat < 8192 ∧ (I2 m d j).toNat < 8192

abbrev X : Finset (DevRef τ sig) := ucRefs τ sig

abbrev PP := P (F := F) (A1 m) (B1 m) (A2 m) (B2 m)

omit [FloatOps F] in
theorem bigSep_empty_of {I : Type} (s : Finset I) : (bigSep s fun _ => (iprop(emp) : sProp 𝕄)) = iprop(emp) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 2 => (PP m).x q thr) := by
  unfold u₀
  iintro Hu
  ihave H := (ownU_pair (initOf (K (F := F)).hsCells (K (F := F)).hsToks)
    ((initOf (Pipeline.cells (pcs (F := F)) inj) (launchToks (pcs (F := F)) inj), 1) : UP × Counters)) $$ Hu
  icases H with ⟨HH, HR⟩
  ihave H := (own_pair_emb embR (initOf (Pipeline.cells (pcs (F := F)) inj) (launchToks (pcs (F := F)) inj)) (1 : Counters)) $$ HR
  icases H with ⟨HP, -⟩
  imod (Pipeline.fund_ghost (pcs (F := F)) EP inj) $$ HP with ⟨Hg, Ht⟩
  imodintro
  isplitl [HH]; · iexact HH
  isplitl [Hg Ht]
  · rw [bigSep_sep']
    isplitl [Hg] <;> iassumption
  rw [show (bigSep Finset.univ fun thr : Thread nD τ => bigSep Finset.univ fun q : Fin 2 => (PP m).x q thr)
      = bigSep Finset.univ fun _ : Thread nD τ => bigSep Finset.univ fun _ : Fin 2 => (iprop(emp) : sProp 𝕄) from rfl]
  rw [show (fun _ : Thread nD τ => bigSep Finset.univ fun _ : Fin 2 => (iprop(emp) : sProp 𝕄)) = fun _ => iprop(emp) from funext fun _ => bigSep_empty_of _, bigSep_empty_of]
  iempintro

/-! ## @main -/

theorem st1 (d : Dev nD) : (bigSep Finset.univ fun c : Fin ((K (F := F)).nCore 0) => (PP m).st 0 d c)
    = bigSep Finset.univ fun c : Fin 2 => bigSep Finset.univ fun k : Fin 16 => Pieces.piece d tD i1D o1D blk1 (A1 m d) c k := rfl
theorem dn1 (d : Dev nD) : (bigSep Finset.univ fun c : Fin ((K (F := F)).nCore 0) => (PP m).dn 0 d c)
    = bigSep Finset.univ fun c : Fin 2 => bigSep Finset.univ fun k : Fin 16 => Pieces.piece d tD i1D o1D blk1 (B1 m d) c k := rfl
theorem st2 (d : Dev nD) : (bigSep Finset.univ fun c : Fin ((K (F := F)).nCore 1) => (PP m).st 1 d c)
    = bigSep Finset.univ fun c : Fin 2 => bigSep Finset.univ fun k : Fin 16 => Pieces.piece d tD i2D o2D blk2 (A2 m d) c k := rfl
theorem dn2 (d : Dev nD) : (bigSep Finset.univ fun c : Fin ((K (F := F)).nCore 1) => (PP m).dn 1 d c)
    = bigSep Finset.univ fun c : Fin 2 => bigSep Finset.univ fun k : Fin 16 => Pieces.piece d tD i2D o2D blk2 (B2 m d) c k := rfl

theorem V1_eq (d : Dev nD) (b : Ref sig .tc) (h0 : b ≠ main_v0_0) (h1 : b ≠ main_v0_1) : V1 m d (ref b) = m (d, ref b) := by
  unfold V1
  rw [Function.update_of_ne (fun e => h1 (Proc.devRef_injective _ e)), Function.update_of_ne (fun e => h0 (Proc.devRef_injective _ e))]
  rfl

/-- The three pipelines' proof data along the run. -/
abbrev pd [∀ e, Nonempty (Elt F e)] := pdats (F := F) (Vb m) (Oc (F := F) 0) (bnd 0) (R1.dat (asRefs (S1 m)) (Oc (F := F) 0) (bnd 0))
  (R3.dat (asRefs (S2 m)) (Oc (F := F) 1) (bnd 1))

theorem upd2 (V : Valuation τ sig (Elt F)) (r s : Ref sig .tc) (hrs : r ≠ s) (x : (ref r).ty.Contents (Elt F)) (y : (ref s).ty.Contents (Elt F)) :
    (Function.update (Function.update V (ref r) x) (ref s) y (ref r) = x) ∧ (Function.update (Function.update V (ref r) x) (ref s) y (ref s) = y)
      ∧ ∀ b : Ref sig .tc, b ≠ r → b ≠ s → Function.update (Function.update V (ref r) x) (ref s) y (ref b) = V (ref b) := by
  refine ⟨?_, ?_, fun b hr hs => ?_⟩
  · rw [Function.update_of_ne (fun e => hrs (Proc.devRef_injective _ e)), Function.update_self]
  · rw [Function.update_self]
  · rw [Function.update_of_ne (fun e => hs (Proc.devRef_injective _ e)), Function.update_of_ne (fun e => hr (Proc.devRef_injective _ e))]

def region0 [∀ e, Nonempty (Elt F e)] := reg (F := F) (Vb m) (Oc (F := F) 0) (hOc 0) (bnd 0) (R1.dat (asRefs (S1 m)) (Oc (F := F) 0) (bnd 0))
  (R3.dat (asRefs (S2 m)) (Oc (F := F) 1) (bnd 1)) (asRefs (V1 m))
  (fun c => (upd2 (V0 m c) main_v0_0 main_v0_1 (by decide) _ _).1) (fun c => (upd2 (V0 m c) main_v0_0 main_v0_1 (by decide) _ _).2.1)
  (fun c r h0 h1 => (upd2 (V0 m c) main_v0_0 main_v0_1 (by decide) _ _).2.2 r h0 h1)

def region1 [∀ e, Nonempty (Elt F e)] := R1.reg (F := F) (asRefs (S1 m)) (Oc (F := F) 0) (hOc 0) (bnd 0) (Vb m) (Oc (F := F) 0) (bnd 0)
  (R3.dat (asRefs (S2 m)) (Oc (F := F) 1) (bnd 1)) (asRefs (V2 m))
  (fun c => (upd2 (S1 m c) main_v2_0 main_v2_1 (by decide) _ _).1) (fun c => (upd2 (S1 m c) main_v2_0 main_v2_1 (by decide) _ _).2.1)
  (fun c r h0 h1 => (upd2 (S1 m c) main_v2_0 main_v2_1 (by decide) _ _).2.2 r h0 h1)

def region2 [∀ e, Nonempty (Elt F e)] := R3.reg (F := F) (asRefs (S2 m)) (Oc (F := F) 1) (hOc 1) (bnd 1) (Vb m) (Oc (F := F) 0) (bnd 0)
  (R1.dat (asRefs (S1 m)) (Oc (F := F) 0) (bnd 0)) (asRefs (V3 m))
  (fun c => (upd2 (S2 m c) main_v6_0 main_v6_1 (by decide) _ _).1) (fun c => (upd2 (S2 m c) main_v6_0 main_v6_1 (by decide) _ _).2.1)
  (fun c r h0 h1 => (upd2 (S2 m c) main_v6_0 main_v6_1 (by decide) _ _).2.2 r h0 h1)

/-- A region's call, in the pipelines' own signature. -/
abbrev entryCall (p : Fin 3) : Prog (TpuEff nD τ sig (Elt F) (ΛP (F := F)) .tc) PUnit := .op (.customCall (Pipeline.entry p) ()) .ret

/-- A region, run from its entry state to its exit state. -/
theorem call [∀ e, Nonempty (Elt F e)] (p : Fin 3)
    (R : Pipeline.RegionSeg (pcfgs (F := F)) adm (pd m) (none : HIx 2) defs₀ 𝒱₀ (K (F := F)).L (K (F := F)).lev p)
    (V V' : Dev nD → Valuation τ sig (Elt F)) (n : ℕ) (d : Dev nD)
    (hpre : R.pre d = iprop(unscopedBufs d (asRefs V d) ∗ ∃ W, ⌜(K (F := F)).WBelow (T d) W (bnd n)⌝ ∗ owes (T d) (Oc (F := F) n d) W))
    (hpost : R.post d = iprop(unscopedBufs d (asRefs V' d) ∗ ∃ W, ⌜(K (F := F)).WBelow (T d) W (bnd n)⌝ ∗ owes (T d) (Oc (F := F) n d) W))
    (Q : PUnit → sProp 𝕄) :
    (iprop(levAts (K (F := F)).L (K (F := F)).lev ∗ boundary (T d) ∗ held (T d) X (V d) ∗ (∃ W, ⌜(K (F := F)).WBelow (T d) W (bnd n)⌝ ∗ owes (T d) (Oc (F := F) n d) W)
        ∗ cellsGhost (pcs (F := F)) EP p d ∗ toksInit (pcs (F := F)) EP p d
        ∗ ((boundary (T d) ∗ held (T d) X (V' d) ∗ ∃ W, ⌜(K (F := F)).WBelow (T d) W (bnd n)⌝ ∗ owes (T d) (Oc (F := F) n d) W) -∗ Q ⟨⟩)) : sProp 𝕄)
      ⊢ wp frame (wpE ((K (F := F)).defs (D (F := F))) 𝒱 (T d) none) Set.univ (Prog.lift (.customCall (SparseCore.inner (Pipeline.entry p)) ())) Q := by
  have hl := (K (F := F)).wp_liftProg (D (F := F)) 𝒱 (T d) Set.univ none (entryCall (F := F) p) Q
  have hw := Pipeline.RegionSeg.wp (pcfgs (F := F)) adm (pd m) (none : HIx 2) inj EP defs₀ 𝒱₀ (K (F := F)).L (K (F := F)).lev
    R d none (fun _ h => by simp at h) Prog.ret Q
  rw [hpre, hpost] at hw
  iintro ⟨Hlv, Hb, Hu, HO, Hg, Ht, Hk⟩
  iapply hl
  iapply hw
  isplitl [Hk]
  · iintro ⟨Hb, ⟨Hu, HO⟩⟩
    rw [wp_ret]; imodintro
    iapply Hk
    isplitl [Hb]; · iexact Hb
    isplitl [Hu]
    · ihave Hu' := (Entails.of_eq (Pipeline.unscopedBufs_held (Ix := HIx 2) (Name := ℕ) (U := UU) (Lvl := ℕ) d (V' d))) $$ Hu
      iexact Hu'
    iexact HO
  isplitl [Hb]; · iexact Hb
  isplitl [Hu HO]
  · isplitl [Hu]
    · ihave Hu' := (Entails.of_eq (Pipeline.unscopedBufs_held (Ix := HIx 2) (Name := ℕ) (U := UU) (Lvl := ℕ) d (V d)).symm) $$ Hu
      iexact Hu'
    iexact HO
  isplitl [Hlv]; · iexact Hlv
  isplitl [Hg] <;> iassumption

abbrev FIN (d : Dev nD) : sProp 𝕄 :=
  iprop((((d, ref main_arg0) : Loc nD τ sig) ↦{fullShare} m (d, ref main_arg0)) ∗ (((d, ref main_arg1) : Loc nD τ sig) ↦{fullShare} m (d, ref main_arg1))
    ∗ (((d, ref main_v10) : Loc nD τ sig) ↦{fullShare} VE m d (ref main_v10)) ∗ (((d, ref main_v9) : Loc nD τ sig) ↦{fullShare} VE m d (ref main_v9))
    ∗ ((d, ref main_v15) : Loc nD τ sig) ↦{fullShare} VE m d (ref main_v15))

theorem sub1 : ({tD, i1D, o1D} : Finset (DevRef τ sig)) ⊆ X := by decide
theorem sub2 : ({tD, i2D, o2D} : Finset (DevRef τ sig)) ⊆ X := by decide
theorem subopS1 : (opS1 (F := F)).bufs ⊆ X := show ({ref main_arg0, ref main_v1} : Finset (DevRef τ sig)) ⊆ X by decide
theorem subopR1 : (opR1 (F := F)).bufs ⊆ X := show ({ref main_v2_0, ref main_v3} : Finset (DevRef τ sig)) ⊆ X by decide
theorem subopS2 : (opS2 (F := F)).bufs ⊆ X := show ({ref main_arg0, ref main_v5} : Finset (DevRef τ sig)) ⊆ X by decide
theorem subopR2 : (opR2 (F := F)).bufs ⊆ X := show ({ref main_v6_0, ref main_v7} : Finset (DevRef τ sig)) ⊆ X by decide
theorem subopI : (opI (F := F)).bufs ⊆ X := show ({ref main_v2_0, ref main_v6_0, ref main_v9} : Finset (DevRef τ sig)) ⊆ X by decide
theorem subopC : (opC (F := F)).bufs ⊆ X := show ({ref main_v4, ref main_v8, ref main_v10} : Finset (DevRef τ sig)) ⊆ X by decide
theorem subopL1 : (opL1 (F := F)).bufs ⊆ X := show ({ref main_v2_1, ref main_v11} : Finset (DevRef τ sig)) ⊆ X by decide
theorem subopZ : (opZ (F := F)).bufs ⊆ X := show ({ref main_cst} : Finset (DevRef τ sig)) ⊆ X by decide
theorem subopA1 : (opA1 (F := F)).bufs ⊆ X := show ({ref main_cst, ref main_v11, ref main_v12} : Finset (DevRef τ sig)) ⊆ X by decide
theorem subopL2 : (opL2 (F := F)).bufs ⊆ X := show ({ref main_v6_1, ref main_v13} : Finset (DevRef τ sig)) ⊆ X by decide
theorem subopA2 : (opA2 (F := F)).bufs ⊆ X := show ({ref main_v12, ref main_v13, ref main_v14} : Finset (DevRef τ sig)) ⊆ X by decide
theorem subopD : (opD (F := F)).bufs ⊆ X := show ({ref main_cst_0} : Finset (DevRef τ sig)) ⊆ X by decide
theorem subopQ : (opQ (F := F)).bufs ⊆ X := show ({ref main_v14, ref main_cst_0, ref main_v15} : Finset (DevRef τ sig)) ⊆ X by decide

/-- The end's buffers hold the arguments as launched and the result. -/
theorem held_end (d : Dev nD) (h0 : VE m d (ref main_arg0) = m (d, ref main_arg0)) (h1 : VE m d (ref main_arg1) = m (d, ref main_arg1)) :
    (held (T d) X (VE m d) : sProp 𝕄) ⊢ FIN m d := by
  rw [StableHlo.held_sub_split (T d) (show ({ref main_arg0, ref main_arg1, ref main_v10, ref main_v9, ref main_v15} : Finset (DevRef τ sig)) ⊆ X by decide)]
  unfold StableHlo.held
  rw [SparseCore.bigSep_insert' (by decide), SparseCore.bigSep_insert' (by decide), SparseCore.bigSep_insert' (by decide), SparseCore.bigSep_insert' (by decide), bigSep_singleton, h0, h1]
  iintro ⟨⟨H0, H1, H7, H8, H9⟩, -⟩
  isplitl [H0]; · iexact H0
  isplitl [H1]; · iexact H1
  isplitl [H7]; · iexact H7
  isplitl [H8] <;> iassumption

/-- The references the run writes. -/
abbrev written : List (Ref sig .tc) :=
  [main_v0_0, main_v0_1, main_v1, main_v2_0, main_v2_1, main_v3, main_v4, main_v5, main_v6_0, main_v6_1, main_v7, main_v8, main_v9, main_v10, main_v11, main_cst, main_v12,
    main_v13, main_v14, main_cst_0, main_v15]

theorem upd_ne (V : Valuation τ sig (Elt F)) (b r : Ref sig .tc) (h : b ≠ r) (x : (ref r).ty.Contents (Elt F)) : Function.update V (ref r) x (ref b) = V (ref b) :=
  Function.update_of_ne (fun e => h (Proc.devRef_injective _ e)) _ _

theorem not_one (b r : Ref sig .tc) (h : b ≠ r) : ref b ∉ ({ref r} : Finset (DevRef τ sig)) :=
  fun hm => h (Proc.devRef_injective _ (Finset.mem_singleton.mp hm))

theorem S1_ne (d : Dev nD) (b : Ref sig .tc) (h : b ≠ main_v1) : S1 m d (ref b) = V1 m d (ref b) :=
  (opS1 (F := F)).result_of_not_mem _ (not_one b main_v1 h)
theorem V2_ne (d : Dev nD) (b : Ref sig .tc) (h0 : b ≠ main_v2_0) (h1 : b ≠ main_v2_1) : V2 m d (ref b) = S1 m d (ref b) := by
  unfold V2; rw [upd_ne _ _ _ h1, upd_ne _ _ _ h0]
theorem A1_ne (d : Dev nD) (b : Ref sig .tc) (h : b ≠ main_v3) : A1 m d (ref b) = V2 m d (ref b) :=
  (opR1 (F := F)).result_of_not_mem _ (not_one b main_v3 h)
theorem B1_ne (d : Dev nD) (b : Ref sig .tc) (h : b ≠ main_v4) : B1 m d (ref b) = A1 m d (ref b) := upd_ne _ _ _ h _
theorem S2_ne (d : Dev nD) (b : Ref sig .tc) (h : b ≠ main_v5) : S2 m d (ref b) = B1 m d (ref b) :=
  (opS2 (F := F)).result_of_not_mem _ (not_one b main_v5 h)
theorem V3_ne (d : Dev nD) (b : Ref sig .tc) (h0 : b ≠ main_v6_0) (h1 : b ≠ main_v6_1) : V3 m d (ref b) = S2 m d (ref b) := by
  unfold V3; rw [upd_ne _ _ _ h1, upd_ne _ _ _ h0]
theorem A2_ne (d : Dev nD) (b : Ref sig .tc) (h : b ≠ main_v7) : A2 m d (ref b) = V3 m d (ref b) :=
  (opR2 (F := F)).result_of_not_mem _ (not_one b main_v7 h)
theorem B2_ne (d : Dev nD) (b : Ref sig .tc) (h : b ≠ main_v8) : B2 m d (ref b) = A2 m d (ref b) := upd_ne _ _ _ h _

/-- Up to the second slice a buffer no step writes is as after the preparation, -/
theorem B1_old (d : Dev nD) (b : Ref sig .tc) (h : ∀ r ∈ ([main_v1, main_v2_0, main_v2_1, main_v3, main_v4] : List (Ref sig .tc)), b ≠ r) :
    B1 m d (ref b) = V1 m d (ref b) := by
  rw [B1_ne m d b (h _ (by simp)), A1_ne m d b (h _ (by simp)), V2_ne m d b (h _ (by simp)) (h _ (by simp)), S1_ne m d b (h _ (by simp))]
/-- and up to the closing operations as after the first half. -/
theorem B2_old (d : Dev nD) (b : Ref sig .tc) (h : ∀ r ∈ ([main_v5, main_v6_0, main_v6_1, main_v7, main_v8] : List (Ref sig .tc)), b ≠ r) :
    B2 m d (ref b) = B1 m d (ref b) := by
  rw [B2_ne m d b (h _ (by simp)), A2_ne m d b (h _ (by simp)), V3_ne m d b (h _ (by simp)) (h _ (by simp)), S2_ne m d b (h _ (by simp))]

theorem VE_arg (d : Dev nD) (b : Ref sig .tc) (hb : b = main_arg0 ∨ b = main_arg1) : VE m d (ref b) = m (d, ref b) := by
  have e : ∀ r ∈ written, b ≠ r := by rcases hb with rfl | rfl <;> decide
  have h1 : VE m d (ref b) = B2 m d (ref b) := by
    refine StableHlo.after_of_forall_not_mem endOps (B2 m d) fun op hop => ?_
    simp only [endOps, List.mem_cons, List.not_mem_nil, or_false] at hop
    rcases hop with rfl | rfl | rfl | rfl | rfl | rfl | rfl | rfl | rfl <;> exact not_one b _ (e _ (by simp))
  have s2 : ([main_v5, main_v6_0, main_v6_1, main_v7, main_v8] : List (Ref sig .tc)) ⊆ written := by decide
  have s1 : ([main_v1, main_v2_0, main_v2_1, main_v3, main_v4] : List (Ref sig .tc)) ⊆ written := by decide
  rw [h1, B2_old m d b fun r hr => e r (s2 hr), B1_old m d b fun r hr => e r (s1 hr)]
  exact V1_eq m d b (e _ (by simp)) (e _ (by simp))

theorem back1 (d : Dev nD) : iprop((bigSep Finset.univ fun c : Fin ((K (F := F)).nCore 0) => (PP m).dn 0 d c) ∗ held (T d) (X \ {tD, i1D, o1D}) (A1 m d) : sProp 𝕄)
    ⊢ held (T d) X (B1 m d) := by
  rw [dn1, held_pieces d tD i1D o1D blk1 (B1 m d) (cut1 d) (by decide) (by decide) (by decide) X sub1]
  conv_rhs => rw [B1, held_rest d tD i1D o1D _ (by decide) (by decide) X]
  rfl
theorem back2 (d : Dev nD) : iprop((bigSep Finset.univ fun c : Fin ((K (F := F)).nCore 1) => (PP m).dn 1 d c) ∗ held (T d) (X \ {tD, i2D, o2D}) (A2 m d) : sProp 𝕄)
    ⊢ held (T d) X (B2 m d) := by
  rw [dn2, held_pieces d tD i2D o2D blk2 (B2 m d) (cut2 d) (by decide) (by decide) (by decide) X sub2]
  conv_rhs => rw [B2, held_rest d tD i2D o2D _ (by decide) (by decide) X]
  rfl

theorem three (Φ : Fin 3 → sProp 𝕄) : bigSep Finset.univ Φ = iprop(Φ 0 ∗ Φ 1 ∗ Φ 2) := bigSep_W0 Φ

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ ghost d)
      ⊢ wp frame (wpE ((K (F := F)).defs (D (F := F))) 𝒱 (T d) none) Set.univ (main d)
          fun _ => iprop((K (F := F)).tcSt EH d 2 ∗ FIN m d ∗ (K (F := F)).tcEnd d) := by
  unfold SparseCore.Cfg.tcRes SparseCore.Cfg.tcEnd
  simp only [main, wp_bind, wp_pure]
  iintro ⟨#Hctx, Hst, ⟨Hb, Hu, Hts, -⟩, ⟨Hg, Ht⟩⟩
  ihave #Hlv := (SparseCore.Cfg.ctx_levAts κ) $$ Hctx
  ihave Hg' := (Entails.of_eq (three fun p : Fin 3 => (cellsGhost (pcs (F := F)) EP p d : sProp 𝕄))) $$ Hg
  ihave Ht' := (Entails.of_eq (three fun p : Fin 3 => (toksInit (pcs (F := F)) EP p d : sProp 𝕄))) $$ Ht
  icases Hg' with ⟨Hg0, Hg1, Hg2⟩
  icases Ht' with ⟨Ht0, Ht1, Ht2⟩
  ihave Hst' := (Entails.of_eq (show (K (F := F)).tcSt EH d 0 = _ by unfold SparseCore.Cfg.tcSt; rfl)) $$ Hst
  icases Hst' with ⟨HO, Hst⟩
  ihave Hh := (Entails.of_eq (show unscopedBufs d (Vb m d) = _ from Pipeline.unscopedBufs_held (Ix := HIx 2) (Name := ℕ) (U := UU) (Lvl := ℕ) d (V0 m d))) $$ Hu
  iapply (call m 0 (region0 m) (V0 m) (V1 m) 0 d rfl rfl _)
  isplitr; · iexact Hlv
  isplitl [Hb]; · iexact Hb
  isplitl [Hh]; · iexact Hh
  isplitl [HO]; · iexact HO
  isplitl [Hg0]; · iexact Hg0
  isplitl [Ht0]; · iexact Ht0
  iintro ⟨Hb, Hh, HO⟩
  iapply (wp_hlo_within 𝒱 (T d) none Set.univ (op := opS1) (S := X) subopS1 (V := V1 m d)) $$ [Hb Hh]
  · isplitl [Hb] <;> iassumption
  iintro ⟨Hb, Hh⟩
  rw [wp_ret]; imodintro
  iapply (call m 1 (region1 m) (S1 m) (V2 m) 0 d rfl rfl _)
  isplitr; · iexact Hlv
  isplitl [Hb]; · iexact Hb
  isplitl [Hh]; · iexact Hh
  isplitl [HO]; · iexact HO
  isplitl [Hg1]; · iexact Hg1
  isplitl [Ht1]; · iexact Ht1
  iintro ⟨Hb, Hh, HO⟩
  iapply (wp_hlo_within 𝒱 (T d) none Set.univ (op := opR1) (S := X) subopR1 (V := V2 m d)) $$ [Hb Hh]
  · isplitl [Hb] <;> iassumption
  iintro ⟨Hb, Hh⟩
  rw [wp_ret]; imodintro
  ihave Hh' := (Entails.of_eq (show held (T d) X ((opR1 (F := F)).result (V2 m d)) = _ from held_pieces d tD i1D o1D blk1 (A1 m d) (cut1 d) (by decide) (by decide) (by decide) X sub1)) $$ Hh
  icases Hh' with ⟨Hp, Hr⟩
  iapply ((K (F := F)).wp_run (D (F := F)) 𝒱 (EH := EH) (P := PP m) κ d 0)
  isplitr; · iexact Hctx
  isplitl [HO Hst]
  · iapply (Entails.of_eq (show _ = (K (F := F)).tcSt EH d 0 by unfold SparseCore.Cfg.tcSt; rfl))
    isplitl [HO]; · iexact HO
    iexact Hst
  isplitl [Hp]; · rw [st1]; iexact Hp
  iintro ⟨Hst, Hp⟩
  ihave Hh := (back1 m d) $$ [Hp Hr]
  · isplitl [Hp]; · iexact Hp
    iexact Hr
  iapply (wp_hlo_within 𝒱 (T d) none Set.univ (op := opS2) (S := X) subopS2 (V := B1 m d)) $$ [Hb Hh]
  · isplitl [Hb] <;> iassumption
  iintro ⟨Hb, Hh⟩
  rw [wp_ret]; imodintro
  ihave Hst' := (Entails.of_eq (show (K (F := F)).tcSt EH d ((0 : Fin 2).val + 1) = _ by unfold SparseCore.Cfg.tcSt; rfl)) $$ Hst
  icases Hst' with ⟨HO, Hst⟩
  iapply (call m 2 (region2 m) (S2 m) (V3 m) 1 d rfl rfl _)
  isplitr; · iexact Hlv
  isplitl [Hb]; · iexact Hb
  isplitl [Hh]; · iexact Hh
  isplitl [HO]; · iexact HO
  isplitl [Hg2]; · iexact Hg2
  isplitl [Ht2]; · iexact Ht2
  iintro ⟨Hb, Hh, HO⟩
  iapply (wp_hlo_within 𝒱 (T d) none Set.univ (op := opR2) (S := X) subopR2 (V := V3 m d)) $$ [Hb Hh]
  · isplitl [Hb] <;> iassumption
  iintro ⟨Hb, Hh⟩
  rw [wp_ret]; imodintro
  ihave Hh' := (Entails.of_eq (show held (T d) X ((opR2 (F := F)).result (V3 m d)) = _ from held_pieces d tD i2D o2D blk2 (A2 m d) (cut2 d) (by decide) (by decide) (by decide) X sub2)) $$ Hh
  icases Hh' with ⟨Hp, Hr⟩
  iapply ((K (F := F)).wp_run (D (F := F)) 𝒱 (EH := EH) (P := PP m) κ d 1)
  isplitr; · iexact Hctx
  isplitl [HO Hst]
  · iapply (Entails.of_eq (show _ = (K (F := F)).tcSt EH d 1 by unfold SparseCore.Cfg.tcSt; rfl))
    isplitl [HO]; · iexact HO
    iexact Hst
  isplitl [Hp]; · rw [st2]; iexact Hp
  iintro ⟨Hst, Hp⟩
  ihave Hh := (back2 m d) $$ [Hp Hr]
  · isplitl [Hp]; · iexact Hp
    iexact Hr
  iapply (wp_hlo_within 𝒱 (T d) none Set.univ (op := opI) (S := X) subopI (V := B2 m d)) $$ [Hb Hh]
  · isplitl [Hb] <;> iassumption
  iintro H
  rw [wp_ret]; imodintro
  iapply (wp_hlo_within 𝒱 (T d) none Set.univ (op := opC) (S := X) subopC) $$ H
  iintro H
  rw [wp_ret]; imodintro
  iapply (wp_hlo_within 𝒱 (T d) none Set.univ (op := opL1) (S := X) subopL1) $$ H
  iintro H
  rw [wp_ret]; imodintro
  iapply (wp_hlo_within 𝒱 (T d) none Set.univ (op := opZ) (S := X) subopZ) $$ H
  iintro H
  rw [wp_ret]; imodintro
  iapply (wp_hlo_within 𝒱 (T d) none Set.univ (op := opA1) (S := X) subopA1) $$ H
  iintro H
  rw [wp_ret]; imodintro
  iapply (wp_hlo_within 𝒱 (T d) none Set.univ (op := opL2) (S := X) subopL2) $$ H
  iintro H
  rw [wp_ret]; imodintro
  iapply (wp_hlo_within 𝒱 (T d) none Set.univ (op := opA2) (S := X) subopA2) $$ H
  iintro H
  rw [wp_ret]; imodintro
  iapply (wp_hlo_within 𝒱 (T d) none Set.univ (op := opD) (S := X) subopD) $$ H
  iintro H
  rw [wp_ret]; imodintro
  iapply (wp_hlo_within 𝒱 (T d) none Set.univ (op := opQ) (S := X) subopQ) $$ H
  iintro ⟨Hb, Hh⟩
  rw [wp_ret]; imodintro
  imodintro
  isplitl [Hst]; · iexact Hst
  isplitl [Hh]
  · iapply (held_end m d (VE_arg m d main_arg0 (.inl rfl)) (VE_arg m d main_arg1 (.inr rfl)))
    iexact Hh
  isplitl [Hb] <;> iassumption

/-! ## The end of the run -/

def fq (d : Dev nD) (s' : Phys nD τ sig (Elt F)) : Prop :=
  s'.mem.mem (d, ref main_arg0) = m (d, ref main_arg0) ∧ s'.mem.mem (d, ref main_arg1) = m (d, ref main_arg1)
    ∧ s'.mem.mem (d, ref main_v10) = VE m d (ref main_v10) ∧ s'.mem.mem (d, ref main_v9) = VE m d (ref main_v9) ∧ s'.mem.mem (d, ref main_v15) = VE m d (ref main_v15)

theorem hfin (d : Dev nD) (s' : Phys nD τ sig (Elt F)) : iprop(FIN m d ∗ SI s') ⊢ (⌜fq m d s'⌝ : sProp 𝕄) := by
  have hp (ℓ : Loc nD τ sig) (f : Buf (Elt F) ℓ) := (persistent_entails_right
    (SI_pointsTo_agree (Ix := HIx 2) (Name := ℕ) (U := UU) (Lvl := ℕ) (st := s') (ℓ := ℓ) (I := Finset.univ) (q := fullShare) (f := f)))
  iintro ⟨⟨H0, H1, H7, H8, H9⟩, HSI⟩
  ihave H := (hp ((d, ref main_arg0) : Loc nD τ sig) (m (d, ref main_arg0))) $$ [HSI H0]
  · isplitl [HSI] <;> iassumption
  icases H with ⟨%h0, HSI, -⟩
  ihave H := (hp ((d, ref main_arg1) : Loc nD τ sig) (m (d, ref main_arg1))) $$ [HSI H1]
  · isplitl [HSI] <;> iassumption
  icases H with ⟨%h1, HSI, -⟩
  ihave H := (hp ((d, ref main_v10) : Loc nD τ sig) (VE m d (ref main_v10))) $$ [HSI H7]
  · isplitl [HSI] <;> iassumption
  icases H with ⟨%h7, HSI, -⟩
  ihave H := (hp ((d, ref main_v9) : Loc nD τ sig) (VE m d (ref main_v9))) $$ [HSI H8]
  · isplitl [HSI] <;> iassumption
  icases H with ⟨%h8, HSI, -⟩
  ihave H := (hp ((d, ref main_v15) : Loc nD τ sig) (VE m d (ref main_v15))) $$ [HSI H9]
  · isplitl [HSI] <;> iassumption
  icases H with ⟨%h9, -⟩
  ipureintro
  exact ⟨funext fun i => h0 i (Finset.mem_univ i), funext fun i => h1 i (Finset.mem_univ i), funext fun i => h7 i (Finset.mem_univ i),
    funext fun i => h8 i (Finset.mem_univ i), funext fun i => h9 i (Finset.mem_univ i)⟩

/-! ## What the calls carry -/

/-- An array of indices as a row. -/
theorem row_apply {α : Type} (v : S16384.Idx → α) (x : S1x16384.Idx) : shapeCast S1x16384 v shapeCasts_S16384_S1x16384 x = v (atV (x 1)) := by
  refine (shapeCast_addUnit_apply ![16384] _ _ x).trans (congrArg v (funext fun a => ?_))
  fin_cases a
  rfl

theorem A1_i (d : Dev nD) (x : S1x16384.Idx) : A1 m d i1D x = I1 m d (atV (x 1)) := by
  unfold A1
  rw [StableHlo.reshape_result']
  refine (row_apply _ x).trans (congrFun ?_ _)
  exact (upd2 (S1 m d) main_v2_0 main_v2_1 (by decide) _ _).1
theorem A2_i (d : Dev nD) (x : S1x16384.Idx) : A2 m d i2D x = I2 m d (atV (x 1)) := by
  unfold A2
  rw [StableHlo.reshape_result']
  refine (row_apply _ x).trans (congrFun ?_ _)
  exact (upd2 (S2 m d) main_v6_0 main_v6_1 (by decide) _ _).1

theorem ok1 (h : PreOK m) (d : Dev nD) : Ok tD i1D o1D (A1 m d) (B1 m d) (A1 m d tD) (A1 m d i1D) (B1 m d o1D) where
  same_t := Function.update_of_ne (show tD ≠ o1D by decide) _ _
  same_i := Function.update_of_ne (show i1D ≠ o1D by decide) _ _
  lt x := by rw [A1_i]; exact (h d _).1
  rows y := by rw [B1, Function.update_self]; rfl

theorem ok2 (h : PreOK m) (d : Dev nD) : Ok tD i2D o2D (A2 m d) (B2 m d) (A2 m d tD) (A2 m d i2D) (B2 m d o2D) where
  same_t := Function.update_of_ne (show tD ≠ o2D by decide) _ _
  same_i := Function.update_of_ne (show i2D ≠ o2D by decide) _ _
  lt x := by rw [A2_i]; exact (h d _).2
  rows y := by rw [B2, Function.update_self]; rfl

/-- What a run ends with: the arguments as launched, the result as the run computes it, the cells at zero. -/
def QC : PUnit × MemSt nD τ sig (Elt F) → Prop := fun r =>
  (∀ d : Dev nD, r.2.mem (d, ref main_arg0) = m (d, ref main_arg0) ∧ r.2.mem (d, ref main_arg1) = m (d, ref main_arg1)
    ∧ r.2.mem (d, ref main_v10) = VE m d (ref main_v10) ∧ r.2.mem (d, ref main_v9) = VE m d (ref main_v9)
    ∧ r.2.mem (d, ref main_v15) = VE m d (ref main_v15)) ∧ r.2.sem = fun _ => 0

theorem run_main [∀ e, Nonempty (Elt F e)] (h : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq | 1 => nomatch hq)
    (fun q _ => match q with
      | 0 => obl1 (A1 m) (B1 m) (A2 m) (B2 m) (ok1 m h)
      | 1 => obl2 (A1 m) (B1 m) (A2 m) (B2 m) (ok2 m h))
    (fun q _ => match q with
      | 0 => SparseCore.Cfg.VecSplit.of_plain (split1 (A1 m) (B1 m) (A2 m) (B2 m))
      | 1 => SparseCore.Cfg.VecSplit.of_plain (split2 (A1 m) (B1 m) (A2 m) (B2 m)))
    m ρ main (fun d => ghost d) (FIN m) (u₀ (F := F)) (sep_elim_left.trans (hu₀ m)) (hmain m ρ) (fq m) (hfin m) (QC m) (fun _ h hz => ⟨h, hz⟩)

end Cert.Proof.Launch

end
-- ==== Proof.Sums.lean ====
/-
  The preparing kernel's second result: each codebook row's sum of squares.
-/
module

public import proofs.«01_k».proof.Proof.Prep
public import Idealize.ShloMosaic.Lib.Pointwise

@[expose] public section

noncomputable section

namespace Cert.Proof.Prep

open Cert.KernelIdeal Cert.KernelIdeal.Gen Cert.Proof.Tile

open Idealize.ShloMosaic Idealize.ShloMosaic.TcCoe Idealize.SL.Sem
open Idealize.ShloMosaic.SparseCore.Cfg (HIx)
open Idealize.ShloMosaic.Pipeline (Dat Cfg Window)

theorem pay2_apply (g h : FVec Ideal S8192x64 .f32) (e : ∀ y, g y = h y) (k : Fin 8192) :
    k0_pay2 g (ix1 k) = ∑ q : Fin 64, h (ix2 k q) * h (ix2 k q) := by
  obtain rfl : g = h := funext e
  unfold k0_pay2
  pointwise

/-- The second result reads as each row's sum of squares. -/
theorem prepRun_sums (c : Dev nD) (M0 : Memref sig .tc .vmem S8192x64 .f32) (h0 : M0.IsWhole) (M1 : Memref sig .tc .vmem S8192x128 .f32) (h1 : M1.IsWhole)
    (M2 : Memref sig .tc .vmem S8192 .f32) (h2 : M2.IsWhole) (f0 : Bf (F := Ideal) c M0) (k : Fin 8192) :
    M2.view.read (Elt Ideal) (prepRun c M0 h0 M1 h1 M2 h2 f0).1.2 (ix1 k)
      = ∑ q : Fin 64, M0.view.read (Elt Ideal) f0 (ix2 k q) * M0.view.read (Elt Ideal) f0 (ix2 k q) := by
  unfold prepRun
  dsimp only
  sl_unfold_run_names
  refine (View.read_writes_cons_unit_of_mem M2.view _ _ _ _ (ix1 k) (ix1 k) rfl (by
      intro a
      match a with
      | 0 => show k.val = 0 + k.val; omega)).trans ?_
  refine pay2_apply _ _ (fun y => ?_) k
  refine (View.readAt_apply ..).trans ?_
  exact congrArg (M0.view.read (Elt Ideal) f0) (funext fun a => Fin.ext (by
    match a with
    | 0 => show 0 + 1 * (y 0).val = (y 0).val; omega
    | 1 => show 0 + 1 * (y 1).val = (y 1).val; omega))

variable (V : (c : Dev nD) → (b : Ref sig .tc) → Buf (Elt Ideal) ((c : Thread nD τ).loc b))
variable (O : Dev nD → CellTallies nD τ sig (HIx 2)) (b : ℕ)

theorem read_sums (c : Dev nD) (f : Buf (Elt Ideal) ((c : Thread nD τ).loc main_v0_1)) :
    ((cfg0.win 2).blk t0_0).view.read (Elt Ideal) f = f :=
  Memref.read_access_unit_zero (Elt Ideal) main_v0_1
    (show (fun a => (win0_2.index t0_0) a * main_v0_1.ty.shape.size a) = fun _ => 0 from
      funext fun a => by fin_cases a <;> decide) (fun a => by fin_cases a <;> decide) f

theorem flushed_sums (c : Dev nD) (dt : Dat τ (Elt Ideal) (HIx 2) ℕ UU ℕ cfg0 c) (X : S8192.Idx → Elt Ideal .f32)
    (h : dt.after 2 t0_0 = X) (y : S8192.Idx) : dt.flushed 2 t0_0 y = X y := by
  subst h
  rfl

/-- The second result's array is each codebook row's sum of squares. -/
theorem sums_apply (c : Dev nD) (C : S8192x64.Idx → EReal) (hC : V c main_arg1 = C) (k : Fin 8192) :
    sums V O b c (ix1 k) = ∑ q : Fin 64, C (ix2 k q) * C (ix2 k q) := by
  subst hC
  have hw : ((cfg0.win 2).blk t0_0).view.read (Elt Ideal) (sums V O b c) = (dat V O b c).flushed 2 t0_0 := by
    unfold sums
    rw [show cfg0.N = t0_0.val + 1 from rfl, (dat V O b c).arrAt_succ (2 : Fin 3) t0_0, flush0_2, if_pos rfl]
    exact View.read_write_univ _ _
  rw [read_sums] at hw
  have ha : (dat V O b c).after 2 t0_0 = (R0 V c).1.2 := by dsimp only [dat]
  have h1 := congrFun hw (ix1 k)
  rw [h1, flushed_sums c (dat V O b c) (R0 V c).1.2 ha]
  refine (prepRun_sums c (stage0_0 0) (hstage0_0 0) (stage0_1 0) (hstage0_1 0) (stage0_2 0) (hstage0_2 0) (stg V c) k).trans ?_
  have e : ∀ q : Fin 64, stg V c (ix2 k q) = V c main_arg1 (ix2 k q) := fun q => congrFun (read_arg c (V c main_arg1)) (ix2 k q)
  exact Finset.sum_congr rfl fun q _ => congrArg₂ (· * ·) (e q) (e q)

end Cert.Proof.Prep

end
-- ==== Proof.Dist.Least.lean ====
/-
  The distance kernel's index over the extended reals: the first of the codebook rows with the least score.
-/
module

public import proofs.«01_k».proof.Proof.Dist.Spec
public import Idealize.ShloMosaic.Lib.Pointwise
public import Idealize.ShloMosaic.Lib.PlanTiles.Rows

@[expose] public section

noncomputable section

namespace Cert.Proof.Dist

open Cert.KernelIdeal Cert.KernelIdeal.Gen

open Idealize.ShloMosaic

/-- `k` is the first row with the least score. -/
def First (s : Fin 8192 → EReal) (k : Fin 8192) : Prop := (∀ k', s k ≤ s k') ∧ ∀ k', k' < k → s k < s k'

theorem First.unique {s : Fin 8192 → EReal} {k k' : Fin 8192} (h : First s k) (h' : First s k') : k = k' := by
  rcases lt_trichotomy k k' with hlt | rfl | hlt
  · exact absurd (h.1 k') (not_le.mpr (h'.2 k hlt))
  · rfl
  · exact absurd (h'.1 k) (not_le.mpr (h.2 k' hlt))

/-! ## One lane -/

section Lane

variable (s : ℕ → EReal)

/-- A running minimum. -/
def laneMin : ℕ → EReal
  | 0 => ⊤
  | n + 1 => min (laneMin n) (s n)
/-- Where it was last lowered. -/
def laneJ : ℕ → ℕ
  | 0 => 0
  | n + 1 => if s n < laneMin s n then n else laneJ n

theorem lane_spec (n : ℕ) : laneJ s (n + 1) ≤ n ∧ s (laneJ s (n + 1)) = laneMin s (n + 1)
    ∧ (∀ j, j < laneJ s (n + 1) → laneMin s (n + 1) < s j) ∧ ∀ j, j ≤ n → laneMin s (n + 1) ≤ s j := by
  induction n with
  | zero =>
    have e : laneJ s 1 = 0 := by simp [laneJ]
    have e' : laneMin s 1 = s 0 := by simp [laneMin]
    rw [e, e']
    exact ⟨le_rfl, rfl, fun j hj => absurd hj (Nat.not_lt_zero j), fun j hj => by rw [Nat.le_zero.mp hj]⟩
  | succ n ih =>
    obtain ⟨h1, h2, h3, h4⟩ := ih
    show (if s (n + 1) < laneMin s (n + 1) then n + 1 else laneJ s (n + 1)) ≤ n + 1
      ∧ s (if s (n + 1) < laneMin s (n + 1) then n + 1 else laneJ s (n + 1)) = min (laneMin s (n + 1)) (s (n + 1))
      ∧ (∀ j, j < (if s (n + 1) < laneMin s (n + 1) then n + 1 else laneJ s (n + 1)) → min (laneMin s (n + 1)) (s (n + 1)) < s j)
      ∧ ∀ j, j ≤ n + 1 → min (laneMin s (n + 1)) (s (n + 1)) ≤ s j
    have h5 : ∀ j, j ≤ n + 1 → min (laneMin s (n + 1)) (s (n + 1)) ≤ s j := fun j hj => by
      rcases Nat.lt_or_ge j (n + 1) with hlt | hge
      · exact (min_le_left _ _).trans (h4 j (Nat.le_of_lt_succ hlt))
      · rw [Nat.le_antisymm hj hge]; exact min_le_right _ _
    by_cases hc : s (n + 1) < laneMin s (n + 1)
    · rw [if_pos hc, min_eq_right hc.le]
      exact ⟨le_rfl, rfl, fun j hj => hc.trans_le (h4 j (Nat.le_of_lt_succ hj)), fun j hj => by rw [← min_eq_right hc.le]; exact h5 j hj⟩
    · rw [if_neg hc, min_eq_left (not_lt.mp hc)]
      exact ⟨h1.trans (Nat.le_succ n), h2, h3, fun j hj => by rw [← min_eq_left (not_lt.mp hc)]; exact h5 j hj⟩

end Lane

/-! ## All lanes -/

/-- The score of codebook row `k` at row `n` of the block. -/
def total1 (D : FVec Ideal S1024x8192 .f32) (C : FVec Ideal S8192 .f32) (n : Fin 1024) (k : Fin 8192) : EReal :=
  D (ix2 n k) + C (ix1 k)

theorem ofBits_top : Ideal.ofBits .f32 0x7F800000#32 = ⊤ := by simp [Ideal.ofBits, Ideal.ieee]

/-- A fold of the signed minimum over words of small numbers. -/
theorem fold_minsi {ι : Type} (t : Finset ι) (g : ι → ℕ) (hg : ∀ l, g l < 2 ^ 31) (b : ℕ) (hb : b < 2 ^ 31) :
    t.fold IntOp.minsi (BitVec.ofNat 32 b) (fun l => BitVec.ofNat 32 (g l)) = BitVec.ofNat 32 (t.fold min b g) := by
  classical
  induction t using Finset.induction_on with
  | empty => rfl
  | insert a t ha ih =>
    have hlt : t.fold min b g < 2 ^ 31 := lt_of_le_of_lt ((Finset.fold_min_le (t.fold min b g)).mp le_rfl |>.elim
      (fun h => (Finset.fold_min_le b).mpr (.inl le_rfl)) fun _ => (Finset.fold_min_le b).mpr (.inl le_rfl)) hb
    rw [Finset.fold_insert ha, Finset.fold_insert ha, ih, PlanTiles.minsi_word (hg a) hlt, min_comm]

/-- From each lane's first least group, the first least row. -/
theorem first_of_lanes (S : Fin 8192 → EReal) (s : Fin 128 → ℕ → EReal)
    (hS : ∀ l j (hj : j < 64), s l j = S ⟨128 * j + l.val, by have := l.isLt; omega⟩) (μ : EReal)
    (hμ : μ = Finset.univ.fold min ⊤ fun l => laneMin (s l) 64) :
    ∃ k : Fin 8192, First S k ∧ S k = μ ∧ (Finset.univ.fold min 2147483647 fun l : Fin 128 =>
      if laneMin (s l) 64 = μ then laneJ (s l) 64 * 128 + l.val else 8192) = k.val := by
  set g : Fin 128 → ℕ := fun l => if laneMin (s l) 64 = μ then laneJ (s l) 64 * 128 + l.val else 8192 with hg
  have hle : ∀ l, μ ≤ laneMin (s l) 64 := fun l => hμ ▸ (Finset.fold_min_le _).mpr (.inr ⟨l, Finset.mem_univ l, le_rfl⟩)
  have hex : ∃ l, laneMin (s l) 64 = μ := by
    rcases (Finset.fold_min_le μ).mp (le_of_eq hμ.symm) with h | ⟨l, _, h⟩
    · exact ⟨0, le_antisymm (le_top.trans h) (hle 0)⟩
    · exact ⟨l, le_antisymm h (hle l)⟩
  have hin : ∀ l, laneMin (s l) 64 = μ → g l < 8192 := fun l h => by
    have h1 : laneJ (s l) 64 ≤ 63 := (lane_spec (s l) 63).1; have h2 := l.isLt
    simp only [hg, if_pos h]; omega
  set v := Finset.univ.fold min 2147483647 g with hv
  have hvle : ∀ l, v ≤ g l := fun l => (Finset.fold_min_le _).mpr (.inr ⟨l, Finset.mem_univ l, le_rfl⟩)
  have hvlt : v < 8192 := by obtain ⟨l, hl⟩ := hex; exact lt_of_le_of_lt (hvle l) (hin l hl)
  obtain ⟨l, hl⟩ : ∃ l, g l = v := by
    rcases (Finset.fold_min_le v).mp (le_of_eq hv.symm) with h | ⟨l, _, h⟩
    · omega
    · exact ⟨l, le_antisymm h (hvle l)⟩
  have hlm : laneMin (s l) 64 = μ := by
    by_contra hne
    have : g l = 8192 := by simp only [hg, if_neg hne]
    omega
  have hgl : g l = laneJ (s l) 64 * 128 + l.val := by simp only [hg, if_pos hlm]
  have hval : S ⟨v, hvlt⟩ = μ := by
    obtain ⟨h1, h2, -, -⟩ := lane_spec (s l) 63
    rw [hS l _ (Nat.lt_succ_of_le h1), hlm] at h2
    rw [← h2]
    exact congrArg S (Fin.ext (by show v = 128 * laneJ (s l) 64 + l.val; omega))
  have hdec : ∀ k : Fin 8192, S k = s ⟨k.val % 128, Nat.mod_lt _ (by decide)⟩ (k.val / 128) := fun k => by
    have hk := k.isLt
    rw [hS _ _ (by omega)]
    exact congrArg S (Fin.ext (by show k.val = 128 * (k.val / 128) + k.val % 128; omega))
  have hall : ∀ k, μ ≤ S k := fun k => by
    have hk := k.isLt
    rw [hdec]
    exact (hle _).trans ((lane_spec (s _) 63).2.2.2 _ (by omega))
  refine ⟨⟨v, hvlt⟩, ⟨fun k => hval ▸ hall k, fun k hk => hval ▸ lt_of_le_of_ne (hall k) fun he => ?_⟩, hval, rfl⟩
  have hkv : k.val < v := hk
  have hk' := k.isLt
  set l' : Fin 128 := ⟨k.val % 128, Nat.mod_lt _ (by decide)⟩
  obtain ⟨-, -, h3, h4⟩ := lane_spec (s l') 63
  have hs : s l' (k.val / 128) = μ := by rw [← hdec, ← he]
  have hm : laneMin (s l') 64 = μ := le_antisymm (hs ▸ h4 _ (by omega)) (hle l')
  have hge : laneJ (s l') 64 ≤ k.val / 128 := by
    by_contra hlt
    have := h3 _ (not_le.mp hlt)
    rw [hs] at this
    exact absurd hm this.ne
  have : v ≤ laneJ (s l') 64 * 128 + l'.val := by have := hvle l'; simpa only [hg, if_pos hm] using this
  have hl' : l'.val = k.val % 128 := rfl
  omega

/-! ## A strip -/

theorem runMin_eq (D : FVec Ideal S1024x8192 .f32) (C : FVec Ideal S8192 .f32) (r : Fin 16) (n : ℕ) (x : S64x128.Idx) :
    runMin D C r n x = laneMin (fun j => score D C r j x) n := by
  induction n with
  | zero => exact ofBits_top
  | succ n ih => show min (runMin D C r n x) _ = min _ _; rw [ih]

theorem runJ_eq (D : FVec Ideal S1024x8192 .f32) (C : FVec Ideal S8192 .f32) (r : Fin 16) (n : ℕ) (x : S64x128.Idx) :
    runJ D C r n x = BitVec.ofNat 32 (laneJ (fun j => score D C r j x) n) := by
  induction n with
  | zero => rfl
  | succ n ih =>
    show Scalar.select (BitVec.ofBool (decide (score D C r n x < runMin D C r n x))) (BitVec.ofNat 32 n) (runJ D C r n x)
      = BitVec.ofNat 32 (if score D C r n x < laneMin (fun j => score D C r j x) n then n else _)
    rw [runMin_eq, ih]
    by_cases h : score D C r n x < laneMin (fun j => score D C r j x) n
    · rw [decide_eq_true h, if_pos h]; rfl
    · rw [decide_eq_false h, if_neg h]; rfl

theorem least_apply (m : FVec Ideal S64x128 .f32) (y : S64x1.Idx) :
    least m y = Finset.univ.fold min ⊤ fun l : Fin 128 => m (ix2 (y 0) l) := by
  unfold least
  pointwise
  simp only [Ideal.ofBits_def, ofBits_top]

theorem score_apply (D : FVec Ideal S1024x8192 .f32) (C : FVec Ideal S8192 .f32) (r : Fin 16) (j : ℕ) (hj : j < 64) (p : Fin 64) (l : Fin 128) :
    score D C r j (ix2 p l) = total1 D C ⟨64 * r.val + p.val, by have := r.isLt; have := p.isLt; omega⟩
      ⟨128 * j + l.val, by have := l.isLt; omega⟩ := by
  have e : j % 64 = j := Nat.mod_eq_of_lt hj
  unfold score total1
  pointwise
  simp only [e]

theorem first_apply (m : FVec Ideal S64x128 .f32) (J : IVec S64x128 32) (g : Fin 128 → ℕ) (p : Fin 64) (hg : ∀ l, g l < 64)
    (hJ : ∀ l, J (ix2 p l) = BitVec.ofNat 32 (g l)) :
    first m J (at0 p) = BitVec.ofNat 32 (Finset.univ.fold min 2147483647 fun l : Fin 128 =>
      if m (ix2 p l) = Finset.univ.fold min ⊤ (fun l : Fin 128 => m (ix2 p l)) then g l * 128 + l.val else 8192) := by
  unfold first
  pointwise
  rw [← fold_minsi _ _ (fun l => by have := hg l; have := l.isLt; split_ifs <;> omega) _ (by norm_num)]
  refine congrArg (fun f => Finset.fold IntOp.minsi 2147483647#32 f Finset.univ) (funext fun l => ?_)
  rw [least_apply]
  show (if m (ix2 p l) = _ then IntOp.addi (IntOp.muli (J (ix2 p l)) 128#32) (BitVec.ofNat 32 l.val) else 8192#32)
    = BitVec.ofNat 32 (if m (ix2 p l) = _ then _ else _)
  rw [hJ]
  by_cases h : m (ix2 p l) = Finset.fold min ⊤ (fun l => m (ix2 p l)) Finset.univ
  · rw [if_pos h]
    refine (if_pos h).trans ?_
    simp only [IntOp.addi, IntOp.muli, BitVec.ofNat_add, BitVec.ofNat_mul]
  · rw [if_neg h]
    exact if_neg h

/-- A strip row's index, and its least score. -/
theorem strip_first (D : FVec Ideal S1024x8192 .f32) (C : FVec Ideal S8192 .f32) (r : Fin 16) (p : Fin 64) (n : Fin 1024)
    (hn : n.val = 64 * r.val + p.val) (m : FVec Ideal S64x128 .f32) (J : IVec S64x128 32)
    (hm : ∀ l, m (ix2 p l) = runMin D C r 64 (ix2 p l)) (hJ : ∀ l, J (ix2 p l) = runJ D C r 64 (ix2 p l)) :
    ∃ k, First (total1 D C n) k ∧ total1 D C n k = least m (at1 p) ∧ first m J (at0 p) = BitVec.ofNat 32 k.val := by
  have hs : ∀ l j (hj : j < 64), score D C r j (ix2 p l) = total1 D C n ⟨128 * j + l.val, by have := l.isLt; omega⟩ := fun l j hj => by
    rw [score_apply D C r j hj, show (⟨64 * r.val + p.val, _⟩ : Fin 1024) = n from Fin.ext hn.symm]
  have hm' : ∀ l, m (ix2 p l) = laneMin (fun j => score D C r j (ix2 p l)) 64 := fun l => (hm l).trans (runMin_eq ..)
  have hJ' : ∀ l, J (ix2 p l) = BitVec.ofNat 32 (laneJ (fun j => score D C r j (ix2 p l)) 64) := fun l => (hJ l).trans (runJ_eq ..)
  have hl : least m (at1 p) = Finset.univ.fold min ⊤ fun l => laneMin (fun j => score D C r j (ix2 p l)) 64 := by
    rw [least_apply]
    exact congrArg (fun f => Finset.fold min ⊤ f Finset.univ) (funext fun l => hm' l)
  obtain ⟨k, h1, h2, h3⟩ := first_of_lanes (total1 D C n) (fun l j => score D C r j (ix2 p l)) hs _ hl
  refine ⟨k, h1, h2, ?_⟩
  rw [first_apply m J _ p (fun l => Nat.lt_succ_of_le (lane_spec (fun j => score D C r j (ix2 p l)) 63).1) hJ', ← h3, hl]
  refine congrArg (BitVec.ofNat 32) (congrArg (fun f => Finset.fold min 2147483647 f Finset.univ) (funext fun l => ?_))
  rw [hm', show (fun l => m (ix2 p l)) = fun l => laneMin (fun j => score D C r j (ix2 p l)) 64 from funext hm']

end Cert.Proof.Dist

end
-- ==== Proof.Dist.Math.lean ====
/-
  The distance kernel's results over the extended reals: every row's index, and the sum of the rows' least scores and squares.
-/
module

public import proofs.«01_k».proof.Proof.Dist.Step
public import proofs.«01_k».proof.Proof.Dist.Least

@[expose] public section

noncomputable section

namespace Cert.Proof.Dist

open Cert.KernelIdeal Cert.KernelIdeal.Gen

open Idealize.ShloMosaic

/-! ## A strip of a block -/

section Strip
variable (D : FVec Ideal S1024x8192 .f32) (C : FVec Ideal S8192 .f32)

theorem rect128_split (r : Fin 16) (p : Fin 64) (l : Fin 128) :
    strip ((rect128 r).idx (ix2 p l) 0) = r ∧ place ((rect128 r).idx (ix2 p l) 0) = p ∧ ((rect128 r).idx (ix2 p l) 1) = l := by
  have hp := p.isLt
  have e0 : ((rect128 r).idx (ix2 p l) 0).val = 64 * r.val + 1 * p.val := rfl
  have e1 : ((rect128 r).idx (ix2 p l) 1).val = 0 + 1 * l.val := rfl
  exact ⟨Fin.ext (by show ((rect128 r).idx (ix2 p l) 0).val / 64 = r.val; omega),
    Fin.ext (by show ((rect128 r).idx (ix2 p l) 0).val % 64 = p.val; omega), Fin.ext (by rw [e1]; omega)⟩

theorem at128_ix (p : Fin 64) (l : Fin 128) : at128 p l = ix2 p l := by
  funext a
  match a with
  | 0 => rfl
  | 1 => rfl

theorem strip_minima (r : Fin 16) (p : Fin 64) (l : Fin 128) : strip128 (minima D C) r (ix2 p l) = runMin D C r 64 (ix2 p l) := by
  obtain ⟨h1, h2, h3⟩ := rect128_split r p l
  show runMin D C (strip ((rect128 r).idx (ix2 p l) 0)) 64 (at128 (place ((rect128 r).idx (ix2 p l) 0)) ((rect128 r).idx (ix2 p l) 1)) = _
  exact congrArg₂ (fun a b => runMin D C a 64 b) h1 ((congrArg₂ at128 h2 h3).trans (at128_ix p l))

theorem strip_groups (r : Fin 16) (p : Fin 64) (l : Fin 128) : strip128 (groups D C) r (ix2 p l) = runJ D C r 64 (ix2 p l) := by
  obtain ⟨h1, h2, h3⟩ := rect128_split r p l
  show runJ D C (strip ((rect128 r).idx (ix2 p l) 0)) 64 (at128 (place ((rect128 r).idx (ix2 p l) 0)) ((rect128 r).idx (ix2 p l) 1)) = _
  exact congrArg₂ (fun a b => runJ D C a 64 b) h1 ((congrArg₂ at128 h2 h3).trans (at128_ix p l))

/-- A row's least lane. -/
def leastRow (m : FVec Ideal S1024x128 .f32) (n : Fin 1024) : EReal := least (strip128 m (strip n)) (at1 (place n))

/-- A row's index and least score. -/
theorem row_first (y : S1024.Idx) : ∃ k, First (total1 D C (y 0)) k ∧ total1 D C (y 0) k = leastRow (minima D C) (y 0)
    ∧ indices (minima D C) (groups D C) y = BitVec.ofNat 32 k.val :=
  strip_first D C (strip (y 0)) (place (y 0)) (y 0) (by show (y 0).val = 64 * ((y 0).val / 64) + (y 0).val % 64; omega) _ _
    (fun l => strip_minima D C _ _ l) fun l => strip_groups D C _ _ l

end Strip

/-! ## The accumulator -/

theorem one_bits : (Scalar.ofBits .f32 0x3F800000#32 : Ideal .f32) = 1 := by
  show Ideal.ofBits .f32 0x3F800000#32 = 1
  exact Idealize.ShloMosaic.IdealRules.sign_bit.ideal_onePat .f32
theorem zero_bits : (Scalar.ofBits .f32 0x00000000#32 : Ideal .f32) = 0 := Ideal.ofBits_zero_f32

theorem co_val (n : ℕ) (hn : n < 17) : (co n 0).val = n := by
  have hN : n < grid1.N := by rw [N_1]; exact hn
  rw [show co n = grid1.coords ⟨n, hN⟩ from co_eq ⟨n, hN⟩]
  have e0 : (grid1.coords ⟨n, hN⟩ 0).val = n / 1 % 17 := Pipeline.Grid.coords_val ⟨n, hN⟩ 0 (by decide) rfl
  rw [e0]; omega

theorem wBefore_co (n : ℕ) (hn : n < 17) : (wBefore (co n) : Ideal .f32) = if n = 0 then 0 else 1 := by
  unfold wBefore
  rw [co_val n hn, one_bits, zero_bits]
  interval_cases n <;> rfl
theorem wNow_co (n : ℕ) (hn : n < 17) : (wNow (co n) : Ideal .f32) = if n = 16 then 0 else 1 := by
  unfold wNow
  rw [co_val n hn, one_bits, zero_bits]
  interval_cases n <;> rfl

section State
variable (zb : ℕ → FVec Ideal S1024x64 .f32) (cbw : FVec Ideal S8192x128 .f32) (csq : FVec Ideal S8192 .f32)

/-- A row's sum of squares. -/
def sq (z : FVec Ideal S1024x64 .f32) (n : Fin 1024) : EReal := ∑ q : Fin 64, z (ix2 n q) * z (ix2 n q)

theorem zsq_apply (z : FVec Ideal S1024x64 .f32) (r : Fin 1024) : zsq z (ix2 r 0) = sq z r := by
  unfold zsq sq
  pointwise

theorem accAfter_apply (i : grid1.Coords) (z : FVec Ideal S1024x64 .f32) (m : FVec Ideal S1024x128 .f32) (a : FVec Ideal S1024x1 .f32) (r : Fin 1024) :
    accAfter i z m a (ix2 r 0) = (a (ix2 r 0) + leastRow m r * wBefore i) + sq z r * wNow i := by
  have e : strip1 a (strip r) (at1 (place r)) = a (ix2 r 0) := by
    refine congrArg a (funext fun b => Fin.ext ?_)
    match b with
    | 0 => show 64 * (r.val / 64) + 1 * (r.val % 64) = r.val; omega
    | 1 => rfl
  rw [← e, ← zsq_apply]
  rfl

theorem add4 (a b c d : EReal) : a + b + c + d = a + d + (b + c) := by
  rw [add_assoc a b c, add_assoc a _ d, add_comm (b + c) d, add_assoc a d]
theorem add3 (a b c : EReal) : a + b + c = b + c + a := by rw [add_assoc, add_comm]

theorem accAt_apply (r : Fin 1024) : ∀ n, n < 16 → accAt zb cbw csq (n + 1) (ix2 r 0)
    = (∑ i ∈ Finset.range (n + 1), sq (zb i) r) + ∑ i ∈ Finset.range n, leastRow (minimaAt zb cbw csq (i + 1)) r
  | 0, _ => by
    show accAfter (co 0) (zb 0) (minimaAt zb cbw csq 0) zeroA (ix2 r 0) = _
    rw [accAfter_apply, wBefore_co 0 (by decide), wNow_co 0 (by decide)]
    show ((Scalar.ofBits .f32 0x00000000#32 : Ideal .f32) + _ * 0) + _ * 1 = _
    rw [zero_bits, mul_zero, mul_one, Finset.sum_range_one, Finset.sum_range_zero]
    simp only [add_zero, zero_add]
  | n + 1, hn => by
    show accAfter (co (n + 1)) (zb (n + 1)) (minimaAt zb cbw csq (n + 1)) (accAt zb cbw csq (n + 1)) (ix2 r 0) = _
    rw [accAfter_apply, wBefore_co (n + 1) (by omega), wNow_co (n + 1) (by omega), if_neg (by omega), if_neg (by omega), accAt_apply r n (by omega),
      mul_one, mul_one, Finset.sum_range_succ _ (n + 1), Finset.sum_range_succ (fun i => leastRow (minimaAt zb cbw csq (i + 1)) r) n]
    exact add4 _ _ _ _

theorem accAt_last (r : Fin 1024) : accAt zb cbw csq 17 (ix2 r 0)
    = ∑ i ∈ Finset.range 16, (leastRow (minimaAt zb cbw csq (i + 1)) r + sq (zb i) r) := by
  show accAfter (co 16) (zb 16) (minimaAt zb cbw csq 16) (accAt zb cbw csq 16) (ix2 r 0) = _
  rw [accAfter_apply, wBefore_co 16 (by decide), wNow_co 16 (by decide), if_neg (by decide), if_pos rfl, accAt_apply zb cbw csq r 15 (by decide),
    mul_one, mul_zero, add_zero, Finset.sum_add_distrib, Finset.sum_range_succ (fun i => leastRow (minimaAt zb cbw csq (i + 1)) r) 15]
  exact add3 _ _ _

theorem total_apply (a : FVec Ideal S1024x1 .f32) : total a = ∑ n : Fin 1024, a (ix2 n 0) := by
  unfold total
  pointwise
  exact Finset.sum_congr rfl fun x _ => Fin.sum_univ_one _

/-- The scores of a block's row. -/
def rowScore (n : ℕ) (r : Fin 1024) : Fin 8192 → EReal := total1 (dots (pad (zb n)) cbw) csq r

/-- A row's index is the first with the least score. -/
theorem allIdx_first (y : S16384.Idx) : ∃ k, First (rowScore zb cbw csq ((y 0).val / 1024) ⟨(y 0).val % 1024, Nat.mod_lt _ (by decide)⟩) k
    ∧ allIdx zb cbw csq y = BitVec.ofNat 32 k.val := by
  obtain ⟨k, h1, -, h3⟩ := row_first (dots (pad (zb ((y 0).val / 1024))) cbw) csq (fun | 0 => ⟨(y 0).val % 1024, Nat.mod_lt _ (by decide)⟩)
  exact ⟨k, h1, h3⟩

theorem allIdx_lt (y : S16384.Idx) : (allIdx zb cbw csq y).toNat < 8192 := by
  obtain ⟨k, -, h⟩ := allIdx_first zb cbw csq y
  have hk := k.isLt
  rw [h, BitVec.toNat_ofNat]
  omega

/-- The sum, over the rows of all blocks. -/
theorem allSum_apply (x : S1x1.Idx) : allSum zb cbw csq x = ∑ r : Fin 1024, ∑ n ∈ Finset.range 16,
    (leastRow (minima (dots (pad (zb n)) cbw) csq) r + sq (zb n) r) := by
  unfold allSum
  rw [total_apply]
  exact Finset.sum_congr rfl fun r _ => accAt_last zb cbw csq _

/-- A score: minus twice the inner product, and the codebook row's number. -/
theorem rowScore_apply (n : ℕ) (r : Fin 1024) (k : Fin 8192) : rowScore zb cbw csq n r k
    = (∑ q : Fin 64, zb n (ix2 r q) * (Ideal.ofBits .f32 0xC0000000#32) * cbw (ix2 k ⟨q.val, by have := q.isLt; omega⟩)) + csq (ix1 k) := by
  unfold rowScore total1 dots
  pointwise
  refine congrArg (· + csq (ix1 k)) ?_
  refine (Fin.sum_univ_add (a := 64) (b := 64) (fun x => pad (zb n) (ix2 r x) * cbw (ix2 k x))).trans ?_
  rw [Finset.sum_eq_zero (s := Finset.univ) (f := fun i : Fin 64 => pad (zb n) (ix2 r (Fin.natAdd 64 i)) * cbw (ix2 k (Fin.natAdd 64 i))) fun i _ => ?_, add_zero]
  · refine Finset.sum_congr rfl fun q _ => ?_
    have hq := q.isLt
    have e : pad (zb n) (ix2 r (Fin.castAdd 64 q)) = zb n (ix2 r q) * Ideal.ofBits .f32 0xC0000000#32 := by
      unfold pad
      rw [dif_pos (show ((ix2 r (Fin.castAdd 64 q) : S1024x128.Idx) 1).val < 64 from hq)]
      refine congrArg (fun y => zb n y * Ideal.ofBits .f32 0xC0000000#32) (funext fun a => ?_)
      match a with
      | 0 => rfl
      | 1 => rfl
    rw [e]; rfl
  · have e : pad (zb n) (ix2 r (Fin.natAdd 64 i)) = 0 := by
      unfold pad
      rw [dif_neg (show ¬ ((ix2 r (Fin.natAdd 64 i) : S1024x128.Idx) 1).val < 64 from Nat.not_lt.mpr (Nat.le_add_right 64 i.val))]
      exact zero_bits
    rw [e, zero_mul]

end State

end Cert.Proof.Dist

end
-- ==== Proof.Dist.Half.lean ====
/-
  One half of the rows over the extended reals: each row's index is the first of the codebook rows with the least score, and
  the half's sum is that of the rows' least scores and squares.
-/
module

public import proofs.«01_k».proof.Proof.Dist.Math

@[expose] public section

noncomputable section

namespace Cert.Proof.Dist

open Cert.KernelIdeal Cert.KernelIdeal.Gen

open Idealize.ShloMosaic

/-- The score of codebook row `k` at row `i`: minus twice their inner product, and the codebook row's square. -/
def sc (z : FVec Ideal S32768x64 .f32) (C : FVec Ideal S8192x64 .f32) (i : Fin 32768) (k : Fin 8192) : EReal :=
  (∑ q : Fin 64, z (ix2 i q) * (Ideal.ofBits .f32 0xC0000000#32) * C (ix2 k q)) + ∑ q : Fin 64, C (ix2 k q) * C (ix2 k q)

/-- A row's least score with its square. -/
def best (z : FVec Ideal S32768x64 .f32) (C : FVec Ideal S8192x64 .f32) (i : Fin 32768) : EReal :=
  (⨅ k, sc z C i k) + ∑ q : Fin 64, z (ix2 i q) * z (ix2 i q)
/-- The same at any number. -/
def bestN (z : FVec Ideal S32768x64 .f32) (C : FVec Ideal S8192x64 .f32) (i : ℕ) : EReal := if h : i < 32768 then best z C ⟨i, h⟩ else 0

theorem First.iInf {s : Fin 8192 → EReal} {k : Fin 8192} (h : First s k) : s k = ⨅ k, s k :=
  le_antisymm (le_iInf h.1) (iInf_le s k)

/-- A sum over `n` blocks of `b`. -/
theorem sum_blocks (f : ℕ → EReal) (b n : ℕ) :
    ∑ i ∈ Finset.range (n * b), f i = ∑ r : Fin b, ∑ k ∈ Finset.range n, f (k * b + r.val) := by
  induction n with
  | zero => simp
  | succ n ih =>
    rw [Nat.add_mul, Nat.one_mul, Finset.sum_range_add, ih, Finset.sum_range (fun x => f (n * b + x)), ← Finset.sum_add_distrib]
    exact Finset.sum_congr rfl fun r _ => (Finset.sum_range_succ _ n).symm

section Half
variable (z : FVec Ideal S32768x64 .f32) (C : FVec Ideal S8192x64 .f32) (o : ℕ) (ho : o ≤ 16384)
  (zb : ℕ → FVec Ideal S1024x64 .f32) (cbw : FVec Ideal S8192x128 .f32) (csq : FVec Ideal S8192 .f32)
  (hz : ∀ n, n < 16 → ∀ (r : Fin 1024) (i : Fin 32768), i.val = o + (n * 1024 + r.val) → ∀ q : Fin 64, zb n (ix2 r q) = z (ix2 i q))
  (hc : ∀ (k : Fin 8192) (q : Fin 64) (p : Fin 128), p.val = q.val → cbw (ix2 k p) = C (ix2 k q))
  (hs : ∀ k : Fin 8192, csq (ix1 k) = ∑ q : Fin 64, C (ix2 k q) * C (ix2 k q))

include hz hc hs in
theorem rowScore_eq (n : ℕ) (hn : n < 16) (r : Fin 1024) (i : Fin 32768) (hi : i.val = o + (n * 1024 + r.val)) : rowScore zb cbw csq n r = sc z C i := by
  funext k
  rw [rowScore_apply, hs]
  unfold sc
  refine congrArg (· + _) (Finset.sum_congr rfl fun q _ => ?_)
  rw [hz n hn r i hi q, hc k q _ rfl]

include hz hc hs in
theorem half_idx (y : S16384.Idx) (i : Fin 32768) (hi : i.val = o + (y 0).val) :
    ∃ k, First (sc z C i) k ∧ allIdx zb cbw csq y = BitVec.ofNat 32 k.val := by
  have hy : (y 0).val < 16384 := (y 0).isLt
  obtain ⟨k, h1, h2⟩ := allIdx_first zb cbw csq y
  rw [rowScore_eq z C o zb cbw csq hz hc hs _ (by omega) _ i (by rw [hi]; show o + (y 0).val = o + ((y 0).val / 1024 * 1024 + (y 0).val % 1024); omega)] at h1
  exact ⟨k, h1, h2⟩

include ho hz hc hs in
theorem half_sum (x : S1x1.Idx) : allSum zb cbw csq x = ∑ i ∈ Finset.range 16384, bestN z C (o + i) := by
  rw [allSum_apply, show (16384 : ℕ) = 16 * 1024 from rfl, sum_blocks (fun i => bestN z C (o + i)) 1024 16]
  refine Finset.sum_congr rfl fun r _ => Finset.sum_congr rfl fun n hn => ?_
  have hn' : n < 16 := Finset.mem_range.mp hn
  have hr := r.isLt
  have hi : o + (n * 1024 + r.val) < 32768 := by omega
  unfold bestN best
  rw [dif_pos hi]
  have e := rowScore_eq z C o zb cbw csq hz hc hs n hn' r ⟨_, hi⟩ rfl
  obtain ⟨k, h1, h2, -⟩ := row_first (dots (pad (zb n)) cbw) csq (fun | 0 => r)
  have h1' : First (rowScore zb cbw csq n r) k := h1
  have h2' : rowScore zb cbw csq n r k = leastRow (minima (dots (pad (zb n)) cbw) csq) r := h2
  rw [← h2', h1'.iInf, e]
  unfold sq
  refine congrArg (_ + ·) (Finset.sum_congr rfl fun q _ => ?_)
  rw [hz n hn' r ⟨_, hi⟩ rfl q]

end Half

end Cert.Proof.Dist

end
-- ==== Proof.KernelValue.lean ====
/-
  The program's results over the extended reals: each row's index is that of the first codebook row with the least score,
  the row itself is that codebook row, and the loss is the sum of the rows' least scores and squares over a constant.
-/
module

public import proofs.«01_k».proof.Proof.Launch
public import proofs.«01_k».proof.Proof.Sums
public import proofs.«01_k».proof.Proof.Dist.Half

@[expose] public section

noncomputable section

namespace Cert.Proof.KernelValue

open Cert.KernelIdeal Cert.KernelIdeal.Gen Cert.Proof.Tile Cert.Proof.Task Cert.Proof.Prep Cert.Proof.Pieces Cert.Proof.Obl Cert.Proof.Dist Cert.Proof.Launch

open Idealize.ShloMosaic Idealize.ShloMosaic.TcCoe Idealize.SL.Sem

variable (m : (ℓ : Loc nD τ sig) → Buf (Elt Ideal) ℓ) (d : Dev nD)

/-- The rows, -/
abbrev Z : FVec Ideal S32768x64 .f32 := m (d, ref main_arg0)
/-- and the codebook. -/
abbrev C : FVec Ideal S8192x64 .f32 := m (d, ref main_arg1)

/-! ## What the calls of a half read -/

theorem V1_wide (y : S8192x128.Idx) (x : S8192x64.Idx) (e0 : (y 0).val = (x 0).val) (e1 : (y 1).val = (x 1).val) :
    V1 m d (ref main_v0_0) y = C m d x := by
  refine (congrFun (?_ : V1 m d (ref main_v0_0) = wide (Vb m) (Oc (F := Ideal) 0) (bnd 0) d) y).trans (wide_apply _ _ _ d y x e0 e1)
  unfold V1
  rw [Function.update_of_ne (show ref main_v0_0 ≠ ref main_v0_1 by decide)]
  exact Function.update_self _ _ _

theorem V1_sums (k : Fin 8192) : V1 m d (ref main_v0_1) (ix1 k) = ∑ q : Fin 64, C m d (ix2 k q) * C m d (ix2 k q) := by
  refine (congrFun (?_ : V1 m d (ref main_v0_1) = sums (Vb m) (Oc (F := Ideal) 0) (bnd 0) d) (ix1 k)).trans (sums_apply _ _ _ d (C m d) rfl k)
  unfold V1
  exact Function.update_self _ _ _

theorem S1_old (b : Ref sig .tc) (h : b ≠ main_v1) : S1 m d (ref b) = V1 m d (ref b) := S1_ne m d b h
theorem S2_old (b : Ref sig .tc) (h : b ≠ main_v5) (h' : ∀ r ∈ ([main_v1, main_v2_0, main_v2_1, main_v3, main_v4] : List (Ref sig .tc)), b ≠ r) :
    S2 m d (ref b) = V1 m d (ref b) := (S2_ne m d b h).trans (B1_old m d b h')

theorem S1_rows : S1 m d (ref main_v1) = extractStridedSlice S16384x64 ![0, 0] (Z m d) slices_S32768x64_S16384x64_0_0 := by
  unfold Launch.S1
  rw [StableHlo.unary_result', V1_eq m d main_arg0 (by decide) (by decide)]
theorem S2_rows : S2 m d (ref main_v5) = extractStridedSlice S16384x64 ![16384, 0] (Z m d) slices_S32768x64_S16384x64_16384_0 := by
  unfold Launch.S2
  rw [StableHlo.unary_result', B1_old m d main_arg0 (by decide), V1_eq m d main_arg0 (by decide) (by decide)]

theorem zb1 (n : ℕ) (hn : n < 16) (r : Fin 1024) (i : Fin 32768) (hi : i.val = 0 + (n * 1024 + r.val)) (q : Fin 64) :
    R1.zb (asRefs (S1 m)) d n (ix2 r q) = Z m d (ix2 i q) := by
  rw [R1.zb_rows _ d n (by omega)]
  show S1 m d (ref main_v1) (atN _ q) = _
  rw [S1_rows]
  refine congrArg (Z m d) (funext fun a => Fin.ext ?_)
  match a with
  | ⟨0, _⟩ => show 0 + (min n 15 * 1024 + r.val) = i.val; rw [hi, Nat.min_eq_left (by omega)]
  | ⟨1, _⟩ => exact Nat.zero_add _
theorem zb2 (n : ℕ) (hn : n < 16) (r : Fin 1024) (i : Fin 32768) (hi : i.val = 16384 + (n * 1024 + r.val)) (q : Fin 64) :
    R3.zb (asRefs (S2 m)) d n (ix2 r q) = Z m d (ix2 i q) := by
  rw [R3.zb_rows _ d n (by omega)]
  show S2 m d (ref main_v5) (atN _ q) = _
  rw [S2_rows]
  refine congrArg (Z m d) (funext fun a => Fin.ext ?_)
  match a with
  | ⟨0, _⟩ => show 16384 + (min n 15 * 1024 + r.val) = i.val; rw [hi, Nat.min_eq_left (by omega)]
  | ⟨1, _⟩ => exact Nat.zero_add _

theorem cw1 (k : Fin 8192) (q : Fin 64) (p : Fin 128) (hp : p.val = q.val) : R1.cw (asRefs (S1 m)) d (ix2 k p) = C m d (ix2 k q) := by
  show S1 m d (ref main_v0_0) _ = _
  rw [S1_old m d _ (by decide)]
  exact V1_wide m d _ _ rfl hp
theorem cw2 (k : Fin 8192) (q : Fin 64) (p : Fin 128) (hp : p.val = q.val) : R3.cw (asRefs (S2 m)) d (ix2 k p) = C m d (ix2 k q) := by
  show S2 m d (ref main_v0_0) _ = _
  rw [S2_old m d _ (by decide) (by decide)]
  exact V1_wide m d _ _ rfl hp
theorem cq1 (k : Fin 8192) : R1.cq (asRefs (S1 m)) d (ix1 k) = ∑ q : Fin 64, C m d (ix2 k q) * C m d (ix2 k q) := by
  show S1 m d (ref main_v0_1) _ = _
  rw [S1_old m d _ (by decide)]
  exact V1_sums m d k
theorem cq2 (k : Fin 8192) : R3.cq (asRefs (S2 m)) d (ix1 k) = ∑ q : Fin 64, C m d (ix2 k q) * C m d (ix2 k q) := by
  show S2 m d (ref main_v0_1) _ = _
  rw [S2_old m d _ (by decide) (by decide)]
  exact V1_sums m d k

/-! ## What the halves' calls leave -/

theorem I1_spec (y : S16384.Idx) (i : Fin 32768) (hi : i.val = 0 + (y 0).val) :
    ∃ k, First (sc (Z m d) (C m d) i) k ∧ I1 m d y = BitVec.ofNat 32 k.val :=
  half_idx (Z m d) (C m d) 0 _ _ _ (zb1 m d) (cw1 m d) (cq1 m d) y i hi
theorem I2_spec (y : S16384.Idx) (i : Fin 32768) (hi : i.val = 16384 + (y 0).val) :
    ∃ k, First (sc (Z m d) (C m d) i) k ∧ I2 m d y = BitVec.ofNat 32 k.val :=
  half_idx (Z m d) (C m d) 16384 _ _ _ (zb2 m d) (cw2 m d) (cq2 m d) y i hi
theorem L1_spec (x : S1x1.Idx) : L1 m d x = ∑ i ∈ Finset.range 16384, bestN (Z m d) (C m d) (0 + i) :=
  half_sum (Z m d) (C m d) 0 (by norm_num) _ _ _ (zb1 m d) (cw1 m d) (cq1 m d) x
theorem L2_spec (x : S1x1.Idx) : L2 m d x = ∑ i ∈ Finset.range 16384, bestN (Z m d) (C m d) (16384 + i) :=
  half_sum (Z m d) (C m d) 16384 (by norm_num) _ _ _ (zb2 m d) (cw2 m d) (cq2 m d) x

/-- Every index is a row of the codebook. -/
theorem preOK : PreOK m := fun _ j => ⟨allIdx_lt _ _ _ j, allIdx_lt _ _ _ j⟩

/-! ## The arrays the last operations read -/

theorem B2_first (b : Ref sig .tc) (h : ∀ r ∈ ([main_v5, main_v6_0, main_v6_1, main_v7, main_v8] : List (Ref sig .tc)), b ≠ r)
    (h3 : b ≠ main_v3) (h4 : b ≠ main_v4) : B2 m d (ref b) = V2 m d (ref b) := by
  rw [B2_old m d b h, B1_ne m d b h4, A1_ne m d b h3]

theorem B2_i1 : B2 m d (ref main_v2_0) = I1 m d := by
  rw [B2_first m d _ (by decide) (by decide) (by decide)]
  exact (upd2 (S1 m d) main_v2_0 main_v2_1 (by decide) _ _).1
theorem B2_l1 : B2 m d (ref main_v2_1) = L1 m d := by
  rw [B2_first m d _ (by decide) (by decide) (by decide)]
  exact (upd2 (S1 m d) main_v2_0 main_v2_1 (by decide) _ _).2.1
theorem B2_i2 : B2 m d (ref main_v6_0) = I2 m d := by
  rw [B2_ne m d _ (by decide), A2_ne m d _ (by decide)]
  exact (upd2 (S2 m d) main_v6_0 main_v6_1 (by decide) _ _).1
theorem B2_l2 : B2 m d (ref main_v6_1) = L2 m d := by
  rw [B2_ne m d _ (by decide), A2_ne m d _ (by decide)]
  exact (upd2 (S2 m d) main_v6_0 main_v6_1 (by decide) _ _).2.1
theorem B2_g1 : B2 m d (ref main_v4) = G1 m d := by
  rw [B2_old m d _ (by decide), B1]
  exact Function.update_self _ _ _
theorem B2_g2 : B2 m d (ref main_v8) = G2 m d := by
  rw [B2]
  exact Function.update_self _ _ _

theorem A1_tab : A1 m d tD = V1 m d (ref main_v0_0) := by
  exact (A1_ne m d main_v0_0 (by decide)).trans ((V2_ne m d main_v0_0 (by decide) (by decide)).trans (S1_ne m d main_v0_0 (by decide)))
theorem A2_tab : A2 m d tD = V1 m d (ref main_v0_0) := by
  exact (A2_ne m d main_v0_0 (by decide)).trans ((V3_ne m d main_v0_0 (by decide) (by decide)).trans (S2_old m d main_v0_0 (by decide) (by decide)))

/-! ## The results -/

theorem VE_idx : VE m d (ref main_v9) = concatenate S32768 0 [⟨S16384, I1 m d⟩, ⟨S16384, I2 m d⟩] concatenates_S16384_S16384_S32768_d0 := by
  rw [← B2_i1, ← B2_i2]
  unfold VE
  simp only [endOps]
  after_results
theorem VE_out : VE m d (ref main_v10)
    = concatenate S32768x64 0 [⟨S16384x64, G1 m d⟩, ⟨S16384x64, G2 m d⟩] concatenates_S16384x64_S16384x64_S32768x64_d0 := by
  rw [← B2_g1, ← B2_g2]
  unfold VE
  simp only [endOps]
  after_results
theorem VE_loss : VE m d (ref main_v15) = Host.divf (addf (addf (constant S_ .f32 0x00000000#32) (shapeCast S_ (L1 m d) shapeCasts_S1x1_S_))
      (shapeCast S_ (L2 m d) shapeCasts_S1x1_S_)) (constant S_ .f32 0x4A000000#32) := by
  rw [← B2_l1, ← B2_l2]
  unfold VE
  simp only [endOps]
  after_results
  rfl

/-- The half's index of row `r`, -/
def hv (r : ℕ) (hr : r < 16384) : S16384.Idx := fun b => match b with | ⟨0, _⟩ => ⟨r, hr⟩
/-- and of its column `c`. -/
def hidx (r : ℕ) (hr : r < 16384) (c : ℕ) (hc : c < 64) : S16384x64.Idx := fun b => match b with | ⟨0, _⟩ => ⟨r, hr⟩ | ⟨1, _⟩ => ⟨c, hc⟩

theorem idx_spec (i : Fin 32768) : ∃ k, First (sc (Z m d) (C m d) i) k ∧ (VE m d (ref main_v9) : IVec S32768 32) (ix1 i) = BitVec.ofNat 32 k.val := by
  have hi := i.isLt
  rw [VE_idx]
  by_cases h : i.val < 16384
  · obtain ⟨k, h1, h2⟩ := I1_spec m d (hv i.val h) i (Nat.zero_add _).symm
    exact ⟨k, h1, (concatenate_pair_apply_left (s₁ := S16384) (s₂ := S16384) 0 _ _ _ (ix1 i) rfl (hv i.val h)
      (fun b => match b with | ⟨0, _⟩ => rfl)).trans h2⟩
  · have e : i.val - 16384 + 16384 = i.val := by omega
    obtain ⟨k, h1, h2⟩ := I2_spec m d (hv (i.val - 16384) (by omega)) i (by rw [Nat.add_comm]; exact e.symm)
    exact ⟨k, h1, (concatenate_pair_apply_right (s₁ := S16384) (s₂ := S16384) 0 _ _ _ (ix1 i) rfl rfl (hv (i.val - 16384) (by omega))
      (fun b hb => match b with | ⟨0, _⟩ => absurd rfl hb) e).trans h2⟩

/-- A half's gathered row is the codebook's. -/
theorem gath_row (idx : S1x16384.Idx → BitVec 32) (x : S16384x64.Idx) (k : Fin 8192) (q : Fin 64) (hq : (x 1).val = q.val)
    (hi : ∀ w : S1x16384.Idx, (w 1).val = (x 0).val → idx w = BitVec.ofNat 32 k.val) :
    gath (V1 m d (ref main_v0_0)) idx x = C m d (ix2 k q) := by
  have hk := k.isLt
  unfold gath
  refine V1_wide m d _ _ ?_ hq
  show (idx _).toNat % 8192 = k.val
  rw [hi _ rfl, BitVec.toNat_ofNat]
  omega

theorem out_spec (i : Fin 32768) (q : Fin 64) : ∃ k, First (sc (Z m d) (C m d) i) k
    ∧ (VE m d (ref main_v10) : FVec Ideal S32768x64 .f32) (ix2 i q) = C m d (ix2 k q) := by
  have hi := i.isLt
  rw [VE_out]
  by_cases h : i.val < 16384
  · obtain ⟨k, h1, h2⟩ := I1_spec m d (hv i.val h) i (Nat.zero_add _).symm
    refine ⟨k, h1, (concatenate_pair_apply_left (s₁ := S16384x64) (s₂ := S16384x64) 0 _ _ _ (ix2 i q) rfl (hidx i.val h q.val q.isLt)
      (fun b => match b with | ⟨0, _⟩ => rfl | ⟨1, _⟩ => rfl)).trans ?_⟩
    rw [G1, A1_tab]
    refine gath_row m d _ _ k q rfl fun w hw => (A1_i m d w).trans ((congrArg (I1 m d) (funext fun a => Fin.ext ?_)).trans h2)
    match a with | ⟨0, _⟩ => exact hw
  · have e : i.val - 16384 + 16384 = i.val := by omega
    obtain ⟨k, h1, h2⟩ := I2_spec m d (hv (i.val - 16384) (by omega)) i (by rw [Nat.add_comm]; exact e.symm)
    refine ⟨k, h1, (concatenate_pair_apply_right (s₁ := S16384x64) (s₂ := S16384x64) 0 _ _ _ (ix2 i q) rfl rfl
      (hidx (i.val - 16384) (by omega) q.val q.isLt) (fun b hb => match b with | ⟨0, _⟩ => absurd rfl hb | ⟨1, _⟩ => rfl) e).trans ?_⟩
    rw [G2, A2_tab]
    refine gath_row m d _ _ k q rfl fun w hw => (A2_i m d w).trans ((congrArg (I2 m d) (funext fun a => Fin.ext ?_)).trans h2)
    match a with | ⟨0, _⟩ => exact hw

/-- A sum over the number of the rows' elements. -/
def lossOf (x : EReal) : FVec Ideal S_ .f32 := Host.divf (fun _ => x) (constant S_ .f32 0x4A000000#32)

theorem loss_spec : VE m d (ref main_v15) = lossOf (∑ i : Fin 32768, best (Z m d) (C m d) i) := by
  rw [VE_loss]
  refine congrArg (fun x : FVec Ideal S_ .f32 => Host.divf x (constant S_ .f32 0x4A000000#32)) (funext fun j => ?_)
  show ((FloatOps.ofBits (F := Ideal) .f32 0x00000000#32 : EReal) + L1 m d _) + L2 m d _ = _
  rw [L1_spec, L2_spec, zero_bits, zero_add, show (∑ i : Fin 32768, best (Z m d) (C m d) i) = ∑ i : Fin 32768, bestN (Z m d) (C m d) i.val from
    Finset.sum_congr rfl fun i _ => by unfold bestN; rw [dif_pos i.isLt], ← Finset.sum_range (fun i => bestN (Z m d) (C m d) i), show (32768 : ℕ) = 16384 + 16384 from rfl,
    Finset.sum_range_add]
  simp only [Nat.zero_add]

end Cert.Proof.KernelValue

end
-- ==== Proof.Gather.Ref.lean ====
/-
  The reference's result, element by element: where every index is a row of the codebook, row `r` is the codebook's row at
  index `r`, the same function of the arguments as the kernel's.
-/
module

public import proofs.«01_k».proof.Proof.Gen.Rows
public import proofs.«01_k».proof.Proof.Gen.RowsIdeal
public import Idealize.ShloMosaic.Lib.StableHlo.Run
public import Idealize.ShloMosaic.Lib.Routing.Ops
public import Idealize.ShloMosaic.Lib.ReduceAll

@[expose] public section

noncomputable section

namespace Cert.Proof.Gather.Ref

open Cert.RowsIdeal Cert.RowsIdeal.Gen

open Idealize.ShloMosaic Idealize.ShloMosaic.TcCoe Idealize.SL.Sem Idealize.ShloMosaic.StableHlo

variable {F : FTy → Type} [FloatOps F]

/-- The reference's result, as its operations compute it from the arguments. -/
def taken (x : S8192x64.Idx → Elt F .f32) (idx : S32768.Idx → Elt F .i32) : S32768x64.Idx → Elt F .f32 :=
  select (broadcastInDim S32768x64 ![0] bcast_S32768_S32768x64_0 (Host.reduce IntOp.andi (andi (cmpi .sge (broadcastInDim S32768x1 ![0] bcast_S32768_S32768x1_0 (select (cmpi .slt idx (broadcastInDim S32768 ![] bcast_S_S32768 (constantI S_ 32 0#32))) (addi idx (broadcastInDim S32768 ![] bcast_S_S32768 (constantI S_ 32 8192#32))) idx)) (broadcastInDim S32768x1 ![] bcast_S_S32768x1 (constantI S_ 32 0#32))) (cmpi .sle (broadcastInDim S32768x1 ![0] bcast_S32768_S32768x1_0 (select (cmpi .slt idx (broadcastInDim S32768 ![] bcast_S_S32768 (constantI S_ 32 0#32))) (addi idx (broadcastInDim S32768 ![] bcast_S_S32768 (constantI S_ 32 8192#32))) idx)) (broadcastInDim S32768x1 ![0, 1] bcast_S1x1_S32768x1_0_1 (broadcastInDim S1x1 ![1] bcast_S1_S1x1_1 (constantI S1 32 8191#32))))) (constantI S_ 1 1#1) reducesTo_S32768x1_S32768_d1 h_S_)) (Host.gather gather_S8192x64_S32768x1_S32768x64_1_0_n_n_0_1_164 x (broadcastInDim S32768x1 ![0] bcast_S32768_S32768x1_0 (select (cmpi .slt idx (broadcastInDim S32768 ![] bcast_S_S32768 (constantI S_ 32 0#32))) (addi idx (broadcastInDim S32768 ![] bcast_S_S32768 (constantI S_ 32 8192#32))) idx))) (broadcastInDim S32768x64 ![] bcast_S_S32768x64 (constant S_ .f32 0x7FC00000#32))

/-- The reference's operations, in order. -/
abbrev ops : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S32768, .i32⟩) main_call0_v0) (broadcastInDim S32768 ![] bcast_S_S32768),
    TRef.binary (TRef.of (T := ⟨S32768, .i32⟩) main_arg1) (TRef.of (T := ⟨S32768, .i32⟩) main_call0_v0) (TRef.of (T := ⟨S32768, .i1⟩) main_call0_v1) (cmpi .slt),
    TRef.nullary (TRef.of (T := ⟨S_, .i32⟩) main_call0_c_0) (constantI S_ 32 8192#32),
    TRef.unary (TRef.of (T := ⟨S_, .i32⟩) main_call0_c_0) (TRef.of (T := ⟨S32768, .i32⟩) main_call0_v2) (broadcastInDim S32768 ![] bcast_S_S32768),
    TRef.binary (TRef.of (T := ⟨S32768, .i32⟩) main_arg1) (TRef.of (T := ⟨S32768, .i32⟩) main_call0_v2) (TRef.of (T := ⟨S32768, .i32⟩) main_call0_v3) addi,
    TRef.ternary (TRef.of (T := ⟨S32768, .i1⟩) main_call0_v1) (TRef.of (T := ⟨S32768, .i32⟩) main_call0_v3) (TRef.of (T := ⟨S32768, .i32⟩) main_arg1) (TRef.of (T := ⟨S32768, .i32⟩) main_call0_v4) select,
    TRef.unary (TRef.of (T := ⟨S32768, .i32⟩) main_call0_v4) (TRef.of (T := ⟨S32768x1, .i32⟩) main_call0_v5) (broadcastInDim S32768x1 ![0] bcast_S32768_S32768x1_0),
    TRef.nullary (TRef.of (T := ⟨S1, .i32⟩) main_call0_c_1) (constantI S1 32 8191#32),
    TRef.nullary (TRef.of (T := ⟨S_, .i32⟩) main_call0_c_2) (constantI S_ 32 0#32),
    TRef.unary (TRef.of (T := ⟨S_, .i32⟩) main_call0_c_2) (TRef.of (T := ⟨S32768x1, .i32⟩) main_call0_v6) (broadcastInDim S32768x1 ![] bcast_S_S32768x1),
    TRef.binary (TRef.of (T := ⟨S32768x1, .i32⟩) main_call0_v5) (TRef.of (T := ⟨S32768x1, .i32⟩) main_call0_v6) (TRef.of (T := ⟨S32768x1, .i1⟩) main_call0_v7) (cmpi .sge),
    TRef.unary (TRef.of (T := ⟨S1, .i32⟩) main_call0_c_1) (TRef.of (T := ⟨S1x1, .i32⟩) main_call0_v8) (broadcastInDim S1x1 ![1] bcast_S1_S1x1_1),
    TRef.unary (TRef.of (T := ⟨S1x1, .i32⟩) main_call0_v8) (TRef.of (T := ⟨S32768x1, .i32⟩) main_call0_v9) (broadcastInDim S32768x1 ![0, 1] bcast_S1x1_S32768x1_0_1),
    TRef.binary (TRef.of (T := ⟨S32768x1, .i32⟩) main_call0_v5) (TRef.of (T := ⟨S32768x1, .i32⟩) main_call0_v9) (TRef.of (T := ⟨S32768x1, .i1⟩) main_call0_v10) (cmpi .sle),
    TRef.binary (TRef.of (T := ⟨S32768x1, .i1⟩) main_call0_v7) (TRef.of (T := ⟨S32768x1, .i1⟩) main_call0_v10) (TRef.of (T := ⟨S32768x1, .i1⟩) main_call0_v11) andi,
    TRef.nullary (TRef.of (T := ⟨S_, .i1⟩) main_call0_c_3) (constantI S_ 1 1#1),
    TRef.binary (TRef.of (T := ⟨S32768x1, .i1⟩) main_call0_v11) (TRef.of (T := ⟨S_, .i1⟩) main_call0_c_3) (TRef.of (T := ⟨S32768, .i1⟩) main_call0_v12) (fun x v => Host.reduce IntOp.andi x v reducesTo_S32768x1_S32768_d1 h_S_),
    TRef.binary (TRef.of (T := ⟨S8192x64, .f32⟩) main_arg0) (TRef.of (T := ⟨S32768x1, .i32⟩) main_call0_v5) (TRef.of (T := ⟨S32768x64, .f32⟩) main_call0_v13) (fun x i => Host.gather gather_S8192x64_S32768x1_S32768x64_1_0_n_n_0_1_164 x i),
    TRef.unary (TRef.of (T := ⟨S32768, .i1⟩) main_call0_v12) (TRef.of (T := ⟨S32768x64, .i1⟩) main_call0_v14) (broadcastInDim S32768x64 ![0] bcast_S32768_S32768x64_0),
    TRef.nullary (TRef.of (T := ⟨S_, .f32⟩) main_call0_cst) (constant S_ .f32 0x7FC00000#32),
    TRef.unary (TRef.of (T := ⟨S_, .f32⟩) main_call0_cst) (TRef.of (T := ⟨S32768x64, .f32⟩) main_call0_v15) (broadcastInDim S32768x64 ![] bcast_S_S32768x64),
    TRef.ternary (TRef.of (T := ⟨S32768x64, .i1⟩) main_call0_v14) (TRef.of (T := ⟨S32768x64, .f32⟩) main_call0_v13) (TRef.of (T := ⟨S32768x64, .f32⟩) main_call0_v15) (TRef.of (T := ⟨S32768x64, .f32⟩) main_v0) select ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

set_option maxHeartbeats 2000000 in
/-- The reference runs to its end with the result at the composed term of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = taken (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (by unfold taken; simp only [ops, TRef.binary, TRef.nullary, TRef.ternary, TRef.unary, TRef.toBuf, TRef.ofBuf, cast_eq]; after_results <;> rfl),
      (h c main_arg0).trans (by simp only [ops, TRef.binary, TRef.nullary, TRef.ternary, TRef.unary, TRef.toBuf, TRef.ofBuf, cast_eq]; after_results <;> rfl),
      (h c main_arg1).trans (by simp only [ops, TRef.binary, TRef.nullary, TRef.ternary, TRef.unary, TRef.toBuf, TRef.ofBuf, cast_eq]; after_results <;> rfl)⟩)
    (run_seq scopedRefs_eq scopedSems_eq defs main (fun _ => ops) main_eq (fun _ => ops_sub) m ρ)

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- A word below 8192 is not negative, so it is left as it is. -/
theorem not_neg (v : BitVec 32) (h : v.toNat < 8192) : IntOp.cmpi .slt v 0#32 ≠ 1#1 := by
  simp only [IntOp.cmpi, ne_eq, ofBool_eq_one, BitVec.slt_eq_decide, decide_eq_true_eq, BitVec.toInt_eq_toNat_cond, BitVec.toNat_ofNat, Nat.reducePow, Nat.reduceMod]
  omega
theorem in_range (v : BitVec 32) (h : v.toNat < 8192) : IntOp.andi (IntOp.cmpi .sge v 0#32) (IntOp.cmpi .sle v 8191#32) = 1#1 := by
  simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod]
  omega
/-- Reading the range of an index as the precondition states it. -/
theorem lt_of_in_range (v : BitVec 32) (e : IntOp.andi (IntOp.cmpi .sge v 0#32) (IntOp.cmpi .slt v 8192#32) = 1#1) : v.toNat < 8192 := by
  simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
  omega

theorem wrapped (idx : S32768.Idx → BitVec 32) (h : ∀ j, (idx j).toNat < 8192) :
    select (cmpi .slt idx (broadcastInDim S32768 ![] bcast_S_S32768 (constantI S_ 32 0#32))) (addi idx (broadcastInDim S32768 ![] bcast_S_S32768 (constantI S_ 32 8192#32))) idx = idx := by
  funext j
  have e : cmpi .slt idx (broadcastInDim S32768 ![] bcast_S_S32768 (constantI S_ 32 0#32)) j = IntOp.cmpi .slt (idx j) 0#32 := rfl
  simp only [select, Scalar.select]
  rw [e]
  exact if_neg (not_neg (idx j) (h j))

theorem taken_apply (x : S8192x64.Idx → Elt F .f32) (idx : S32768.Idx → BitVec 32) (h : ∀ j, (idx j).toNat < 8192)
    (y : S32768x64.Idx) (k : S8192x64.Idx) (j : S32768.Idx) (hj : (j 0).val = (y 0).val) (hk : (k 0).val = (idx j).toNat) (hc : (k 1).val = (y 1).val) :
    taken x idx y = x k := by
  unfold taken
  rw [wrapped idx h]
  set W : S32768x1.Idx → BitVec 32 := broadcastInDim S32768x1 ![0] bcast_S32768_S32768x1_0 idx with hW
  have hok : ∀ z, Host.reduce IntOp.andi (andi (cmpi .sge W (broadcastInDim S32768x1 ![] bcast_S_S32768x1 (constantI S_ 32 0#32)))
      (cmpi .sle W (broadcastInDim S32768x1 ![0, 1] bcast_S1x1_S32768x1_0_1 (broadcastInDim S1x1 ![1] bcast_S1_S1x1_1 (constantI S1 32 8191#32)))))
      (constantI S_ 1 1#1) reducesTo_S32768x1_S32768_d1 h_S_ z = 1#1 := fun z =>
    Host.reduce_andi_one _ _ _ _ _ rfl fun i => by
      have e : W i = idx _ := rfl
      simp only [andi, cmpi, e, broadcastInDim, constantI]
      exact in_range _ (h _)
  simp only [select, Scalar.select]
  have hb : ∀ u : S32768.Idx → BitVec 1, (∀ z, u z = 1#1) → broadcastInDim S32768x64 ![0] bcast_S32768_S32768x64_0 u y = 1 := fun u hu => hu _
  refine (if_pos (hb _ hok)).trans ?_
  have hy : y = ValueIdx.ix2 (y 0) (y 1) := funext fun a => match a with | ⟨0, _⟩ => rfl | ⟨1, _⟩ => rfl
  have hx : k = ValueIdx.ix2 (k 0) (y 1) := funext fun a => match a with | ⟨0, _⟩ => rfl | ⟨1, _⟩ => Fin.ext hc
  rw [hy, hx]
  refine Routing.gather_row _ rfl rfl rfl rfl rfl x W (y 0) (y 1) (k 0) ?_ (by norm_num)
  have hj' : broadcastInDim S32768x1 ![0] bcast_S32768_S32768x1_0 idx (ValueIdx.ix2 (y 0) 0) = idx j :=
    broadcastInDim_apply _ _ idx _ j fun a => match a with
      | ⟨0, _⟩ => hj.trans (if_neg (by decide : ¬ (32768 : Nat) = 1)).symm
  rw [hW, hj', hk, BitVec.ofNat_toNat, BitVec.setWidth_eq]

end Cert.Proof.Gather.Ref

end
-- ==== Proof.RefRun.lean ====
/-
  The reference's run: its three results, as its operations compute them from the arguments.
-/
module

public import proofs.«01_k».proof.Proof.Gather.Ref
public import proofs.«01_k».proof.Proof.Gen.ReferenceIdeal

@[expose] public section

noncomputable section

namespace Cert.Proof.RefRun

open Cert.ReferenceIdeal Cert.ReferenceIdeal.Gen

open Idealize.ShloMosaic Idealize.ShloMosaic.TcCoe Idealize.SL.Sem Idealize.ShloMosaic.StableHlo

variable {F : FTy → Type} [FloatOps F]

/-- Every row's distances to the codebook's rows. -/
def dist (z : FVec F S32768x64 .f32) (c : FVec F S8192x64 .f32) : FVec F S32768x8192 .f32 :=
  addf (subf (broadcastInDim S32768x8192 ![0, 1] bcast_S32768x1_S32768x8192_0_1 (broadcastInDim S32768x1 ![0] bcast_S32768_S32768x1_0 (Host.reduceAdd (mulf z z) (constant S_ .f32 0x00000000#32) reducesTo_S32768x64_S32768_d1 h_S_)))
      (mulf (broadcastInDim S32768x8192 ![] bcast_S_S32768x8192 (constant S_ .f32 0x40000000#32))
        (Host.dotGeneral dot_S32768x64_S64x8192_S32768x8192_1_0_0_1_n_n none z (transpose S64x8192 [1, 0] c transposes_S8192x64_S64x8192_1_0))))
    (broadcastInDim S32768x8192 ![0, 1] bcast_S1x8192_S32768x8192_0_1 (broadcastInDim S1x8192 ![1] bcast_S8192_S1x8192_1 (Host.reduceAdd (mulf c c) (constant S_ .f32 0x00000000#32) reducesTo_S8192x64_S8192_d1 h_S_)))
/-- The index of the least of them. -/
def nearest (z : FVec F S32768x64 .f32) (c : FVec F S8192x64 .f32) : S32768.Idx → BitVec 32 := fun j =>
  (Host.argReduce reducer_argmin_f32_i32 (dist z c) (iotaInDim S32768x8192 32 1) (constant S_ .f32 0x7F800000#32) (constantI S_ 32 0#32)
    reducesTo_S32768x8192_S32768_d1 h_S_ j).2
/-- The codebook's rows at those indices. -/
def quant (z : FVec F S32768x64 .f32) (c : FVec F S8192x64 .f32) : FVec F S32768x64 .f32 := Gather.Ref.taken c (nearest z c)
/-- The mean square of the difference. -/
def loss (z q : FVec F S32768x64 .f32) : FVec F S_ .f32 :=
  Host.divf (Host.reduceAdd (mulf (subf z q) (subf z q)) (constant S_ .f32 0x00000000#32) reducesTo_S32768x64_S_d0_1 h_S_) (constant S_ .f32 0x4A000000#32)

/-- The reference's operations, in order. -/
abbrev ops : List (HloOp τ sig (Elt F)) :=
  [ StableHlo.binary main_arg0 main_arg0 main_v0 (mulf : (⟨S32768x64, .f32⟩ : BufTy).Contents (Elt F) → (⟨S32768x64, .f32⟩ : BufTy).Contents (Elt F) → (⟨S32768x64, .f32⟩ : BufTy).Contents (Elt F)),
    StableHlo.nullary main_cst (constant S_ .f32 0x00000000#32),
    StableHlo.binary main_v0 main_cst main_v1 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    StableHlo.unary main_v1 main_v2 (broadcastInDim S32768x1 ![0] bcast_S32768_S32768x1_0 : (⟨S32768, .f32⟩ : BufTy).Contents (Elt F) → (⟨S32768x1, .f32⟩ : BufTy).Contents (Elt F)),
    StableHlo.binary main_arg1 main_arg1 main_v3 (mulf : (⟨S8192x64, .f32⟩ : BufTy).Contents (Elt F) → (⟨S8192x64, .f32⟩ : BufTy).Contents (Elt F) → (⟨S8192x64, .f32⟩ : BufTy).Contents (Elt F)),
    StableHlo.nullary main_cst_0 (constant S_ .f32 0x00000000#32),
    StableHlo.binary main_v3 main_cst_0 main_v4 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_arg1 main_v5 ((transpose S64x8192 [1, 0] · transposes_S8192x64_S64x8192_1_0) : (⟨S8192x64, .f32⟩ : BufTy).Contents (Elt F) → (⟨S64x8192, .f32⟩ : BufTy).Contents (Elt F)),
    StableHlo.binary main_arg0 main_v5 main_v6 ((fun l r => Host.dotGeneral dot_S32768x64_S64x8192_S32768x8192_1_0_0_1_n_n none l r) : (⟨S32768x64, .f32⟩ : BufTy).Contents (Elt F) → (⟨S64x8192, .f32⟩ : BufTy).Contents (Elt F) → (⟨S32768x8192, .f32⟩ : BufTy).Contents (Elt F)),
    StableHlo.nullary main_cst_1 (constant S_ .f32 0x40000000#32),
    StableHlo.unary main_cst_1 main_v7 (broadcastInDim S32768x8192 ![] bcast_S_S32768x8192 : (⟨S_, .f32⟩ : BufTy).Contents (Elt F) → (⟨S32768x8192, .f32⟩ : BufTy).Contents (Elt F)),
    StableHlo.binary main_v7 main_v6 main_v8 (mulf : (⟨S32768x8192, .f32⟩ : BufTy).Contents (Elt F) → (⟨S32768x8192, .f32⟩ : BufTy).Contents (Elt F) → (⟨S32768x8192, .f32⟩ : BufTy).Contents (Elt F)),
    StableHlo.unary main_v2 main_v9 (broadcastInDim S32768x8192 ![0, 1] bcast_S32768x1_S32768x8192_0_1 : (⟨S32768x1, .f32⟩ : BufTy).Contents (Elt F) → (⟨S32768x8192, .f32⟩ : BufTy).Contents (Elt F)),
    StableHlo.binary main_v9 main_v8 main_v10 (subf : (⟨S32768x8192, .f32⟩ : BufTy).Contents (Elt F) → (⟨S32768x8192, .f32⟩ : BufTy).Contents (Elt F) → (⟨S32768x8192, .f32⟩ : BufTy).Contents (Elt F)),
    StableHlo.unary main_v4 main_v11 (broadcastInDim S1x8192 ![1] bcast_S8192_S1x8192_1 : (⟨S8192, .f32⟩ : BufTy).Contents (Elt F) → (⟨S1x8192, .f32⟩ : BufTy).Contents (Elt F)),
    StableHlo.unary main_v11 main_v12 (broadcastInDim S32768x8192 ![0, 1] bcast_S1x8192_S32768x8192_0_1 : (⟨S1x8192, .f32⟩ : BufTy).Contents (Elt F) → (⟨S32768x8192, .f32⟩ : BufTy).Contents (Elt F)),
    StableHlo.binary main_v10 main_v12 main_v13 (addf : (⟨S32768x8192, .f32⟩ : BufTy).Contents (Elt F) → (⟨S32768x8192, .f32⟩ : BufTy).Contents (Elt F) → (⟨S32768x8192, .f32⟩ : BufTy).Contents (Elt F)),
    TRef.nullary (TRef.of (T := ⟨S32768x8192, .i32⟩) main_call0_v0) (iotaInDim S32768x8192 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S32768x8192, .f32⟩) main_v13) (TRef.of (T := ⟨S32768x8192, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmin_f32_i32 x y u v reducesTo_S32768x8192_S32768_d1 h_S_ j).1),
    TRef.quaternary (TRef.of (T := ⟨S32768x8192, .f32⟩) main_v13) (TRef.of (T := ⟨S32768x8192, .i32⟩) main_call0_v0) (TRef.of (T := ⟨S_, .f32⟩) main_call0_cst) (TRef.of (T := ⟨S_, .i32⟩) main_call0_c) (TRef.of (T := ⟨S32768, .i32⟩) main_v14) (fun x y u v j => (Host.argReduce reducer_argmin_f32_i32 x y u v reducesTo_S32768x8192_S32768_d1 h_S_ j).2),
    TRef.nullary (TRef.of (T := ⟨S_, .i32⟩) main_call1_c) (constantI S_ 32 0#32),
    TRef.unary (TRef.of (T := ⟨S_, .i32⟩) main_call1_c) (TRef.of (T := ⟨S32768, .i32⟩) main_call1_v0) (broadcastInDim S32768 ![] bcast_S_S32768),
    TRef.binary (TRef.of (T := ⟨S32768, .i32⟩) main_v14) (TRef.of (T := ⟨S32768, .i32⟩) main_call1_v0) (TRef.of (T := ⟨S32768, .i1⟩) main_call1_v1) (cmpi .slt),
    TRef.nullary (TRef.of (T := ⟨S_, .i32⟩) main_call1_c_0) (constantI S_ 32 8192#32),
    TRef.unary (TRef.of (T := ⟨S_, .i32⟩) main_call1_c_0) (TRef.of (T := ⟨S32768, .i32⟩) main_call1_v2) (broadcastInDim S32768 ![] bcast_S_S32768),
    TRef.binary (TRef.of (T := ⟨S32768, .i32⟩) main_v14) (TRef.of (T := ⟨S32768, .i32⟩) main_call1_v2) (TRef.of (T := ⟨S32768, .i32⟩) main_call1_v3) addi,
    TRef.ternary (TRef.of (T := ⟨S32768, .i1⟩) main_call1_v1) (TRef.of (T := ⟨S32768, .i32⟩) main_call1_v3) (TRef.of (T := ⟨S32768, .i32⟩) main_v14) (TRef.of (T := ⟨S32768, .i32⟩) main_call1_v4) select,
    TRef.unary (TRef.of (T := ⟨S32768, .i32⟩) main_call1_v4) (TRef.of (T := ⟨S32768x1, .i32⟩) main_call1_v5) (broadcastInDim S32768x1 ![0] bcast_S32768_S32768x1_0),
    TRef.nullary (TRef.of (T := ⟨S1, .i32⟩) main_call1_c_1) (constantI S1 32 8191#32),
    TRef.nullary (TRef.of (T := ⟨S_, .i32⟩) main_call1_c_2) (constantI S_ 32 0#32),
    TRef.unary (TRef.of (T := ⟨S_, .i32⟩) main_call1_c_2) (TRef.of (T := ⟨S32768x1, .i32⟩) main_call1_v6) (broadcastInDim S32768x1 ![] bcast_S_S32768x1),
    TRef.binary (TRef.of (T := ⟨S32768x1, .i32⟩) main_call1_v5) (TRef.of (T := ⟨S32768x1, .i32⟩) main_call1_v6) (TRef.of (T := ⟨S32768x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S32768x1, .i32⟩) main_call1_v9) (broadcastInDim S32768x1 ![0, 1] bcast_S1x1_S32768x1_0_1),
    TRef.binary (TRef.of (T := ⟨S32768x1, .i32⟩) main_call1_v5) (TRef.of (T := ⟨S32768x1, .i32⟩) main_call1_v9) (TRef.of (T := ⟨S32768x1, .i1⟩) main_call1_v10) (cmpi .sle),
    TRef.binary (TRef.of (T := ⟨S32768x1, .i1⟩) main_call1_v7) (TRef.of (T := ⟨S32768x1, .i1⟩) main_call1_v10) (TRef.of (T := ⟨S32768x1, .i1⟩) main_call1_v11) andi,
    TRef.nullary (TRef.of (T := ⟨S_, .i1⟩) main_call1_c_3) (constantI S_ 1 1#1),
    TRef.binary (TRef.of (T := ⟨S32768x1, .i1⟩) main_call1_v11) (TRef.of (T := ⟨S_, .i1⟩) main_call1_c_3) (TRef.of (T := ⟨S32768, .i1⟩) main_call1_v12) (fun x v => Host.reduce IntOp.andi x v reducesTo_S32768x1_S32768_d1 h_S_),
    TRef.binary (TRef.of (T := ⟨S8192x64, .f32⟩) main_arg1) (TRef.of (T := ⟨S32768x1, .i32⟩) main_call1_v5) (TRef.of (T := ⟨S32768x64, .f32⟩) main_call1_v13) (fun x i => Host.gather gather_S8192x64_S32768x1_S32768x64_1_0_n_n_0_1_164 x i),
    TRef.unary (TRef.of (T := ⟨S32768, .i1⟩) main_call1_v12) (TRef.of (T := ⟨S32768x64, .i1⟩) main_call1_v14) (broadcastInDim S32768x64 ![0] bcast_S32768_S32768x64_0),
    TRef.nullary (TRef.of (T := ⟨S_, .f32⟩) main_call1_cst) (constant S_ .f32 0x7FC00000#32),
    TRef.unary (TRef.of (T := ⟨S_, .f32⟩) main_call1_cst) (TRef.of (T := ⟨S32768x64, .f32⟩) main_call1_v15) (broadcastInDim S32768x64 ![] bcast_S_S32768x64),
    TRef.ternary (TRef.of (T := ⟨S32768x64, .i1⟩) main_call1_v14) (TRef.of (T := ⟨S32768x64, .f32⟩) main_call1_v13) (TRef.of (T := ⟨S32768x64, .f32⟩) main_call1_v15) (TRef.of (T := ⟨S32768x64, .f32⟩) main_v15) select,
    StableHlo.binary main_arg0 main_v15 main_v16 (subf : (⟨S32768x64, .f32⟩ : BufTy).Contents (Elt F) → (⟨S32768x64, .f32⟩ : BufTy).Contents (Elt F) → (⟨S32768x64, .f32⟩ : BufTy).Contents (Elt F)),
    StableHlo.binary main_v16 main_v16 main_v17 (mulf : (⟨S32768x64, .f32⟩ : BufTy).Contents (Elt F) → (⟨S32768x64, .f32⟩ : BufTy).Contents (Elt F) → (⟨S32768x64, .f32⟩ : BufTy).Contents (Elt F)),
    StableHlo.nullary main_cst_2 (constant S_ .f32 0x00000000#32),
    StableHlo.binary main_v17 main_cst_2 main_v18 ((fun x v => Host.reduceAdd x v reducesTo_S32768x64_S_d0_1 h_S_) : (⟨S32768x64, .f32⟩ : BufTy).Contents (Elt F) → (⟨S_, .f32⟩ : BufTy).Contents (Elt F) → (⟨S_, .f32⟩ : BufTy).Contents (Elt F)),
    StableHlo.nullary main_cst_3 (constant S_ .f32 0x4A000000#32),
    StableHlo.binary main_v18 main_cst_3 main_v19 (Host.divf : (⟨S_, .f32⟩ : BufTy).Contents (Elt F) → (⟨S_, .f32⟩ : BufTy).Contents (Elt F) → (⟨S_, .f32⟩ : BufTy).Contents (Elt F)),
    StableHlo.binary main_v15 main_arg0 main_v20 (subf : (⟨S32768x64, .f32⟩ : BufTy).Contents (Elt F) → (⟨S32768x64, .f32⟩ : BufTy).Contents (Elt F) → (⟨S32768x64, .f32⟩ : BufTy).Contents (Elt F)),
    StableHlo.binary main_arg0 main_v20 main_v21 (addf : (⟨S32768x64, .f32⟩ : BufTy).Contents (Elt F) → (⟨S32768x64, .f32⟩ : BufTy).Contents (Elt F) → (⟨S32768x64, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., nullary_bufs_sub .., binary_bufs_sub .., nullary_bufs_sub .., binary_bufs_sub .., binary_bufs_sub .., binary_bufs_sub ..⟩

set_option maxHeartbeats 4000000 in
/-- The reference runs to its end with its results at those terms, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = addf (m ((c.tc : Thread nD τ).loc main_arg0)) (subf (quant (m ((c.tc : Thread nD τ).loc main_arg0)) (m ((c.tc : Thread nD τ).loc main_arg1))) (m ((c.tc : Thread nD τ).loc main_arg0)))
      ∧ r.2.mem ((c.tc : Thread nD τ).loc main_v14) = nearest (m ((c.tc : Thread nD τ).loc main_arg0)) (m ((c.tc : Thread nD τ).loc main_arg1))
      ∧ r.2.mem ((c.tc : Thread nD τ).loc main_v19) = loss (m ((c.tc : Thread nD τ).loc main_arg0)) (quant (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c main_v21).trans ?_, (h c main_v14).trans ?_, (h c main_v19).trans ?_, (h c main_arg0).trans ?_, (h c main_arg1).trans ?_⟩)
    (run_seq scopedRefs_eq scopedSems_eq defs main (fun _ => ops) main_eq (fun _ => ops_sub) m ρ)
  all_goals simp only [ops, TRef.binary, TRef.nullary, TRef.ternary, TRef.quaternary, TRef.unary, TRef.toBuf, TRef.ofBuf, cast_eq]
  all_goals after_results <;> rfl

end Cert.Proof.RefRun

end
-- ==== Proof.Nearest.lean ====
/-
  The reference's index of the least distance: where every distance is below the top, it is the first index at which the
  least distance stands.
-/
module

public import proofs.«01_k».proof.Proof.RefRun
public import proofs.«01_k».proof.Proof.Dist.Least
public import Idealize.ShloMosaic.PureOps.Ideal.Laws
public import Idealize.ShloMosaic.Lib.Pointwise

@[expose] public section

noncomputable section

namespace Cert.Proof.RefRun

open Cert.ReferenceIdeal Cert.ReferenceIdeal.Gen Cert.Proof.Dist

open Idealize.ShloMosaic

/-- One pair stands before another: a smaller value, or the same value at a smaller index. -/
def Before (a b : EReal × BitVec 32) : Prop := a.1 < b.1 ∨ (a.1 = b.1 ∧ a.2.toInt < b.2.toInt)
/-- One pair stands no later than another. -/
def Upto (a b : EReal × BitVec 32) : Prop := a.1 < b.1 ∨ (a.1 = b.1 ∧ a.2.toInt ≤ b.2.toInt)

theorem Before.upto {a b : EReal × BitVec 32} (h : Before a b) : Upto a b := h.imp id fun h => ⟨h.1, h.2.le⟩
theorem upto_rfl (a : EReal × BitVec 32) : Upto a a := .inr ⟨rfl, le_rfl⟩
theorem upto_of_not {a b : EReal × BitVec 32} (h : ¬ Before a b) : Upto b a := by
  unfold Before at h
  push Not at h
  rcases lt_or_eq_of_le h.1 with h1 | h1
  · exact .inl h1
  · exact .inr ⟨h1, h.2 h1.symm⟩
theorem Upto.trans {a b c : EReal × BitVec 32} (h : Upto a b) (h' : Upto b c) : Upto a c := by
  rcases h with h | ⟨h, i⟩ <;> rcases h' with h' | ⟨h', i'⟩
  · exact .inl (h.trans h')
  · exact .inl (h' ▸ h)
  · exact .inl (h ▸ h')
  · exact .inr ⟨h.trans h', i.trans i'⟩

open Classical in
/-- The comparison of two pairs keeps the one that stands before the other. -/
theorem reducer_eq (a b : EReal × BitVec 32) : reducer_argmin_f32_i32 (F := Ideal) a b = if Before a b then a else b := by
  obtain ⟨a1, a2⟩ := a
  obtain ⟨b1, b2⟩ := b
  have h1 : (FloatOps.cmpf (F := Ideal) (φ := .f32) .olt a1 b1) = BitVec.ofBool (decide (a1 < b1)) := rfl
  have h2 : (FloatOps.cmpf (F := Ideal) (φ := .f32) .une a1 a1) = 0#1 := by
    show BitVec.ofBool (decide (a1 ≠ a1)) = 0#1
    simp
  have h3 : (FloatOps.cmpf (F := Ideal) (φ := .f32) .oeq a1 b1) = BitVec.ofBool (decide (a1 = b1)) := rfl
  have h4 : IntOp.cmpi .slt a2 b2 = BitVec.ofBool (decide (a2.toInt < b2.toInt)) := by
    show BitVec.ofBool (a2.slt b2) = _
    rw [BitVec.slt]
  unfold reducer_argmin_f32_i32 Before
  dsimp only
  rw [h1, h2, h3, h4]
  by_cases e1 : a1 < b1
  · rw [if_pos (.inl e1)]
    simp [e1, e1.ne, IntOp.ori, IntOp.andi, Scalar.select]
  · by_cases e2 : a1 = b1
    · subst e2
      by_cases e3 : a2.toInt < b2.toInt
      · rw [if_pos (.inr ⟨rfl, e3⟩)]
        simp [e3, IntOp.ori, IntOp.andi, Scalar.select]
      · rw [if_neg (by simp [e3])]
        simp [e3, IntOp.ori, IntOp.andi, Scalar.select]
    · rw [if_neg (by simp [e1, e2])]
      simp [e1, e2, IntOp.ori, IntOp.andi, Scalar.select]

/-- Keeping the earlier of two pairs along a list ends with one of them that stands no later than any. -/
theorem fold_before (L : List (EReal × BitVec 32)) (a : EReal × BitVec 32) :
    L.foldl (reducer_argmin_f32_i32 (F := Ideal)) a ∈ a :: L ∧ ∀ b ∈ a :: L, Upto (L.foldl (reducer_argmin_f32_i32 (F := Ideal)) a) b := by
  classical
  induction L generalizing a with
  | nil => exact ⟨List.mem_singleton_self a, fun b hb => by rw [List.mem_singleton.mp hb]; exact upto_rfl a⟩
  | cons x L ih =>
    obtain ⟨h1, h2⟩ := ih (reducer_argmin_f32_i32 (F := Ideal) a x)
    have hr := reducer_eq a x
    have hk := h2 _ List.mem_cons_self
    rw [List.foldl_cons]
    by_cases hb : Before a x
    · rw [if_pos hb] at hr
      rw [hr] at h1 h2 hk ⊢
      refine ⟨?_, fun b hbm => ?_⟩
      · rcases List.mem_cons.mp h1 with h | h
        · rw [h]; exact List.mem_cons_self
        · exact List.mem_cons_of_mem _ (List.mem_cons_of_mem _ h)
      · rcases List.mem_cons.mp hbm with rfl | h
        · exact hk
        · rcases List.mem_cons.mp h with rfl | h
          · exact hk.trans hb.upto
          · exact h2 b (List.mem_cons_of_mem _ h)
    · rw [if_neg hb] at hr
      rw [hr] at h1 h2 hk ⊢
      refine ⟨List.mem_cons_of_mem _ h1, fun b hbm => ?_⟩
      rcases List.mem_cons.mp hbm with rfl | h
      · exact hk.trans (upto_of_not hb)
      · exact h2 b h

theorem toInt_index (k : Fin 8192) : (BitVec.ofNat 32 k.val).toInt = (k.val : ℤ) := by
  have := k.isLt
  rw [BitVec.toInt_eq_toNat_of_lt (by rw [BitVec.toNat_ofNat]; omega), BitVec.toNat_ofNat]
  omega

/-- The index of the least of a row's values, from a fold that starts at the top. -/
theorem argmin_first (D : FVec Ideal S32768x8192 .f32) (y : S32768x8192.Idx → BitVec 32) (vx : FVec Ideal S_ .f32) (vy : S_.Idx → BitVec 32)
    {axes : List (Fin S32768x8192.rank)} (hax : axes = [1]) (h : S32768x8192.ReducesTo axes S32768) (hu : 0 < S_.numel) (i : Fin 32768)
    (hy : ∀ k : Fin 8192, y (ix2 i k) = BitVec.ofNat 32 k.val) (hv : (vx (Shape.Idx.first hu) : EReal) = ⊤)
    (hD : ∀ k : Fin 8192, (D (ix2 i k) : EReal) < ⊤) :
    ∃ k : Fin 8192, First (fun k => D (ix2 i k)) k ∧ (Host.argReduce reducer_argmin_f32_i32 D y vx vy h hu (ix1 i)).2 = BitVec.ofNat 32 k.val := by
  subst hax
  rw [Ideal.argReduce_eq_reduce2, Host.reduce2_eq_foldl_fiber]
  have hmem : ∀ p : EReal × BitVec 32, p ∈ Host.argReduceFiber D y h (ix1 i) ↔ ∃ k : Fin 8192, p = (D (ix2 i k), BitVec.ofNat 32 k.val) := by
    intro p
    rw [Host.argReduceFiber]
    constructor
    · intro hp
      obtain ⟨n, hn, rfl⟩ := List.mem_map.mp hp
      obtain ⟨k, hk⟩ := (Shape.ReducesTo.fiber_r2_a1 h (ix1 i) _).mp (by simpa using (List.mem_filter.mp hn).2)
      refine ⟨k, ?_⟩
      rw [← hk]
      exact congrArg _ (hy k)
    · rintro ⟨k, rfl⟩
      refine List.mem_map.mpr ⟨S32768x8192.rowMajor (ix2 i k), List.mem_filter.mpr ⟨List.mem_finRange _, ?_⟩, ?_⟩
      · rw [Equiv.symm_apply_apply]
        simpa using (Shape.ReducesTo.fiber_r2_a1 h (ix1 i) _).mpr ⟨k, rfl⟩
      · rw [Equiv.symm_apply_apply, hy]
  generalize Host.argReduceFiber D y h (ix1 i) = L at hmem ⊢
  obtain ⟨h1, h2⟩ := fold_before L (vx (Shape.Idx.first hu), vy (Shape.Idx.first hu))
  generalize L.foldl (reducer_argmin_f32_i32 (F := Ideal)) (vx (Shape.Idx.first hu), vy (Shape.Idx.first hu)) = r at h1 h2 ⊢
  have hk : ∀ k : Fin 8192, Upto r (D (ix2 i k), BitVec.ofNat 32 k.val) := fun k => h2 _ (List.mem_cons_of_mem _ ((hmem _).mpr ⟨k, rfl⟩))
  have hlt : r.1 < (⊤ : EReal) := by
    rcases hk 0 with h | ⟨h, -⟩
    · exact h.trans (hD 0)
    · rw [h]; exact hD 0
  have hin : r ∈ L := by
    rcases List.mem_cons.mp h1 with h | h
    · rw [h] at hlt
      exact absurd hv hlt.ne
    · exact h
  obtain ⟨k, hrk⟩ := (hmem r).mp hin
  refine ⟨k, ⟨fun k' => ?_, fun k' hk' => ?_⟩, by rw [hrk]⟩
  · rcases hk k' with h | ⟨h, -⟩
    · rw [hrk] at h; exact le_of_lt h
    · rw [hrk] at h; exact le_of_eq h
  · rcases hk k' with h | ⟨h, hi⟩
    · rw [hrk] at h; exact h
    · rw [hrk] at hi
      have hi' : (BitVec.ofNat 32 k.val).toInt ≤ (BitVec.ofNat 32 k'.val).toInt := hi
      rw [toInt_index, toInt_index] at hi'
      have : k'.val < k.val := hk'
      omega

theorem nearest_eq (z : FVec Ideal S32768x64 .f32) (c : FVec Ideal S8192x64 .f32) : nearest z c = fun j =>
    (Host.argReduce reducer_argmin_f32_i32 (dist z c) (iotaInDim S32768x8192 32 1) (constant S_ .f32 0x7F800000#32) (constantI S_ 32 0#32)
      reducesTo_S32768x8192_S32768_d1 h_S_ j).2 := by
  unfold nearest
  exact Eq.refl _

theorem least_first (D : FVec Ideal S32768x8192 .f32) (f : S32768.Idx → BitVec 32)
    (hf : f = fun j => (Host.argReduce reducer_argmin_f32_i32 D (iotaInDim S32768x8192 32 1) (constant S_ .f32 0x7F800000#32) (constantI S_ 32 0#32)
      reducesTo_S32768x8192_S32768_d1 h_S_ j).2) (i : Fin 32768)
    (hD : ∀ k : Fin 8192, (D (ix2 i k) : EReal) < ⊤) : ∃ k : Fin 8192, First (fun k => D (ix2 i k)) k ∧ f (ix1 i) = BitVec.ofNat 32 k.val := by
  subst hf
  exact argmin_first D _ _ _ rfl _ _ i (fun _ => rfl) ofBits_top hD

/-- The reference's index is the first at which the least distance stands. -/
theorem nearest_first (z : FVec Ideal S32768x64 .f32) (c : FVec Ideal S8192x64 .f32) (i : Fin 32768) (hD : ∀ k : Fin 8192, (dist z c (ix2 i k) : EReal) < ⊤) :
    ∃ k : Fin 8192, First (fun k => dist z c (ix2 i k)) k ∧ nearest z c (ix1 i) = BitVec.ofNat 32 k.val :=
  least_first (dist z c) (nearest z c) (nearest_eq z c) i hD

end Cert.Proof.RefRun

end
-- ==== Proof.RefValue.lean ====
/-
  The reference's results over the extended reals at finite arguments: each row's index is that of the first codebook row
  with the least score, the row is that codebook row, and the loss is the sum of the rows' least scores and squares over a
  constant.
-/
module

public import proofs.«01_k».proof.Proof.Nearest
public import proofs.«01_k».proof.Proof.Dist.Half

@[expose] public section

noncomputable section

namespace Cert.Proof.RefRun

open Cert.ReferenceIdeal Cert.ReferenceIdeal.Gen Cert.Proof.Dist

open Idealize.ShloMosaic

theorem two_bits : Ideal.ofBits .f32 0x40000000#32 = ((2 : ℝ) : EReal) := by
  simp [Ideal.ofBits, Ideal.ieee, -EReal.coe_mul]; norm_num
theorem minus_two_bits : Ideal.ofBits .f32 0xC0000000#32 = ((-2 : ℝ) : EReal) := by
  simp [Ideal.ofBits, Ideal.ieee, -EReal.coe_mul, -EReal.coe_neg]; norm_num

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem First.of_coe {f g : Fin 8192 → ℝ} {k : Fin 8192} (a : ℝ) (hg : ∀ k, g k = a + f k) (h : First (fun k => ((g k : ℝ) : EReal)) k) :
    First (fun k => ((f k : ℝ) : EReal)) k := by
  refine ⟨fun k' => ?_, fun k' hk' => ?_⟩
  · have := EReal.coe_le_coe_iff.mp (h.1 k')
    rw [hg, hg] at this
    exact EReal.coe_le_coe_iff.mpr (by linarith)
  · have := EReal.coe_lt_coe_iff.mp (h.2 k' hk')
    rw [hg, hg] at this
    exact EReal.coe_lt_coe_iff.mpr (by linarith)

theorem dist_apply (z : FVec Ideal S32768x64 .f32) (c : FVec Ideal S8192x64 .f32) (i : Fin 32768) (k : Fin 8192) :
    (dist z c (ix2 i k) : EReal) = (∑ q : Fin 64, z (ix2 i q) * z (ix2 i q)) - Ideal.ofBits .f32 0x40000000#32 * (∑ q : Fin 64, z (ix2 i q) * c (ix2 k q))
      + ∑ q : Fin 64, c (ix2 k q) * c (ix2 k q) := by
  unfold dist
  pointwise

section Finite
variable (z : FVec Ideal S32768x64 .f32) (c : FVec Ideal S8192x64 .f32) (zr : S32768x64.Idx → ℝ) (cr : S8192x64.Idx → ℝ)
  (hz : ∀ i, z i = ((zr i : ℝ) : EReal)) (hc : ∀ i, c i = ((cr i : ℝ) : EReal))

/-- The score over the reals. -/
def scR (i : Fin 32768) (k : Fin 8192) : ℝ := (∑ q : Fin 64, zr (ix2 i q) * (-2) * cr (ix2 k q)) + ∑ q : Fin 64, cr (ix2 k q) * cr (ix2 k q)
/-- A row's square over the reals. -/
def sqR (i : Fin 32768) : ℝ := ∑ q : Fin 64, zr (ix2 i q) * zr (ix2 i q)

include hz hc in
theorem sc_real (i : Fin 32768) (k : Fin 8192) : sc z c i k = ((scR zr cr i k : ℝ) : EReal) := by
  unfold sc scR
  simp only [hz, hc, minus_two_bits, ← EReal.coe_mul, sum_coe, ← EReal.coe_add]

include hz hc in
theorem dist_real (i : Fin 32768) (k : Fin 8192) : (dist z c (ix2 i k) : EReal) = ((sqR zr i + scR zr cr i k : ℝ) : EReal) := by
  rw [dist_apply]
  simp only [hz, hc, two_bits, ← EReal.coe_mul, sum_coe, ← EReal.coe_add, ← EReal.coe_sub]
  refine congrArg _ ?_
  unfold sqR scR
  rw [Finset.mul_sum, sub_eq_add_neg, ← Finset.sum_neg_distrib, add_assoc]
  refine congrArg (_ + ·) (congrArg (· + _) (Finset.sum_congr rfl fun q _ => ?_))
  ring

theorem first_sc (i : Fin 32768) (k : Fin 8192) (h : First (fun k => ((sqR zr i + scR zr cr i k : ℝ) : EReal)) k) :
    First (fun k => ((scR zr cr i k : ℝ) : EReal)) k :=
  First.of_coe (f := fun k => scR zr cr i k) (g := fun k => sqR zr i + scR zr cr i k) (sqR zr i) (fun _ => Eq.refl _) h

include hz hc in
theorem sc_fun (i : Fin 32768) : sc z c i = fun k => ((scR zr cr i k : ℝ) : EReal) := funext fun k => sc_real z c zr cr hz hc i k
include hz hc in
theorem dist_fun (i : Fin 32768) : (fun k => (dist z c (ix2 i k) : EReal)) = fun k => ((sqR zr i + scR zr cr i k : ℝ) : EReal) :=
  funext fun k => dist_real z c zr cr hz hc i k
include hz hc in
theorem dist_lt (i : Fin 32768) (k : Fin 8192) : (dist z c (ix2 i k) : EReal) < ⊤ := (dist_real z c zr cr hz hc i k).trans_lt (EReal.coe_lt_top _)

include hz hc in
theorem near_spec (i : Fin 32768) : ∃ k, First (sc z c i) k ∧ nearest z c (ix1 i) = BitVec.ofNat 32 k.val := by
  obtain ⟨k, h1, h2⟩ := nearest_first z c i (dist_lt z c zr cr hz hc i)
  rw [sc_fun z c zr cr hz hc]
  exact ⟨k, first_sc zr cr i k ((dist_fun z c zr cr hz hc i) ▸ h1), h2⟩

include hz hc in
theorem near_lt (j : S32768.Idx) : (nearest z c j).toNat < 8192 := by
  obtain ⟨k, -, h⟩ := near_spec z c zr cr hz hc (j 0)
  have e : j = ix1 (j 0) := funext fun a => by match a with | ⟨0, _⟩ => rfl
  have hk := k.isLt
  rw [e]
  refine (congrArg BitVec.toNat h).trans_lt ?_
  rw [BitVec.toNat_ofNat]
  omega

include hz hc in
theorem quant_spec (i : Fin 32768) (k : Fin 8192) (hk : nearest z c (ix1 i) = BitVec.ofNat 32 k.val) (q : Fin 64) : quant z c (ix2 i q) = c (ix2 k q) := by
  have hk' := k.isLt
  have e : (nearest z c (ix1 i)).toNat = k.val := by rw [hk, BitVec.toNat_ofNat]; omega
  have hl := near_lt z c zr cr hz hc
  unfold quant
  generalize nearest z c = idx at e hl
  have e0 : ((ix1 i : S32768.Idx) 0).val = ((ix2 i q : S32768x64.Idx) 0).val := rfl
  have e1 : ((ix2 k q : S8192x64.Idx) 0).val = (idx (ix1 i)).toNat := e.symm
  have e2 : ((ix2 k q : S8192x64.Idx) 1).val = ((ix2 i q : S32768x64.Idx) 1).val := rfl
  exact Gather.Ref.taken_apply (F := Ideal) c idx hl (ix2 i q) (ix2 k q) (ix1 i) e0 e1 e2

include hz hc in
/-- The row the reference returns is the codebook's. -/
theorem out_spec (i : Fin 32768) (q : Fin 64) : ∃ k, First (sc z c i) k ∧ (addf z (subf (quant z c) z) (ix2 i q) : EReal) = c (ix2 k q) := by
  obtain ⟨k, h1, h2⟩ := near_spec z c zr cr hz hc i
  refine ⟨k, h1, ?_⟩
  show (z (ix2 i q) + (quant z c (ix2 i q) - z (ix2 i q)) : EReal) = _
  rw [quant_spec z c zr cr hz hc i k h2 q, hz, hc, ← EReal.coe_sub, ← EReal.coe_add]
  exact congrArg _ (by ring)

include hz hc in
/-- A row's squared difference from its codebook row is its least score with its square. -/
theorem row_loss (i : Fin 32768) : (∑ q : Fin 64, (z (ix2 i q) - quant z c (ix2 i q)) * (z (ix2 i q) - quant z c (ix2 i q)) : EReal) = best z c i := by
  obtain ⟨k, h1, h2⟩ := near_spec z c zr cr hz hc i
  unfold best
  rw [← h1.iInf, sc_real z c zr cr hz hc]
  simp only [quant_spec z c zr cr hz hc i k h2, hz, hc, ← EReal.coe_mul, sum_coe, ← EReal.coe_add, ← EReal.coe_sub]
  refine congrArg _ ?_
  unfold scR
  rw [← Finset.sum_add_distrib, ← Finset.sum_add_distrib]
  exact Finset.sum_congr rfl fun q _ => by ring

include hz hc in
theorem loss_spec : loss z (quant z c) = Host.divf (fun _ => ∑ i : Fin 32768, best z c i) (constant S_ .f32 0x4A000000#32) := by
  unfold loss
  refine congrArg (fun x : FVec Ideal S_ .f32 => Host.divf x (constant S_ .f32 0x4A000000#32)) (funext fun j => ?_)
  pointwise
  exact Finset.sum_congr rfl fun i _ => row_loss z c zr cr hz hc i

end Finite

end Cert.Proof.RefRun

end
-- ==== Proof.Claims.lean ====
/-
  The claims of the whole program over the extended reals: it runs and leaves the machine as it found it, and at finite
  arguments its three results are the reference's.
-/
module

public import proofs.«01_k».proof.Defs
public import proofs.«01_k».proof.Proof.Gen.Pre_finite
public import proofs.«01_k».proof.Proof.KernelValue
public import proofs.«01_k».proof.Proof.RefValue
public import Idealize.ShloMosaic.Lib.ReduceAll
public import Idealize.ShloMosaic.Lib.Quiescent

@[expose] public section

noncomputable section

namespace Cert.Proof.Claims

open Idealize.ShloMosaic Idealize.ShloMosaic.TcCoe Idealize.SL.Sem Cert.Proof.Dist Cert.Proof.Launch

/-! ## Finite arguments -/

/-- An extended real whose magnitude is below the top is a real. -/
theorem real_of_bit (x : EReal) (h : BitVec.ofBool (decide (max x (-x) < (⊤ : EReal))) = 1#1) : x = ((x.toReal : ℝ) : EReal) := by
  have h' : max x (-x) < (⊤ : EReal) := by
    by_contra hn
    rw [decide_eq_false hn] at h
    exact absurd h (by decide)
  refine (EReal.coe_toReal ?_ ?_).symm
  · rintro rfl
    exact absurd (le_max_left _ _) (not_le.mpr h')
  · rintro rfl
    exact absurd (le_max_right (⊥ : EReal) (-⊥)) (not_le.mpr (by simpa using h'))

theorem and_bits (a b : BitVec 1) (h : a &&& b = 1#1) : a = 1#1 ∧ b = 1#1 := by
  revert a b; decide

/-- The precondition, as the program of the predicate computes it, makes every argument a real. -/
theorem real_of_pre (z : FVec Ideal Cert.Pre_finite.S32768x64 .f32) (c : FVec Ideal Cert.Pre_finite.S8192x64 .f32)
    (h : Cert.Pre_finite.fn (F := Ideal) z c = fun _ => 1#1) :
    (∀ i, z i = (((z i : EReal).toReal : ℝ) : EReal)) ∧ ∀ i, c i = (((c i : EReal).toReal : ℝ) : EReal) := by
  have e := congrFun h (fun a => nomatch a)
  simp only [Cert.Pre_finite.fn] at e
  have : Subsingleton Cert.Pre_finite.S_.Idx := ⟨fun a b => funext fun i => nomatch i⟩
  obtain ⟨e1, e2⟩ := and_bits _ _ e
  have top : (FloatOps.ofBits (F := Ideal) .f32 0x7F800000#32 : EReal) = ⊤ := ofBits_top
  refine ⟨fun i => real_of_bit _ ?_, fun i => real_of_bit _ ?_⟩
  · rw [← top]
    exact Host.reduce_andi_all _ _ _ _ _ e1 i
  · rw [← top]
    exact Host.reduce_andi_all _ _ _ _ _ e2 i

/-! ## The results -/

section Equal
variable (m : (ℓ : Loc Cert.KernelIdeal.nD Cert.KernelIdeal.τ Cert.KernelIdeal.sig) → Buf (Elt Ideal) ℓ) (d : Dev Cert.KernelIdeal.nD)
  (z : FVec Ideal Cert.ReferenceIdeal.S32768x64 .f32) (c : FVec Ideal Cert.ReferenceIdeal.S8192x64 .f32)
  (ez : z = KernelValue.Z m d) (ec : c = KernelValue.C m d)
  (hz : ∀ i, z i = (((z i : EReal).toReal : ℝ) : EReal)) (hc : ∀ i, c i = (((c i : EReal).toReal : ℝ) : EReal))

include ez ec hz hc in
theorem rows_eq : addf z (subf (RefRun.quant z c) z) = VE m d (ref Cert.KernelIdeal.main_v10) := by
  funext y
  obtain ⟨i, q, rfl⟩ : ∃ (i : Fin 32768) (q : Fin 64), y = ix2 i q := ⟨y 0, y 1, funext fun a => by match a with | ⟨0, _⟩ => rfl | ⟨1, _⟩ => rfl⟩
  obtain ⟨k, h1, h2⟩ := RefRun.out_spec z c _ _ hz hc i q
  obtain ⟨k', h1', h2'⟩ := KernelValue.out_spec m d i q
  rw [ez, ec] at h1
  obtain rfl := h1.unique h1'
  rw [h2, ec]
  exact h2'.symm

include ez ec hz hc in
theorem index_eq : RefRun.nearest z c = VE m d (ref Cert.KernelIdeal.main_v9) := by
  funext y
  obtain ⟨i, rfl⟩ : ∃ i : Fin 32768, y = ix1 i := ⟨y 0, funext fun a => by match a with | ⟨0, _⟩ => rfl⟩
  obtain ⟨k, h1, h2⟩ := RefRun.near_spec z c _ _ hz hc i
  obtain ⟨k', h1', h2'⟩ := KernelValue.idx_spec m d i
  rw [ez, ec] at h1
  obtain rfl := h1.unique h1'
  rw [h2]
  exact h2'.symm

include ez ec hz hc in
theorem loss_eq : RefRun.loss z (RefRun.quant z c) = VE m d (ref Cert.KernelIdeal.main_v15) := by
  rw [RefRun.loss_spec z c _ _ hz hc, KernelValue.loss_spec, ez, ec]
  rfl

end Equal

/-! ## The claims -/

theorem run_kernel (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (QC m) :=
  run_main (F := Ideal) m ρ (KernelValue.preOK m)

theorem frame_kernelIdeal : Cert.quiescent_KernelIdeal := fun m ρ _ =>
  (θ_run Cert.KernelIdeal.defs _ _).mono (fun _ h => ⟨fun c => ⟨(h.1 c).1, (h.1 c).2.1⟩, h.2⟩) (run_kernel m ρ)
theorem frame_kernelIdeal_pre : Cert.quiescent_KernelIdeal_pre_finite := fun m ρ _ => frame_kernelIdeal m ρ trivial

theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (RefRun.run (F := Ideal) m ρ)
theorem frame_referenceIdeal_pre : Cert.quiescent_ReferenceIdeal_pre_finite := fun m ρ _ => frame_referenceIdeal m ρ trivial

theorem algebraic : Cert.algebraic_KernelIdeal_ReferenceIdeal_pre_finite := fun m ρ m' ρ' hp hagree => by
  refine ⟨fun c => VE m c (ref Cert.KernelIdeal.main_v10), fun c => VE m c (ref Cert.KernelIdeal.main_v9), fun c => VE m c (ref Cert.KernelIdeal.main_v15), ?_, ?_⟩
  · exact (θ_run Cert.KernelIdeal.defs _ _).mono
      (fun _ h c => ⟨(h.1 c).2.2.1, (h.1 c).2.2.2.1, (h.1 c).2.2.2.2, (h.1 c).1, (h.1 c).2.1⟩) (run_kernel m ρ)
  · refine (θ_run Cert.ReferenceIdeal.defs _ _).mono (fun _ h c => ?_) (RefRun.run (F := Ideal) m' ρ')
    obtain ⟨hz, hc⟩ := real_of_pre _ _ (hp c)
    have ez := (hagree c).1
    have ec := (hagree c).2
    refine ⟨(h c).1.trans ?_, (h c).2.1.trans ?_, (h c).2.2.1.trans ?_, (h c).2.2.2⟩
    · exact rows_eq m c _ _ ez ec (by rw [ez]; exact hz) (by rw [ec]; exact hc)
    · exact index_eq m c _ _ ez ec (by rw [ez]; exact hz) (by rw [ec]; exact hc)
    · exact loss_eq m c _ _ ez ec (by rw [ez]; exact hz) (by rw [ec]; exact hc)

end Cert.Proof.Claims

end
-- ==== Proof.Gather.Tile.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

noncomputable section

namespace Cert.Proof.Gather.Tile

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev UH : Type := URounds (GSem nD τ sig) ℕ
abbrev UP : Type := UR sig nD τ
abbrev UU : Type := UH × (UP × Counters)

local notation "𝕄" => MT nD τ sig (HIx 2) (Elt F) ℕ UU ℕ

/-! ## The words of the pipelined loop, at every tile -/

abbrev tr0 : Fin k1_t1_loop.trips := ⟨0, by decide⟩
abbrev tr1 : Fin k1_t1_loop.trips := ⟨1, by decide⟩

theorem c1_0 : ∀ i : grid1.Coords, k1_cond1 i tr0 0#32 = 1#1 := by decide +kernel
theorem c2_0 : ∀ i : grid1.Coords, k1_cond2 i tr0 0#32 = 1#1 := by decide +kernel
theorem c5_0 : ∀ i : grid1.Coords, k1_cond5 i tr0 0#32 = 1#1 := by decide +kernel
theorem c7_0 : ∀ i : grid1.Coords, ¬ k1_cond7 i tr0 0#32 = 1#1 := by decide +kernel
theorem c1_1 : ∀ i : grid1.Coords, ¬ k1_cond1 i tr1 1#32 = 1#1 := by decide +kernel
theorem c2_1 : ∀ i : grid1.Coords, k1_cond2 i tr1 1#32 = 1#1 := by decide +kernel
theorem c5_1 : ∀ i : grid1.Coords, k1_cond5 i tr1 1#32 = 1#1 := by decide +kernel
theorem c7_1 : ∀ i : grid1.Coords, k1_cond7 i tr1 1#32 = 1#1 := by decide +kernel
theorem chk1_0 : ∀ i : grid1.Coords, k1_chk1 i tr0 1#32 0#32 0#32 0#32 0#32 := by decide +kernel
theorem chk1_1 : ∀ i : grid1.Coords, k1_chk1 i tr1 2#32 1#32 1#32 0#32 1#32 := by decide +kernel
theorem chk5_2 : ∀ i : grid1.Coords, k1_chk5 i 0#32 := by decide +kernel
theorem chk4_2 : k1_chk4 1#32 := by decide +kernel
theorem off2 : ∀ i : grid1.Coords, k1_off2 i = ![0, 512 * (i 1).val + 8192 * (i 0).val] := by decide +kernel
theorem off5_0 : ∀ i : grid1.Coords, k1_off5 i 0#32 = ![0, 512 * (i 1).val + 8192 * (i 0).val + 256] := by decide +kernel
theorem off8_0 : ∀ i : grid1.Coords, k1_off8 i 0#32 = ![0, 512 * (i 1).val + 8192 * (i 0).val] := by decide +kernel
theorem off8_1 : ∀ i : grid1.Coords, k1_off8 i 1#32 = ![0, 512 * (i 1).val + 8192 * (i 0).val + 256] := by decide +kernel
theorem off13_0 : ∀ i : grid1.Coords, k1_off13 i 0#32 = ![512 * (i 1).val + 8192 * (i 0).val, 0] := by decide +kernel
theorem off13_1 : ∀ i : grid1.Coords, k1_off13 i 1#32 = ![512 * (i 1).val + 8192 * (i 0).val + 256, 0] := by decide +kernel
theorem off16_1 : ∀ i : grid1.Coords, k1_off16 i 1#32 = ![512 * (i 1).val + 8192 * (i 0).val, 0] := by decide +kernel
theorem off19_2 : ∀ i : grid1.Coords, k1_off19 i 0#32 = ![512 * (i 1).val + 8192 * (i 0).val + 256, 0] := by decide +kernel

/-! ## Cells -/

section Cells
variable (A : DmaSems sig S2)

theorem inb0 : ∀ a, (![0] : Fin 1 → Nat) a + S1.size a ≤ S2.size a := by decide
theorem inb1 : ∀ a, (![1] : Fin 1 → Nat) a + S1.size a ≤ S2.size a := by decide

def sem0 : DmaSems sig S_ := (A.slice (Rect.unit (s := S2) ![0] S1.size inb0)).squeeze S_ squeezes_S1_S_
def sem1 : DmaSems sig S_ := (A.slice (Rect.unit (s := S2) ![1] S1.size inb1)).squeeze S_ squeezes_S1_S_

theorem sem0_of {off : Fin 1 → Nat} (e : off = ![0]) (hh) :
    (A.slice (Rect.unit (s := S2) off S1.size hh)).squeeze S_ squeezes_S1_S_ = sem0 A := by subst e; rfl
theorem sem1_of {off : Fin 1 → Nat} (e : off = ![1]) (hh) :
    (A.slice (Rect.unit (s := S2) off S1.size hh)).squeeze S_ squeezes_S1_S_ = sem1 A := by subst e; rfl

@[sl_canon] theorem s3 (hh) : (A.slice (Rect.unit (s := S2) k1_off3 S1.size hh)).squeeze S_ squeezes_S1_S_ = sem0 A := sem0_of A (by decide) _
@[sl_canon] theorem s6 (hh) : (A.slice (Rect.unit (s := S2) (k1_off6 1#32) S1.size hh)).squeeze S_ squeezes_S1_S_ = sem1 A := sem1_of A (by decide) _
@[sl_canon] theorem s9_0 (hh) : (A.slice (Rect.unit (s := S2) (k1_off9 0#32) S1.size hh)).squeeze S_ squeezes_S1_S_ = sem0 A := sem0_of A (by decide) _
@[sl_canon] theorem s9_1 (hh) : (A.slice (Rect.unit (s := S2) (k1_off9 1#32) S1.size hh)).squeeze S_ squeezes_S1_S_ = sem1 A := sem1_of A (by decide) _
@[sl_canon] theorem s14_0 (hh) : (A.slice (Rect.unit (s := S2) (k1_off14 0#32) S1.size hh)).squeeze S_ squeezes_S1_S_ = sem0 A := sem0_of A (by decide) _
@[sl_canon] theorem s14_1 (hh) : (A.slice (Rect.unit (s := S2) (k1_off14 1#32) S1.size hh)).squeeze S_ squeezes_S1_S_ = sem1 A := sem1_of A (by decide) _
@[sl_canon] theorem s17_0 (hh) : (A.slice (Rect.unit (s := S2) (k1_off17 0#32) S1.size hh)).squeeze S_ squeezes_S1_S_ = sem0 A := sem0_of A (by decide) _
@[sl_canon] theorem s20_1 (hh) : (A.slice (Rect.unit (s := S2) (k1_off20 1#32) S1.size hh)).squeeze S_ squeezes_S1_S_ = sem1 A := sem1_of A (by decide) _
end Cells

instance : ClosedOff (k1_off4 1#32) := ⟨![1, 0, 0], by decide +kernel⟩
instance : ClosedOff (k1_off7 0#32) := ⟨![0, 0, 0], by decide +kernel⟩
instance : ClosedOff (k1_off7 1#32) := ⟨![1, 0, 0], by decide +kernel⟩
instance : ClosedOff (k1_off10 0#32) := ⟨![0, 0, 0], by decide +kernel⟩
instance : ClosedOff (k1_off10 1#32) := ⟨![1, 0, 0], by decide +kernel⟩
instance : ClosedOff (k1_off11 0#32) := ⟨![0, 0, 0], by decide +kernel⟩
instance : ClosedOff (k1_off11 1#32) := ⟨![1, 0, 0], by decide +kernel⟩
instance : ClosedOff (k1_off12 0#32) := ⟨![0, 0, 0], by decide +kernel⟩
instance : ClosedOff (k1_off12 1#32) := ⟨![1, 0, 0], by decide +kernel⟩
instance : ClosedOff (k1_off15 0#32) := ⟨![0, 0, 0], by decide +kernel⟩
instance : ClosedOff (k1_off18 1#32) := ⟨![1, 0, 0], by decide +kernel⟩
instance : ClosedOff (k1_off21 1#32) := ⟨![1, 0, 0], by decide +kernel⟩
instance (i : grid1.Coords) : ClosedOff (k1_off5 i 0#32) := ⟨_, off5_0 i⟩
instance (i : grid1.Coords) : ClosedOff (k1_off8 i 0#32) := ⟨_, off8_0 i⟩
instance (i : grid1.Coords) : ClosedOff (k1_off8 i 1#32) := ⟨_, off8_1 i⟩
instance (i : grid1.Coords) : ClosedOff (k1_off13 i 0#32) := ⟨_, off13_0 i⟩
instance (i : grid1.Coords) : ClosedOff (k1_off13 i 1#32) := ⟨_, off13_1 i⟩
instance (i : grid1.Coords) : ClosedOff (k1_off16 i 1#32) := ⟨_, off16_1 i⟩
instance (i : grid1.Coords) : ClosedOff (k1_off19 i 0#32) := ⟨_, off19_2 i⟩

section Slots
theorem inbA (s : Fin 2) : ∀ a, (![s.val, 0, 0] : Fin 3 → Nat) a + S1x1x256.size a ≤ S2x1x256.size a := by
  have := s.isLt; intro a; fin_cases a
  · show s.val + 1 ≤ 2; omega
  · show 0 + 1 ≤ 1; omega
  · show 0 + 256 ≤ 256; omega
theorem inbB (s : Fin 2) : ∀ a, (![s.val, 0, 0] : Fin 3 → Nat) a + S1x256x64.size a ≤ S2x256x64.size a := by
  have := s.isLt; intro a; fin_cases a
  · show s.val + 1 ≤ 2; omega
  · show 0 + 256 ≤ 256; omega
  · show 0 + 64 ≤ 64; omega
instance : ClosedOff (![((0 : Fin 2)).val, 0, 0] : Fin 3 → Nat) := ⟨![0, 0, 0], rfl⟩
instance : ClosedOff (![((1 : Fin 2)).val, 0, 0] : Fin 3 → Nat) := ⟨![1, 0, 0], rfl⟩

variable (aV : Memref sig .scVector .vmem S2x1x256 .i32) (bV : Memref sig .scVector .vmem S2x256x64 .f32)

def aS (s : Fin 2) : Memref sig .scVector .vmem S1x256 .i32 :=
  (aV.slice (Rect.unit (s := S2x1x256) ![s.val, 0, 0] S1x1x256.size (inbA s)) (fun _ => rfl)).squeeze S1x256 squeezes_S1x1x256_S1x256
def bS (s : Fin 2) : Memref sig .scVector .vmem S256x64 .f32 :=
  (bV.slice (Rect.unit (s := S2x256x64) ![s.val, 0, 0] S1x256x64.size (inbB s)) (fun _ => rfl)).squeeze S256x64 squeezes_S1x256x64_S256x64

theorem aS_of {off : Fin 3 → Nat} (s : Fin 2) (e : off = ![s.val, 0, 0]) (hh hs) :
    (aV.slice (Rect.unit (s := S2x1x256) off S1x1x256.size hh) hs).squeeze S1x256 squeezes_S1x1x256_S1x256 = aS aV s := by subst e; rfl
theorem bS_of {off : Fin 3 → Nat} (s : Fin 2) (e : off = ![s.val, 0, 0]) (hh hs) :
    (bV.slice (Rect.unit (s := S2x256x64) off S1x256x64.size hh) hs).squeeze S256x64 squeezes_S1x256x64_S256x64 = bS bV s := by subst e; rfl

@[sl_canon] theorem a1 (hh hs) : (aV.slice (Rect.unit (s := S2x1x256) k1_off1 S1x1x256.size hh) hs).squeeze S1x256 squeezes_S1x1x256_S1x256 = aS aV 0 := aS_of aV 0 (by decide) _ _
@[sl_canon] theorem a4 (hh hs) : (aV.slice (Rect.unit (s := S2x1x256) (k1_off4 1#32) S1x1x256.size hh) hs).squeeze S1x256 squeezes_S1x1x256_S1x256 = aS aV 1 := aS_of aV 1 (by decide) _ _
@[sl_canon] theorem a7_0 (hh hs) : (aV.slice (Rect.unit (s := S2x1x256) (k1_off7 0#32) S1x1x256.size hh) hs).squeeze S1x256 squeezes_S1x1x256_S1x256 = aS aV 0 := aS_of aV 0 (by decide) _ _
@[sl_canon] theorem a7_1 (hh hs) : (aV.slice (Rect.unit (s := S2x1x256) (k1_off7 1#32) S1x1x256.size hh) hs).squeeze S1x256 squeezes_S1x1x256_S1x256 = aS aV 1 := aS_of aV 1 (by decide) _ _
@[sl_canon] theorem a10_0 (hh hs) : (aV.slice (Rect.unit (s := S2x1x256) (k1_off10 0#32) S1x1x256.size hh) hs).squeeze S1x256 squeezes_S1x1x256_S1x256 = aS aV 0 := aS_of aV 0 (by decide) _ _
@[sl_canon] theorem a10_1 (hh hs) : (aV.slice (Rect.unit (s := S2x1x256) (k1_off10 1#32) S1x1x256.size hh) hs).squeeze S1x256 squeezes_S1x1x256_S1x256 = aS aV 1 := aS_of aV 1 (by decide) _ _
@[sl_canon] theorem b12_0 (hh hs) : (bV.slice (Rect.unit (s := S2x256x64) (k1_off12 0#32) S1x256x64.size hh) hs).squeeze S256x64 squeezes_S1x256x64_S256x64 = bS bV 0 := bS_of bV 0 (by decide) _ _
@[sl_canon] theorem b12_1 (hh hs) : (bV.slice (Rect.unit (s := S2x256x64) (k1_off12 1#32) S1x256x64.size hh) hs).squeeze S256x64 squeezes_S1x256x64_S256x64 = bS bV 1 := bS_of bV 1 (by decide) _ _
@[sl_canon] theorem b15 (hh hs) : (bV.slice (Rect.unit (s := S2x256x64) (k1_off15 0#32) S1x256x64.size hh) hs).squeeze S256x64 squeezes_S1x256x64_S256x64 = bS bV 0 := bS_of bV 0 (by decide) _ _
@[sl_canon] theorem b18 (hh hs) : (bV.slice (Rect.unit (s := S2x256x64) (k1_off18 1#32) S1x256x64.size hh) hs).squeeze S256x64 squeezes_S1x256x64_S256x64 = bS bV 1 := bS_of bV 1 (by decide) _ _
@[sl_canon] theorem b21 (hh hs) : (bV.slice (Rect.unit (s := S2x256x64) (k1_off21 1#32) S1x256x64.size hh) hs).squeeze S256x64 squeezes_S1x256x64_S256x64 = bS bV 1 := bS_of bV 1 (by decide) _ _

/-- The list a gather reads: slot `s`'s one row. -/
abbrev aL (s : Fin 2) : Memref sig .scVector .vmem S256 .i32 :=
  ((aS aV s).slice (Rect.unit (s := S1x256) ![0, 0] S1x256.size inb_S1x256_S1x256_0_0) (fun _ => rfl)).squeeze S256 squeezes_S1x256_S256

theorem aL_read (s : Fin 2) (f : (aS aV s).view.ty.Contents (Elt F)) (p : S1x256.Idx → Elt F .i32) (x : S256.Idx) :
    (aL aV s).view.read (Elt F) ((aS aV s).view.writes (Elt F) f [⟨Rect.whole S1x256, p⟩]) x
      = p ((Rect.unit (s := S1x256) ![0, 0] S1x256.size inb_S1x256_S1x256_0_0).emb (Shape.reshapeEquiv squeezes_S1x256_S256.numel_eq x)) := by
  show (aS aV s).view.read (Elt F) _ _ = _
  rw [View.read_writes_whole]; rfl
end Slots

section Blocks
variable (oV : Memref sig .scVector .hbm S16384x64 .f32) (L : grid1.Coords)
theorem inbO (L : grid1.Coords) (s : Fin 2) : ∀ a, (![512 * (L 1).val + 8192 * (L 0).val + 256 * s.val, 0] : Fin 2 → Nat) a + S256x64.size a ≤ S16384x64.size a := by
  have h0 : (L 0).val < 2 := (L 0).isLt
  have h1 : (L 1).val < 16 := (L 1).isLt
  have := s.isLt
  intro a; fin_cases a
  · show 512 * (L 1).val + 8192 * (L 0).val + 256 * s.val + 256 ≤ 16384; omega
  · show 0 + 64 ≤ 64; omega
/-- Block `s` of tile `L`'s rows of the output. -/
def oB (s : Fin 2) : Memref sig .scVector .hbm S256x64 .f32 :=
  oV.slice (Rect.unit (s := S16384x64) ![512 * (L 1).val + 8192 * (L 0).val + 256 * s.val, 0] S256x64.size (inbO L s)) (fun _ => rfl)
theorem oB_of {off : Fin 2 → Nat} (s : Fin 2) (e : off = ![512 * (L 1).val + 8192 * (L 0).val + 256 * s.val, 0]) (hh hs) :
    oV.slice (Rect.unit (s := S16384x64) off S256x64.size hh) hs = oB oV L s := by subst e; rfl
@[sl_canon] theorem o13_0 (hh hs) : oV.slice (Rect.unit (s := S16384x64) (k1_off13 L 0#32) S256x64.size hh) hs = oB oV L 0 := oB_of oV L 0 (off13_0 L) _ _
@[sl_canon] theorem o13_1 (hh hs) : oV.slice (Rect.unit (s := S16384x64) (k1_off13 L 1#32) S256x64.size hh) hs = oB oV L 1 := oB_of oV L 1 (off13_1 L) _ _
@[sl_canon] theorem o16_1 (hh hs) : oV.slice (Rect.unit (s := S16384x64) (k1_off16 L 1#32) S256x64.size hh) hs = oB oV L 0 := oB_of oV L 0 (off16_1 L) _ _
@[sl_canon] theorem o19_2 (hh hs) : oV.slice (Rect.unit (s := S16384x64) (k1_off19 L 0#32) S256x64.size hh) hs = oB oV L 1 := oB_of oV L 1 (off19_2 L) _ _
end Blocks

/-! ## What a block of the output holds -/

section Value
variable {α : Type}

/-- The gathered rows: at row `r` and column `j`, the table's row that word `r` of the list names, at column `j`. -/
def gath (tbl : S8192x128.Idx → α) (idx : S1x16384.Idx → BitVec 32) (x : S16384x64.Idx) : α :=
  tbl (fun
    | 0 => ⟨(idx (fun | 0 => ⟨0, Nat.one_pos⟩ | 1 => ⟨(x 0).val, (x 0).isLt⟩ | ⟨_ + 2, h⟩ => absurd h (Nat.not_lt.2 (Nat.le_add_left _ _)))).toNat % 8192, Nat.mod_lt _ (by decide)⟩
    | 1 => ⟨(x 1).val, Nat.lt_of_lt_of_le (x 1).isLt (by decide)⟩
    | ⟨_ + 2, h⟩ => absurd h (Nat.not_lt.2 (Nat.le_add_left _ _)))

/-- A slot of the output ring, stored whole through its buffer, reads the vector stored. -/
theorem bS_read (bV : Memref sig .scVector .vmem S2x256x64 .f32) (s : Fin 2) (fb : bV.view.ty.Contents (Elt F)) (v : S256x64.Idx → Elt F .f32)
    {off : Fin 3 → Nat} (e : off = ![s.val, 0, 0]) (hh) (h1 h2) :
    (bS bV s).view.read (Elt F) (View.write (Elt F) (bV.access (Rect.unit (s := S2x256x64) off S1x256x64.size hh)) fb
      (shapeCast S1x256x64 (shapeCast S256x64 v h1) h2) Finset.univ) = v := by
  subst e
  funext x
  have h : (bS bV s).view.read (Elt F) (View.write (Elt F) (bV.access (Rect.unit (s := S2x256x64) ![s.val, 0, 0] S1x256x64.size hh)) fb
      (shapeCast S1x256x64 (shapeCast S256x64 v h1) h2) Finset.univ) x
      = (bV.access (Rect.unit (s := S2x256x64) ![s.val, 0, 0] S1x256x64.size hh)).read (Elt F) (View.write (Elt F) (bV.access (Rect.unit (s := S2x256x64) ![s.val, 0, 0] S1x256x64.size hh)) fb
          (shapeCast S1x256x64 (shapeCast S256x64 v h1) h2) Finset.univ) (Shape.reshapeEquiv squeezes_S1x256x64_S256x64.numel_eq x) := rfl
  rw [h, View.read_write_univ]
  unfold shapeCast
  rw [Shape.reshapeEquiv_reshapeEquiv, Shape.reshapeEquiv_reshapeEquiv, Shape.reshapeEquiv_self]

/-- Place `k` of the list is row `0`, column `k`, of the slot. -/
theorem rowIx (k : Fin S256.numel) : (Shape.reshapeEquiv squeezes_S1x256_S256.numel_eq (S256.rowMajor.symm k) 0).val = 0
    ∧ (Shape.reshapeEquiv squeezes_S1x256_S256.numel_eq (S256.rowMajor.symm k) 1).val = k.val := by
  have e := Shape.rowMajor_reshapeEquiv squeezes_S1x256_S256.numel_eq (S256.rowMajor.symm k)
  rw [Equiv.apply_symm_apply] at e
  generalize Shape.reshapeEquiv squeezes_S1x256_S256.numel_eq (S256.rowMajor.symm k) = u at e ⊢
  have h0 : (u 0).val < 1 := (u 0).isLt
  have e' := (Shape.rowMajor_val_two u).symm.trans e
  have h1 : (u 0).val * 256 + (u 1).val = k.val := e'
  omega

/-- The gathered block loaded back, its first columns: at row `r`, column `j`, the table at the row the list names. -/
theorem load_gath [FloatOps F] (xV : Memref sig .scVector .hbm S8192x128 .f32) (iV : Memref sig .scVector .hbm S1x16384 .i32)
    (gV : Memref sig .scVector .vmem S256x128 .f32) (aV : Memref sig .scVector .vmem S2x1x256 .i32) (s : Fin 2)
    (tbl : xV.view.ty.Contents (Elt F)) (idx : iV.view.ty.Contents (Elt F)) (hidx : ∀ x, (iV.view.read (Elt F) idx x).toNat < 8192)
    (base : ℕ) {off : Fin 2 → Nat} (e : off = ![0, base]) (hoff) (f : (aS aV s).view.ty.Contents (Elt F)) (hn) (hin) (hc : 0 + base + 256 ≤ 16384)
    (Ws : List (View.Piece (Elt F) S256x128 .f32)) (hB) (x : S256x64.Idx) (y : S16384x64.Idx) (hy0 : (y 0).val = base + (x 0).val) (hy1 : (y 1).val = (x 1).val) :
    gV.view.readCov (⟨Rect.whole S256x128,
        SparseCore.gatherPayload gathers_S8192x128_S256x128 ((xV.slice (Rect.unit (s := S8192x128) ![0, 0] S8192x128.size hB) (fun _ => rfl)).view.read (Elt F) tbl)
          (SparseCore.rows ((aL aV s).view.read (Elt F) ((aS aV s).view.writes (Elt F) f
            [⟨Rect.whole S1x256, ReadAs.same.apply ((iV.slice (Rect.unit (s := S1x16384) off S1x256.size hoff) (fun _ => rfl)).view.read (Elt F) idx)⟩])) hn hin)⟩ :: Ws)
      (Rect.unit (s := S256x128) ![0, 0] S256x64.size inb_S256x128_S256x64_0_0).toLoadRect x
    = gath (xV.view.read (Elt F) tbl) (iV.view.read (Elt F) idx) y := by
  subst e
  unfold View.readCov
  rw [View.readAt_apply]
  refine (View.read_writes_cons_hit _ _ (Rect.whole S256x128) _ Ws ((Rect.unit (s := S256x128) ![0, 0] S256x64.size inb_S256x128_S256x64_0_0).toLoadRect.idx x) _ (Rect.emb_whole_apply _ _)).trans ?_
  unfold SparseCore.gatherPayload gath
  show xV.view.read (Elt F) tbl ((Rect.unit (s := S8192x128) ![0, 0] S8192x128.size hB).emb _) = _
  refine congrArg (xV.view.read (Elt F) tbl) (funext fun a => Fin.ext ?_)
  rw [Rect.emb_apply]
  match a with
  | 0 =>
    have e1 := congrArg Fin.val (Shape.Gathers.idx_axis gathers_S8192x128_S256x128 (SparseCore.rows ((aL aV s).view.read (Elt F) ((aS aV s).view.writes (Elt F) f
            [⟨Rect.whole S1x256, ReadAs.same.apply ((iV.slice (Rect.unit (s := S1x16384) ![0, base] S1x256.size hoff) (fun _ => rfl)).view.read (Elt F) idx)⟩])) hn hin)
            ((Rect.unit (s := S256x128) ![0, 0] S256x64.size inb_S256x128_S256x64_0_0).toLoadRect.idx x))
    refine (Nat.zero_add _).trans ((Nat.one_mul _).trans (e1.trans ?_))
    show ((aL aV s).view.read (Elt F) ((aS aV s).view.writes (Elt F) f _) _).toNat = _
    rw [aL_read]
    show (iV.view.read (Elt F) idx ((Rect.unit (s := S1x16384) ![0, base] S1x256.size hoff).emb _)).toNat = (iV.view.read (Elt F) idx _).toNat % 8192
    rw [Nat.mod_eq_of_lt (hidx _)]
    refine congrArg (fun z => (iV.view.read (Elt F) idx z).toNat) (funext fun b => Fin.ext ?_)
    rw [Rect.emb_apply, Rect.emb_apply]
    generalize hk : Fin.cast _ _ = k
    have hk' : k.val = (x 0).val := by rw [← hk]; show 0 + 1 * (x 0).val = _; omega
    obtain ⟨u0, u1⟩ := rowIx k
    match b with
    | 0 =>
      show 0 + 1 * (0 + 1 * _) = 0
      rw [u0]
    | 1 =>
      show base + 1 * (0 + 1 * _) = (y 0).val
      rw [u1]; omega
  | 1 =>
    show 0 + 1 * _ = _
    rw [Shape.Gathers.idx_of_ne _ _ _ _ (by decide)]
    show 0 + 1 * (0 + 1 * (x 1).val) = (y 1).val
    omega
end Value

section Tile
variable [FloatOps F] (d : Dev nD) (L : grid1.Coords)

abbrev thr (d : Dev nD) (L : grid1.Coords) : Thread nD τ := V d ((L 0).castLE hcore1) ((L 1).castLE hsub1)

variable (xV : Memref sig .scVector .hbm S8192x128 .f32) (hx : xV.IsWhole)
  (iV : Memref sig .scVector .hbm S1x16384 .i32) (hi : iV.IsWhole)
  (oV : Memref sig .scVector .hbm S16384x64 .f32) (ho : oV.IsWhole)
  (gV : Memref sig .scVector .vmem S256x128 .f32) (hg : gV.IsWhole)
  (aV : Memref sig .scVector .vmem S2x1x256 .i32) (ha : aV.IsWhole)
  (bV : Memref sig .scVector .vmem S2x256x64 .f32) (hb : bV.IsWhole)
  (s5 s6 : DmaSems sig S2) (s7 : DmaSems sig S_)

/-- Block `s` of tile `L`'s rows holds the gathered rows. -/
def Holds (tbl : xV.view.ty.Contents (Elt F)) (idx : iV.view.ty.Contents (Elt F)) (s : Fin 2) (f : (oB oV L s).view.ty.Contents (Elt F)) : Prop :=
  ∀ (x : S256x64.Idx) (y : S16384x64.Idx), (y 0).val = 512 * (L 1).val + 8192 * (L 0).val + 256 * s.val + (x 0).val → (y 1).val = (x 1).val →
    (oB oV L s).view.read (Elt F) f x = gath (xV.view.read (Elt F) tbl) (iV.view.read (Elt F) idx) y

set_option maxRecDepth 65536 in
set_option sl_exec.dmaWindow true in
set_option sl_exec.dmaWindowSet true in
set_option maxHeartbeats 4000000 in
theorem body (O : CellTallies nD τ sig (HIx 2)) (W : Waits sig (HIx 2))
    (q q' : PosShare TreeShare) (tbl : Buf (Elt F) (xV.view.loc (thr d L))) (idx : Buf (Elt F) (iV.view.loc (thr d L)))
    (hidx : ∀ x, (iV.view.read (Elt F) idx x).toNat < 8192)
    (fo : Buf (Elt F) ((oB oV L 0).view.loc (thr d L))) (fo' : Buf (Elt F) ((oB oV L 1).view.loc (thr d L))) (fg : Buf (Elt F) (gV.view.loc (thr d L)))
    (fa : Buf (Elt F) ((aS aV 0).view.loc (thr d L))) (fa' : Buf (Elt F) ((aS aV 1).view.loc (thr d L))) (fb : Buf (Elt F) ((bS bV 0).view.loc (thr d L))) (fb' : Buf (Elt F) ((bS bV 1).view.loc (thr d L))) :
    (iprop(Transfers.MayWaits (thr d L) (default : HIx 2) O
        ∗ (xV.view.loc (thr d L) ↦[xV.view.set]{q} tbl) ∗ (iV.view.loc (thr d L) ↦[iV.view.set]{q'} idx)
        ∗ ((oB oV L 0).view.loc (thr d L) ↦[(oB oV L 0).view.set]{fullShare} fo)
        ∗ ((oB oV L 1).view.loc (thr d L) ↦[(oB oV L 1).view.set]{fullShare} fo')
        ∗ (gV.view.loc (thr d L) ↦[gV.view.set]{fullShare} fg) ∗ ((aS aV 0).view.loc (thr d L) ↦[(aS aV 0).view.set]{fullShare} fa)
        ∗ ((aS aV 1).view.loc (thr d L) ↦[(aS aV 1).view.set]{fullShare} fa')
        ∗ ((bS bV 0).view.loc (thr d L) ↦[(bS bV 0).view.set]{fullShare} fb)
        ∗ ((bS bV 1).view.loc (thr d L) ↦[(bS bV 1).view.set]{fullShare} fb')
        ∗ semVal (thr d L, .dma (sem0 s5).sem) 0 ∗ semVal (thr d L, .dma (sem1 s5).sem) 0
        ∗ semVal (thr d L, .dma (sem0 s6).sem) 0 ∗ semVal (thr d L, .dma (sem1 s6).sem) 0 ∗ semVal (thr d L, .dma s7.sem) 0
        ∗ owes (thr d L) O W) : sProp 𝕄)
      ⊢ wp frame (wpE (defs₀ (F := F)) Variants.none (thr d L) none) Set.univ
          (cc1_gather_kernel L xV hx iV hi oV ho gV hg aV ha s5 bV hb s6 s7)
          fun _ => iprop((xV.view.loc (thr d L) ↦[xV.view.set]{q} tbl) ∗ (iV.view.loc (thr d L) ↦[iV.view.set]{q'} idx)
            ∗ (∃ f, ⌜Holds L xV iV oV tbl idx 0 f⌝ ∗ (oB oV L 0).view.loc (thr d L) ↦[(oB oV L 0).view.set]{fullShare} f)
            ∗ (∃ f, ⌜Holds L xV iV oV tbl idx 1 f⌝ ∗ (oB oV L 1).view.loc (thr d L) ↦[(oB oV L 1).view.set]{fullShare} f)
            ∗ (∃ f, gV.view.loc (thr d L) ↦[gV.view.set]{fullShare} f)
            ∗ (∃ f, (aS aV 0).view.loc (thr d L) ↦[(aS aV 0).view.set]{fullShare} f)
            ∗ (∃ f, (aS aV 1).view.loc (thr d L) ↦[(aS aV 1).view.set]{fullShare} f)
            ∗ (∃ f, (bS bV 0).view.loc (thr d L) ↦[(bS bV 0).view.set]{fullShare} f)
            ∗ (∃ f, (bS bV 1).view.loc (thr d L) ↦[(bS bV 1).view.set]{fullShare} f)
            ∗ semVal (thr d L, .dma (sem0 s5).sem) 0 ∗ semVal (thr d L, .dma (sem1 s5).sem) 0
            ∗ semVal (thr d L, .dma (sem0 s6).sem) 0 ∗ semVal (thr d L, .dma (sem1 s6).sem) 0 ∗ semVal (thr d L, .dma s7.sem) 0
            ∗ ∃ W', ⌜∀ p ∈ W', p ∈ W ∨ p.2 = default⌝ ∗ owes (thr d L) O W') := by
  simp only [cc1_gather_kernel_eq_skeleton]; unfold cc1_gather_kernel_skel
  simp only [k1_part3_eq_skeleton]; unfold k1_part3_skel
  simp only [k1_part4_eq_skeleton]; unfold k1_part4_skel
  iintro ⟨#Hmw, Hx, Hi, Ho0, Ho1, Hg, Ha0, Ha1, Hb0, Hb1, H50, H51, H60, H61, H7, HO⟩
  simp only [bind_assoc]
  sl_exec
  sl_unroll
  have hin0 : ∀ (f : (aS aV 0).view.ty.Contents (Elt F)) (x : S256.Idx), ((aL aV 0).view.read (Elt F) ((aS aV 0).view.writes (Elt F) f [⟨Rect.whole S1x256, body.sl.dma0 d L iV idx⟩]) x).toNat < S8192x128.size gathers_S8192x128_S256x128.axis := by
    intro f x; rw [aL_read]; exact hidx _
  have h10 := c1_0 L
  have h20 := c2_0 L
  have h50 := c5_0 L
  have h70 := c7_0 L
  have hk10 := chk1_0 L
  have hk20 : k1_chk2 0#32 := by decide
  have hk30 : k1_chk3 0#32 := by decide
  sl_exec
  have e127 : ∀ L, body.sl.v127_r0 L = 1#32 := by decide +kernel
  have e145 : ∀ L, body.sl.v145_r0 L = 1#32 := by decide +kernel
  have e91 : ∀ L, body.sl.v91_r0 L = 2#32 := by decide +kernel
  have e141 : ∀ L, body.sl.v141_r0 L = 0#32 := by decide +kernel
  rw [e127, e145, e91, e141]
  have h11 := c1_1 L
  have h21 := c2_1 L
  have h51 := c5_1 L
  have h71 := c7_1 L
  have hk11 := chk1_1 L
  have hk21 : k1_chk2 1#32 := by decide
  have hk31 : k1_chk3 1#32 := by decide
  have hin1 : ∀ (f : (aS aV 1).view.ty.Contents (Elt F)) (x : S256.Idx), ((aL aV 1).view.read (Elt F) ((aS aV 1).view.writes (Elt F) f [⟨Rect.whole S1x256, body.sl.dma0_1 d L iV idx h10 hk10⟩]) x).toNat < S8192x128.size gathers_S8192x128_S256x128.axis := by
    intro f x; rw [aL_read]; exact hidx _
  sl_exec
  have f141 : ∀ L, body.sl.v141_r0_1 L = 1#32 := by decide +kernel
  rw [f141]
  have hk52 := chk5_2 L
  have hk42 := chk4_2
  sl_exec
  sl_step
  isplitl [Hx]; · iexact Hx
  isplitl [Hi]; · iexact Hi
  isplitl [Ho0]
  · iexists _
    isplitr
    swap; · iexact Ho0
    ipureintro
    intro x y h0 h1
    sl_unfold_run_names
    rw [View.read_writes_whole]
    refine (congrFun (bS_read bV 0 fb _ (by decide) _ _ _) x).trans ?_
    exact load_gath xV iV gV aV 0 tbl idx hidx _ (off2 L) _ _ _ _ (by have := (inbO L 0 0); simpa using this) [] _ x y h0 h1
  isplitl [Ho1]
  · iexists _
    isplitr
    swap; · iexact Ho1
    ipureintro
    intro x y h0 h1
    sl_unfold_run_names
    rw [View.read_writes_whole]
    refine (congrFun (bS_read bV 1 fb' _ (by decide) _ _ _) x).trans ?_
    exact load_gath xV iV gV aV 1 tbl idx hidx _ (off5_0 L) _ _ _ _ (by have := (inbO L 1 0); simpa using this) _ _ x y h0 h1
  isplitl [Hg]; · iexists _; iexact Hg
  isplitl [Ha0]; · iexists _; iexact Ha0
  isplitl [Ha1]; · iexists _; iexact Ha1
  isplitl [Hb0]; · iexists _; iexact Hb0
  isplitl [Hb1]; · iexists _; iexact Hb1
  isplitl [H50]; · iexact H50
  isplitl [H51]; · iexact H51
  isplitl [H60]; · iexact H60
  isplitl [H61]; · iexact H61
  isplitl [H7]; · iexact H7
  iexists _; isplitr
  swap; · iexact HO
  ipureintro; intro p hp
  simp only [Finset.mem_insert] at hp
  rcases hp with h | h | h | h | h | h | h
  iterate 6 exact .inr (h ▸ rfl)
  exact .inl h
end Tile
end Cert.Proof.Gather.Tile
-- ==== Proof.Gather.Task.lean ====
module

public import proofs.«01_k».proof.Proof.Gather.Tile
public import proofs.«01_k».proof.Proof.Gen.GatherIdeal.Launch

@[expose] public section

noncomputable section

namespace Cert.Proof.Gather.Task

open Cert.GatherIdeal Cert.GatherIdeal.Gen Cert.Proof.Gather.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- The second call's kernel is the first's. -/
theorem kernel2_eq [FloatOps F] : cc2_gather_kernel (F := F) = cc1_gather_kernel (F := F) := rfl

/-! ## A view's elements, cut by a family of rectangles -/

section Cut
variable {I : Type} [Fintype I]

theorem sets_disjoint {κ : Kind} {sp : Space} {s : Shape} {e : EltTy} (v : View sig κ sp s e) (R : I → Rect s)
    (hd : ∀ i j, i ≠ j → Disjoint (R i).set (R j).set) :
    ∀ i ∈ (Finset.univ : Finset I), ∀ j ∈ (Finset.univ : Finset I), i ≠ j → Disjoint ((v.slice (R i)).set) ((v.slice (R j)).set) := by
  intro i _ j _ h
  rw [View.set_slice, View.set_slice]
  exact (Finset.disjoint_map _).2 (hd i j h)

theorem sets_cover {κ : Kind} {sp : Space} {s : Shape} {e : EltTy} (v : View sig κ sp s e) (R : I → Rect s)
    (hc : ∀ x : s.Idx, ∃ i, x ∈ (R i).set) :
    (Finset.univ : Finset I).biUnion (fun i => (v.slice (R i)).set) = v.set := by
  ext x
  simp only [Finset.mem_biUnion, Finset.mem_univ, true_and]
  constructor
  · rintro ⟨i, h⟩; exact v.set_slice_subset (R i) h
  · intro h
    obtain ⟨y, -, rfl⟩ := Finset.mem_map.1 h
    obtain ⟨i, hi⟩ := hc y
    exact ⟨i, by rw [View.set_slice]; exact Finset.mem_map_of_mem _ hi⟩

variable (th : Thread nD τ) {sp : Space} {s : Shape} {e : EltTy} (v : View sig th.2.kind sp s e) (R : I → Rect s)

/-- A view's elements held are its rectangles' held one by one. -/
theorem pts_cut (hd : ∀ i j, i ≠ j → Disjoint (R i).set (R j).set) (hc : ∀ x : s.Idx, ∃ i, x ∈ (R i).set)
    (q : PosShare TreeShare) (f : Buf (Elt F) (v.loc th)) :
    (v.loc th ↦[v.set]{q} f : sProp 𝕄) = bigSep Finset.univ fun i => v.loc th ↦[(v.slice (R i)).set]{q} f := by
  rw [← pointsTo_biUnion Finset.univ (ℓ := v.loc th) (fun i => (v.slice (R i)).set) (sets_disjoint v R hd)]
  exact congrArg (fun S => (v.loc th ↦[S]{q} f : sProp 𝕄)) (sets_cover v R hc).symm

/-- Its rectangles held at contents of their own are the view's elements held at some contents. -/
theorem pts_join [∀ e, Nonempty (Elt F e)] (hd : ∀ i j, i ≠ j → Disjoint (R i).set (R j).set) (hc : ∀ x : s.Idx, ∃ i, x ∈ (R i).set)
    (q : PosShare TreeShare) :
    (bigSep Finset.univ fun i => iprop(∃ f : Buf (Elt F) (v.loc th), v.loc th ↦[(v.slice (R i)).set]{q} f))
      ⊢ (iprop(∃ f : Buf (Elt F) (v.loc th), v.loc th ↦[v.set]{q} f) : sProp 𝕄) := by
  have hne : Nonempty (Buf (Elt F) (v.loc th)) := ⟨fun _ => Classical.arbitrary _⟩
  classical
  refine (bigSep_exists_pi Finset.univ (fun i (f : Buf (Elt F) (v.loc th)) => (v.loc th ↦[(v.slice (R i)).set]{q} f : sProp 𝕄))).trans ?_
  iintro ⟨%fs, H⟩
  ihave H' := (pointsTo_biUnion_join (ℓ := v.loc th) (q := q) (Val := Elt F) Finset.univ (fun i => (v.slice (R i)).set) fs hne.some (sets_disjoint v R hd)) $$ H
  icases H' with ⟨%g, -, Hg⟩
  iexists g
  rw [show (Finset.univ : Finset I).biUnion (fun i => (v.slice (R i)).set) = v.set from sets_cover v R hc]
  iexact Hg
end Cut

/-! ## The two halves of a ring, the blocks of the output -/

abbrev rA (s : Fin 2) : Rect S2x1x256 := Rect.unit (s := S2x1x256) ![s.val, 0, 0] S1x1x256.size (inbA s)
abbrev rB (s : Fin 2) : Rect S2x256x64 := Rect.unit (s := S2x256x64) ![s.val, 0, 0] S1x256x64.size (inbB s)
abbrev rO (L : grid1.Coords) (s : Fin 2) : Rect S16384x64 :=
  Rect.unit (s := S16384x64) ![512 * (L 1).val + 8192 * (L 0).val + 256 * s.val, 0] S256x64.size (inbO L s)

theorem mem_rA (s : Fin 2) (y : S2x1x256.Idx) : y ∈ (rA s).set ↔ (y 0).val = s.val := by
  rw [LoadRect.mem_set]
  constructor
  · intro H
    obtain ⟨j, hj, e⟩ := H 0
    change j < 1 at hj; change (y 0).val = s.val + 1 * j at e
    omega
  · intro h a
    match a with
    | 0 => exact ⟨0, Nat.one_pos, by show (y 0).val = s.val + 1 * 0; omega⟩
    | 1 => exact ⟨(y 1).val, (y 1).isLt, by show (y 1).val = 0 + 1 * _; omega⟩
    | 2 => exact ⟨(y 2).val, (y 2).isLt, by show (y 2).val = 0 + 1 * _; omega⟩

theorem mem_rB (s : Fin 2) (y : S2x256x64.Idx) : y ∈ (rB s).set ↔ (y 0).val = s.val := by
  rw [LoadRect.mem_set]
  constructor
  · intro H
    obtain ⟨j, hj, e⟩ := H 0
    change j < 1 at hj; change (y 0).val = s.val + 1 * j at e
    omega
  · intro h a
    match a with
    | 0 => exact ⟨0, Nat.one_pos, by show (y 0).val = s.val + 1 * 0; omega⟩
    | 1 => exact ⟨(y 1).val, (y 1).isLt, by show (y 1).val = 0 + 1 * _; omega⟩
    | 2 => exact ⟨(y 2).val, (y 2).isLt, by show (y 2).val = 0 + 1 * _; omega⟩

theorem mem_rO (L : grid1.Coords) (s : Fin 2) (y : S16384x64.Idx) :
    y ∈ (rO L s).set ↔ 512 * (L 1).val + 8192 * (L 0).val + 256 * s.val ≤ (y 0).val
      ∧ (y 0).val < 512 * (L 1).val + 8192 * (L 0).val + 256 * s.val + 256 := by
  rw [LoadRect.mem_set]
  constructor
  · intro H
    obtain ⟨j, hj, e⟩ := H 0
    change j < 256 at hj; change (y 0).val = (512 * (L 1).val + 8192 * (L 0).val + 256 * s.val) + 1 * j at e
    omega
  · rintro ⟨h0, h1⟩ a
    match a with
    | 0 => exact ⟨(y 0).val - (512 * (L 1).val + 8192 * (L 0).val + 256 * s.val), by show _ < 256; omega,
        by show (y 0).val = (512 * (L 1).val + 8192 * (L 0).val + 256 * s.val) + 1 * _; omega⟩
    | 1 => exact ⟨(y 1).val, (y 1).isLt, by show (y 1).val = 0 + 1 * _; omega⟩

theorem rA_disjoint (i j : Fin 2) (h : i ≠ j) : Disjoint (rA i).set (rA j).set :=
  Finset.disjoint_left.2 fun y hi hj => h (Fin.ext (((mem_rA i y).1 hi).symm.trans ((mem_rA j y).1 hj)))
theorem rB_disjoint (i j : Fin 2) (h : i ≠ j) : Disjoint (rB i).set (rB j).set :=
  Finset.disjoint_left.2 fun y hi hj => h (Fin.ext (((mem_rB i y).1 hi).symm.trans ((mem_rB j y).1 hj)))
theorem rA_cover (y : S2x1x256.Idx) : ∃ i, y ∈ (rA i).set := ⟨y 0, (mem_rA _ _).2 rfl⟩
theorem rB_cover (y : S2x256x64.Idx) : ∃ i, y ∈ (rB i).set := ⟨y 0, (mem_rB _ _).2 rfl⟩

/-- The tile at core `c` and subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- Every block of the output: by core, subcore and half. -/
abbrev rAll (x : Fin 2 × Fin 16 × Fin 2) : Rect S16384x64 := rO (coordsV x.1 x.2.1) x.2.2

theorem rAll_disjoint (i j : Fin 2 × Fin 16 × Fin 2) (h : i ≠ j) : Disjoint (rAll i).set (rAll j).set :=
  Finset.disjoint_left.2 fun y hi hj => h (by
    obtain ⟨a, b, c⟩ := i; obtain ⟨a', b', c'⟩ := j
    have h1 := (mem_rO _ _ y).1 hi
    have h2 := (mem_rO _ _ y).1 hj
    change 512 * b.val + 8192 * a.val + 256 * c.val ≤ (y 0).val ∧ (y 0).val < 512 * b.val + 8192 * a.val + 256 * c.val + 256 at h1
    change 512 * b'.val + 8192 * a'.val + 256 * c'.val ≤ (y 0).val ∧ (y 0).val < 512 * b'.val + 8192 * a'.val + 256 * c'.val + 256 at h2
    have := a.isLt; have := b.isLt; have := c.isLt; have := a'.isLt; have := b'.isLt; have := c'.isLt
    have e0 : a.val = a'.val := by omega
    have e1 : b.val = b'.val := by omega
    have e2 : c.val = c'.val := by omega
    rw [Fin.ext e0, Fin.ext e1, Fin.ext e2])

theorem rAll_cover (y : S16384x64.Idx) : ∃ i, y ∈ (rAll i).set := by
  have hy : (y 0).val < 16384 := (y 0).isLt
  refine ⟨(⟨(y 0).val / 8192, by omega⟩, ⟨(y 0).val % 8192 / 512, by omega⟩, ⟨(y 0).val % 512 / 256, by omega⟩), (mem_rO _ _ y).2 ?_⟩
  show 512 * ((y 0).val % 8192 / 512) + 8192 * ((y 0).val / 8192) + 256 * ((y 0).val % 512 / 256) ≤ (y 0).val
    ∧ (y 0).val < 512 * ((y 0).val % 8192 / 512) + 8192 * ((y 0).val / 8192) + 256 * ((y 0).val % 512 / 256) + 256
  omega

/-! ## One tile's task, from whole buffers -/

variable [FloatOps F] (d : Dev nD) (L : grid1.Coords)

variable (xV : Memref sig .scVector .hbm S8192x128 .f32) (hx : xV.IsWhole)
  (iV : Memref sig .scVector .hbm S1x16384 .i32) (hi : iV.IsWhole)
  (oV : Memref sig .scVector .hbm S16384x64 .f32) (ho : oV.IsWhole)
  (gV : Memref sig .scVector .vmem S256x128 .f32) (hg : gV.IsWhole)
  (aV : Memref sig .scVector .vmem S2x1x256 .i32) (ha : aV.IsWhole)
  (bV : Memref sig .scVector .vmem S2x256x64 .f32) (hb : bV.IsWhole)
  (s5 s6 : DmaSems sig S2) (s7 : DmaSems sig S_)

theorem set_aS (s : Fin 2) : (aS aV s).view.set = (aV.view.slice (rA s)).set := View.set_reshape _ _
theorem set_bS (s : Fin 2) : (bS bV s).view.set = (bV.view.slice (rB s)).set := View.set_reshape _ _

/-- A block that holds the gathered rows agrees with any contents of the output that are the gathered rows. -/
theorem agree (tbl : xV.view.ty.Contents (Elt F)) (idx : iV.view.ty.Contents (Elt F)) (G : oV.view.ty.Contents (Elt F))
    (hG : ∀ y, oV.view.read (Elt F) G y = gath (xV.view.read (Elt F) tbl) (iV.view.read (Elt F) idx) y)
    (s : Fin 2) (f : oV.view.ty.Contents (Elt F)) (hf : Holds L xV iV oV tbl idx s f) : ∀ i ∈ (oB oV L s).view.set, f i = G i := by
  intro i hi
  obtain ⟨x, -, rfl⟩ := Finset.mem_map.1 hi
  have h1 := hf x ((rO L s).idx x) (by show _ + 1 * (x 0).val = _; rw [Nat.one_mul]; rfl) (by show 0 + 1 * (x 1).val = _; omega)
  rw [← hG] at h1
  exact (Equiv.cast (congrArg (Elt F) oV.view.elt_eq)).injective h1

theorem task (O : CellTallies nD τ sig (HIx 2)) (W : Waits sig (HIx 2))
    (q q' : PosShare TreeShare) (tbl : Buf (Elt F) (xV.view.loc (thr d L))) (idx : Buf (Elt F) (iV.view.loc (thr d L)))
    (hidx : ∀ x, (iV.view.read (Elt F) idx x).toNat < 8192)
    (fo G : Buf (Elt F) (oV.view.loc (thr d L)))
    (hG : ∀ y, oV.view.read (Elt F) G y = gath (xV.view.read (Elt F) tbl) (iV.view.read (Elt F) idx) y) :
    (iprop(Transfers.MayWaits (thr d L) (default : HIx 2) O
        ∗ ((xV.view.loc (thr d L) ↦{q} tbl) ∗ (iV.view.loc (thr d L) ↦{q'} idx)
          ∗ (oV.view.loc (thr d L) ↦[(oB oV L 0).view.set]{fullShare} fo) ∗ (oV.view.loc (thr d L) ↦[(oB oV L 1).view.set]{fullShare} fo))
        ∗ ((∃ f, gV.view.loc (thr d L) ↦{fullShare} f) ∗ (∃ f, aV.view.loc (thr d L) ↦{fullShare} f) ∗ (∃ f, bV.view.loc (thr d L) ↦{fullShare} f))
        ∗ (semVal (thr d L, .dma (sem0 s5).sem) 0 ∗ semVal (thr d L, .dma (sem1 s5).sem) 0
          ∗ semVal (thr d L, .dma (sem0 s6).sem) 0 ∗ semVal (thr d L, .dma (sem1 s6).sem) 0 ∗ semVal (thr d L, .dma s7.sem) 0)
        ∗ owes (thr d L) O W) : sProp 𝕄)
      ⊢ wp frame (wpE (defs₀ (F := F)) Variants.none (thr d L) none) Set.univ
          (cc1_gather_kernel L xV hx iV hi oV ho gV hg aV ha s5 bV hb s6 s7)
          fun _ => iprop(((xV.view.loc (thr d L) ↦{q} tbl) ∗ (iV.view.loc (thr d L) ↦{q'} idx)
              ∗ (oV.view.loc (thr d L) ↦[(oB oV L 0).view.set]{fullShare} G) ∗ (oV.view.loc (thr d L) ↦[(oB oV L 1).view.set]{fullShare} G))
            ∗ ((∃ f, gV.view.loc (thr d L) ↦{fullShare} f) ∗ (∃ f, aV.view.loc (thr d L) ↦{fullShare} f) ∗ (∃ f, bV.view.loc (thr d L) ↦{fullShare} f))
            ∗ (semVal (thr d L, .dma (sem0 s5).sem) 0 ∗ semVal (thr d L, .dma (sem1 s5).sem) 0
              ∗ semVal (thr d L, .dma (sem0 s6).sem) 0 ∗ semVal (thr d L, .dma (sem1 s6).sem) 0 ∗ semVal (thr d L, .dma s7.sem) 0)
            ∗ ∃ W', ⌜∀ p ∈ W', p ∈ W ∨ p.2 = default⌝ ∗ owes (thr d L) O W') := by
  have hne : ∀ e, Nonempty (Elt F e) := inferInstance
  have eA : ∀ f, (aV.view.loc (thr d L) ↦{fullShare} f : sProp 𝕄) = iprop((aV.view.loc (thr d L) ↦[(aS aV 0).view.set]{fullShare} f) ∗ aV.view.loc (thr d L) ↦[(aS aV 1).view.set]{fullShare} f) := fun f => by
    rw [set_aS, set_aS, ← ha.set_eq_univ]
    exact (pts_cut (thr d L) aV.view rA rA_disjoint rA_cover fullShare f).trans (BI.bigSep_fin_two _)
  have eB : ∀ f, (bV.view.loc (thr d L) ↦{fullShare} f : sProp 𝕄) = iprop((bV.view.loc (thr d L) ↦[(bS bV 0).view.set]{fullShare} f) ∗ bV.view.loc (thr d L) ↦[(bS bV 1).view.set]{fullShare} f) := fun f => by
    rw [set_bS, set_bS, ← hb.set_eq_univ]
    exact (pts_cut (thr d L) bV.view rB rB_disjoint rB_cover fullShare f).trans (BI.bigSep_fin_two _)
  have jA : iprop((∃ f : Buf (Elt F) (aV.view.loc (thr d L)), aV.view.loc (thr d L) ↦[(aS aV 0).view.set]{fullShare} f) ∗ ∃ f : Buf (Elt F) (aV.view.loc (thr d L)), aV.view.loc (thr d L) ↦[(aS aV 1).view.set]{fullShare} f)
      ⊢ (iprop(∃ f, aV.view.loc (thr d L) ↦{fullShare} f) : sProp 𝕄) := by
    rw [set_aS, set_aS, ← ha.set_eq_univ]
    exact (Entails.of_eq (BI.bigSep_fin_two _).symm).trans (pts_join (thr d L) aV.view rA rA_disjoint rA_cover fullShare)
  have jB : iprop((∃ f : Buf (Elt F) (bV.view.loc (thr d L)), bV.view.loc (thr d L) ↦[(bS bV 0).view.set]{fullShare} f) ∗ ∃ f : Buf (Elt F) (bV.view.loc (thr d L)), bV.view.loc (thr d L) ↦[(bS bV 1).view.set]{fullShare} f)
      ⊢ (iprop(∃ f, bV.view.loc (thr d L) ↦{fullShare} f) : sProp 𝕄) := by
    rw [set_bS, set_bS, ← hb.set_eq_univ]
    exact (Entails.of_eq (BI.bigSep_fin_two _).symm).trans (pts_join (thr d L) bV.view rB rB_disjoint rB_cover fullShare)
  iintro ⟨#Hmw, ⟨Hx, Hi, Ho0, Ho1⟩, ⟨⟨%fg, Hg⟩, ⟨%fa, Ha⟩, ⟨%fb, Hb⟩⟩, ⟨H50, H51, H60, H61, H7⟩, HO⟩
  ihave Ha' := (Entails.of_eq (eA fa)) $$ Ha
  ihave Hb' := (Entails.of_eq (eB fb)) $$ Hb
  icases Ha' with ⟨Ha0, Ha1⟩
  icases Hb' with ⟨Hb0, Hb1⟩
  iapply (wp_wand frame _ _) $$ [Hx Hi Ho0 Ho1 Hg Ha0 Ha1 Hb0 Hb1 H50 H51 H60 H61 H7 HO]
  · iapply (body d L xV hx iV hi oV ho gV hg aV ha bV hb s5 s6 s7 O W q q' tbl idx hidx fo fo fg fa fa fb fb)
    isplitr; · iexact Hmw
    rw [hx.set_eq_univ, hi.set_eq_univ, hg.set_eq_univ]
    isplitl [Hx]; · iexact Hx
    isplitl [Hi]; · iexact Hi
    isplitl [Ho0]; · iexact Ho0
    isplitl [Ho1]; · iexact Ho1
    isplitl [Hg]; · iexact Hg
    isplitl [Ha0]; · iexact Ha0
    isplitl [Ha1]; · iexact Ha1
    isplitl [Hb0]; · iexact Hb0
    isplitl [Hb1]; · iexact Hb1
    isplitl [H50]; · iexact H50
    isplitl [H51]; · iexact H51
    isplitl [H60]; · iexact H60
    isplitl [H61]; · iexact H61
    isplitl [H7]; · iexact H7
    iexact HO
  iintro %u ⟨Hx, Hi, ⟨%f0, %hf0, Ho0⟩, ⟨%f1, %hf1, Ho1⟩, Hg, Ha0, Ha1, Hb0, Hb1, H50, H51, H60, H61, H7, HO⟩
  rw [hx.set_eq_univ, hi.set_eq_univ, hg.set_eq_univ]
  ihave Ho0' := (show ((oB oV L 0).view.loc (thr d L) ↦[(oB oV L 0).view.set]{fullShare} f0 : sProp 𝕄) ⊢ oV.view.loc (thr d L) ↦[(oB oV L 0).view.set]{fullShare} G from
      Entails.of_eq (pointsTo_congr (ℓ := oV.view.loc (thr d L)) (q := fullShare) (agree L xV iV oV tbl idx G hG 0 f0 hf0))) $$ Ho0
  ihave Ho1' := (show ((oB oV L 1).view.loc (thr d L) ↦[(oB oV L 1).view.set]{fullShare} f1 : sProp 𝕄) ⊢ oV.view.loc (thr d L) ↦[(oB oV L 1).view.set]{fullShare} G from
      Entails.of_eq (pointsTo_congr (ℓ := oV.view.loc (thr d L)) (q := fullShare) (agree L xV iV oV tbl idx G hG 1 f1 hf1))) $$ Ho1
  isplitl [Hx Hi Ho0' Ho1']
  · isplitl [Hx]; · iexact Hx
    isplitl [Hi]; · iexact Hi
    isplitl [Ho0']; · iexact Ho0'
    iexact Ho1'
  isplitl [Hg Ha0 Ha1 Hb0 Hb1]
  · isplitl [Hg]; · iexact Hg
    isplitl [Ha0 Ha1]
    · iapply jA
      isplitl [Ha0]; · iexact Ha0
      iexact Ha1
    · iapply jB
      isplitl [Hb0]; · iexact Hb0
      iexact Hb1
  isplitl [H50 H51 H60 H61 H7]
  · isplitl [H50]; · iexact H50
    isplitl [H51]; · iexact H51
    isplitl [H60]; · iexact H60
    isplitl [H61]; · iexact H61
    iexact H7
  iexact HO

end Cert.Proof.Gather.Task
-- ==== Proof.Gather.Prep.lean ====
module

public import proofs.«01_k».proof.Proof.Gather.Task
public import proofs.«01_k».proof.Proof.Gen.GatherIdeal.Points
public import Idealize.ShloMosaic.Lib.Pipeline.RegionsLoop
public import Idealize.ShloMosaic.Lib.WritesUnit
public import Idealize.ShloMosaic.Lib.VecWindow

@[expose] public section

noncomputable section

namespace Cert.Proof.Gather.Prep

open Cert.GatherIdeal Cert.GatherIdeal.Gen Cert.Proof.Gather.Tile

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The program as the launch sees it -/

abbrev ΛP : Labels := Pipeline.Sig Λ₀ (Fin 1) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev adm : (p : Fin 1) → (pcfgs (F := F) p).Adm := fun p => (cfgs p).toPCfg_adm

/-! ## The body, run by the executor -/

/-- What the body leaves in its two results' staging buffers, with the proof that it runs so. -/
def prepRun (c : Dev nD) (M0 : Memref sig .tc .vmem S8192x64 .f32) (h0 : M0.IsWhole) (M1 : Memref sig .tc .vmem S8192x128 .f32) (h1 : M1.IsWhole)
    (M2 : Memref sig .tc .vmem S8192 .f32) (h2 : M2.IsWhole) (f0 : Bf (F := F) c M0) :
    { W : Bf (F := F) c M1 × Bf (F := F) c M2 // ∀ (f1 : Bf (F := F) c M1) (f2 : Bf (F := F) c M2) (E : Set ℕ) (Q : PUnit → sProp 𝕄),
        iprop(pt c M0 f0 ∗ pt c M1 f1 ∗ pt c M2 f2 ∗ (iprop(pt c M0 f0 ∗ pt c M1 W.1 ∗ pt c M2 W.2) -∗ Q ⟨⟩))
          ⊢ wp frame (wpE (defs₀ (F := F)) Variants.none c none) E (cc0__prep_body M0 h0 M1 h1 M2 h2) Q } := by
  refine ⟨(?_, ?_), fun f1 f2 E Q => ?run⟩
  case run =>
    iintro ⟨H0, H1, H2, Hk⟩
    sl_exec!
    sl_step
    iapply Hk
    isplitl [H0]; · iexact H0
    isplitl [H1]; · iexact H1
    iexact H2

/-- The first result reads, in its first 64 columns, as the codebook. -/
theorem prepRun_read (c : Dev nD) (M0 : Memref sig .tc .vmem S8192x64 .f32) (h0 : M0.IsWhole) (M1 : Memref sig .tc .vmem S8192x128 .f32) (h1 : M1.IsWhole)
    (M2 : Memref sig .tc .vmem S8192 .f32) (h2 : M2.IsWhole) (f0 : Bf (F := F) c M0) (y : S8192x128.Idx) (x : S8192x64.Idx)
    (e0 : (y 0).val = (x 0).val) (e1 : (y 1).val = (x 1).val) :
    M1.view.read (Elt F) (prepRun c M0 h0 M1 h1 M2 h2 f0).1.1 y = M0.view.read (Elt F) f0 x := by
  have hx : (x 1).val < 64 := (x 1).isLt
  unfold prepRun
  dsimp only
  sl_unfold_run_names
  rw [View.read_writes_cons_unit_of_not_mem M1.view _ _ _ _ y rfl 1 (Or.inl (by show (y 1).val < 64; omega))]
  refine (View.read_writes_cons_unit_of_mem M1.view _ _ _ _ y x rfl (by
      intro a
      match a with
      | 0 => show (y 0).val = 0 + (x 0).val; omega
      | 1 => show (y 1).val = 0 + (x 1).val; omega)).trans ?_
  rw [View.readAt_apply]
  exact congrArg (M0.view.read (Elt F) f0) (funext fun a => Fin.ext (by
    match a with
    | 0 => show 0 + 1 * (x 0).val = (x 0).val; omega
    | 1 => show 0 + 1 * (x 1).val = (x 1).val; omega))

/-! ## The region's proof data, at an entry valuation -/

variable (V : (c : Dev nD) → (b : Ref sig .tc) → Buf (Elt F) ((c : Thread nD τ).loc b))
variable (O : Dev nD → CellTallies nD τ sig (HIx 2)) (hO : ∀ c g, O c g none = 0) (b : ℕ)

abbrev stg (c : Dev nD) : (cfg0.win 0).block.Idx → Elt F (cfg0.win 0).elt :=
  ((cfg0.win 0).blk t0_0).view.read (Elt F) (V c main_arg0)

abbrev R0 (c : Dev nD) := prepRun (F := F) c (stage0_0 0) (hstage0_0 0) (stage0_1 0) (hstage0_1 0) (stage0_2 0) (hstage0_2 0) (stg V c)

abbrev Φc (c : Dev nD) : sProp 𝕄 := Pipeline.scopedRest (Ix := HIx 2) (Name := ℕ) (U := UU) (Lvl := ℕ) (Val := Elt F) spec0 c

def dat (c : Dev nD) : Dat τ (Elt F) (HIx 2) ℕ UU ℕ cfg0 c where
  A w := V c (Pipeline.arrRef spec0 w)
  after w _ := match w with
    | ⟨0, _⟩ => stg V c
    | ⟨1, _⟩ => (R0 V c).1.1
    | ⟨2, _⟩ => (R0 V c).1.2
  Φ _ := Φc c
  q _ := fullShare
  owed _ := O c
  recorded _ := {p | (K (F := F)).lev ((c : Thread nD τ), p.1) p.2 ≤ b}

def pdats : (p : Fin 1) → (c : Dev nD) → Dat τ (Elt F) (HIx 2) ℕ UU ℕ (Pipeline.pin (pcfgs (F := F)) adm p) c
  | ⟨0, _⟩ => fun c => dat V O b c

theorem before_in (c : Dev nD) (d : (cfg0.win 0).block.Idx → Elt F (cfg0.win 0).elt) : (dat V O b c).before 0 t0_0 d = stg V c := by
  unfold Dat.before; rw [if_pos (by decide)]; rfl

theorem body_obligation (c : Dev nD) : BodyObligation (dat V O b c) (defs₀ (F := F)) 𝒱₀ (none : HIx 2) Set.univ := fun t => by
  obtain rfl := fin_N0 t
  rw [bigSep_W0, bigSep_W0]
  simp only [owns_whole_eq]
  rw [show (dat V O b c).Φ t0_0.castSucc = Φc c from rfl, show (dat V O b c).Φ t0_0.succ = Φc c from rfl,
    show (dat V O b c).owesAt none t0_0.succ = (dat V O b c).owesAt none t0_0.castSucc from rfl]
  iintro ⟨HΦ, Howes, ⟨%d0, %f0, %hf0, H0⟩, ⟨%d1, %f1, -, H1⟩, ⟨%d2, %f2, -, H2⟩⟩
  rw [before_in] at hf0
  subst hf0
  iapply ((R0 V c).2 f1 f2 Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-! ## The region over the thread state -/

/-- The two results' arrays after the region. -/
def wide (c : Dev nD) : Buf (Elt F) ((c : Thread nD τ).loc main_v0_0) := (dat V O b c).arrAt 1 cfg0.N
def sums (c : Dev nD) : Buf (Elt F) ((c : Thread nD τ).loc main_v0_1) := (dat V O b c).arrAt 2 cfg0.N

variable (Vp : (c : Dev nD) → (b : Ref sig .tc) → Buf (Elt F) ((c : Thread nD τ).loc b))

set_option backward.isDefEq.respectTransparency.types false in
def reg (hV1 : ∀ c, Vp c main_v0_0 = wide V O b c) (hV2 : ∀ c, Vp c main_v0_1 = sums V O b c)
    (hVne : ∀ c (r : Ref sig .tc), r ≠ main_v0_0 → r ≠ main_v0_1 → Vp c r = V c r) :
    Pipeline.RegionSeg (pcfgs (F := F)) adm (pdats V O b) (none : HIx 2) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V O b c).loose
  hwaits c := Pipeline.cellsWaits_intro _ _ _ _ _ fun w s t => (K (F := F)).mayWait_none _ (hO c)
  pre c := iprop(unscopedBufs c (V c) ∗ ∃ W, ⌜(K (F := F)).WBelow (c : Thread nD τ) W b⌝ ∗ owes (c : Thread nD τ) (O c) W)
  post c := iprop(unscopedBufs c (Vp c) ∗ ∃ W, ⌜(K (F := F)).WBelow (c : Thread nD τ) W b⌝ ∗ owes (c : Thread nD τ) (O c) W)
  X _ := BI.emp
  Y _ := BI.emp
  Z c := iprop(Pipeline.unscopedRest (Ix := HIx 2) (Name := ℕ) (U := UU) (Lvl := ℕ) spec0 c (V c))
  hentry c := by
    rw [Pipeline.ownSems0_none]
    have hsplit := Pipeline.arrays_of_unscopedBufs (p := 0) (pcfgs (F := F)) adm (pdats V O b) (launch0).win (launch0).arr_whole c
      ((pdats V O b 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V O b 0 c).Φ 0 = Φc c from rfl]
    iintro ⟨-, -, Hr⟩; iexact Hr
  hout c := by
    rw [Pipeline.ownSems0_none, show (pdats V O b 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) (launch0).win (launch0).arr_whole c
      (pdats V O b) ((pdats V O b 0 c).share_full fun _ => rfl) (V c) (Vp c) ((pdats V O b 0 c).arrAt · cfg0.N)
      (fun w => by
        fin_cases w
        · exact ((pdats V O b 0 c).arrAt_in 0 rfl _).trans (hVne c main_arg0 (by decide) (by decide)).symm
        · exact (hV1 c).symm
        · exact (hV2 c).symm)
      (fun r hr => hVne c r (fun h => hr (h ▸ Finset.mem_image.mpr ⟨1, Finset.mem_univ _, rfl⟩)) (fun h => hr (h ▸ Finset.mem_image.mpr ⟨2, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW (Finset.mem_coe.mpr hp) with h | ⟨w, s, h⟩
      · exact h
      · rw [h]; exact Nat.zero_le _
    iexact HO

theorem read_wide (c : Dev nD) (f : Buf (Elt F) ((c : Thread nD τ).loc main_v0_0)) :
    ((cfg0.win 1).blk t0_0).view.read (Elt F) f = f :=
  Memref.read_access_unit_zero (Elt F) main_v0_0
    (show (fun a => (win0_1.index t0_0) a * main_v0_0.ty.shape.size a) = fun _ => 0 from
      funext fun a => by fin_cases a <;> decide) (fun a => by fin_cases a <;> decide) f

theorem read_arg (c : Dev nD) (f : Buf (Elt F) ((c : Thread nD τ).loc main_arg0)) :
    ((cfg0.win 0).blk t0_0).view.read (Elt F) f = f :=
  Memref.read_access_unit_zero (Elt F) main_arg0
    (show (fun a => (win0_0.index t0_0) a * main_arg0.ty.shape.size a) = fun _ => 0 from
      funext fun a => by fin_cases a <;> decide) (fun a => by fin_cases a <;> decide) f

theorem flushed_wide (c : Dev nD) (dt : Dat τ (Elt F) (HIx 2) ℕ UU ℕ cfg0 c) (X : S8192x128.Idx → Elt F .f32)
    (h : dt.after 1 t0_0 = X) (y : S8192x128.Idx) : dt.flushed 1 t0_0 y = X y := by
  subst h
  rfl

/-- The first result's array, in its first 64 columns, is the codebook. -/
theorem wide_apply (c : Dev nD) (y : S8192x128.Idx) (x : S8192x64.Idx) (e0 : (y 0).val = (x 0).val) (e1 : (y 1).val = (x 1).val) :
    wide V O b c y = V c main_arg0 x := by
  have hw : ((cfg0.win 1).blk t0_0).view.read (Elt F) (wide V O b c) = (dat V O b c).flushed 1 t0_0 := by
    unfold wide
    rw [show cfg0.N = t0_0.val + 1 from rfl, (dat V O b c).arrAt_succ (1 : Fin 3) t0_0, flush0_1, if_pos rfl]
    exact View.read_write_univ _ _
  rw [read_wide] at hw
  have ha : (dat V O b c).after 1 t0_0 = (R0 V c).1.1 := by dsimp only [dat]
  have h1 := congrFun hw y
  rw [h1, flushed_wide c (dat V O b c) (R0 V c).1.1 ha y]
  refine (prepRun_read c (stage0_0 0) (hstage0_0 0) (stage0_1 0) (hstage0_1 0) (stage0_2 0) (hstage0_2 0) (stg V c) y x e0 e1).trans ?_
  exact congrFun (read_arg c (V c main_arg0)) x

end Cert.Proof.Gather.Prep
-- ==== Proof.Gather.Pieces.lean ====
/-
  What one SparseCore call carries to its tasks and back: the table and the index array, each at a share, and the two
  blocks of the result that are the task's own. The tasks' pieces together are the three buffers whole.
-/
module

public import proofs.«01_k».proof.Proof.Gather.Prep
public import Idealize.ShloMosaic.Lib.StableHlo.Run
public import Idealize.ShloMosaic.Lib.Pipeline.Kit

@[expose] public section

noncomputable section

namespace Cert.Proof.Gather.Pieces

open Cert.GatherIdeal Cert.GatherIdeal.Gen Cert.Proof.Gather.Tile Cert.Proof.Gather.Task

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

/-! ## A share dealt to several readers -/

/-- Reader `i`'s part of the share `q` among `n + 1` readers: each takes half of what the ones before it left, the last
    one all of it. -/
def deal : (n : ℕ) → PosShare TreeShare → Fin (n + 1) → PosShare TreeShare
  | 0, q, _ => q
  | n + 1, q, i => Fin.cases q.left (deal n q.right) i

theorem bigSep_fin_cons {n : ℕ} (Φ : Fin (n + 1) → sProp 𝕄) :
    bigSep Finset.univ Φ = iprop(Φ 0 ∗ bigSep Finset.univ fun i : Fin n => Φ i.succ) := by
  rw [Fin.univ_succ, Finset.cons_eq_insert, SparseCore.bigSep_insert' (by simp), BI.bigSep_map]
  rfl

theorem pts_deal {ℓ : Loc nD τ sig} (A : Finset (Idx ℓ)) (f : Buf (Elt F) ℓ) :
    ∀ (n : ℕ) (q : PosShare TreeShare),
      (ℓ ↦[A]{q} f : sProp 𝕄) = bigSep Finset.univ fun i : Fin (n + 1) => ℓ ↦[A]{deal n q i} f
  | 0, q => (bigSep_univ_of_subsingleton (0 : Fin 1) (Φ := fun i : Fin 1 => (ℓ ↦[A]{deal 0 q i} f : sProp 𝕄))).symm
  | n + 1, q => by
    rw [bigSep_fin_cons, BI.Entails.antisymm (pointsTo_share (PosShare.mem_left_op_right q)).1 (pointsTo_share (PosShare.mem_left_op_right q)).2,
      pts_deal A f n q.right]
    rfl

/-- The share of what every task reads that the task on tile `k` of SparseCore `c` holds. -/
abbrev rq (c : Fin 2) (k : Fin 16) : PosShare TreeShare := deal 15 (deal 1 fullShare c) k

theorem pts_readers {ℓ : Loc nD τ sig} (f : Buf (Elt F) ℓ) :
    (ℓ ↦{fullShare} f : sProp 𝕄) = bigSep Finset.univ fun c : Fin 2 => bigSep Finset.univ fun k : Fin 16 => ℓ ↦{rq c k} f := by
  rw [pts_deal Finset.univ f 1 fullShare]
  exact bigSep_congr fun c _ => pts_deal Finset.univ f 15 _

/-! ## One task's piece -/

section Piece

variable (d : Dev nD) (t i o : DevRef τ sig) (S : Fin 2 → Fin 16 → Fin 2 → Finset (Idx ((d, o) : Loc nD τ sig)))
variable (W : Valuation τ sig (Elt F))

def piece (c : Fin 2) (k : Fin 16) : sProp 𝕄 :=
  iprop((((d, t) : Loc nD τ sig) ↦{rq c k} W t) ∗ (((d, i) : Loc nD τ sig) ↦{rq c k} W i)
    ∗ (((d, o) : Loc nD τ sig) ↦[S c k 0]{fullShare} W o) ∗ (((d, o) : Loc nD τ sig) ↦[S c k 1]{fullShare} W o))

instance piece_storable (c : Fin 2) (k : Fin 16) : BI.Storable (upEmb : UEmb _ 𝕄) (piece (F := F) d t i o S W c k) := by
  unfold piece; infer_instance

/-- The blocks make up the whole buffer. -/
def Cut : Prop := ∀ f : Buf (Elt F) ((d, o) : Loc nD τ sig), (((d, o) : Loc nD τ sig) ↦{fullShare} f : sProp 𝕄)
  = bigSep Finset.univ fun x : Fin 2 × Fin 16 × Fin 2 => ((d, o) : Loc nD τ sig) ↦[S x.1 x.2.1 x.2.2]{fullShare} f

variable (hS : Cut (F := F) d o S)

include hS in
theorem piece_all :
    (bigSep Finset.univ fun c : Fin 2 => bigSep Finset.univ fun k : Fin 16 => piece d t i o S W c k : sProp 𝕄)
      = iprop((((d, t) : Loc nD τ sig) ↦{fullShare} W t) ∗ (((d, i) : Loc nD τ sig) ↦{fullShare} W i)
          ∗ ((d, o) : Loc nD τ sig) ↦{fullShare} W o) := by
  unfold piece
  rw [pts_readers (ℓ := ((d, t) : Loc nD τ sig)) (W t), pts_readers (ℓ := ((d, i) : Loc nD τ sig)) (W i), hS (W o)]
  have h : ∀ c k, (bigSep Finset.univ fun s : Fin 2 => (((d, o) : Loc nD τ sig) ↦[S c k s]{fullShare} W o) : sProp 𝕄)
      = iprop((((d, o) : Loc nD τ sig) ↦[S c k 0]{fullShare} W o) ∗ (((d, o) : Loc nD τ sig) ↦[S c k 1]{fullShare} W o)) :=
    fun c k => BI.bigSep_fin_two _
  simp only [bigSep_univ_prod, h, bigSep_sep']

variable (hti : t ≠ i) (hto : t ≠ o) (hio : i ≠ o)

include hS hti hto hio in
/-- Held buffers with the three among them: every task's piece and the others. -/
theorem held_pieces (X : Finset (DevRef τ sig)) (hX : {t, i, o} ⊆ X) :
    (held (T d) X W : sProp 𝕄)
      = iprop((bigSep Finset.univ fun c : Fin 2 => bigSep Finset.univ fun k : Fin 16 => piece d t i o S W c k)
          ∗ held (T d) (X \ {t, i, o}) W) := by
  rw [StableHlo.held_sub_split _ hX, piece_all d t i o S W hS]
  congr 1
  unfold StableHlo.held
  rw [SparseCore.bigSep_insert' (by simp [hti, hto]), SparseCore.bigSep_insert' (by simpa using hio), bigSep_singleton]

include hto hio in
theorem held_rest (X : Finset (DevRef τ sig)) (G : o.ty.Contents (Elt F)) :
    (held (T d) (X \ {t, i, o}) (Function.update W o G) : sProp 𝕄)
      = held (T d) (X \ {t, i, o}) W :=
  StableHlo.held_congr _ fun b hb => Function.update_of_ne (fun e => (Finset.mem_sdiff.mp hb).2 (by simp [e])) _ _

end Piece

/-! ## The blocks of a call's result -/

/-- The block of a call's result that task `(c, k)` writes from slot `s`. -/
abbrev blk1 (c : Fin 2) (k : Fin 16) (s : Fin 2) : Finset S16384x64.Idx := (oB (Memref.whole main_v3_scv) (coordsV c k) s).view.set
abbrev blk2 (c : Fin 2) (k : Fin 16) (s : Fin 2) : Finset S16384x64.Idx := (oB (Memref.whole main_v6_scv) (coordsV c k) s).view.set

theorem cut1 (d : Dev nD) : Cut (F := F) d (Proc.devRef .tc main_v3) blk1 := fun f =>
  (congrArg (fun A => (((d, Proc.devRef .tc main_v3) : Loc nD τ sig) ↦[A]{fullShare} f : sProp 𝕄))
      (View.set_whole (main_v3_scv : Ref sig .scVector)).symm).trans
    (pts_cut (V d 0 0) (View.whole main_v3_scv) rAll rAll_disjoint rAll_cover fullShare f)
theorem cut2 (d : Dev nD) : Cut (F := F) d (Proc.devRef .tc main_v6) blk2 := fun f =>
  (congrArg (fun A => (((d, Proc.devRef .tc main_v6) : Loc nD τ sig) ↦[A]{fullShare} f : sProp 𝕄))
      (View.set_whole (main_v6_scv : Ref sig .scVector)).symm).trans
    (pts_cut (V d 0 0) (View.whole main_v6_scv) rAll rAll_disjoint rAll_cover fullShare f)

end Cert.Proof.Gather.Pieces

end
-- ==== Proof.Gather.Obl.lean ====
/-
  The two SparseCore calls' obligations: what each call carries, and every task of either call run from its piece of the
  table, the index array and the result, and from its own scratch.
-/
module

public import proofs.«01_k».proof.Proof.Gather.Pieces
public import Idealize.ShloMosaic.Lib.SparseCore.Quiescent

@[expose] public section

noncomputable section

namespace Cert.Proof.Gather.Obl

open Cert.GatherIdeal Cert.GatherIdeal.Gen Cert.Proof.Gather.Tile Cert.Proof.Gather.Task Cert.Proof.Gather.Prep Cert.Proof.Gather.Pieces

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

abbrev 𝒱 : Variants := 𝒱₀.lift
abbrev v₀ : 𝒱.V := Sum.inl none

/-! ## A tile's own scratch -/

section Own
variable (d : Dev nD) (c : Fin τ.nSC) (k : Fin τ.nSub)

/-- Three buffers of the tile's own, at some contents, out of all of them. -/
theorem own_three (r1 r2 r3 : Ref sig .scVector)
    (h1 : ((Proc.scVector c k).devRef r1).owner = .proc (.scVector c k)) (h2 : ((Proc.scVector c k).devRef r2).owner = .proc (.scVector c k))
    (h3 : ((Proc.scVector c k).devRef r3).owner = .proc (.scVector c k)) (n12 : r2 ≠ r1) (n13 : r3 ≠ r1) (n23 : r3 ≠ r2) :
    ∃ R : sProp 𝕄, (ownBufs (V d c k) : sProp 𝕄)
      = iprop((∃ f, (V d c k).loc r1 ↦{fullShare} f) ∗ (∃ f, (V d c k).loc r2 ↦{fullShare} f) ∗ (∃ f, (V d c k).loc r3 ↦{fullShare} f) ∗ R) := by
  refine ⟨bigSep ((((ownRefs (τ := τ) (.scVector c k)).erase ((Proc.scVector c k).devRef r1)).erase ((Proc.scVector c k).devRef r2)).erase
    ((Proc.scVector c k).devRef r3)) fun b => iprop(∃ f, ((d, b) : Loc nD τ sig) ↦{fullShare} f), ?_⟩
  have inj : ∀ {x y : Ref sig .scVector}, x ≠ y → (Proc.scVector c k : Proc τ).devRef x ≠ (Proc.scVector c k : Proc τ).devRef y :=
    fun h e => h (Proc.devRef_injective _ e)
  unfold SparseCore.Cfg.ownBufs
  refine (SparseCore.bigSep_erase' (SparseCore.Cfg.mem_ownRefs_of_owner h1)).trans ?_
  rw [SparseCore.bigSep_erase' (Finset.mem_erase.mpr ⟨inj n12, SparseCore.Cfg.mem_ownRefs_of_owner h2⟩),
    SparseCore.bigSep_erase' (Finset.mem_erase.mpr ⟨inj n23, Finset.mem_erase.mpr ⟨inj n13, SparseCore.Cfg.mem_ownRefs_of_owner h3⟩⟩)]

/-- Five semaphores of the tile's own, at zero, out of all of them. -/
theorem own_five (s : Fin 5 → SemLoc sig) (hs : ∀ i, (s i).isScoped .scVector = true) (hi : ∀ i j, i ≠ j → s i ≠ s j) :
    ∃ R : sProp 𝕄, (ownSems0 (V d c k) : sProp 𝕄)
      = iprop(semVal (V d c k, s 0) 0 ∗ semVal (V d c k, s 1) 0 ∗ semVal (V d c k, s 2) 0 ∗ semVal (V d c k, s 3) 0 ∗ semVal (V d c k, s 4) 0 ∗ R) := by
  have hm : ∀ i, ((V d c k, s i) : GSem nD τ sig) ∈ ownCells (V d c k) := fun i => mem_ownCells.mpr ⟨rfl, hs i⟩
  have ne : ∀ i j, i ≠ j → ((V d c k, s i) : GSem nD τ sig) ≠ (V d c k, s j) := fun i j h e => hi i j h (congrArg Prod.snd e)
  refine ⟨bigSep ((((((ownCells (V d c k)).erase (V d c k, s 0)).erase (V d c k, s 1)).erase (V d c k, s 2)).erase (V d c k, s 3)).erase (V d c k, s 4))
    fun g => semVal g 0, ?_⟩
  unfold SparseCore.Cfg.ownSems0
  rw [SparseCore.bigSep_erase' (hm 0),
    SparseCore.bigSep_erase' (i := ((V d c k, s 1) : GSem nD τ sig)) (Finset.mem_erase.mpr ⟨ne 1 0 (by decide), hm 1⟩),
    SparseCore.bigSep_erase' (i := ((V d c k, s 2) : GSem nD τ sig)) (Finset.mem_erase.mpr ⟨ne 2 1 (by decide), Finset.mem_erase.mpr ⟨ne 2 0 (by decide), hm 2⟩⟩),
    SparseCore.bigSep_erase' (i := ((V d c k, s 3) : GSem nD τ sig)) (Finset.mem_erase.mpr ⟨ne 3 2 (by decide), Finset.mem_erase.mpr ⟨ne 3 1 (by decide),
      Finset.mem_erase.mpr ⟨ne 3 0 (by decide), hm 3⟩⟩⟩),
    SparseCore.bigSep_erase' (i := ((V d c k, s 4) : GSem nD τ sig)) (Finset.mem_erase.mpr ⟨ne 4 3 (by decide), Finset.mem_erase.mpr ⟨ne 4 2 (by decide),
      Finset.mem_erase.mpr ⟨ne 4 1 (by decide), Finset.mem_erase.mpr ⟨ne 4 0 (by decide), hm 4⟩⟩⟩⟩)]

end Own

variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the calls carry -/

abbrev tD : DevRef τ sig := Proc.devRef .tc main_v0_0
abbrev i1D : DevRef τ sig := Proc.devRef .tc main_v2
abbrev o1D : DevRef τ sig := Proc.devRef .tc main_v3
abbrev i2D : DevRef τ sig := Proc.devRef .tc main_v5
abbrev o2D : DevRef τ sig := Proc.devRef .tc main_v6

-- the buffers before and after each call
variable (A1 B1 A2 B2 : Dev nD → Valuation τ sig (Elt F))

/-- Each call takes every task's piece and brings it back with the task's blocks written. -/
def P : (K (F := F)).Pay (nD := nD) (Val := Elt F) (Name := ℕ) (U := UU) where
  st := fun q d c => match q with
    | 0 => bigSep Finset.univ fun k : Fin 16 => piece d tD i1D o1D blk1 (A1 d) c k
    | 1 => bigSep Finset.univ fun k : Fin 16 => piece d tD i2D o2D blk2 (A2 d) c k
  dn := fun q d c => match q with
    | 0 => bigSep Finset.univ fun k : Fin 16 => piece d tD i1D o1D blk1 (B1 d) c k
    | 1 => bigSep Finset.univ fun k : Fin 16 => piece d tD i2D o2D blk2 (B2 d) c k
  go := fun q d c k => match q with
    | 0 => piece d tD i1D o1D blk1 (A1 d) c k
    | 1 => piece d tD i2D o2D blk2 (A2 d) c k
  td := fun q d c k => match q with
    | 0 => piece d tD i1D o1D blk1 (B1 d) c k
    | 1 => piece d tD i2D o2D blk2 (B2 d) c k
  x := fun _ _ => iprop(emp)

instance P_storable : (P (F := F) A1 B1 A2 B2).IsStorable where
  st q d c := match q with
    | 0 => (inferInstance : BI.Storable (upEmb : UEmb _ 𝕄) (bigSep Finset.univ fun k : Fin 16 => piece d tD i1D o1D blk1 (A1 d) c k))
    | 1 => (inferInstance : BI.Storable (upEmb : UEmb _ 𝕄) (bigSep Finset.univ fun k : Fin 16 => piece d tD i2D o2D blk2 (A2 d) c k))
  dn q d c := match q with
    | 0 => (inferInstance : BI.Storable (upEmb : UEmb _ 𝕄) (bigSep Finset.univ fun k : Fin 16 => piece d tD i1D o1D blk1 (B1 d) c k))
    | 1 => (inferInstance : BI.Storable (upEmb : UEmb _ 𝕄) (bigSep Finset.univ fun k : Fin 16 => piece d tD i2D o2D blk2 (B2 d) c k))
  go q d c k := match q with
    | 0 => piece_storable d tD i1D o1D blk1 (A1 d) c k
    | 1 => piece_storable d tD i2D o2D blk2 (A2 d) c k
  td q d c k := match q with
    | 0 => piece_storable d tD i1D o1D blk1 (B1 d) c k
    | 1 => piece_storable d tD i2D o2D blk2 (B2 d) c k

theorem split1 : (K (F := F)).VecSplit' (P A1 B1 A2 B2) 0 := by
  intro d c
  show (bigSep Finset.univ fun k : Fin 16 => piece d tD i1D o1D blk1 (A1 d) c k) ⊢ |={Set.univ}=> iprop(
    (bigSep Finset.univ fun k : Fin 16 => piece d tD i1D o1D blk1 (A1 d) c k)
    ∗ ((bigSep Finset.univ fun k : Fin 16 => piece d tD i1D o1D blk1 (B1 d) c k) -∗ (bigSep Finset.univ fun k : Fin 16 => piece d tD i1D o1D blk1 (B1 d) c k)))
  iintro H; imodintro
  isplitl [H]; · iexact H
  iintro H; iexact H

theorem split2 : (K (F := F)).VecSplit' (P A1 B1 A2 B2) 1 := by
  intro d c
  show (bigSep Finset.univ fun k : Fin 16 => piece d tD i2D o2D blk2 (A2 d) c k) ⊢ |={Set.univ}=> iprop(
    (bigSep Finset.univ fun k : Fin 16 => piece d tD i2D o2D blk2 (A2 d) c k)
    ∗ ((bigSep Finset.univ fun k : Fin 16 => piece d tD i2D o2D blk2 (B2 d) c k) -∗ (bigSep Finset.univ fun k : Fin 16 => piece d tD i2D o2D blk2 (B2 d) c k)))
  iintro H; imodintro
  isplitl [H]; · iexact H
  iintro H; iexact H

/-! ## One task -/

section One
variable (d : Dev nD) (L : grid1.Coords)
variable (xV : Memref sig .scVector .hbm S8192x128 .f32) (hx : xV.IsWhole)
  (iV : Memref sig .scVector .hbm S1x16384 .i32) (hi : iV.IsWhole)
  (oV : Memref sig .scVector .hbm S16384x64 .f32) (ho : oV.IsWhole)
  (gV : Memref sig .scVector .vmem S256x128 .f32) (hg : gV.IsWhole)
  (aV : Memref sig .scVector .vmem S2x1x256 .i32) (ha : aV.IsWhole)
  (bV : Memref sig .scVector .vmem S2x256x64 .f32) (hb : bV.IsWhole)
  (s5 s6 : DmaSems sig S2) (s7 : DmaSems sig S_)

/-- A task from the level facts, its operands and the tile's own storage. -/
theorem one (RB RS : sProp 𝕄)
    (hB : (ownBufs (thr d L) : sProp 𝕄) = iprop((∃ f, gV.view.loc (thr d L) ↦{fullShare} f) ∗ (∃ f, aV.view.loc (thr d L) ↦{fullShare} f)
      ∗ (∃ f, bV.view.loc (thr d L) ↦{fullShare} f) ∗ RB))
    (hS : (ownSems0 (thr d L) : sProp 𝕄) = iprop(semVal (thr d L, .dma (sem0 s5).sem) 0 ∗ semVal (thr d L, .dma (sem1 s5).sem) 0
          ∗ semVal (thr d L, .dma (sem0 s6).sem) 0 ∗ semVal (thr d L, .dma (sem1 s6).sem) 0 ∗ semVal (thr d L, .dma s7.sem) 0 ∗ RS))
    (O : CellTallies nD τ sig (HIx 2)) (W : Waits sig (HIx 2)) (hO : ∀ g, O g none = 0)
    (q q' : PosShare TreeShare) (tbl : Buf (Elt F) (xV.view.loc (thr d L))) (idx : Buf (Elt F) (iV.view.loc (thr d L)))
    (hidx : ∀ x, (iV.view.read (Elt F) idx x).toNat < 8192)
    (fo G : Buf (Elt F) (oV.view.loc (thr d L)))
    (hG : ∀ y, oV.view.read (Elt F) G y = gath (xV.view.read (Elt F) tbl) (iV.view.read (Elt F) idx) y) :
    (iprop(levAts (K (F := F)).L (K (F := F)).lev ∗ emp
        ∗ ((xV.view.loc (thr d L) ↦{q} tbl) ∗ (iV.view.loc (thr d L) ↦{q'} idx)
          ∗ (oV.view.loc (thr d L) ↦[(oB oV L 0).view.set]{fullShare} fo) ∗ (oV.view.loc (thr d L) ↦[(oB oV L 1).view.set]{fullShare} fo))
        ∗ scopedBufs (thr d L) ∗ scopedSems0 (thr d L) ∗ owes (thr d L) O W) : sProp 𝕄)
      ⊢ wp frame (wpE (defs₀ (F := F)) 𝒱₀ (thr d L) none) Set.univ
          (cc1_gather_kernel L xV hx iV hi oV ho gV hg aV ha s5 bV hb s6 s7)
          fun _ => iprop(((xV.view.loc (thr d L) ↦{q} tbl) ∗ (iV.view.loc (thr d L) ↦{q'} idx)
              ∗ (oV.view.loc (thr d L) ↦[(oB oV L 0).view.set]{fullShare} G) ∗ (oV.view.loc (thr d L) ↦[(oB oV L 1).view.set]{fullShare} G))
            ∗ scopedBufs (thr d L) ∗ scopedSems0 (thr d L)
            ∗ ∃ W', ⌜∀ p ∈ W', p ∈ W ∨ p.2 = none⌝ ∗ owes (thr d L) O W') := by
  rw [(K (F := F)).scopedBufs_V facts d ((L 0).castLE hcore1) ((L 1).castLE hsub1),
    SparseCore.Cfg.scopedSems0_V (Val := Elt F) d ((L 0).castLE hcore1) ((L 1).castLE hsub1)]
  rw [show (ownBufs (V d ((L 0).castLE hcore1) ((L 1).castLE hsub1)) : sProp 𝕄) = _ from hB,
    show (ownSems0 (V d ((L 0).castLE hcore1) ((L 1).castLE hsub1)) : sProp 𝕄) = _ from hS]
  iintro ⟨#Hlv, -, Hp, ⟨Hg, Ha, Hb, HRB⟩, ⟨H0, H1, H2, H3, H4, HRS⟩, HO⟩
  ihave Hmw := (show levAts (K (F := F)).L (K (F := F)).lev ⊢ Transfers.MayWaits (thr d L) (default : HIx 2) O from
    (K (F := F)).mayWaits_none (thr := thr d L) hO) $$ Hlv
  iapply (wp_wand frame _ _) $$ [Hp Hg Ha Hb H0 H1 H2 H3 H4 HO Hmw]
  · iapply (task d L xV hx iV hi oV ho gV hg aV ha bV hb s5 s6 s7 O W q q' tbl idx hidx fo G hG)
    isplitl [Hmw]; · iexact Hmw
    isplitl [Hp]; · iexact Hp
    isplitl [Hg Ha Hb]
    · isplitl [Hg]; · iexact Hg
      isplitl [Ha] <;> iassumption
    isplitl [H0 H1 H2 H3 H4]
    · isplitl [H0]; · iexact H0
      isplitl [H1]; · iexact H1
      isplitl [H2]; · iexact H2
      isplitl [H3] <;> iassumption
    iexact HO
  iintro %_ ⟨Hp, ⟨Hg, Ha, Hb⟩, ⟨H0, H1, H2, H3, H4⟩, HO⟩
  isplitl [Hp]; · iexact Hp
  isplitl [Hg Ha Hb HRB]
  · isplitl [Hg]; · iexact Hg
    isplitl [Ha]; · iexact Ha
    isplitl [Hb] <;> iassumption
  isplitl [H0 H1 H2 H3 H4 HRS]
  · isplitl [H0]; · iexact H0
    isplitl [H1]; · iexact H1
    isplitl [H2]; · iexact H2
    isplitl [H3]; · iexact H3
    isplitl [H4] <;> iassumption
  iexact HO

end One

/-! ## The obligations -/

/-- What a call's index array and its two valuations satisfy. -/
structure Ok (t i o : DevRef τ sig) (A B : Valuation τ sig (Elt F)) (tbl : S8192x128.Idx → Elt F .f32) (idx : S1x16384.Idx → BitVec 32)
    (G : S16384x64.Idx → Elt F .f32) : Prop where
  same_t : B t = A t
  same_i : B i = A i
  lt : ∀ x, (idx x).toNat < 8192
  rows : ∀ y, G y = gath tbl idx y

theorem post {th : Thread nD τ} {A B C : sProp 𝕄} {O : CellTallies nD τ sig (HIx 2)} {W : Waits sig (HIx 2)} {q : HIx 2 → Prop} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ q p.2⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem vector1 (c : Fin τ.nSC) (s : Fin τ.nSub) :
    defs₀ (F := F) (.scVector c s) 1 ()
      = SparseCore.onTile hcore1 hsub1 (fun c s => cc1_gather_kernel (coordsV c s)
          (Memref.whole main_v0_0_scv) (Memref.isWhole_whole _) (Memref.whole main_v2_scv) (Memref.isWhole_whole _) (Memref.whole main_v3_scv) (Memref.isWhole_whole _)
          (Memref.whole cc1_scratch0) (Memref.isWhole_whole _) (Memref.whole cc1_scoped0) (Memref.isWhole_whole _) cc1_scoped1
          (Memref.whole cc1_scoped2) (Memref.isWhole_whole _) cc1_scoped3 cc1_scoped4) ⟨⟩ c s := rfl
theorem vector2 (c : Fin τ.nSC) (s : Fin τ.nSub) :
    defs₀ (F := F) (.scVector c s) 2 ()
      = SparseCore.onTile hcore1 hsub1 (fun c s => cc1_gather_kernel (coordsV c s)
          (Memref.whole main_v0_0_scv) (Memref.isWhole_whole _) (Memref.whole main_v5_scv) (Memref.isWhole_whole _) (Memref.whole main_v6_scv) (Memref.isWhole_whole _)
          (Memref.whole cc2_scratch0) (Memref.isWhole_whole _) (Memref.whole cc2_scoped0) (Memref.isWhole_whole _) cc2_scoped1
          (Memref.whole cc2_scoped2) (Memref.isWhole_whole _) cc2_scoped3 cc2_scoped4) ⟨⟩ c s := rfl

abbrev cells (s5 s6 : DmaSems sig S2) (s7 : DmaSems sig S_) : Fin 5 → SemLoc sig :=
  ![.dma (sem0 s5).sem, .dma (sem1 s5).sem, .dma (sem0 s6).sem, .dma (sem1 s6).sem, .dma s7.sem]

theorem cells1_scoped : ∀ i, (cells cc1_scoped1 cc1_scoped3 cc1_scoped4 i).isScoped .scVector = true := by decide +kernel
theorem cells1_ne : ∀ i j, i ≠ j → cells cc1_scoped1 cc1_scoped3 cc1_scoped4 i ≠ cells cc1_scoped1 cc1_scoped3 cc1_scoped4 j := by decide +kernel
theorem cells2_scoped : ∀ i, (cells cc2_scoped1 cc2_scoped3 cc2_scoped4 i).isScoped .scVector = true := by decide +kernel
theorem cells2_ne : ∀ i j, i ≠ j → cells cc2_scoped1 cc2_scoped3 cc2_scoped4 i ≠ cells cc2_scoped1 cc2_scoped3 cc2_scoped4 j := by decide +kernel

set_option maxRecDepth 16384 in
theorem obl1 (h : ∀ d, Ok tD i1D o1D (A1 d) (B1 d) (A1 d tD) (A1 d i1D) (B1 d o1D)) :
    (K (F := F)).TileObl (D (F := F)) 𝒱 (P A1 B1 A2 B2) v₀ 0 := by
  intro d c i O W hO _ _
  simp only [show (P A1 B1 A2 B2).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [vector1]; simp only [SparseCore.onTile, hci, and_self, ↓reduceDIte]
  obtain ⟨RB, hB⟩ := own_three (F := F) d (((coordsV ⟨_, hci.1⟩ ⟨_, hci.2⟩ : grid1.Coords) 0).castLE hcore1) (((coordsV ⟨_, hci.1⟩ ⟨_, hci.2⟩ : grid1.Coords) 1).castLE hsub1)
    cc1_scratch0 cc1_scoped0 cc1_scoped2 rfl rfl rfl (by decide) (by decide) (by decide)
  obtain ⟨RS, hS⟩ := own_five (F := F) d (((coordsV ⟨_, hci.1⟩ ⟨_, hci.2⟩ : grid1.Coords) 0).castLE hcore1) (((coordsV ⟨_, hci.1⟩ ⟨_, hci.2⟩ : grid1.Coords) 1).castLE hsub1)
    (cells cc1_scoped1 cc1_scoped3 cc1_scoped4) cells1_scoped cells1_ne
  have key := one (F := F) d (coordsV ⟨_, hci.1⟩ ⟨_, hci.2⟩) (Memref.whole main_v0_0_scv) (Memref.isWhole_whole _) (Memref.whole main_v2_scv) (Memref.isWhole_whole _)
    (Memref.whole main_v3_scv) (Memref.isWhole_whole _) (Memref.whole cc1_scratch0) (Memref.isWhole_whole _) (Memref.whole cc1_scoped0) (Memref.isWhole_whole _)
    (Memref.whole cc1_scoped2) (Memref.isWhole_whole _) cc1_scoped1 cc1_scoped3 cc1_scoped4 RB RS hB hS O W hO (rq c i) (rq c i) (A1 d tD) (A1 d i1D) (h d).lt
    (A1 d o1D) (B1 d o1D) (h d).rows
  generalize cc1_gather_kernel (F := F) _ _ _ _ _ _ _ _ _ _ _ _ _ _ _ _ = prog at key ⊢
  rw [show (P A1 B1 A2 B2).go 0 d c i = piece d tD i1D o1D blk1 (A1 d) c i from rfl, show (P A1 B1 A2 B2).td 0 d c i = piece d tD i1D o1D blk1 (B1 d) c i from rfl]
  unfold Pieces.piece
  rw [(h d).same_t, (h d).same_i]
  exact key.trans (wp_mono frame _ _ fun _ => post)

set_option maxRecDepth 16384 in
theorem obl2 (h : ∀ d, Ok tD i2D o2D (A2 d) (B2 d) (A2 d tD) (A2 d i2D) (B2 d o2D)) :
    (K (F := F)).TileObl (D (F := F)) 𝒱 (P A1 B1 A2 B2) v₀ 1 := by
  intro d c i O W hO _ _
  simp only [show (P A1 B1 A2 B2).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [vector2]; simp only [SparseCore.onTile, hci, and_self, ↓reduceDIte]
  obtain ⟨RB, hB⟩ := own_three (F := F) d (((coordsV ⟨_, hci.1⟩ ⟨_, hci.2⟩ : grid1.Coords) 0).castLE hcore1) (((coordsV ⟨_, hci.1⟩ ⟨_, hci.2⟩ : grid1.Coords) 1).castLE hsub1)
    cc2_scratch0 cc2_scoped0 cc2_scoped2 rfl rfl rfl (by decide) (by decide) (by decide)
  obtain ⟨RS, hS⟩ := own_five (F := F) d (((coordsV ⟨_, hci.1⟩ ⟨_, hci.2⟩ : grid1.Coords) 0).castLE hcore1) (((coordsV ⟨_, hci.1⟩ ⟨_, hci.2⟩ : grid1.Coords) 1).castLE hsub1)
    (cells cc2_scoped1 cc2_scoped3 cc2_scoped4) cells2_scoped cells2_ne
  have key := one (F := F) d (coordsV ⟨_, hci.1⟩ ⟨_, hci.2⟩) (Memref.whole main_v0_0_scv) (Memref.isWhole_whole _) (Memref.whole main_v5_scv) (Memref.isWhole_whole _)
    (Memref.whole main_v6_scv) (Memref.isWhole_whole _) (Memref.whole cc2_scratch0) (Memref.isWhole_whole _) (Memref.whole cc2_scoped0) (Memref.isWhole_whole _)
    (Memref.whole cc2_scoped2) (Memref.isWhole_whole _) cc2_scoped1 cc2_scoped3 cc2_scoped4 RB RS hB hS O W hO (rq c i) (rq c i) (A2 d tD) (A2 d i2D) (h d).lt
    (A2 d o2D) (B2 d o2D) (h d).rows
  generalize cc1_gather_kernel (F := F) _ _ _ _ _ _ _ _ _ _ _ _ _ _ _ _ = prog at key ⊢
  rw [show (P A1 B1 A2 B2).go 1 d c i = piece d tD i2D o2D blk2 (A2 d) c i from rfl, show (P A1 B1 A2 B2).td 1 d c i = piece d tD i2D o2D blk2 (B2 d) c i from rfl]
  unfold Pieces.piece
  rw [(h d).same_t, (h d).same_i]
  exact key.trans (wp_mono frame _ _ fun _ => post)

end Cert.Proof.Gather.Obl

end
-- ==== Proof.Gather.Launch.lean ====
/-
  The program's run: the preparation on the TensorCore, the two SparseCore calls over the two halves of the indices, and
  the host operations between them, from any launch memory whose indices are rows of the codebook. It ends with the
  arguments as launched and the result holding the rows the indices name.
-/
module

public import proofs.«01_k».proof.Proof.Gather.Obl
public import Idealize.ShloMosaic.Lib.Pipeline.Value

@[expose] public section

noncomputable section

namespace Cert.Proof.Gather.Launch

open Cert.GatherIdeal Cert.GatherIdeal.Gen Cert.Proof.Gather.Tile Cert.Proof.Gather.Task Cert.Proof.Gather.Prep Cert.Proof.Gather.Pieces Cert.Proof.Gather.Obl

open Idealize.ShloMosaic
open Idealize.ShloMosaic.TcCoe
open Idealize.ShloMosaic.Pipeline (cellsGhost toksInit ucRefs launchToks)
open Idealize.ShloMosaic.SparseCore (S V T)
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-! ## The ghost state dealt at the launch -/

abbrev EH : Emb UH (MT nD τ sig (HIx 2) (Elt F) ℕ UU ℕ) := embL
abbrev EP : Emb UP (MT nD τ sig (HIx 2) (Elt F) ℕ UU ℕ) := (Emb.inl : Emb UP (UP × Counters)).trans embR

instance : (EP (F := F)).LandsIn (upEmb : UEmb _ 𝕄) := by unfold EP; infer_instance

abbrev pcs := Pipeline.pin (pcfgs (F := F)) adm
theorem inj : Function.Injective (Pipeline.cellOf (nD := nD) (τ := τ) (pcs (F := F))) := cellOf_inj

def u₀ : UU := (initOf (K (F := F)).hsCells (K (F := F)).hsToks, (initOf (Pipeline.cells (pcs (F := F)) inj) (launchToks (pcs (F := F)) inj), 1))

/-- What the launch deals device `d` for the preparation's pipeline. -/
abbrev ghost (d : Dev nD) : sProp 𝕄 := iprop(cellsGhost (pcs (F := F)) EP 0 d ∗ toksInit (pcs (F := F)) EP 0 d)

/-! ## The buffers along the run -/

variable (m : (ℓ : Loc nD τ sig) → Buf (Elt F) ℓ) (ρ : Dev nD → PrngReg)

abbrev ref (b : Ref sig .tc) : DevRef τ sig := Proc.devRef .tc b

abbrev Oc (d : Dev nD) : CellTallies nD τ sig (HIx 2) := (K (F := F)).Otc d 0
abbrev bnd : ℕ := 8 * SparseCore.Cfg.Blocks.fst (Q := 2) (N := 2) 0

theorem hOc (c : Dev nD) (g : GSem nD τ sig) : Oc (F := F) c g none = 0 := by
  by_contra h
  have := SparseCore.Cfg.lev_of_Otc_pos (K := K (F := F)) (Nat.pos_of_ne_zero h)
  simp [SparseCore.Cfg.lev] at this

abbrev Vb (c : Dev nD) (b : Ref sig .tc) : Buf (Elt F) ((c : Thread nD τ).loc b) := m ((c : Thread nD τ).loc b)

def V0 (d : Dev nD) : Valuation τ sig (Elt F) := fun b => m (d, b)
/-- After the preparation: the codebook in the first 64 columns of a wider table. -/
def V1 (d : Dev nD) : Valuation τ sig (Elt F) :=
  Function.update (Function.update (V0 m d) (ref main_v0_0) (wide (Vb m) (Oc (F := F)) bnd d)) (ref main_v0_1) (sums (Vb m) (Oc (F := F)) bnd d)

abbrev opS1 : HloOp τ sig (Elt F) :=
  StableHlo.unary main_arg1 main_v1 ((extractStridedSlice S16384 ![0] · slices_S32768_S16384_0) : (⟨S32768, .i32⟩ : BufTy).Contents (Elt F) → (⟨S16384, .i32⟩ : BufTy).Contents (Elt F))
abbrev opR1 : HloOp τ sig (Elt F) := StableHlo.reshape main_v1 main_v2 (rfl : (.i32 : EltTy) = .i32) shapeCasts_S16384_S1x16384
abbrev opS2 : HloOp τ sig (Elt F) :=
  StableHlo.unary main_arg1 main_v4 ((extractStridedSlice S16384 ![16384] · slices_S32768_S16384_16384) : (⟨S32768, .i32⟩ : BufTy).Contents (Elt F) → (⟨S16384, .i32⟩ : BufTy).Contents (Elt F))
abbrev opR2 : HloOp τ sig (Elt F) := StableHlo.reshape main_v4 main_v5 (rfl : (.i32 : EltTy) = .i32) shapeCasts_S16384_S1x16384
abbrev opC : HloOp τ sig (Elt F) :=
  StableHlo.binary main_v3 main_v6 main_v7 ((fun a b => concatenate S32768x64 0 [⟨S16384x64, a⟩, ⟨S16384x64, b⟩] concatenates_S16384x64_S16384x64_S32768x64_d0) : (⟨S16384x64, .f32⟩ : BufTy).Contents (Elt F) → (⟨S16384x64, .f32⟩ : BufTy).Contents (Elt F) → (⟨S32768x64, .f32⟩ : BufTy).Contents (Elt F))

def A1 (d : Dev nD) : Valuation τ sig (Elt F) := (opR1 (F := F)).result ((opS1 (F := F)).result (V1 m d))
def G1 (d : Dev nD) : S16384x64.Idx → Elt F .f32 := gath (A1 m d tD) (A1 m d i1D)
def B1 (d : Dev nD) : Valuation τ sig (Elt F) := Function.update (A1 m d) o1D (G1 m d)
def A2 (d : Dev nD) : Valuation τ sig (Elt F) := (opR2 (F := F)).result ((opS2 (F := F)).result (B1 m d))
def G2 (d : Dev nD) : S16384x64.Idx → Elt F .f32 := gath (A2 m d tD) (A2 m d i2D)
def B2 (d : Dev nD) : Valuation τ sig (Elt F) := Function.update (A2 m d) o2D (G2 m d)
def VE (d : Dev nD) : Valuation τ sig (Elt F) := (opC (F := F)).result (B2 m d)

/-- The indices are rows of the codebook. -/
def PreOK : Prop := ∀ (d : Dev nD) (j : S32768.Idx), (m (d, ref main_arg1) j : BitVec 32).toNat < 8192

abbrev X : Finset (DevRef τ sig) := ucRefs τ sig

abbrev PP := P (F := F) (A1 m) (B1 m) (A2 m) (B2 m)

omit [FloatOps F] in
theorem bigSep_empty_of {I : Type} (s : Finset I) : (bigSep s fun _ => (iprop(emp) : sProp 𝕄)) = iprop(emp) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 2 => (PP m).x q thr) := by
  unfold u₀
  iintro Hu
  ihave H := (ownU_pair (initOf (K (F := F)).hsCells (K (F := F)).hsToks)
    ((initOf (Pipeline.cells (pcs (F := F)) inj) (launchToks (pcs (F := F)) inj), 1) : UP × Counters)) $$ Hu
  icases H with ⟨HH, HR⟩
  ihave H := (own_pair_emb embR (initOf (Pipeline.cells (pcs (F := F)) inj) (launchToks (pcs (F := F)) inj)) (1 : Counters)) $$ HR
  icases H with ⟨HP, -⟩
  imod (Pipeline.fund_ghost (pcs (F := F)) EP inj) $$ HP with ⟨Hg, Ht⟩
  imodintro
  isplitl [HH]; · iexact HH
  isplitl [Hg Ht]
  · rw [bigSep_sep']
    isplitl [Hg]
    · rw [show (bigSep Finset.univ fun d : Dev nD => (cellsGhost (pcs (F := F)) EP 0 d : sProp 𝕄))
          = bigSep Finset.univ fun c : Dev nD => bigSep Finset.univ fun p => cellsGhost (pcs (F := F)) EP p c from
        bigSep_congr fun _ _ => by rw [bigSep_univ_of_subsingleton (0 : Fin 1)]]
      iexact Hg
    · rw [show (bigSep Finset.univ fun d : Dev nD => (toksInit (pcs (F := F)) EP 0 d : sProp 𝕄))
          = bigSep Finset.univ fun c : Dev nD => bigSep Finset.univ fun p => toksInit (pcs (F := F)) EP p c from
        bigSep_congr fun _ _ => by rw [bigSep_univ_of_subsingleton (0 : Fin 1)]]
      iexact Ht
  rw [show (bigSep Finset.univ fun thr : Thread nD τ => bigSep Finset.univ fun q : Fin 2 => (PP m).x q thr)
      = bigSep Finset.univ fun _ : Thread nD τ => bigSep Finset.univ fun _ : Fin 2 => (iprop(emp) : sProp 𝕄) from rfl]
  rw [show (fun _ : Thread nD τ => bigSep Finset.univ fun _ : Fin 2 => (iprop(emp) : sProp 𝕄)) = fun _ => iprop(emp) from funext fun _ => bigSep_empty_of _, bigSep_empty_of]
  iempintro

/-! ## @main -/

theorem st1 (d : Dev nD) : (bigSep Finset.univ fun c : Fin ((K (F := F)).nCore 0) => (PP m).st 0 d c)
    = bigSep Finset.univ fun c : Fin 2 => bigSep Finset.univ fun k : Fin 16 => Pieces.piece d tD i1D o1D blk1 (A1 m d) c k := rfl
theorem dn1 (d : Dev nD) : (bigSep Finset.univ fun c : Fin ((K (F := F)).nCore 0) => (PP m).dn 0 d c)
    = bigSep Finset.univ fun c : Fin 2 => bigSep Finset.univ fun k : Fin 16 => Pieces.piece d tD i1D o1D blk1 (B1 m d) c k := rfl
theorem st2 (d : Dev nD) : (bigSep Finset.univ fun c : Fin ((K (F := F)).nCore 1) => (PP m).st 1 d c)
    = bigSep Finset.univ fun c : Fin 2 => bigSep Finset.univ fun k : Fin 16 => Pieces.piece d tD i2D o2D blk2 (A2 m d) c k := rfl
theorem dn2 (d : Dev nD) : (bigSep Finset.univ fun c : Fin ((K (F := F)).nCore 1) => (PP m).dn 1 d c)
    = bigSep Finset.univ fun c : Fin 2 => bigSep Finset.univ fun k : Fin 16 => Pieces.piece d tD i2D o2D blk2 (B2 m d) c k := rfl

theorem V1_eq (d : Dev nD) (b : Ref sig .tc) (h0 : b ≠ main_v0_0) (h1 : b ≠ main_v0_1) : V1 m d (ref b) = m (d, ref b) := by
  unfold V1
  rw [Function.update_of_ne (fun e => h1 (Proc.devRef_injective _ e)), Function.update_of_ne (fun e => h0 (Proc.devRef_injective _ e))]
  rfl

def region [∀ e, Nonempty (Elt F e)] := reg (F := F) (Vb m) (Oc (F := F)) hOc bnd (fun c b => V1 m c (ref b))
  (fun c => by
    show V1 m c (ref main_v0_0) = _
    unfold V1
    rw [Function.update_of_ne (fun e => absurd (Proc.devRef_injective _ e) (show (main_v0_0 : Ref sig .tc) ≠ main_v0_1 by decide)), Function.update_self])
  (fun c => by
    show V1 m c (ref main_v0_1) = _
    unfold V1
    rw [Function.update_self])
  (fun c r h0 h1 => V1_eq m c r h0 h1)

theorem region_pre [∀ e, Nonempty (Elt F e)] (d : Dev nD) :
    (region m).pre d = iprop(unscopedBufs d (Vb m d) ∗ ∃ W, ⌜(K (F := F)).WBelow (T d) W bnd⌝ ∗ owes (T d) (Oc (F := F) d) W) := rfl
theorem region_post [∀ e, Nonempty (Elt F e)] (d : Dev nD) :
    (region m).post d = iprop(unscopedBufs d (fun b => V1 m d (ref b)) ∗ ∃ W, ⌜(K (F := F)).WBelow (T d) W bnd⌝ ∗ owes (T d) (Oc (F := F) d) W) := rfl

/-- The preparation's call, in the pipelines' own signature. -/
abbrev prepCall : Prog (TpuEff nD τ sig (Elt F) (ΛP (F := F)) .tc) PUnit := .op (.customCall (Pipeline.entry 0) ()) .ret

theorem prep [∀ e, Nonempty (Elt F e)] (d : Dev nD) (Q : PUnit → sProp 𝕄) :
    (iprop(levAts (K (F := F)).L (K (F := F)).lev ∗ boundary (T d) ∗ unscopedBufs d (Vb m d) ∗ (∃ W, ⌜(K (F := F)).WBelow (T d) W bnd⌝ ∗ owes (T d) (Oc (F := F) d) W)
        ∗ ghost d ∗ ((boundary (T d) ∗ held (T d) X (V1 m d) ∗ ∃ W, ⌜(K (F := F)).WBelow (T d) W bnd⌝ ∗ owes (T d) (Oc (F := F) d) W) -∗ Q ⟨⟩)) : sProp 𝕄)
      ⊢ wp frame (wpE ((K (F := F)).defs (D (F := F))) 𝒱 (T d) none) Set.univ (Prog.lift (.customCall (SparseCore.inner (Pipeline.entry 0)) ())) Q := by
  have hl := (K (F := F)).wp_liftProg (D (F := F)) 𝒱 (T d) Set.univ none (prepCall (F := F)) Q
  have hw := Pipeline.RegionSeg.wp (pcfgs (F := F)) adm (pdats (Vb m) (Oc (F := F)) bnd) (none : HIx 2) inj EP defs₀ 𝒱₀ (K (F := F)).L (K (F := F)).lev
    (region m) d none (fun _ h => by simp at h) Prog.ret Q
  rw [region_pre, region_post] at hw
  iintro ⟨Hlv, Hb, Hu, HO, ⟨Hg, Ht⟩, Hk⟩
  iapply hl
  iapply hw
  isplitl [Hk]
  · iintro ⟨Hb, ⟨Hu, HO⟩⟩
    rw [wp_ret]; imodintro
    iapply Hk
    isplitl [Hb]; · iexact Hb
    isplitl [Hu]
    · ihave Hu' := (Entails.of_eq (Pipeline.unscopedBufs_held (Ix := HIx 2) (Name := ℕ) (U := UU) (Lvl := ℕ) d (V1 m d))) $$ Hu
      iexact Hu'
    iexact HO
  isplitl [Hb]; · iexact Hb
  isplitl [Hu HO]
  · isplitl [Hu]; · iexact Hu
    iexact HO
  isplitl [Hlv]; · iexact Hlv
  isplitl [Hg] <;> iassumption

abbrev FIN (d : Dev nD) : sProp 𝕄 :=
  iprop((((d, ref main_arg0) : Loc nD τ sig) ↦{fullShare} m (d, ref main_arg0)) ∗ (((d, ref main_arg1) : Loc nD τ sig) ↦{fullShare} m (d, ref main_arg1))
    ∗ ((d, ref main_v7) : Loc nD τ sig) ↦{fullShare} VE m d (ref main_v7))

theorem sub1 : ({tD, i1D, o1D} : Finset (DevRef τ sig)) ⊆ X := by decide
theorem sub2 : ({tD, i2D, o2D} : Finset (DevRef τ sig)) ⊆ X := by decide
theorem subS1 : (opS1 (F := F)).bufs ⊆ X := show ({ref main_arg1, ref main_v1} : Finset (DevRef τ sig)) ⊆ X by decide
theorem subR1 : (opR1 (F := F)).bufs ⊆ X := show ({ref main_v1, ref main_v2} : Finset (DevRef τ sig)) ⊆ X by decide
theorem subS2 : (opS2 (F := F)).bufs ⊆ X := show ({ref main_arg1, ref main_v4} : Finset (DevRef τ sig)) ⊆ X by decide
theorem subR2 : (opR2 (F := F)).bufs ⊆ X := show ({ref main_v4, ref main_v5} : Finset (DevRef τ sig)) ⊆ X by decide
theorem subC : (opC (F := F)).bufs ⊆ X := show ({ref main_v3, ref main_v6, ref main_v7} : Finset (DevRef τ sig)) ⊆ X by decide

/-- The end's buffers hold the arguments as launched and the result. -/
theorem held_end (d : Dev nD) (h0 : VE m d (ref main_arg0) = m (d, ref main_arg0)) (h1 : VE m d (ref main_arg1) = m (d, ref main_arg1)) :
    (held (T d) X (VE m d) : sProp 𝕄) ⊢ FIN m d := by
  rw [StableHlo.held_sub_split (T d) (show ({ref main_arg0, ref main_arg1, ref main_v7} : Finset (DevRef τ sig)) ⊆ X by decide)]
  unfold StableHlo.held
  rw [SparseCore.bigSep_insert' (by decide), SparseCore.bigSep_insert' (by decide), bigSep_singleton, h0, h1]
  iintro ⟨⟨H0, H1, H7⟩, -⟩
  isplitl [H0]; · iexact H0
  isplitl [H1] <;> iassumption

theorem VE_arg (d : Dev nD) (b : Ref sig .tc) (hb : b = main_arg0 ∨ b = main_arg1) : VE m d (ref b) = m (d, ref b) := by
  have hn : ∀ r : Ref sig .tc, b ≠ r → ref b ≠ ref r := fun r h e => h (Proc.devRef_injective _ e)
  have e : ∀ r ∈ ([main_v0_0, main_v0_1, main_v1, main_v2, main_v3, main_v4, main_v5, main_v6, main_v7] : List (Ref sig .tc)), b ≠ r := by
    rcases hb with rfl | rfl <;> decide
  have e' : ∀ r ∈ ([main_v1, main_v2, main_v3, main_v4, main_v5, main_v6, main_v7] : List (Ref sig .tc)), ref b ≠ ref r :=
    fun r hr => hn r (e r (by simp only [List.mem_cons, List.not_mem_nil] at hr ⊢; tauto))
  simp only [List.mem_cons, List.not_mem_nil, or_false, forall_eq_or_imp, forall_eq] at e'
  obtain ⟨e1, e2, e3, e4, e5, e6, e7⟩ := e'
  unfold VE B2 A2 B1 A1
  rw [(opC (F := F)).result_of_not_mem _ (show ref b ∉ ({ref main_v7} : Finset (DevRef τ sig)) by simpa using e7), Function.update_of_ne e6,
    (opR2 (F := F)).result_of_not_mem _ (show ref b ∉ ({ref main_v5} : Finset (DevRef τ sig)) by simpa using e5),
    (opS2 (F := F)).result_of_not_mem _ (show ref b ∉ ({ref main_v4} : Finset (DevRef τ sig)) by simpa using e4), Function.update_of_ne e3,
    (opR1 (F := F)).result_of_not_mem _ (show ref b ∉ ({ref main_v2} : Finset (DevRef τ sig)) by simpa using e2),
    (opS1 (F := F)).result_of_not_mem _ (show ref b ∉ ({ref main_v1} : Finset (DevRef τ sig)) by simpa using e1)]
  exact V1_eq m d b (e _ (by simp)) (e _ (by simp))

theorem back1 (d : Dev nD) : iprop((bigSep Finset.univ fun c : Fin ((K (F := F)).nCore 0) => (PP m).dn 0 d c) ∗ held (T d) (X \ {tD, i1D, o1D}) (A1 m d) : sProp 𝕄)
    ⊢ held (T d) X (B1 m d) := by
  rw [dn1, held_pieces d tD i1D o1D blk1 (B1 m d) (cut1 d) (by decide) (by decide) (by decide) X sub1]
  conv_rhs => rw [B1, held_rest d tD i1D o1D _ (by decide) (by decide) X]
  rfl
theorem back2 (d : Dev nD) : iprop((bigSep Finset.univ fun c : Fin ((K (F := F)).nCore 1) => (PP m).dn 1 d c) ∗ held (T d) (X \ {tD, i2D, o2D}) (A2 m d) : sProp 𝕄)
    ⊢ held (T d) X (B2 m d) := by
  rw [dn2, held_pieces d tD i2D o2D blk2 (B2 m d) (cut2 d) (by decide) (by decide) (by decide) X sub2]
  conv_rhs => rw [B2, held_rest d tD i2D o2D _ (by decide) (by decide) X]
  rfl

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ ghost d)
      ⊢ wp frame (wpE ((K (F := F)).defs (D (F := F))) 𝒱 (T d) none) Set.univ (main d)
          fun _ => iprop((K (F := F)).tcSt EH d 2 ∗ FIN m d ∗ (K (F := F)).tcEnd d) := by
  unfold SparseCore.Cfg.tcRes SparseCore.Cfg.tcEnd
  simp only [main, wp_bind, wp_pure]
  iintro ⟨#Hctx, Hst, ⟨Hb, Hu, Hts, -⟩, Hgh⟩
  ihave #Hlv := (SparseCore.Cfg.ctx_levAts κ) $$ Hctx
  ihave Hst' := (Entails.of_eq (show (K (F := F)).tcSt EH d 0 = _ by unfold SparseCore.Cfg.tcSt; rfl)) $$ Hst
  icases Hst' with ⟨HO, Hst⟩
  iapply (prep m d _)
  isplitr; · iexact Hlv
  isplitl [Hb]; · iexact Hb
  isplitl [Hu]; · iexact Hu
  isplitl [HO]; · iexact HO
  isplitl [Hgh]; · iexact Hgh
  iintro ⟨Hb, Hh, HO⟩
  iapply (wp_hlo_within 𝒱 (T d) none Set.univ (op := opS1) (S := X) subS1 (V := V1 m d)) $$ [Hb Hh]
  · isplitl [Hb] <;> iassumption
  iintro H
  rw [wp_ret]; imodintro
  iapply (wp_hlo_within 𝒱 (T d) none Set.univ (op := opR1) (S := X) subR1) $$ H
  iintro ⟨Hb, Hh⟩
  rw [wp_ret]; imodintro
  ihave Hh' := (Entails.of_eq (show held (T d) X ((opR1 (F := F)).result ((opS1 (F := F)).result (V1 m d))) = _ from held_pieces d tD i1D o1D blk1 (A1 m d) (cut1 d) (by decide) (by decide) (by decide) X sub1)) $$ Hh
  icases Hh' with ⟨Hp, Hr⟩
  iapply ((K (F := F)).wp_run (D (F := F)) 𝒱 (EH := EH) (P := PP m) κ d 0)
  isplitr; · iexact Hctx
  isplitl [HO Hst]
  · iapply (Entails.of_eq (show _ = (K (F := F)).tcSt EH d 0 by unfold SparseCore.Cfg.tcSt; rfl))
    isplitl [HO]; · iexact HO
    iexact Hst
  isplitl [Hp]; · rw [st1]; iexact Hp
  iintro ⟨Hst, Hp⟩
  ihave Hh := (back1 m d) $$ [Hp Hr]
  · isplitl [Hp]; · iexact Hp
    iexact Hr
  iapply (wp_hlo_within 𝒱 (T d) none Set.univ (op := opS2) (S := X) subS2 (V := B1 m d)) $$ [Hb Hh]
  · isplitl [Hb] <;> iassumption
  iintro H
  rw [wp_ret]; imodintro
  iapply (wp_hlo_within 𝒱 (T d) none Set.univ (op := opR2) (S := X) subR2) $$ H
  iintro ⟨Hb, Hh⟩
  rw [wp_ret]; imodintro
  ihave Hh' := (Entails.of_eq (show held (T d) X ((opR2 (F := F)).result ((opS2 (F := F)).result (B1 m d))) = _ from held_pieces d tD i2D o2D blk2 (A2 m d) (cut2 d) (by decide) (by decide) (by decide) X sub2)) $$ Hh
  icases Hh' with ⟨Hp, Hr⟩
  iapply ((K (F := F)).wp_run (D (F := F)) 𝒱 (EH := EH) (P := PP m) κ d 1)
  isplitr; · iexact Hctx
  isplitl [Hst]; · iexact Hst
  isplitl [Hp]; · rw [st2]; iexact Hp
  iintro ⟨Hst, Hp⟩
  ihave Hh := (back2 m d) $$ [Hp Hr]
  · isplitl [Hp]; · iexact Hp
    iexact Hr
  iapply (wp_hlo_within 𝒱 (T d) none Set.univ (op := opC) (S := X) subC (V := B2 m d)) $$ [Hb Hh]
  · isplitl [Hb] <;> iassumption
  iintro ⟨Hb, Hh⟩
  rw [wp_ret]; imodintro
  imodintro
  isplitl [Hst]; · iexact Hst
  isplitl [Hh]
  · iapply (held_end m d (VE_arg m d main_arg0 (.inl rfl)) (VE_arg m d main_arg1 (.inr rfl)))
    iexact Hh
  isplitl [Hb] <;> iassumption

/-! ## The end of the run -/

def fq (d : Dev nD) (s' : Phys nD τ sig (Elt F)) : Prop :=
  s'.mem.mem (d, ref main_arg0) = m (d, ref main_arg0) ∧ s'.mem.mem (d, ref main_arg1) = m (d, ref main_arg1)
    ∧ s'.mem.mem (d, ref main_v7) = VE m d (ref main_v7)

theorem hfin (d : Dev nD) (s' : Phys nD τ sig (Elt F)) : iprop(FIN m d ∗ SI s') ⊢ (⌜fq m d s'⌝ : sProp 𝕄) := by
  have hp (ℓ : Loc nD τ sig) (f : Buf (Elt F) ℓ) := (persistent_entails_right
    (SI_pointsTo_agree (Ix := HIx 2) (Name := ℕ) (U := UU) (Lvl := ℕ) (st := s') (ℓ := ℓ) (I := Finset.univ) (q := fullShare) (f := f)))
  iintro ⟨⟨H0, H1, H7⟩, HSI⟩
  ihave H := (hp ((d, ref main_arg0) : Loc nD τ sig) (m (d, ref main_arg0))) $$ [HSI H0]
  · isplitl [HSI] <;> iassumption
  icases H with ⟨%h0, HSI, -⟩
  ihave H := (hp ((d, ref main_arg1) : Loc nD τ sig) (m (d, ref main_arg1))) $$ [HSI H1]
  · isplitl [HSI] <;> iassumption
  icases H with ⟨%h1, HSI, -⟩
  ihave H := (hp ((d, ref main_v7) : Loc nD τ sig) (VE m d (ref main_v7))) $$ [HSI H7]
  · isplitl [HSI] <;> iassumption
  icases H with ⟨%h7, -⟩
  ipureintro
  exact ⟨funext fun i => h0 i (Finset.mem_univ i), funext fun i => h1 i (Finset.mem_univ i), funext fun i => h7 i (Finset.mem_univ i)⟩

/-! ## What the calls carry -/

theorem A1_i (d : Dev nD) : A1 m d i1D = fun i => shapeCast S1x16384 (extractStridedSlice S16384 ![0] (m (d, ref main_arg1)) slices_S32768_S16384_0) shapeCasts_S16384_S1x16384 i := by
  unfold A1
  rw [StableHlo.reshape_result', StableHlo.unary_result', V1_eq m d main_arg1 (by decide) (by decide)]
  rfl

theorem B1_arg1 (d : Dev nD) : B1 m d (ref main_arg1) = m (d, ref main_arg1) := by
  unfold B1 A1
  rw [Function.update_of_ne (show ref main_arg1 ≠ o1D by decide),
    (opR1 (F := F)).result_of_not_mem _ (show ref main_arg1 ∉ ({ref main_v2} : Finset (DevRef τ sig)) by decide),
    (opS1 (F := F)).result_of_not_mem _ (show ref main_arg1 ∉ ({ref main_v1} : Finset (DevRef τ sig)) by decide),
    V1_eq m d main_arg1 (by decide) (by decide)]

theorem A2_i (d : Dev nD) : A2 m d i2D = fun i => shapeCast S1x16384 (extractStridedSlice S16384 ![16384] (m (d, ref main_arg1)) slices_S32768_S16384_16384) shapeCasts_S16384_S1x16384 i := by
  unfold A2
  rw [StableHlo.reshape_result', StableHlo.unary_result', B1_arg1]
  rfl

/-- A half of the indices as a row: column `k` is index `off + k`. -/
theorem half_apply {α : Type} (v : S32768.Idx → α) (off : ℕ) (h : S32768.Slices ![off] S16384) (x : S1x16384.Idx) (j : S32768.Idx)
    (hj : (j 0).val = off + (x 1).val) :
    shapeCast S1x16384 (extractStridedSlice S16384 ![off] v h) shapeCasts_S16384_S1x16384 x = v j := by
  refine (shapeCast_addUnit_apply ![16384] _ _ x).trans (extractStridedSlice_apply _ _ _ _ _ fun a => ?_)
  fin_cases a
  exact hj

theorem A1_idx (d : Dev nD) (x : S1x16384.Idx) (j : S32768.Idx) (hj : (j 0).val = (x 1).val) : A1 m d i1D x = m (d, ref main_arg1) j := by
  rw [A1_i]; exact half_apply _ 0 _ x j (by omega)

theorem A2_idx (d : Dev nD) (x : S1x16384.Idx) (j : S32768.Idx) (hj : (j 0).val = 16384 + (x 1).val) : A2 m d i2D x = m (d, ref main_arg1) j := by
  rw [A2_i]; exact half_apply _ 16384 _ x j hj

/-- The index array's entry `n`. -/
def jdx (n : ℕ) (h : n < 32768) : S32768.Idx := fun _ => ⟨n, by simpa [S32768] using h⟩

theorem ok1 (h : PreOK m) (d : Dev nD) : Ok tD i1D o1D (A1 m d) (B1 m d) (A1 m d tD) (A1 m d i1D) (B1 m d o1D) where
  same_t := Function.update_of_ne (show tD ≠ o1D by decide) _ _
  same_i := Function.update_of_ne (show i1D ≠ o1D by decide) _ _
  lt x := by
    have hx : (x 1).val < 16384 := (x 1).isLt
    rw [A1_idx m d x (jdx (x 1).val (by omega)) rfl]; exact h d _
  rows y := by rw [B1, Function.update_self]; rfl

theorem ok2 (h : PreOK m) (d : Dev nD) : Ok tD i2D o2D (A2 m d) (B2 m d) (A2 m d tD) (A2 m d i2D) (B2 m d o2D) where
  same_t := Function.update_of_ne (show tD ≠ o2D by decide) _ _
  same_i := Function.update_of_ne (show i2D ≠ o2D by decide) _ _
  lt x := by
    have hx : (x 1).val < 16384 := (x 1).isLt
    rw [A2_idx m d x (jdx (16384 + (x 1).val) (by omega)) rfl]; exact h d _
  rows y := by rw [B2, Function.update_self]; rfl

/-- What a run ends with: the arguments as launched, the result as the run computes it, the cells at zero. -/
def QC : PUnit × MemSt nD τ sig (Elt F) → Prop := fun r =>
  (∀ d : Dev nD, r.2.mem (d, ref main_arg0) = m (d, ref main_arg0) ∧ r.2.mem (d, ref main_arg1) = m (d, ref main_arg1)
    ∧ r.2.mem (d, ref main_v7) = VE m d (ref main_v7)) ∧ r.2.sem = fun _ => 0

theorem run_main [∀ e, Nonempty (Elt F e)] (h : PreOK m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq | 1 => nomatch hq)
    (fun q _ => match q with
      | 0 => obl1 (A1 m) (B1 m) (A2 m) (B2 m) (ok1 m h)
      | 1 => obl2 (A1 m) (B1 m) (A2 m) (B2 m) (ok2 m h))
    (fun q _ => match q with
      | 0 => SparseCore.Cfg.VecSplit.of_plain (split1 (A1 m) (B1 m) (A2 m) (B2 m))
      | 1 => SparseCore.Cfg.VecSplit.of_plain (split2 (A1 m) (B1 m) (A2 m) (B2 m)))
    m ρ main (fun d => ghost d) (FIN m) (u₀ (F := F)) (sep_elim_left.trans (hu₀ m)) (hmain m ρ) (fq m) (hfin m) (QC m) (fun _ h hz => ⟨h, hz⟩)

end Cert.Proof.Gather.Launch

end
-- ==== Proof.Gather.Value.lean ====
/-
  The program's result, element by element: row `r` is the codebook's row at index `r`.
-/
module

public import proofs.«01_k».proof.Proof.Gather.Launch

@[expose] public section

noncomputable section

namespace Cert.Proof.Gather.Value

open Cert.GatherIdeal Cert.GatherIdeal.Gen Cert.Proof.Gather.Tile Cert.Proof.Gather.Prep Cert.Proof.Gather.Obl Cert.Proof.Gather.Launch

open Idealize.ShloMosaic Idealize.ShloMosaic.TcCoe Idealize.SL.Sem

variable {F : FTy → Type} [FloatOps F]

/-- The table's rows at the indices, an index read as a natural number and reduced below the table's height. -/
def rowsOf {α : Type} (tbl : S8192x64.Idx → α) (idx : S32768.Idx → BitVec 32) : S32768x64.Idx → α := fun y =>
  tbl fun a => match a with
    | ⟨0, _⟩ => ⟨(idx (jdx (y 0).val (y 0).isLt)).toNat % 8192, Nat.mod_lt _ (by norm_num)⟩
    | ⟨1, _⟩ => ⟨(y 1).val, (y 1).isLt⟩

variable (m : (ℓ : Loc nD τ sig) → Buf (Elt F) ℓ)

theorem A1_tab (d : Dev nD) : A1 m d tD = wide (Vb m) (Oc (F := F)) bnd d := by
  unfold A1
  rw [(opR1 (F := F)).result_of_not_mem _ (show tD ∉ ({ref main_v2} : Finset (DevRef τ sig)) by decide),
    (opS1 (F := F)).result_of_not_mem _ (show tD ∉ ({ref main_v1} : Finset (DevRef τ sig)) by decide)]
  unfold V1
  rw [Function.update_of_ne (show tD ≠ ref main_v0_1 by decide)]
  exact Function.update_self _ _ _

theorem A2_of_B1 (d : Dev nD) (b : DevRef τ sig) (h4 : b ≠ ref main_v4) (h5 : b ≠ ref main_v5) : A2 m d b = B1 m d b := by
  unfold A2
  rw [(opR2 (F := F)).result_of_not_mem _ (show b ∉ ({ref main_v5} : Finset (DevRef τ sig)) by simpa using h5),
    (opS2 (F := F)).result_of_not_mem _ (show b ∉ ({ref main_v4} : Finset (DevRef τ sig)) by simpa using h4)]

theorem A2_tab (d : Dev nD) : A2 m d tD = wide (Vb m) (Oc (F := F)) bnd d := by
  rw [A2_of_B1 m d tD (by decide) (by decide), B1, Function.update_of_ne (show tD ≠ o1D by decide), A1_tab]

theorem B2_o1 (d : Dev nD) : B2 m d o1D = G1 m d := by
  rw [B2, Function.update_of_ne (show o1D ≠ o2D by decide), A2_of_B1 m d o1D (by decide) (by decide), B1, Function.update_self]

theorem B2_o2 (d : Dev nD) : B2 m d o2D = G2 m d := by rw [B2, Function.update_self]

theorem VE_out (d : Dev nD) : VE m d (ref main_v7)
    = concatenate S32768x64 0 [⟨S16384x64, G1 m d⟩, ⟨S16384x64, G2 m d⟩] concatenates_S16384x64_S16384x64_S32768x64_d0 := by
  unfold VE
  rw [StableHlo.binary_result', B2_o1, B2_o2]

/-- A half's gathered row is the codebook's. -/
theorem gath_row (d : Dev nD) (i : S1x16384.Idx → BitVec 32) (x : S16384x64.Idx) (y : S32768x64.Idx) (h1 : (x 1).val = (y 1).val)
    (hi : ∀ z : S1x16384.Idx, (z 1).val = (x 0).val → i z = m (d, ref main_arg1) (jdx (y 0).val (y 0).isLt)) :
    gath (wide (Vb m) (Oc (F := F)) bnd d) i x = rowsOf (m (d, ref main_arg0)) (m (d, ref main_arg1)) y := by
  unfold gath rowsOf
  refine wide_apply _ _ _ _ _ _ ?_ ?_
  · show (i _).toNat % 8192 = (m (d, ref main_arg1) _ : BitVec 32).toNat % 8192
    rw [hi]; rfl
  · exact h1

/-- The half's index of row `r`, column `c`. -/
def hidx (r : ℕ) (hr : r < 16384) (c : ℕ) (hc : c < 64) : S16384x64.Idx := fun b => match b with | ⟨0, _⟩ => ⟨r, hr⟩ | ⟨1, _⟩ => ⟨c, hc⟩

theorem value (d : Dev nD) : VE m d (ref main_v7) = rowsOf (m (d, ref main_arg0)) (m (d, ref main_arg1)) := by
  rw [VE_out]
  funext y
  have hy : (y 0).val < 32768 := (y 0).isLt
  by_cases h : (y 0).val < 16384
  · refine (concatenate_pair_apply_left (s₁ := S16384x64) (s₂ := S16384x64) 0 _ _ _ y rfl (hidx (y 0).val h (y 1).val (y 1).isLt)
      (fun b => match b with | ⟨0, _⟩ => rfl | ⟨1, _⟩ => rfl)).trans ?_
    rw [G1, A1_tab]
    exact gath_row m d _ _ y rfl fun z hz => A1_idx m d z _ (by rw [hz]; rfl)
  · have e : (y 0).val - 16384 + 16384 = (y 0).val := by omega
    refine (concatenate_pair_apply_right (s₁ := S16384x64) (s₂ := S16384x64) 0 _ _ _ y rfl rfl
      (hidx ((y 0).val - 16384) (by omega) (y 1).val (y 1).isLt)
      (fun b hb => match b with | ⟨0, _⟩ => absurd rfl hb | ⟨1, _⟩ => rfl) e).trans ?_
    rw [G2, A2_tab]
    refine gath_row m d _ _ y rfl fun z hz => A2_idx m d z _ ?_
    rw [hz, Nat.add_comm]
    exact e.symm

end Cert.Proof.Gather.Value

end
-- ==== Proof.Gather.Claims.lean ====
/-
  The claims: the frames of the four programs, and the kernel's result equal to the reference's, at bit patterns and at the
  exact instance, wherever every index is a row of the codebook.
-/
module

public import proofs.«01_k».proof.Defs
public import proofs.«01_k».proof.Proof.Gen.Gather
public import proofs.«01_k».proof.Proof.Gen.Pre_rows_of_the_codebook
public import proofs.«01_k».proof.Proof.Gather.Value
public import proofs.«01_k».proof.Proof.Gather.Ref
public import Idealize.ShloMosaic.Lib.Quiescent

@[expose] public section

noncomputable section

namespace Cert.Proof.Gather.Claims

open Idealize.ShloMosaic Idealize.ShloMosaic.TcCoe Idealize.SL.Sem Cert.Proof.Gather.Launch Cert.Proof.Gather.Value Cert.Proof.Gather.Ref

variable {F : FTy → Type} [FloatOps F]

/-- The two printings of the kernel have one body table for the kernels, -/
theorem bodies_eq : Cert.Gather.defs₀ (F := F) = Cert.GatherIdeal.defs₀ (F := F) := by
  funext p l x
  match p, l, x with
  | .tc, 0, _ => rfl
  | .tc, 1, _ => rfl
  | .tc, 2, _ => rfl
  | .scVector _ _, 0, _ => rfl
  | .scVector _ _, 1, _ => rfl
  | .scVector _ _, 2, _ => rfl
  | .scScalar _, 0, _ => rfl
  | .scScalar _, 1, _ => rfl
  | .scScalar _, 2, _ => rfl

/-- and so one body table for the program, -/
theorem defs_eq : Cert.Gather.defs (F := F) = Cert.GatherIdeal.defs (F := F) :=
  congrArg (fun b => Cert.GatherIdeal.sc.defs (Pipeline.defs Cert.GatherIdeal.pcfgs b)) bodies_eq

/-- and so the one's run is the other's. -/
theorem run_kernel [∀ e, Nonempty (Elt F e)] (m : (ℓ : Loc Cert.Gather.nD Cert.Gather.τ Cert.Gather.sig) → Buf (Elt F) ℓ)
    (ρ : Dev Cert.Gather.nD → PrngReg) (h : PreOK m) :
    θ_run (Cert.Gather.defs (F := F)) (Cert.Gather.threads (F := F)) ⟨m, fun _ => 0, ρ⟩ (QC m) := by
  rw [defs_eq]
  exact run_main m ρ h

/-- The precondition, as the program of the predicate computes it, gives every index below the codebook's height. -/
theorem lt_of_pre (x : Cert.Pre_rows_of_the_codebook.S8192x64.Idx → F .f32) (idx : Cert.Pre_rows_of_the_codebook.S32768.Idx → BitVec 32)
    (h : Cert.Pre_rows_of_the_codebook.fn (F := F) x idx = fun _ => 1#1) (j : Cert.Pre_rows_of_the_codebook.S32768.Idx) : (idx j).toNat < 8192 := by
  have e := congrFun h (fun a => nomatch a)
  simp only [Cert.Pre_rows_of_the_codebook.fn] at e
  have : Subsingleton Cert.Pre_rows_of_the_codebook.S_.Idx := ⟨fun a b => funext fun i => nomatch i⟩
  have e' := Host.reduce_andi_all _ _ _ _ _ e j
  simp only [andi, cmpi, broadcastInDim, constantI] at e'
  exact lt_of_in_range _ e'

/-- Where every index is a row, the reference's rows are the kernel's. -/
theorem taken_eq (x : Cert.RowsIdeal.S8192x64.Idx → Elt F .f32) (idx : Cert.RowsIdeal.S32768.Idx → BitVec 32) (h : ∀ j, (idx j).toNat < 8192) :
    taken x idx = rowsOf x idx := by
  funext y
  exact taken_apply x idx h y _ (jdx (y 0).val (y 0).isLt) rfl (Nat.mod_eq_of_lt (h _)) rfl

theorem frame_kernel : Cert.quiescent_Gather := fun m ρ hp =>
  (θ_run Cert.Gather.defs _ _).mono (fun _ (h : QC m _) => ⟨fun c => ⟨(h.1 c).1, (h.1 c).2.1⟩, h.2⟩)
    (run_kernel (F := Bits) m ρ fun d j => lt_of_pre _ _ (hp d) j)

theorem frame_kernelIdeal : Cert.quiescent_GatherIdeal := fun m ρ hp =>
  (θ_run Cert.GatherIdeal.defs _ _).mono (fun _ h => ⟨fun c => ⟨(h.1 c).1, (h.1 c).2.1⟩, h.2⟩)
    (run_main (F := Ideal) m ρ fun d j => lt_of_pre _ _ (hp d) j)

theorem frame_reference : Cert.quiescent_Rows := fun m ρ _ =>
  (θ_run Cert.Rows.defs _ _).mono (fun r h => ⟨fun c => (h c).2, sem_eq_zero_of_no_sems (by decide) r.2⟩)
    (Cert.Proof.Gather.Ref.run (F := Bits) m ρ)

theorem frame_referenceIdeal : Cert.quiescent_RowsIdeal := fun m ρ _ =>
  (θ_run Cert.RowsIdeal.defs _ _).mono (fun r h => ⟨fun c => (h c).2, sem_eq_zero_of_no_sems (by decide) r.2⟩)
    (Cert.Proof.Gather.Ref.run (F := Ideal) m ρ)

theorem frame_reference_pre : Cert.quiescent_Rows_pre_rows_of_the_codebook := fun m ρ _ => frame_reference m ρ trivial
theorem frame_referenceIdeal_pre : Cert.quiescent_RowsIdeal_pre_rows_of_the_codebook := fun m ρ _ => frame_referenceIdeal m ρ trivial

theorem bitexact : Cert.bitexact_Gather_Rows := fun m ρ m' ρ' hp hagree => by
  have hi : ∀ d j, (m (d, ref Cert.GatherIdeal.main_arg1) j : BitVec 32).toNat < 8192 := fun d j => lt_of_pre _ _ (hp d) j
  refine ⟨fun c => rowsOf (m (c, ref Cert.GatherIdeal.main_arg0)) (m (c, ref Cert.GatherIdeal.main_arg1)), ?_, ?_⟩
  · exact (θ_run Cert.Gather.defs _ _).mono
      (fun _ (h : QC m _) c => ⟨(h.1 c).2.2.trans (value m c), (h.1 c).1, (h.1 c).2.1⟩) (run_kernel (F := Bits) m ρ hi)
  · refine (θ_run Cert.Rows.defs _ _).mono (fun _ h c => ⟨(h c).1.trans ?_, (h c).2⟩) (Cert.Proof.Gather.Ref.run (F := Bits) m' ρ')
    rw [(hagree c).1, (hagree c).2]
    exact taken_eq _ _ (hi c)

theorem algebraic : Cert.algebraic_GatherIdeal_RowsIdeal := fun m ρ m' ρ' hp hagree => by
  have hi : ∀ d j, (m (d, ref Cert.GatherIdeal.main_arg1) j : BitVec 32).toNat < 8192 := fun d j => lt_of_pre _ _ (hp d) j
  refine ⟨fun c => rowsOf (m (c, ref Cert.GatherIdeal.main_arg0)) (m (c, ref Cert.GatherIdeal.main_arg1)), ?_, ?_⟩
  · exact (θ_run Cert.GatherIdeal.defs _ _).mono
      (fun _ h c => ⟨(h.1 c).2.2.trans (value m c), (h.1 c).1, (h.1 c).2.1⟩) (run_main (F := Ideal) m ρ hi)
  · refine (θ_run Cert.RowsIdeal.defs _ _).mono (fun _ h c => ⟨(h c).1.trans ?_, (h c).2⟩) (Cert.Proof.Gather.Ref.run (F := Ideal) m' ρ')
    rw [(hagree c).1, (hagree c).2]
    exact taken_eq _ _ (hi c)

end Cert.Proof.Gather.Claims

end
-- ==== Proof.lean ====
/-
  The proof of the claim: the whole program's runs and its results over the extended reals, and the SparseCore gather's at
  bit patterns and at the exact instance.
-/
module

public import proofs.«01_k».proof.Defs
public import proofs.«01_k».proof.Proof.Gen.KernelIdeal
public import proofs.«01_k».proof.Proof.Gen.ReferenceIdeal
public import proofs.«01_k».proof.Proof.Gen.Gather
public import proofs.«01_k».proof.Proof.Gen.GatherIdeal
public import proofs.«01_k».proof.Proof.Gen.Rows
public import proofs.«01_k».proof.Proof.Gen.RowsIdeal
public import proofs.«01_k».proof.Proof.Gen.Pre_finite
public import proofs.«01_k».proof.Proof.Gen.Pre_rows_of_the_codebook
public import proofs.«01_k».proof.Proof.Claims
public import proofs.«01_k».proof.Proof.Gather.Claims

@[expose] public section

noncomputable section

namespace Cert.Proof

theorem claim : Cert.Claim :=
  ⟨Cert.KernelIdeal.Gen.facts, Cert.ReferenceIdeal.Gen.facts, Cert.Gather.Gen.facts, Cert.GatherIdeal.Gen.facts, Cert.Rows.Gen.facts,
    Cert.RowsIdeal.Gen.facts, Cert.Pre_finite.Gen.facts, Cert.Pre_rows_of_the_codebook.Gen.facts,
    Claims.frame_kernelIdeal, Claims.frame_kernelIdeal_pre, Claims.frame_referenceIdeal, Claims.frame_referenceIdeal_pre,
    Gather.Claims.frame_kernel, Gather.Claims.frame_kernelIdeal, Gather.Claims.frame_reference, Gather.Claims.frame_reference_pre,
    Gather.Claims.frame_referenceIdeal, Gather.Claims.frame_referenceIdeal_pre, Claims.algebraic, trivial, Gather.Claims.bitexact,
    Gather.Claims.algebraic⟩

end Cert.Proof

end
